-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_v11) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_v8) = v1 c
          ∧ r.2.mem ((c.tc : Thread Cert.Reference10Ideal.nD Cert.Reference10Ideal.τ).loc Cert.Reference10Ideal.main_v9) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_v7) = v1 c
          ∧ r.2.mem ((c.tc : Thread Cert.Reference11Ideal.nD Cert.Reference11Ideal.τ).loc Cert.Reference11Ideal.main_v8) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_v48) = v1 c
          ∧ r.2.mem ((c.tc : Thread Cert.Reference12Ideal.nD Cert.Reference12Ideal.τ).loc Cert.Reference12Ideal.main_v49) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_v48) = v1 c
          ∧ r.2.mem ((c.tc : Thread Cert.Reference14Ideal.nD Cert.Reference14Ideal.τ).loc Cert.Reference14Ideal.main_v49) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v5)) (v1 : (c : Dev Cert.Kernel15Ideal.nD) → Buf (Elt Ideal) ((c.tc : Thread Cert.Kernel15Ideal.nD Cert.Kernel15Ideal.τ).loc Cert.Kernel15Ideal.main_v6)) (v2 : (c : Dev Cert.Kernel15Ideal.nD) → Buf (Elt Ideal) ((c.tc : Thread Cert.Kernel15Ideal.nD Cert.Kernel15Ideal.τ).loc Cert.Kernel15Ideal.main_v7)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_v6) = v1 c
          ∧ r.2.mem ((c.tc : Thread Cert.Kernel15Ideal.nD Cert.Kernel15Ideal.τ).loc Cert.Kernel15Ideal.main_v7) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v5)) (v1 : (c : Dev Cert.Kernel16Ideal.nD) → Buf (Elt Ideal) ((c.tc : Thread Cert.Kernel16Ideal.nD Cert.Kernel16Ideal.τ).loc Cert.Kernel16Ideal.main_v6)) (v2 : (c : Dev Cert.Kernel16Ideal.nD) → Buf (Elt Ideal) ((c.tc : Thread Cert.Kernel16Ideal.nD Cert.Kernel16Ideal.τ).loc Cert.Kernel16Ideal.main_v7)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5) = v0 c
          ∧ r.2.mem ((c.tc : Thread Cert.Kernel16Ideal.nD Cert.Kernel16Ideal.τ).loc Cert.Kernel16Ideal.main_v6) = v1 c
          ∧ r.2.mem ((c.tc : Thread Cert.Kernel16Ideal.nD Cert.Kernel16Ideal.τ).loc Cert.Kernel16Ideal.main_v7) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v5)) (v1 : (c : Dev Cert.Kernel17Ideal.nD) → Buf (Elt Ideal) ((c.tc : Thread Cert.Kernel17Ideal.nD Cert.Kernel17Ideal.τ).loc Cert.Kernel17Ideal.main_v6)) (v2 : (c : Dev Cert.Kernel17Ideal.nD) → Buf (Elt Ideal) ((c.tc : Thread Cert.Kernel17Ideal.nD Cert.Kernel17Ideal.τ).loc Cert.Kernel17Ideal.main_v7)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5) = v0 c
          ∧ r.2.mem ((c.tc : Thread Cert.Kernel17Ideal.nD Cert.Kernel17Ideal.τ).loc Cert.Kernel17Ideal.main_v6) = v1 c
          ∧ r.2.mem ((c.tc : Thread Cert.Kernel17Ideal.nD Cert.Kernel17Ideal.τ).loc Cert.Kernel17Ideal.main_v7) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v5)) (v1 : (c : Dev Cert.Kernel18Ideal.nD) → Buf (Elt Ideal) ((c.tc : Thread Cert.Kernel18Ideal.nD Cert.Kernel18Ideal.τ).loc Cert.Kernel18Ideal.main_v6)) (v2 : (c : Dev Cert.Kernel18Ideal.nD) → Buf (Elt Ideal) ((c.tc : Thread Cert.Kernel18Ideal.nD Cert.Kernel18Ideal.τ).loc Cert.Kernel18Ideal.main_v7)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5) = v0 c
          ∧ r.2.mem ((c.tc : Thread Cert.Kernel18Ideal.nD Cert.Kernel18Ideal.τ).loc Cert.Kernel18Ideal.main_v6) = v1 c
          ∧ r.2.mem ((c.tc : Thread Cert.Kernel18Ideal.nD Cert.Kernel18Ideal.τ).loc Cert.Kernel18Ideal.main_v7) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v5)) (v1 : (c : Dev Cert.Kernel19Ideal.nD) → Buf (Elt Ideal) ((c.tc : Thread Cert.Kernel19Ideal.nD Cert.Kernel19Ideal.τ).loc Cert.Kernel19Ideal.main_v6)) (v2 : (c : Dev Cert.Kernel19Ideal.nD) → Buf (Elt Ideal) ((c.tc : Thread Cert.Kernel19Ideal.nD Cert.Kernel19Ideal.τ).loc Cert.Kernel19Ideal.main_v7)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5) = v0 c
          ∧ r.2.mem ((c.tc : Thread Cert.Kernel19Ideal.nD Cert.Kernel19Ideal.τ).loc Cert.Kernel19Ideal.main_v6) = v1 c
          ∧ r.2.mem ((c.tc : Thread Cert.Kernel19Ideal.nD Cert.Kernel19Ideal.τ).loc Cert.Kernel19Ideal.main_v7) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v5)) (v1 : (c : Dev Cert.Kernel20Ideal.nD) → Buf (Elt Ideal) ((c.tc : Thread Cert.Kernel20Ideal.nD Cert.Kernel20Ideal.τ).loc Cert.Kernel20Ideal.main_v6)) (v2 : (c : Dev Cert.Kernel20Ideal.nD) → Buf (Elt Ideal) ((c.tc : Thread Cert.Kernel20Ideal.nD Cert.Kernel20Ideal.τ).loc Cert.Kernel20Ideal.main_v7)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5) = v0 c
          ∧ r.2.mem ((c.tc : Thread Cert.Kernel20Ideal.nD Cert.Kernel20Ideal.τ).loc Cert.Kernel20Ideal.main_v6) = v1 c
          ∧ r.2.mem ((c.tc : Thread Cert.Kernel20Ideal.nD Cert.Kernel20Ideal.τ).loc Cert.Kernel20Ideal.main_v7) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4)) (v1 : (c : Dev Cert.Kernel21Ideal.nD) → Buf (Elt Ideal) ((c.tc : Thread Cert.Kernel21Ideal.nD Cert.Kernel21Ideal.τ).loc Cert.Kernel21Ideal.main_v5)) (v2 : (c : Dev Cert.Kernel21Ideal.nD) → Buf (Elt Ideal) ((c.tc : Thread Cert.Kernel21Ideal.nD Cert.Kernel21Ideal.τ).loc Cert.Kernel21Ideal.main_v6)) (v3 : (c : Dev Cert.Kernel21Ideal.nD) → Buf (Elt Ideal) ((c.tc : Thread Cert.Kernel21Ideal.nD Cert.Kernel21Ideal.τ).loc Cert.Kernel21Ideal.main_v7)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4) = v0 c
          ∧ r.2.mem ((c.tc : Thread Cert.Kernel21Ideal.nD Cert.Kernel21Ideal.τ).loc Cert.Kernel21Ideal.main_v5) = v1 c
          ∧ r.2.mem ((c.tc : Thread Cert.Kernel21Ideal.nD Cert.Kernel21Ideal.τ).loc Cert.Kernel21Ideal.main_v6) = v2 c
          ∧ r.2.mem ((c.tc : Thread Cert.Kernel21Ideal.nD Cert.Kernel21Ideal.τ).loc Cert.Kernel21Ideal.main_v7) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S8448x512 : Shape := ⟨2, ![8448, 512]⟩
abbrev S8448x128 : Shape := ⟨2, ![8448, 128]⟩
abbrev S8448x768 : Shape := ⟨2, ![8448, 768]⟩
abbrev S8192x512 : Shape := ⟨2, ![8192, 512]⟩
abbrev S_ : Shape := ⟨0, ![]⟩

class Facts : Prop where
  slices_S8448x512_S8192x512_0_0 : S8448x512.Slices ![0, 0] S8192x512
  slices_S8448x768_S8448x128_0_640 : S8448x768.Slices ![0, 640] S8448x128
  bitsLt_bf16_f32 : FTy.bits .bf16 < FTy.bits .f32
  bcast_S_S8192x512 : S_.BroadcastsInDim S8192x512 (![] : Fin 0 → Fin S8192x512.rank)
  bcast_S_S8448x128 : S_.BroadcastsInDim S8448x128 (![] : Fin 0 → Fin S8448x128.rank)

variable [Facts]

def fn {F : FTy → Type} [FloatOps F] (main_arg0 : FVec F S8448x512 .bf16) (main_arg1 : FVec F S8448x128 .bf16) (main_arg2 : FVec F S8448x768 .bf16) (main_arg3 : FVec F S8448x512 .bf16) : IVec S8192x512 1 × IVec S8448x128 1 × IVec S8448x128 1 × IVec S8192x512 1 :=
  let main_v0 : FVec F S8192x512 .bf16 := (extractStridedSlice S8192x512 ![0, 0] · slices_S8448x512_S8192x512_0_0) main_arg0
  let main_v1 : FVec F S8448x128 .bf16 := (extractStridedSlice S8448x128 ![0, 640] · slices_S8448x768_S8448x128_0_640) main_arg2
  let main_v2 : FVec F S8192x512 .bf16 := (extractStridedSlice S8192x512 ![0, 0] · slices_S8448x512_S8192x512_0_0) main_arg3
  let main_v3 : FVec F S8192x512 .f32 := (extf .f32 · bitsLt_bf16_f32) main_v0
  let main_v4 : FVec F S8192x512 .f32 := Host.absf main_v3
  let main_cst : FVec F S_ .f32 := constant S_ .f32 0x7F800000#32
  let main_v5 : FVec F S8192x512 .f32 := broadcastInDim S8192x512 ![] bcast_S_S8192x512 main_cst
  let main_v6 : IVec S8192x512 1 := cmpf .olt main_v4 main_v5
  let main_v7 : FVec F S8448x128 .f32 := (extf .f32 · bitsLt_bf16_f32) main_arg1
  let main_v8 : FVec F S8448x128 .f32 := Host.absf main_v7
  let main_cst_0 : FVec F S_ .f32 := constant S_ .f32 0x7F800000#32
  let main_v9 : FVec F S8448x128 .f32 := broadcastInDim S8448x128 ![] bcast_S_S8448x128 main_cst_0
  let main_v10 : IVec S8448x128 1 := cmpf .olt main_v8 main_v9
  let main_v11 : FVec F S8448x128 .f32 := (extf .f32 · bitsLt_bf16_f32) main_v1
  let main_v12 : FVec F S8448x128 .f32 := Host.absf main_v11
  let main_cst_1 : FVec F S_ .f32 := constant S_ .f32 0x7F800000#32
  let main_v13 : FVec F S8448x128 .f32 := broadcastInDim S8448x128 ![] bcast_S_S8448x128 main_cst_1
  let main_v14 : IVec S8448x128 1 := cmpf .olt main_v12 main_v13
  let main_v15 : FVec F S8192x512 .f32 := (extf .f32 · bitsLt_bf16_f32) main_v2
  let main_v16 : FVec F S8192x512 .f32 := Host.absf main_v15
  let main_cst_2 : FVec F S_ .f32 := constant S_ .f32 0x7F800000#32
  let main_v17 : FVec F S8192x512 .f32 := broadcastInDim S8192x512 ![] bcast_S_S8192x512 main_cst_2
  let main_v18 : IVec S8192x512 1 := cmpf .olt main_v16 main_v17
  (main_v6, main_v10, main_v14, main_v18)
-- ==== Kernel.lean ====
abbrev S8448x512 : Shape := ⟨2, ![8448, 512]⟩
abbrev S8448x128 : Shape := ⟨2, ![8448, 128]⟩
abbrev S8448x768 : Shape := ⟨2, ![8448, 768]⟩
abbrev S8192x512 : Shape := ⟨2, ![8192, 512]⟩
abbrev S8192x2x4x64 : Shape := ⟨4, ![8192, 2, 4, 64]⟩
abbrev S2x4x8192x64 : Shape := ⟨4, ![2, 4, 8192, 64]⟩
abbrev S1x2x4x8192x64 : Shape := ⟨5, ![1, 2, 4, 8192, 64]⟩
abbrev S8448x2x64 : Shape := ⟨3, ![8448, 2, 64]⟩
abbrev S2x8448x64 : Shape := ⟨3, ![2, 8448, 64]⟩
abbrev S1x2x8448x64 : Shape := ⟨4, ![1, 2, 8448, 64]⟩
abbrev S1x2x4x8192x8448 : Shape := ⟨5, ![1, 2, 4, 8192, 8448]⟩
abbrev S_ : Shape := ⟨0, ![]⟩
abbrev S1x2x4x8192 : Shape := ⟨4, ![1, 2, 4, 8192]⟩
abbrev S1x2x4x8192x1 : Shape := ⟨5, ![1, 2, 4, 8192, 1]⟩
abbrev S256x512 : Shape := ⟨2, ![256, 512]⟩
abbrev S8x8192x1 : Shape := ⟨3, ![8, 8192, 1]⟩
abbrev S8x256x1 : Shape := ⟨3, ![8, 256, 1]⟩
abbrev S8x8448x1 : Shape := ⟨3, ![8, 8448, 1]⟩
abbrev S8x8448x128 : Shape := ⟨3, ![8, 8448, 128]⟩
abbrev S8448x2x4x64 : Shape := ⟨4, ![8448, 2, 4, 64]⟩
abbrev S8448x4x64 : Shape := ⟨3, ![8448, 4, 64]⟩
abbrev S8448x1x4x64 : Shape := ⟨4, ![8448, 1, 4, 64]⟩
abbrev S8448x4x128 : Shape := ⟨3, ![8448, 4, 128]⟩
abbrev S8448x8x128 : Shape := ⟨3, ![8448, 8, 128]⟩
abbrev S8448x1024 : Shape := ⟨2, ![8448, 1024]⟩
abbrev S512x512 : Shape := ⟨2, ![512, 512]⟩
abbrev S512x256 : Shape := ⟨2, ![512, 256]⟩
abbrev S4x512x128 : Shape := ⟨3, ![4, 512, 128]⟩
abbrev S2048x128 : Shape := ⟨2, ![2048, 128]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S2048x1 : Shape := ⟨2, ![2048, 1]⟩
abbrev S256x128 : Shape := ⟨2, ![256, 128]⟩
abbrev S2048x256 : Shape := ⟨2, ![2048, 256]⟩
abbrev S8192x1024 : Shape := ⟨2, ![8192, 1024]⟩
abbrev S8192x2x4x2x64 : Shape := ⟨5, ![8192, 2, 4, 2, 64]⟩
abbrev S8192x1x4x1x64 : Shape := ⟨5, ![8192, 1, 4, 1, 64]⟩
abbrev S8192x4x64 : Shape := ⟨3, ![8192, 4, 64]⟩
abbrev S8192x1x4x64 : Shape := ⟨4, ![8192, 1, 4, 64]⟩

abbrev nBuf : Space → Nat
  | .hbm => 79
  | .vmem => 15
  | .smem => 0
  | _ => 0

abbrev bufTy : (tb : Table) → Fin (tcTables nBuf tb) → BufTy
  | .hbm, ⟨0, _⟩ => ⟨S8448x512, .bf16⟩
  | .hbm, ⟨1, _⟩ => ⟨S8448x128, .bf16⟩
  | .hbm, ⟨2, _⟩ => ⟨S8448x768, .bf16⟩
  | .hbm, ⟨3, _⟩ => ⟨S8448x512, .bf16⟩
  | .hbm, ⟨4, _⟩ => ⟨S8192x512, .bf16⟩
  | .hbm, ⟨5, _⟩ => ⟨S8192x512, .f32⟩
  | .hbm, ⟨6, _⟩ => ⟨S8192x2x4x64, .f32⟩
  | .hbm, ⟨7, _⟩ => ⟨S2x4x8192x64, .f32⟩
  | .hbm, ⟨8, _⟩ => ⟨S1x2x4x8192x64, .f32⟩
  | .hbm, ⟨9, _⟩ => ⟨S8448x128, .f32⟩
  | .hbm, ⟨10, _⟩ => ⟨S8448x2x64, .f32⟩
  | .hbm, ⟨11, _⟩ => ⟨S2x8448x64, .f32⟩
  | .hbm, ⟨12, _⟩ => ⟨S1x2x8448x64, .f32⟩
  | .hbm, ⟨13, _⟩ => ⟨S8448x128, .bf16⟩
  | .hbm, ⟨14, _⟩ => ⟨S8448x128, .f32⟩
  | .hbm, ⟨15, _⟩ => ⟨S8448x2x64, .f32⟩
  | .hbm, ⟨16, _⟩ => ⟨S2x8448x64, .f32⟩
  | .hbm, ⟨17, _⟩ => ⟨S1x2x8448x64, .f32⟩
  | .hbm, ⟨18, _⟩ => ⟨S1x2x4x8192x8448, .f32⟩
  | .hbm, ⟨19, _⟩ => ⟨S_, .f32⟩
  | .hbm, ⟨20, _⟩ => ⟨S1x2x4x8192x8448, .f32⟩
  | .hbm, ⟨21, _⟩ => ⟨S1x2x4x8192x8448, .f32⟩
  | .hbm, ⟨22, _⟩ => ⟨S_, .f32⟩
  | .hbm, ⟨23, _⟩ => ⟨S1x2x4x8192, .f32⟩
  | .hbm, ⟨24, _⟩ => ⟨S1x2x4x8192x1, .f32⟩
  | .hbm, ⟨25, _⟩ => ⟨S1x2x4x8192x8448, .f32⟩
  | .hbm, ⟨26, _⟩ => ⟨S1x2x4x8192x8448, .f32⟩
  | .hbm, ⟨27, _⟩ => ⟨S1x2x4x8192x8448, .f32⟩
  | .hbm, ⟨28, _⟩ => ⟨S_, .f32⟩
  | .hbm, ⟨29, _⟩ => ⟨S1x2x4x8192, .f32⟩
  | .hbm, ⟨30, _⟩ => ⟨S1x2x4x8192x1, .f32⟩
  | .hbm, ⟨31, _⟩ => ⟨S1x2x4x8192x8448, .f32⟩
  | .hbm, ⟨32, _⟩ => ⟨S1x2x4x8192x8448, .f32⟩
  | .hbm, ⟨33, _⟩ => ⟨S1x2x4x8192x64, .f32⟩
  | .hbm, ⟨34, _⟩ => ⟨S2x4x8192x64, .f32⟩
  | .hbm, ⟨35, _⟩ => ⟨S8192x2x4x64, .f32⟩
  | .hbm, ⟨36, _⟩ => ⟨S8192x512, .f32⟩
  | .hbm, ⟨37, _⟩ => ⟨S8192x512, .bf16⟩
  | .hbm, ⟨38, _⟩ => ⟨S_, .bf16⟩
  | .hbm, ⟨39, _⟩ => ⟨S256x512, .bf16⟩
  | .hbm, ⟨40, _⟩ => ⟨S8448x512, .bf16⟩
  | .hbm, ⟨41, _⟩ => ⟨S1x2x4x8192x1, .f32⟩
  | .hbm, ⟨42, _⟩ => ⟨S1x2x4x8192x1, .f32⟩
  | .hbm, ⟨43, _⟩ => ⟨S8x8192x1, .f32⟩
  | .hbm, ⟨44, _⟩ => ⟨S_, .f32⟩
  | .hbm, ⟨45, _⟩ => ⟨S8x256x1, .f32⟩
  | .hbm, ⟨46, _⟩ => ⟨S8x8448x1, .f32⟩
  | .hbm, ⟨47, _⟩ => ⟨S8x8448x128, .f32⟩
  | .hbm, ⟨48, _⟩ => ⟨S8448x512, .f32⟩
  | .hbm, ⟨49, _⟩ => ⟨S_, .f32⟩
  | .hbm, ⟨50, _⟩ => ⟨S8448x512, .f32⟩
  | .hbm, ⟨51, _⟩ => ⟨S8448x512, .f32⟩
  | .hbm, ⟨52, _⟩ => ⟨S8448x512, .bf16⟩
  | .hbm, ⟨53, _⟩ => ⟨S8448x2x4x64, .bf16⟩
  | .hbm, ⟨54, _⟩ => ⟨S_, .bf16⟩
  | .hbm, ⟨55, _⟩ => ⟨S8448x4x64, .bf16⟩
  | .hbm, ⟨56, _⟩ => ⟨S8448x1x4x64, .bf16⟩
  | .hbm, ⟨57, _⟩ => ⟨S8448x4x64, .bf16⟩
  | .hbm, ⟨58, _⟩ => ⟨S8448x4x128, .bf16⟩
  | .hbm, ⟨59, _⟩ => ⟨S8448x1x4x64, .bf16⟩
  | .hbm, ⟨60, _⟩ => ⟨S8448x4x64, .bf16⟩
  | .hbm, ⟨61, _⟩ => ⟨S8448x4x128, .bf16⟩
  | .hbm, ⟨62, _⟩ => ⟨S8448x8x128, .bf16⟩
  | .hbm, ⟨63, _⟩ => ⟨S8448x1024, .bf16⟩
  | .hbm, ⟨64, _⟩ => ⟨S8448x1024, .f32⟩
  | .hbm, ⟨65, _⟩ => ⟨S8448x128, .f32⟩
  | .hbm, ⟨66, _⟩ => ⟨S8448x128, .f32⟩
  | .hbm, ⟨67, _⟩ => ⟨S8192x1024, .f32⟩
  | .hbm, ⟨68, _⟩ => ⟨S8192x2x4x2x64, .f32⟩
  | .hbm, ⟨69, _⟩ => ⟨S8192x1x4x1x64, .f32⟩
  | .hbm, ⟨70, _⟩ => ⟨S8192x4x64, .f32⟩
  | .hbm, ⟨71, _⟩ => ⟨S8192x1x4x1x64, .f32⟩
  | .hbm, ⟨72, _⟩ => ⟨S8192x4x64, .f32⟩
  | .hbm, ⟨73, _⟩ => ⟨S8192x1x4x64, .f32⟩
  | .hbm, ⟨74, _⟩ => ⟨S8192x1x4x64, .f32⟩
  | .hbm, ⟨75, _⟩ => ⟨S8192x2x4x64, .f32⟩
  | .hbm, ⟨76, _⟩ => ⟨S_, .f32⟩
  | .hbm, ⟨77, _⟩ => ⟨S8192x2x4x64, .f32⟩
  | .hbm, ⟨78, _⟩ => ⟨S8192x2x4x64, .f32⟩
  | .local _ .vmem, ⟨0, _⟩ => ⟨S512x512, .bf16⟩
  | .local _ .vmem, ⟨1, _⟩ => ⟨S512x512, .bf16⟩
  | .local _ .vmem, ⟨2, _⟩ => ⟨S8448x128, .bf16⟩
  | .local _ .vmem, ⟨3, _⟩ => ⟨S8448x128, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S4x512x128, .f32⟩
  | .local _ .vmem, ⟨9, _⟩ => ⟨S4x512x128, .f32⟩
  | .local _ .vmem, ⟨10, _⟩ => ⟨S512x512, .f32⟩
  | .local _ .vmem, ⟨11, _⟩ => ⟨S512x512, .f32⟩
  | .local _ .vmem, ⟨12, _⟩ => ⟨S8448x128, .f32⟩
  | .local _ .vmem, ⟨13, _⟩ => ⟨S8448x128, .f32⟩
  | .local _ .vmem, ⟨14, _⟩ => ⟨S2048x128, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53_0 : Ref sig .tc := ⟨.hbm, 64, rfl⟩
abbrev main_v53_1 : Ref sig .tc := ⟨.hbm, 65, rfl⟩
abbrev main_v53_2 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_6 : Ref sig .tc := ⟨.hbm, 76, rfl⟩
abbrev main_v63 : Ref sig .tc := ⟨.hbm, 77, rfl⟩
abbrev main_v64 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_162 : BitVec 32 := 0#32
  let c4_i32 : BitVec 32 := 4#32
  let v459 : BitVec 32 := Scalar.addi c0_i32_162 c4_i32
  let c1_i32_163 : BitVec 32 := 1#32
  ⟨c0_i32_162, v459, c1_i32_163⟩
def k0_mult1 (k0_t1 : Fin k0_t1_loop.trips) : BitVec 32 :=
  let c8_i32 : BitVec 32 := 8#32
  let c0_i32_162 : BitVec 32 := 0#32
  let c1_i32_163 : BitVec 32 := 1#32
  let arg12 : BitVec 32 := Scf.iv c0_i32_162 c1_i32_163 k0_t1
  let v506 : BitVec 32 := Scalar.muli c8_i32 arg12
  let c0_i32_198 : BitVec 32 := 0#32
  let v507 : BitVec 32 := Scalar.addi v506 c0_i32_198
  let c256_i32 : BitVec 32 := 256#32
  let v508 : BitVec 32 := Scalar.muli v507 c256_i32
  v508
def k0_off1 (k0_t1 : Fin k0_t1_loop.trips) (c0_i32_198 : BitVec 32) : Fin 2 → Nat :=
  let c8_i32 : BitVec 32 := 8#32
  let c0_i32_162 : BitVec 32 := 0#32
  let c1_i32_163 : BitVec 32 := 1#32
  let arg12 : BitVec 32 := Scf.iv c0_i32_162 c1_i32_163 k0_t1
  let v506 : BitVec 32 := Scalar.muli c8_i32 arg12
  let v507 : BitVec 32 := Scalar.addi v506 c0_i32_198
  let c256_i32 : BitVec 32 := 256#32
  let v508 : BitVec 32 := Scalar.muli v507 c256_i32
  let v509 : BitVec 32 := v508
  let v510 : Index := Scalar.indexCast v509
  let c0_199 : Index := 0#32
  ![v510.toNat, 0]
def k0_mult2 (k0_t1 : Fin k0_t1_loop.trips) : BitVec 32 :=
  let c8_i32_214 : BitVec 32 := 8#32
  let c0_i32_162 : BitVec 32 := 0#32
  let c1_i32_163 : BitVec 32 := 1#32
  let arg12 : BitVec 32 := Scf.iv c0_i32_162 c1_i32_163 k0_t1
  let v554 : BitVec 32 := Scalar.muli c8_i32_214 arg12
  let c1_i32_215 : BitVec 32 := 1#32
  let v555 : BitVec 32 := Scalar.addi v554 c1_i32_215
  let c256_i32_216 : BitVec 32 := 256#32
  let v556 : BitVec 32 := Scalar.muli v555 c256_i32_216
  v556
def k0_mult3 (k0_t1 : Fin k0_t1_loop.trips) : BitVec 32 :=
  let c8_i32_232 : BitVec 32 := 8#32
  let c0_i32_162 : BitVec 32 := 0#32
  let c1_i32_163 : BitVec 32 := 1#32
  let arg12 : BitVec 32 := Scf.iv c0_i32_162 c1_i32_163 k0_t1
  let v602 : BitVec 32 := Scalar.muli c8_i32_232 arg12
  let c2_i32 : BitVec 32 := 2#32
  let v603 : BitVec 32 := Scalar.addi v602 c2_i32
  let c256_i32_233 : BitVec 32 := 256#32
  let v604 : BitVec 32 := Scalar.muli v603 c256_i32_233
  v604
def k0_mult4 (k0_t1 : Fin k0_t1_loop.trips) : BitVec 32 :=
  let c8_i32_249 : BitVec 32 := 8#32
  let c0_i32_162 : BitVec 32 := 0#32
  let c1_i32_163 : BitVec 32 := 1#32
  let arg12 : BitVec 32 := Scf.iv c0_i32_162 c1_i32_163 k0_t1
  let v650 : BitVec 32 := Scalar.muli c8_i32_249 arg12
  let c3_i32 : BitVec 32 := 3#32
  let v651 : BitVec 32 := Scalar.addi v650 c3_i32
  let c256_i32_250 : BitVec 32 := 256#32
  let v652 : BitVec 32 := Scalar.muli v651 c256_i32_250
  v652
def k0_mult5 (k0_t1 : Fin k0_t1_loop.trips) : BitVec 32 :=
  let c8_i32_266 : BitVec 32 := 8#32
  let c0_i32_162 : BitVec 32 := 0#32
  let c1_i32_163 : BitVec 32 := 1#32
  let arg12 : BitVec 32 := Scf.iv c0_i32_162 c1_i32_163 k0_t1
  let v698 : BitVec 32 := Scalar.muli c8_i32_266 arg12
  let c4_i32_267 : BitVec 32 := 4#32
  let v699 : BitVec 32 := Scalar.addi v698 c4_i32_267
  let c256_i32_268 : BitVec 32 := 256#32
  let v700 : BitVec 32 := Scalar.muli v699 c256_i32_268
  v700
def k0_mult6 (k0_t1 : Fin k0_t1_loop.trips) : BitVec 32 :=
  let c8_i32_284 : BitVec 32 := 8#32
  let c0_i32_162 : BitVec 32 := 0#32
  let c1_i32_163 : BitVec 32 := 1#32
  let arg12 : BitVec 32 := Scf.iv c0_i32_162 c1_i32_163 k0_t1
  let v746 : BitVec 32 := Scalar.muli c8_i32_284 arg12
  let c5_i32 : BitVec 32 := 5#32
  let v747 : BitVec 32 := Scalar.addi v746 c5_i32
  let c256_i32_285 : BitVec 32 := 256#32
  let v748 : BitVec 32 := Scalar.muli v747 c256_i32_285
  v748
def k0_mult7 (k0_t1 : Fin k0_t1_loop.trips) : BitVec 32 :=
  let c8_i32_301 : BitVec 32 := 8#32
  let c0_i32_162 : BitVec 32 := 0#32
  let c1_i32_163 : BitVec 32 := 1#32
  let arg12 : BitVec 32 := Scf.iv c0_i32_162 c1_i32_163 k0_t1
  let v794 : BitVec 32 := Scalar.muli c8_i32_301 arg12
  let c6_i32 : BitVec 32 := 6#32
  let v795 : BitVec 32 := Scalar.addi v794 c6_i32
  let c256_i32_302 : BitVec 32 := 256#32
  let v796 : BitVec 32 := Scalar.muli v795 c256_i32_302
  v796
def k0_mult8 (k0_t1 : Fin k0_t1_loop.trips) : BitVec 32 :=
  let c8_i32_318 : BitVec 32 := 8#32
  let c0_i32_162 : BitVec 32 := 0#32
  let c1_i32_163 : BitVec 32 := 1#32
  let arg12 : BitVec 32 := Scf.iv c0_i32_162 c1_i32_163 k0_t1
  let v842 : BitVec 32 := Scalar.muli c8_i32_318 arg12
  let c7_i32 : BitVec 32 := 7#32
  let v843 : BitVec 32 := Scalar.addi v842 c7_i32
  let c256_i32_319 : BitVec 32 := 256#32
  let v844 : BitVec 32 := Scalar.muli v843 c256_i32_319
  v844
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8448x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8448x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8448x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8448x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S8448x512 : Shape := ⟨2, ![8448, 512]⟩
abbrev S8448x128 : Shape := ⟨2, ![8448, 128]⟩
abbrev S8448x768 : Shape := ⟨2, ![8448, 768]⟩
abbrev S8192x512 : Shape := ⟨2, ![8192, 512]⟩
abbrev S8192x2x4x64 : Shape := ⟨4, ![8192, 2, 4, 64]⟩
abbrev S2x4x8192x64 : Shape := ⟨4, ![2, 4, 8192, 64]⟩
abbrev S1x2x4x8192x64 : Shape := ⟨5, ![1, 2, 4, 8192, 64]⟩
abbrev S8448x2x64 : Shape := ⟨3, ![8448, 2, 64]⟩
abbrev S2x8448x64 : Shape := ⟨3, ![2, 8448, 64]⟩
abbrev S1x2x8448x64 : Shape := ⟨4, ![1, 2, 8448, 64]⟩
abbrev S1x2x4x8192x8448 : Shape := ⟨5, ![1, 2, 4, 8192, 8448]⟩
abbrev S_ : Shape := ⟨0, ![]⟩
abbrev S1x2x4x8192 : Shape := ⟨4, ![1, 2, 4, 8192]⟩
abbrev S1x2x4x8192x1 : Shape := ⟨5, ![1, 2, 4, 8192, 1]⟩
abbrev S1x2x64x8448 : Shape := ⟨4, ![1, 2, 64, 8448]⟩
abbrev S2x4x8192 : Shape := ⟨3, ![2, 4, 8192]⟩

abbrev nBuf : Space → Nat
  | .hbm => 104
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x128, .bf16⟩
  | .hbm, ⟨2, _⟩ => ⟨S8448x768, .bf16⟩
  | .hbm, ⟨3, _⟩ => ⟨S8448x512, .bf16⟩
  | .hbm, ⟨4, _⟩ => ⟨S8192x512, .bf16⟩
  | .hbm, ⟨5, _⟩ => ⟨S8448x128, .bf16⟩
  | .hbm, ⟨6, _⟩ => ⟨S8192x512, .bf16⟩
  | .hbm, ⟨7, _⟩ => ⟨S8192x512, .f32⟩
  | .hbm, ⟨8, _⟩ => ⟨S8448x128, .f32⟩
  | .hbm, ⟨9, _⟩ => ⟨S8448x128, .f32⟩
  | .hbm, ⟨10, _⟩ => ⟨S8192x512, .f32⟩
  | .hbm, ⟨11, _⟩ => ⟨S8192x2x4x64, .f32⟩
  | .hbm, ⟨12, _⟩ => ⟨S2x4x8192x64, .f32⟩
  | .hbm, ⟨13, _⟩ => ⟨S1x2x4x8192x64, .f32⟩
  | .hbm, ⟨14, _⟩ => ⟨S8448x2x64, .f32⟩
  | .hbm, ⟨15, _⟩ => ⟨S2x8448x64, .f32⟩
  | .hbm, ⟨16, _⟩ => ⟨S1x2x8448x64, .f32⟩
  | .hbm, ⟨17, _⟩ => ⟨S8448x2x64, .f32⟩
  | .hbm, ⟨18, _⟩ => ⟨S2x8448x64, .f32⟩
  | .hbm, ⟨19, _⟩ => ⟨S1x2x8448x64, .f32⟩
  | .hbm, ⟨20, _⟩ => ⟨S1x2x4x8192x8448, .f32⟩
  | .hbm, ⟨21, _⟩ => ⟨S_, .f32⟩
  | .hbm, ⟨22, _⟩ => ⟨S1x2x4x8192x8448, .f32⟩
  | .hbm, ⟨23, _⟩ => ⟨S1x2x4x8192x8448, .f32⟩
  | .hbm, ⟨24, _⟩ => ⟨S_, .f32⟩
  | .hbm, ⟨25, _⟩ => ⟨S1x2x4x8192, .f32⟩
  | .hbm, ⟨26, _⟩ => ⟨S1x2x4x8192x1, .f32⟩
  | .hbm, ⟨27, _⟩ => ⟨S1x2x4x8192x8448, .f32⟩
  | .hbm, ⟨28, _⟩ => ⟨S1x2x4x8192x8448, .i1⟩
  | .hbm, ⟨29, _⟩ => ⟨S1x2x4x8192x8448, .f32⟩
  | .hbm, ⟨30, _⟩ => ⟨S_, .f32⟩
  | .hbm, ⟨31, _⟩ => ⟨S1x2x4x8192, .f32⟩
  | .hbm, ⟨32, _⟩ => ⟨S_, .f32⟩
  | .hbm, ⟨33, _⟩ => ⟨S1x2x4x8192, .f32⟩
  | .hbm, ⟨34, _⟩ => ⟨S1x2x4x8192, .f32⟩
  | .hbm, ⟨35, _⟩ => ⟨S_, .f32⟩
  | .hbm, ⟨36, _⟩ => ⟨S1x2x4x8192, .f32⟩
  | .hbm, ⟨37, _⟩ => ⟨S1x2x4x8192, .i1⟩
  | .hbm, ⟨38, _⟩ => ⟨S_, .f32⟩
  | .hbm, ⟨39, _⟩ => ⟨S1x2x4x8192, .f32⟩
  | .hbm, ⟨40, _⟩ => ⟨S1x2x4x8192, .i1⟩
  | .hbm, ⟨41, _⟩ => ⟨S_, .f32⟩
  | .hbm, ⟨42, _⟩ => ⟨S1x2x4x8192, .f32⟩
  | .hbm, ⟨43, _⟩ => ⟨S_, .f32⟩
  | .hbm, ⟨44, _⟩ => ⟨S1x2x4x8192, .f32⟩
  | .hbm, ⟨45, _⟩ => ⟨S_, .f32⟩
  | .hbm, ⟨46, _⟩ => ⟨S1x2x4x8192, .f32⟩
  | .hbm, ⟨47, _⟩ => ⟨S1x2x4x8192, .f32⟩
  | .hbm, ⟨48, _⟩ => ⟨S1x2x4x8192, .f32⟩
  | .hbm, ⟨49, _⟩ => ⟨S1x2x4x8192x1, .f32⟩
  | .hbm, ⟨50, _⟩ => ⟨S1x2x4x8192x8448, .f32⟩
  | .hbm, ⟨51, _⟩ => ⟨S1x2x4x8192x8448, .f32⟩
  | .hbm, ⟨52, _⟩ => ⟨S1x2x4x8192x8448, .f32⟩
  | .hbm, ⟨53, _⟩ => ⟨S_, .f32⟩
  | .hbm, ⟨54, _⟩ => ⟨S1x2x4x8192, .f32⟩
  | .hbm, ⟨55, _⟩ => ⟨S1x2x4x8192x1, .f32⟩
  | .hbm, ⟨56, _⟩ => ⟨S1x2x4x8192x8448, .f32⟩
  | .hbm, ⟨57, _⟩ => ⟨S1x2x4x8192x8448, .f32⟩
  | .hbm, ⟨58, _⟩ => ⟨S1x2x4x8192x1, .f32⟩
  | .hbm, ⟨59, _⟩ => ⟨S_, .f32⟩
  | .hbm, ⟨60, _⟩ => ⟨S1x2x4x8192x1, .f32⟩
  | .hbm, ⟨61, _⟩ => ⟨S1x2x4x8192x1, .f32⟩
  | .hbm, ⟨62, _⟩ => ⟨S1x2x4x8192x64, .f32⟩
  | .hbm, ⟨63, _⟩ => ⟨S2x4x8192x64, .f32⟩
  | .hbm, ⟨64, _⟩ => ⟨S8192x2x4x64, .f32⟩
  | .hbm, ⟨65, _⟩ => ⟨S8192x2x4x64, .f32⟩
  | .hbm, ⟨66, _⟩ => ⟨S2x4x8192x64, .f32⟩
  | .hbm, ⟨67, _⟩ => ⟨S1x2x4x8192x64, .f32⟩
  | .hbm, ⟨68, _⟩ => ⟨S1x2x64x8448, .f32⟩
  | .hbm, ⟨69, _⟩ => ⟨S1x2x8448x64, .f32⟩
  | .hbm, ⟨70, _⟩ => ⟨S1x2x4x8192x8448, .f32⟩
  | .hbm, ⟨71, _⟩ => ⟨S1x2x4x8192x8448, .f32⟩
  | .hbm, ⟨72, _⟩ => ⟨S1x2x4x8192x8448, .f32⟩
  | .hbm, ⟨73, _⟩ => ⟨S1x2x4x8192x8448, .f32⟩
  | .hbm, ⟨74, _⟩ => ⟨S_, .f32⟩
  | .hbm, ⟨75, _⟩ => ⟨S1x2x4x8192, .f32⟩
  | .hbm, ⟨76, _⟩ => ⟨S1x2x4x8192x1, .f32⟩
  | .hbm, ⟨77, _⟩ => ⟨S1x2x4x8192x1, .f32⟩
  | .hbm, ⟨78, _⟩ => ⟨S1x2x4x8192x8448, .f32⟩
  | .hbm, ⟨79, _⟩ => ⟨S1x2x4x8192x8448, .f32⟩
  | .hbm, ⟨80, _⟩ => ⟨S_, .f32⟩
  | .hbm, ⟨81, _⟩ => ⟨S2x4x8192, .f32⟩
  | .hbm, ⟨82, _⟩ => ⟨S1x2x4x8192, .f32⟩
  | .hbm, ⟨83, _⟩ => ⟨S1x2x4x8192x8448, .f32⟩
  | .hbm, ⟨84, _⟩ => ⟨S1x2x4x8192x8448, .f32⟩
  | .hbm, ⟨85, _⟩ => ⟨S1x2x4x8192x8448, .f32⟩
  | .hbm, ⟨86, _⟩ => ⟨S_, .f32⟩
  | .hbm, ⟨87, _⟩ => ⟨S1x2x4x8192x8448, .f32⟩
  | .hbm, ⟨88, _⟩ => ⟨S1x2x4x8192x8448, .f32⟩
  | .hbm, ⟨89, _⟩ => ⟨S1x2x8448x64, .f32⟩
  | .hbm, ⟨90, _⟩ => ⟨S1x2x4x8192x64, .f32⟩
  | .hbm, ⟨91, _⟩ => ⟨S_, .f32⟩
  | .hbm, ⟨92, _⟩ => ⟨S2x8448x64, .f32⟩
  | .hbm, ⟨93, _⟩ => ⟨S8448x2x64, .f32⟩
  | .hbm, ⟨94, _⟩ => ⟨S8448x128, .f32⟩
  | .hbm, ⟨95, _⟩ => ⟨S_, .f32⟩
  | .hbm, ⟨96, _⟩ => ⟨S2x8448x64, .f32⟩
  | .hbm, ⟨97, _⟩ => ⟨S8448x2x64, .f32⟩
  | .hbm, ⟨98, _⟩ => ⟨S8448x128, .f32⟩
  | .hbm, ⟨99, _⟩ => ⟨S_, .f32⟩
  | .hbm, ⟨100, _⟩ => ⟨S2x4x8192x64, .f32⟩
  | .hbm, ⟨101, _⟩ => ⟨S8192x2x4x64, .f32⟩
  | .hbm, ⟨102, _⟩ => ⟨S8192x512, .f32⟩
  | .hbm, ⟨103, _⟩ => ⟨S8192x2x4x64, .f32⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_11 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_12 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_13 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_14 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_15 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩

abbrev nD : Nat := 1
abbrev τ : Topo := Topo.v7x

variable {F : FTy → Type} [FloatOps F]
-- ==== Kernel2.lean ====
abbrev S8448x1024 : Shape := ⟨2, ![8448, 1024]⟩
abbrev S8448x2816 : Shape := ⟨2, ![8448, 2816]⟩
abbrev S1024x2816 : Shape := ⟨2, ![1024, 2816]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S1024x2816, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8448x1024 : Shape := ⟨2, ![8448, 1024]⟩
abbrev S8448x2816 : Shape := ⟨2, ![8448, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S8448x1024, .f32⟩
  | .hbm, ⟨3, _⟩ => ⟨S8448x2816, .f32⟩
  | .hbm, ⟨4, _⟩ => ⟨S_, .f32⟩
  | .hbm, ⟨5, _⟩ => ⟨S1024x2816, .f32⟩
  | .hbm, ⟨6, _⟩ => ⟨S8448x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8448x2816 : Shape := ⟨2, ![8448, 2816]⟩
abbrev S8448x1024 : Shape := ⟨2, ![8448, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S8448x2816, .f32⟩
  | .hbm, ⟨3, _⟩ => ⟨S8448x1024, .f32⟩
  | .hbm, ⟨4, _⟩ => ⟨S_, .f32⟩
  | .hbm, ⟨5, _⟩ => ⟨S2816x1024, .f32⟩
  | .hbm, ⟨6, _⟩ => ⟨S8448x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .f32⟩
  | .hbm, ⟨3, _⟩ => ⟨S8448x1024, .f32⟩
  | .hbm, ⟨4, _⟩ => ⟨S_, .f32⟩
  | .hbm, ⟨5, _⟩ => ⟨S1024x1024, .f32⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8448x512 : Shape := ⟨2, ![8448, 512]⟩
abbrev S8448x1024 : Shape := ⟨2, ![8448, 1024]⟩
abbrev S512x1024 : Shape := ⟨2, ![512, 1024]⟩
abbrev S1408x512 : Shape := ⟨2, ![1408, 512]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S512x1024, .bf16⟩
  | .local _ .vmem, ⟨0, _⟩ => ⟨S1408x512, .bf16⟩
  | .local _ .vmem, ⟨1, _⟩ => ⟨S1408x512, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .bf16⟩
  | .local _ .vmem, ⟨5, _⟩ => ⟨S512x1024, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8448x512 : Shape := ⟨2, ![8448, 512]⟩
abbrev S8448x1024 : Shape := ⟨2, ![8448, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S8448x512, .f32⟩
  | .hbm, ⟨3, _⟩ => ⟨S8448x1024, .f32⟩
  | .hbm, ⟨4, _⟩ => ⟨S_, .f32⟩
  | .hbm, ⟨5, _⟩ => ⟨S512x1024, .f32⟩
  | .hbm, ⟨6, _⟩ => ⟨S8448x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8448x1024 : Shape := ⟨2, ![8448, 1024]⟩
abbrev S8448x1536 : Shape := ⟨2, ![8448, 1536]⟩
abbrev S1024x1536 : Shape := ⟨2, ![1024, 1536]⟩
abbrev S1408x1024 : Shape := ⟨2, ![1408, 1024]⟩
abbrev S1408x1536 : Shape := ⟨2, ![1408, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1536, .bf16⟩
  | .hbm, ⟨2, _⟩ => ⟨S1024x1536, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1536, .bf16⟩
  | .local _ .vmem, ⟨3, _⟩ => ⟨S1408x1536, .bf16⟩
  | .local _ .vmem, ⟨4, _⟩ => ⟨S1024x1536, .bf16⟩
  | .local _ .vmem, ⟨5, _⟩ => ⟨S1024x1536, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8448x1024 : Shape := ⟨2, ![8448, 1024]⟩
abbrev S8448x1536 : Shape := ⟨2, ![8448, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1536, .bf16⟩
  | .hbm, ⟨2, _⟩ => ⟨S8448x1024, .f32⟩
  | .hbm, ⟨3, _⟩ => ⟨S8448x1536, .f32⟩
  | .hbm, ⟨4, _⟩ => ⟨S_, .f32⟩
  | .hbm, ⟨5, _⟩ => ⟨S1024x1536, .f32⟩
  | .hbm, ⟨6, _⟩ => ⟨S8448x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8448x1024 : Shape := ⟨2, ![8448, 1024]⟩
abbrev S8448x768 : Shape := ⟨2, ![8448, 768]⟩
abbrev S1024x768 : Shape := ⟨2, ![1024, 768]⟩
abbrev S1408x1024 : Shape := ⟨2, ![1408, 1024]⟩
abbrev S1408x768 : Shape := ⟨2, ![1408, 768]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x768, .bf16⟩
  | .hbm, ⟨2, _⟩ => ⟨S1024x768, .bf16⟩
  | .local _ .vmem, ⟨0, _⟩ => ⟨S1408x1024, .bf16⟩
  | .local _ .vmem, ⟨1, _⟩ => ⟨S1408x1024, .bf16⟩
  | .local _ .vmem, ⟨2, _⟩ => ⟨S1408x768, .bf16⟩
  | .local _ .vmem, ⟨3, _⟩ => ⟨S1408x768, .bf16⟩
  | .local _ .vmem, ⟨4, _⟩ => ⟨S1024x768, .bf16⟩
  | .local _ .vmem, ⟨5, _⟩ => ⟨S1024x768, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8448x1024 : Shape := ⟨2, ![8448, 1024]⟩
abbrev S8448x768 : Shape := ⟨2, ![8448, 768]⟩
abbrev S_ : Shape := ⟨0, ![]⟩
abbrev S1024x768 : Shape := ⟨2, ![1024, 768]⟩
abbrev S768x1024 : Shape := ⟨2, ![768, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x768, .bf16⟩
  | .hbm, ⟨2, _⟩ => ⟨S8448x1024, .f32⟩
  | .hbm, ⟨3, _⟩ => ⟨S8448x768, .f32⟩
  | .hbm, ⟨4, _⟩ => ⟨S_, .f32⟩
  | .hbm, ⟨5, _⟩ => ⟨S1024x768, .f32⟩
  | .hbm, ⟨6, _⟩ => ⟨S8448x768, .f32⟩
  | .hbm, ⟨7, _⟩ => ⟨S768x1024, .f32⟩
  | .hbm, ⟨8, _⟩ => ⟨S1024x768, .f32⟩
  | .hbm, ⟨9, _⟩ => ⟨S1024x768, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8448x1024 : Shape := ⟨2, ![8448, 1024]⟩
abbrev S8448x2048 : Shape := ⟨2, ![8448, 2048]⟩
abbrev S1024x2048 : Shape := ⟨2, ![1024, 2048]⟩
abbrev S1408x1024 : Shape := ⟨2, ![1408, 1024]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .bf16⟩
  | .hbm, ⟨2, _⟩ => ⟨S1024x2048, .bf16⟩
  | .local _ .vmem, ⟨0, _⟩ => ⟨S1408x1024, .bf16⟩
  | .local _ .vmem, ⟨1, _⟩ => ⟨S1408x1024, .bf16⟩
  | .local _ .vmem, ⟨2, _⟩ => ⟨S1408x2048, .bf16⟩
  | .local _ .vmem, ⟨3, _⟩ => ⟨S1408x2048, .bf16⟩
  | .local _ .vmem, ⟨4, _⟩ => ⟨S1024x2048, .bf16⟩
  | .local _ .vmem, ⟨5, _⟩ => ⟨S1024x2048, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8448x1024 : Shape := ⟨2, ![8448, 1024]⟩
abbrev S8448x2048 : Shape := ⟨2, ![8448, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .bf16⟩
  | .hbm, ⟨2, _⟩ => ⟨S8448x1024, .f32⟩
  | .hbm, ⟨3, _⟩ => ⟨S8448x2048, .f32⟩
  | .hbm, ⟨4, _⟩ => ⟨S_, .f32⟩
  | .hbm, ⟨5, _⟩ => ⟨S1024x2048, .f32⟩
  | .hbm, ⟨6, _⟩ => ⟨S8448x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8448x1024 : Shape := ⟨2, ![8448, 1024]⟩
abbrev S512x1024 : Shape := ⟨2, ![512, 1024]⟩
abbrev S8448x512 : Shape := ⟨2, ![8448, 512]⟩
abbrev S256x1024 : Shape := ⟨2, ![256, 1024]⟩
abbrev S256x512 : Shape := ⟨2, ![256, 512]⟩

abbrev nBuf : Space → Nat
  | .hbm => 6
  | .vmem => 10
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S512x1024, .bf16⟩
  | .hbm, ⟨3, _⟩ => ⟨S512x1024, .bf16⟩
  | .hbm, ⟨4, _⟩ => ⟨S8448x512, .bf16⟩
  | .hbm, ⟨5, _⟩ => ⟨S8448x512, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8448x1024 : Shape := ⟨2, ![8448, 1024]⟩
abbrev S512x1024 : Shape := ⟨2, ![512, 1024]⟩
abbrev S_ : Shape := ⟨0, ![]⟩
abbrev S8448x512 : Shape := ⟨2, ![8448, 512]⟩

abbrev nBuf : Space → Nat
  | .hbm => 18
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S512x1024, .bf16⟩
  | .hbm, ⟨3, _⟩ => ⟨S512x1024, .bf16⟩
  | .hbm, ⟨4, _⟩ => ⟨S512x1024, .f32⟩
  | .hbm, ⟨5, _⟩ => ⟨S8448x1024, .f32⟩
  | .hbm, ⟨6, _⟩ => ⟨S_, .f32⟩
  | .hbm, ⟨7, _⟩ => ⟨S8448x512, .f32⟩
  | .hbm, ⟨8, _⟩ => ⟨S8448x1024, .f32⟩
  | .hbm, ⟨9, _⟩ => ⟨S8448x512, .f32⟩
  | .hbm, ⟨10, _⟩ => ⟨S8448x512, .bf16⟩
  | .hbm, ⟨11, _⟩ => ⟨S512x1024, .f32⟩
  | .hbm, ⟨12, _⟩ => ⟨S8448x1024, .f32⟩
  | .hbm, ⟨13, _⟩ => ⟨S_, .f32⟩
  | .hbm, ⟨14, _⟩ => ⟨S8448x512, .f32⟩
  | .hbm, ⟨15, _⟩ => ⟨S8448x1024, .f32⟩
  | .hbm, ⟨16, _⟩ => ⟨S8448x512, .f32⟩
  | .hbm, ⟨17, _⟩ => ⟨S8448x512, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel10.lean ====
abbrev S8448x1024 : Shape := ⟨2, ![8448, 1024]⟩
abbrev S1024x5632 : Shape := ⟨2, ![1024, 5632]⟩
abbrev S8448x2816 : Shape := ⟨2, ![8448, 2816]⟩
abbrev S256x1024 : Shape := ⟨2, ![256, 1024]⟩
abbrev S1024x1408 : Shape := ⟨2, ![1024, 1408]⟩
abbrev S256x1408 : Shape := ⟨2, ![256, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x2816, .bf16⟩
  | .hbm, ⟨3, _⟩ => ⟨S8448x2816, .bf16⟩
  | .hbm, ⟨4, _⟩ => ⟨S8448x2816, .bf16⟩
  | .local _ .vmem, ⟨0, _⟩ => ⟨S256x1024, .bf16⟩
  | .local _ .vmem, ⟨1, _⟩ => ⟨S256x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S256x1408, .bf16⟩
  | .local _ .vmem, ⟨7, _⟩ => ⟨S256x1408, .bf16⟩
  | .local _ .vmem, ⟨8, _⟩ => ⟨S256x1408, .bf16⟩
  | .local _ .vmem, ⟨9, _⟩ => ⟨S256x1408, .bf16⟩
  | .local _ .vmem, ⟨10, _⟩ => ⟨S256x1408, .bf16⟩
  | .local _ .vmem, ⟨11, _⟩ => ⟨S256x1408, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S8448x1024 : Shape := ⟨2, ![8448, 1024]⟩
abbrev S1024x5632 : Shape := ⟨2, ![1024, 5632]⟩
abbrev S8448x5632 : Shape := ⟨2, ![8448, 5632]⟩
abbrev S8448x2816 : Shape := ⟨2, ![8448, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x1024, .f32⟩
  | .hbm, ⟨3, _⟩ => ⟨S1024x5632, .f32⟩
  | .hbm, ⟨4, _⟩ => ⟨S8448x5632, .f32⟩
  | .hbm, ⟨5, _⟩ => ⟨S8448x2816, .f32⟩
  | .hbm, ⟨6, _⟩ => ⟨S8448x2816, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S8448x2816, .f32⟩
  | .hbm, ⟨16, _⟩ => ⟨S8448x2816, .f32⟩
  | .hbm, ⟨17, _⟩ => ⟨S8448x2816, .bf16⟩
  | .hbm, ⟨18, _⟩ => ⟨S8448x2816, .bf16⟩
  | .hbm, ⟨19, _⟩ => ⟨S8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel11.lean ====
abbrev S8448x1024 : Shape := ⟨2, ![8448, 1024]⟩
abbrev S1024x4352 : Shape := ⟨2, ![1024, 4352]⟩
abbrev S8448x1536 : Shape := ⟨2, ![8448, 1536]⟩
abbrev S8448x768 : Shape := ⟨2, ![8448, 768]⟩
abbrev S8448x2048 : Shape := ⟨2, ![8448, 2048]⟩
abbrev S256x1024 : Shape := ⟨2, ![256, 1024]⟩
abbrev S256x1536 : Shape := ⟨2, ![256, 1536]⟩
abbrev S256x768 : Shape := ⟨2, ![256, 768]⟩
abbrev S256x2048 : Shape := ⟨2, ![256, 2048]⟩
abbrev S256x4352 : Shape := ⟨2, ![256, 4352]⟩

abbrev nBuf : Space → Nat
  | .hbm => 5
  | .vmem => 9
  | .smem => 0
  | _ => 0

abbrev bufTy : (tb : Table) → Fin (tcTables nBuf tb) → BufTy
  | .hbm, ⟨0, _⟩ => ⟨S8448x1024, .bf16⟩
  | .hbm, ⟨1, _⟩ => ⟨S1024x4352, .bf16⟩
  | .hbm, ⟨2, _⟩ => ⟨S8448x1536, .bf16⟩
  | .hbm, ⟨3, _⟩ => ⟨S8448x768, .bf16⟩
  | .hbm, ⟨4, _⟩ => ⟨S8448x2048, .bf16⟩
  | .local _ .vmem, ⟨0, _⟩ => ⟨S256x1024, .bf16⟩
  | .local _ .vmem, ⟨1, _⟩ => ⟨S256x1024, .bf16⟩
  | .local _ .vmem, ⟨2, _⟩ => ⟨S1024x4352, .bf16⟩
  | .local _ .vmem, ⟨3, _⟩ => ⟨S256x1536, .bf16⟩
  | .local _ .vmem, ⟨4, _⟩ => ⟨S256x1536, .bf16⟩
  | .local _ .vmem, ⟨5, _⟩ => ⟨S256x768, .bf16⟩
  | .local _ .vmem, ⟨6, _⟩ => ⟨S256x768, .bf16⟩
  | .local _ .vmem, ⟨7, _⟩ => ⟨S256x2048, .bf16⟩
  | .local _ .vmem, ⟨8, _⟩ => ⟨S256x2048, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4352 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S8448x1024 : Shape := ⟨2, ![8448, 1024]⟩
abbrev S1024x4352 : Shape := ⟨2, ![1024, 4352]⟩
abbrev S8448x4352 : Shape := ⟨2, ![8448, 4352]⟩
abbrev S8448x1536 : Shape := ⟨2, ![8448, 1536]⟩
abbrev S8448x768 : Shape := ⟨2, ![8448, 768]⟩
abbrev S8448x2048 : Shape := ⟨2, ![8448, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x4352, .bf16⟩
  | .hbm, ⟨2, _⟩ => ⟨S8448x1024, .f32⟩
  | .hbm, ⟨3, _⟩ => ⟨S1024x4352, .f32⟩
  | .hbm, ⟨4, _⟩ => ⟨S8448x4352, .f32⟩
  | .hbm, ⟨5, _⟩ => ⟨S8448x1536, .f32⟩
  | .hbm, ⟨6, _⟩ => ⟨S8448x768, .f32⟩
  | .hbm, ⟨7, _⟩ => ⟨S8448x2048, .f32⟩
  | .hbm, ⟨8, _⟩ => ⟨S8448x1536, .bf16⟩
  | .hbm, ⟨9, _⟩ => ⟨S8448x768, .bf16⟩
  | .hbm, ⟨10, _⟩ => ⟨S8448x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel12.lean ====
abbrev S8448x2816 : Shape := ⟨2, ![8448, 2816]⟩
abbrev S2816x1024 : Shape := ⟨2, ![2816, 1024]⟩
abbrev S8448x1024 : Shape := ⟨2, ![8448, 1024]⟩
abbrev S2x6x1024 : Shape := ⟨3, ![2, 6, 1024]⟩
abbrev S1x1024 : Shape := ⟨2, ![1, 1024]⟩
abbrev S256x2816 : Shape := ⟨2, ![256, 2816]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S2x6x1024, .f32⟩
  | .hbm, ⟨4, _⟩ => ⟨S1x1024, .f32⟩
  | .hbm, ⟨5, _⟩ => ⟨S2x6x1024, .f32⟩
  | .hbm, ⟨6, _⟩ => ⟨S8448x1024, .f32⟩
  | .hbm, ⟨7, _⟩ => ⟨S8448x1024, .bf16⟩
  | .hbm, ⟨8, _⟩ => ⟨S8448x1024, .bf16⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S1x6x1024, .f32⟩
  | .local _ .vmem, ⟨9, _⟩ => ⟨S1x6x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 1 := Scalar.cmpi .sge arg0 c32_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c32_i32 : BitVec 32 := 32#32
  let v0 : BitVec 1 := Scalar.cmpi .sge arg0 c32_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S8448x2816 : Shape := ⟨2, ![8448, 2816]⟩
abbrev S2816x1024 : Shape := ⟨2, ![2816, 1024]⟩
abbrev S8448x1024 : Shape := ⟨2, ![8448, 1024]⟩
abbrev S2x6x1024 : Shape := ⟨3, ![2, 6, 1024]⟩
abbrev S1x1024 : Shape := ⟨2, ![1, 1024]⟩
abbrev S2x1x1024 : Shape := ⟨3, ![2, 1, 1024]⟩
abbrev S2x1024 : Shape := ⟨2, ![2, 1024]⟩
abbrev S1024 : Shape := ⟨1, ![1024]⟩
abbrev S8192x1024 : Shape := ⟨2, ![8192, 1024]⟩
abbrev S256x1024 : Shape := ⟨2, ![256, 1024]⟩
abbrev S_ : Shape := ⟨0, ![]⟩
abbrev S8448 : Shape := ⟨1, ![8448]⟩
abbrev S8448x1 : Shape := ⟨2, ![8448, 1]⟩

abbrev nBuf : Space → Nat
  | .hbm => 60
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S2x6x1024, .f32⟩
  | .hbm, ⟨4, _⟩ => ⟨S1x1024, .f32⟩
  | .hbm, ⟨5, _⟩ => ⟨S2x6x1024, .f32⟩
  | .hbm, ⟨6, _⟩ => ⟨S8448x2816, .f32⟩
  | .hbm, ⟨7, _⟩ => ⟨S2816x1024, .f32⟩
  | .hbm, ⟨8, _⟩ => ⟨S8448x1024, .f32⟩
  | .hbm, ⟨9, _⟩ => ⟨S2x1x1024, .f32⟩
  | .hbm, ⟨10, _⟩ => ⟨S2x1024, .f32⟩
  | .hbm, ⟨11, _⟩ => ⟨S1x1024, .f32⟩
  | .hbm, ⟨12, _⟩ => ⟨S1024, .f32⟩
  | .hbm, ⟨13, _⟩ => ⟨S8192x1024, .f32⟩
  | .hbm, ⟨14, _⟩ => ⟨S1x1024, .f32⟩
  | .hbm, ⟨15, _⟩ => ⟨S1024, .f32⟩
  | .hbm, ⟨16, _⟩ => ⟨S256x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S_, .f32⟩
  | .hbm, ⟨22, _⟩ => ⟨S8448, .f32⟩
  | .hbm, ⟨23, _⟩ => ⟨S8448x1, .f32⟩
  | .hbm, ⟨24, _⟩ => ⟨S_, .f32⟩
  | .hbm, ⟨25, _⟩ => ⟨S8448x1, .f32⟩
  | .hbm, ⟨26, _⟩ => ⟨S8448x1, .f32⟩
  | .hbm, ⟨27, _⟩ => ⟨S_, .f32⟩
  | .hbm, ⟨28, _⟩ => ⟨S8448x1, .f32⟩
  | .hbm, ⟨29, _⟩ => ⟨S8448x1, .f32⟩
  | .hbm, ⟨30, _⟩ => ⟨S8448x1, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S2x1x1024, .f32⟩
  | .hbm, ⟨36, _⟩ => ⟨S2x1024, .f32⟩
  | .hbm, ⟨37, _⟩ => ⟨S1x1024, .f32⟩
  | .hbm, ⟨38, _⟩ => ⟨S1024, .f32⟩
  | .hbm, ⟨39, _⟩ => ⟨S8192x1024, .f32⟩
  | .hbm, ⟨40, _⟩ => ⟨S1x1024, .f32⟩
  | .hbm, ⟨41, _⟩ => ⟨S1024, .f32⟩
  | .hbm, ⟨42, _⟩ => ⟨S256x1024, .f32⟩
  | .hbm, ⟨43, _⟩ => ⟨S8448x1024, .f32⟩
  | .hbm, ⟨44, _⟩ => ⟨S2x1x1024, .f32⟩
  | .hbm, ⟨45, _⟩ => ⟨S2x1024, .f32⟩
  | .hbm, ⟨46, _⟩ => ⟨S1x1024, .f32⟩
  | .hbm, ⟨47, _⟩ => ⟨S1024, .f32⟩
  | .hbm, ⟨48, _⟩ => ⟨S8192x1024, .f32⟩
  | .hbm, ⟨49, _⟩ => ⟨S1x1024, .f32⟩
  | .hbm, ⟨50, _⟩ => ⟨S1024, .f32⟩
  | .hbm, ⟨51, _⟩ => ⟨S256x1024, .f32⟩
  | .hbm, ⟨52, _⟩ => ⟨S8448x1024, .f32⟩
  | .hbm, ⟨53, _⟩ => ⟨S_, .f32⟩
  | .hbm, ⟨54, _⟩ => ⟨S8448x1024, .f32⟩
  | .hbm, ⟨55, _⟩ => ⟨S8448x1024, .f32⟩
  | .hbm, ⟨56, _⟩ => ⟨S8448x1024, .f32⟩
  | .hbm, ⟨57, _⟩ => ⟨S8448x1024, .f32⟩
  | .hbm, ⟨58, _⟩ => ⟨S8448x1024, .bf16⟩
  | .hbm, ⟨59, _⟩ => ⟨S8448x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_2 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Kernel13.lean ====
abbrev S8448x512 : Shape := ⟨2, ![8448, 512]⟩
abbrev S8448x2048 : Shape := ⟨2, ![8448, 2048]⟩
abbrev S512x1024 : Shape := ⟨2, ![512, 1024]⟩
abbrev S8448x1024 : Shape := ⟨2, ![8448, 1024]⟩
abbrev S256x512 : Shape := ⟨2, ![256, 512]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8448x512, .bf16⟩
  | .hbm, ⟨1, _⟩ => ⟨S8448x512, .bf16⟩
  | .hbm, ⟨2, _⟩ => ⟨S8448x2048, .bf16⟩
  | .hbm, ⟨3, _⟩ => ⟨S512x1024, .bf16⟩
  | .hbm, ⟨4, _⟩ => ⟨S512x1024, .bf16⟩
  | .hbm, ⟨5, _⟩ => ⟨S8448x1024, .bf16⟩
  | .hbm, ⟨6, _⟩ => ⟨S8448x1024, .bf16⟩
  | .hbm, ⟨7, _⟩ => ⟨S8448x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S512x1024, .bf16⟩
  | .local _ .vmem, ⟨9, _⟩ => ⟨S512x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S8448x512 : Shape := ⟨2, ![8448, 512]⟩
abbrev S8448x2048 : Shape := ⟨2, ![8448, 2048]⟩
abbrev S512x1024 : Shape := ⟨2, ![512, 1024]⟩
abbrev S8448x1024 : Shape := ⟨2, ![8448, 1024]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x512, .bf16⟩
  | .hbm, ⟨2, _⟩ => ⟨S8448x2048, .bf16⟩
  | .hbm, ⟨3, _⟩ => ⟨S512x1024, .bf16⟩
  | .hbm, ⟨4, _⟩ => ⟨S512x1024, .bf16⟩
  | .hbm, ⟨5, _⟩ => ⟨S8448x2048, .f32⟩
  | .hbm, ⟨6, _⟩ => ⟨S8448x1024, .f32⟩
  | .hbm, ⟨7, _⟩ => ⟨S8448x1024, .f32⟩
  | .hbm, ⟨8, _⟩ => ⟨S8448x512, .f32⟩
  | .hbm, ⟨9, _⟩ => ⟨S512x1024, .f32⟩
  | .hbm, ⟨10, _⟩ => ⟨S8448x1024, .f32⟩
  | .hbm, ⟨11, _⟩ => ⟨S8448x512, .f32⟩
  | .hbm, ⟨12, _⟩ => ⟨S512x1024, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S_, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448x1024, .f32⟩
  | .hbm, ⟨27, _⟩ => ⟨S8448x1024, .f32⟩
  | .hbm, ⟨28, _⟩ => ⟨S_, .f32⟩
  | .hbm, ⟨29, _⟩ => ⟨S8448x1024, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .bf16⟩
  | .hbm, ⟨34, _⟩ => ⟨S8448x1024, .bf16⟩
  | .hbm, ⟨35, _⟩ => ⟨S8448x1024, .bf16⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel14.lean ====
abbrev S8448x1024 : Shape := ⟨2, ![8448, 1024]⟩
abbrev S1024x1024 : Shape := ⟨2, ![1024, 1024]⟩
abbrev S2x6x1024 : Shape := ⟨3, ![2, 6, 1024]⟩
abbrev S1x1024 : Shape := ⟨2, ![1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S2x6x1024, .f32⟩
  | .hbm, ⟨4, _⟩ => ⟨S1x1024, .f32⟩
  | .hbm, ⟨5, _⟩ => ⟨S8448x1024, .f32⟩
  | .hbm, ⟨6, _⟩ => ⟨S8448x1024, .bf16⟩
  | .hbm, ⟨7, _⟩ => ⟨S8448x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 1 := Scalar.cmpi .sge arg0 c32_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8448x1024 : Shape := ⟨2, ![8448, 1024]⟩
abbrev S1024x1024 : Shape := ⟨2, ![1024, 1024]⟩
abbrev S2x6x1024 : Shape := ⟨3, ![2, 6, 1024]⟩
abbrev S1x1024 : Shape := ⟨2, ![1, 1024]⟩
abbrev S2x1x1024 : Shape := ⟨3, ![2, 1, 1024]⟩
abbrev S2x1024 : Shape := ⟨2, ![2, 1024]⟩
abbrev S1024 : Shape := ⟨1, ![1024]⟩
abbrev S8192x1024 : Shape := ⟨2, ![8192, 1024]⟩
abbrev S256x1024 : Shape := ⟨2, ![256, 1024]⟩
abbrev S_ : Shape := ⟨0, ![]⟩
abbrev S8448 : Shape := ⟨1, ![8448]⟩
abbrev S8448x1 : Shape := ⟨2, ![8448, 1]⟩

abbrev nBuf : Space → Nat
  | .hbm => 59
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S2x6x1024, .f32⟩
  | .hbm, ⟨4, _⟩ => ⟨S1x1024, .f32⟩
  | .hbm, ⟨5, _⟩ => ⟨S8448x1024, .f32⟩
  | .hbm, ⟨6, _⟩ => ⟨S1024x1024, .f32⟩
  | .hbm, ⟨7, _⟩ => ⟨S8448x1024, .f32⟩
  | .hbm, ⟨8, _⟩ => ⟨S2x1x1024, .f32⟩
  | .hbm, ⟨9, _⟩ => ⟨S2x1024, .f32⟩
  | .hbm, ⟨10, _⟩ => ⟨S1x1024, .f32⟩
  | .hbm, ⟨11, _⟩ => ⟨S1024, .f32⟩
  | .hbm, ⟨12, _⟩ => ⟨S8192x1024, .f32⟩
  | .hbm, ⟨13, _⟩ => ⟨S1x1024, .f32⟩
  | .hbm, ⟨14, _⟩ => ⟨S1024, .f32⟩
  | .hbm, ⟨15, _⟩ => ⟨S256x1024, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S8448, .f32⟩
  | .hbm, ⟨22, _⟩ => ⟨S8448x1, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x1, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S2x1x1024, .f32⟩
  | .hbm, ⟨35, _⟩ => ⟨S2x1024, .f32⟩
  | .hbm, ⟨36, _⟩ => ⟨S1x1024, .f32⟩
  | .hbm, ⟨37, _⟩ => ⟨S1024, .f32⟩
  | .hbm, ⟨38, _⟩ => ⟨S8192x1024, .f32⟩
  | .hbm, ⟨39, _⟩ => ⟨S1x1024, .f32⟩
  | .hbm, ⟨40, _⟩ => ⟨S1024, .f32⟩
  | .hbm, ⟨41, _⟩ => ⟨S256x1024, .f32⟩
  | .hbm, ⟨42, _⟩ => ⟨S8448x1024, .f32⟩
  | .hbm, ⟨43, _⟩ => ⟨S2x1x1024, .f32⟩
  | .hbm, ⟨44, _⟩ => ⟨S2x1024, .f32⟩
  | .hbm, ⟨45, _⟩ => ⟨S1x1024, .f32⟩
  | .hbm, ⟨46, _⟩ => ⟨S1024, .f32⟩
  | .hbm, ⟨47, _⟩ => ⟨S8192x1024, .f32⟩
  | .hbm, ⟨48, _⟩ => ⟨S1x1024, .f32⟩
  | .hbm, ⟨49, _⟩ => ⟨S1024, .f32⟩
  | .hbm, ⟨50, _⟩ => ⟨S256x1024, .f32⟩
  | .hbm, ⟨51, _⟩ => ⟨S8448x1024, .f32⟩
  | .hbm, ⟨52, _⟩ => ⟨S_, .f32⟩
  | .hbm, ⟨53, _⟩ => ⟨S8448x1024, .f32⟩
  | .hbm, ⟨54, _⟩ => ⟨S8448x1024, .f32⟩
  | .hbm, ⟨55, _⟩ => ⟨S8448x1024, .f32⟩
  | .hbm, ⟨56, _⟩ => ⟨S8448x1024, .f32⟩
  | .hbm, ⟨57, _⟩ => ⟨S8448x1024, .bf16⟩
  | .hbm, ⟨58, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_2 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Kernel15.lean ====
abbrev S4x1024x1088 : Shape := ⟨3, ![4, 1024, 1088]⟩
abbrev S4096x1088 : Shape := ⟨2, ![4096, 1088]⟩
abbrev S512x1088 : Shape := ⟨2, ![512, 1088]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1088, .f32⟩
  | .hbm, ⟨1, _⟩ => ⟨S4x1024x1088, .f32⟩
  | .hbm, ⟨2, _⟩ => ⟨S4x1024x1088, .f32⟩
  | .hbm, ⟨3, _⟩ => ⟨S4x1024x1088, .f32⟩
  | .hbm, ⟨4, _⟩ => ⟨S4096x1088, .f32⟩
  | .hbm, ⟨5, _⟩ => ⟨S4096x1088, .f32⟩
  | .hbm, ⟨6, _⟩ => ⟨S4096x1088, .f32⟩
  | .hbm, ⟨7, _⟩ => ⟨S4096x1088, .f32⟩
  | .hbm, ⟨8, _⟩ => ⟨S4096x1088, .f32⟩
  | .hbm, ⟨9, _⟩ => ⟨S4096x1088, .f32⟩
  | .hbm, ⟨10, _⟩ => ⟨S4096x1088, .f32⟩
  | .hbm, ⟨11, _⟩ => ⟨S4x1024x1088, .f32⟩
  | .hbm, ⟨12, _⟩ => ⟨S4x1024x1088, .f32⟩
  | .hbm, ⟨13, _⟩ => ⟨S4x1024x1088, .f32⟩
  | .local _ .vmem, ⟨0, _⟩ => ⟨S512x1088, .f32⟩
  | .local _ .vmem, ⟨1, _⟩ => ⟨S512x1088, .f32⟩
  | .local _ .vmem, ⟨2, _⟩ => ⟨S512x1088, .f32⟩
  | .local _ .vmem, ⟨3, _⟩ => ⟨S512x1088, .f32⟩
  | .local _ .vmem, ⟨4, _⟩ => ⟨S512x1088, .f32⟩
  | .local _ .vmem, ⟨5, _⟩ => ⟨S512x1088, .f32⟩
  | .local _ .vmem, ⟨6, _⟩ => ⟨S512x1088, .f32⟩
  | .local _ .vmem, ⟨7, _⟩ => ⟨S512x1088, .f32⟩
  | .local _ .vmem, ⟨8, _⟩ => ⟨S512x1088, .f32⟩
  | .local _ .vmem, ⟨9, _⟩ => ⟨S512x1088, .f32⟩
  | .local _ .vmem, ⟨10, _⟩ => ⟨S512x1088, .f32⟩
  | .local _ .vmem, ⟨11, _⟩ => ⟨S512x1088, .f32⟩
  | .local _ .vmem, ⟨12, _⟩ => ⟨S512x1088, .f32⟩
  | .local _ .vmem, ⟨13, _⟩ => ⟨S512x1088, .f32⟩
  | _, _ => ⟨S4x1024x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S4x1024x1088 : Shape := ⟨3, ![4, 1024, 1088]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1088, .f32⟩
  | .hbm, ⟨1, _⟩ => ⟨S4x1024x1088, .f32⟩
  | .hbm, ⟨2, _⟩ => ⟨S4x1024x1088, .f32⟩
  | .hbm, ⟨3, _⟩ => ⟨S4x1024x1088, .f32⟩
  | .hbm, ⟨4, _⟩ => ⟨S_, .f32⟩
  | .hbm, ⟨5, _⟩ => ⟨S4x1024x1088, .f32⟩
  | .hbm, ⟨6, _⟩ => ⟨S4x1024x1088, .f32⟩
  | .hbm, ⟨7, _⟩ => ⟨S_, .f32⟩
  | .hbm, ⟨8, _⟩ => ⟨S4x1024x1088, .f32⟩
  | .hbm, ⟨9, _⟩ => ⟨S4x1024x1088, .f32⟩
  | .hbm, ⟨10, _⟩ => ⟨S4x1024x1088, .f32⟩
  | .hbm, ⟨11, _⟩ => ⟨S_, .f32⟩
  | .hbm, ⟨12, _⟩ => ⟨S4x1024x1088, .f32⟩
  | .hbm, ⟨13, _⟩ => ⟨S4x1024x1088, .f32⟩
  | .hbm, ⟨14, _⟩ => ⟨S4x1024x1088, .f32⟩
  | .hbm, ⟨15, _⟩ => ⟨S_, .f32⟩
  | .hbm, ⟨16, _⟩ => ⟨S4x1024x1088, .f32⟩
  | .hbm, ⟨17, _⟩ => ⟨S4x1024x1088, .f32⟩
  | .hbm, ⟨18, _⟩ => ⟨S4x1024x1088, .f32⟩
  | .hbm, ⟨19, _⟩ => ⟨S_, .f32⟩
  | .hbm, ⟨20, _⟩ => ⟨S4x1024x1088, .f32⟩
  | .hbm, ⟨21, _⟩ => ⟨S4x1024x1088, .f32⟩
  | .hbm, ⟨22, _⟩ => ⟨S_, .f32⟩
  | .hbm, ⟨23, _⟩ => ⟨S4x1024x1088, .f32⟩
  | .hbm, ⟨24, _⟩ => ⟨S4x1024x1088, .f32⟩
  | .hbm, ⟨25, _⟩ => ⟨S4x1024x1088, .f32⟩
  | .hbm, ⟨26, _⟩ => ⟨S_, .f32⟩
  | .hbm, ⟨27, _⟩ => ⟨S4x1024x1088, .f32⟩
  | .hbm, ⟨28, _⟩ => ⟨S4x1024x1088, .f32⟩
  | .hbm, ⟨29, _⟩ => ⟨S4x1024x1088, .f32⟩
  | .hbm, ⟨30, _⟩ => ⟨S_, .f32⟩
  | .hbm, ⟨31, _⟩ => ⟨S4x1024x1088, .f32⟩
  | .hbm, ⟨32, _⟩ => ⟨S4x1024x1088, .f32⟩
  | .hbm, ⟨33, _⟩ => ⟨S4x1024x1088, .f32⟩
  | .hbm, ⟨34, _⟩ => ⟨S_, .f32⟩
  | .hbm, ⟨35, _⟩ => ⟨S4x1024x1088, .f32⟩
  | .hbm, ⟨36, _⟩ => ⟨S4x1024x1088, .f32⟩
  | _, _ => ⟨S4x1024x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4x512x256 : Shape := ⟨3, ![4, 512, 256]⟩
abbrev S2048x256 : Shape := ⟨2, ![2048, 256]⟩
abbrev S512x256 : Shape := ⟨2, ![512, 256]⟩

abbrev nBuf : Space → Nat
  | .hbm => 14
  | .vmem => 14
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S4x512x256, .f32⟩
  | .hbm, ⟨12, _⟩ => ⟨S4x512x256, .f32⟩
  | .hbm, ⟨13, _⟩ => ⟨S4x512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S4x512x256 : Shape := ⟨3, ![4, 512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S_, .f32⟩
  | .hbm, ⟨5, _⟩ => ⟨S4x512x256, .f32⟩
  | .hbm, ⟨6, _⟩ => ⟨S4x512x256, .f32⟩
  | .hbm, ⟨7, _⟩ => ⟨S_, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S_, .f32⟩
  | .hbm, ⟨12, _⟩ => ⟨S4x512x256, .f32⟩
  | .hbm, ⟨13, _⟩ => ⟨S4x512x256, .f32⟩
  | .hbm, ⟨14, _⟩ => ⟨S4x512x256, .f32⟩
  | .hbm, ⟨15, _⟩ => ⟨S_, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512x256, .f32⟩
  | .hbm, ⟨21, _⟩ => ⟨S4x512x256, .f32⟩
  | .hbm, ⟨22, _⟩ => ⟨S_, .f32⟩
  | .hbm, ⟨23, _⟩ => ⟨S4x512x256, .f32⟩
  | .hbm, ⟨24, _⟩ => ⟨S4x512x256, .f32⟩
  | .hbm, ⟨25, _⟩ => ⟨S4x512x256, .f32⟩
  | .hbm, ⟨26, _⟩ => ⟨S_, .f32⟩
  | .hbm, ⟨27, _⟩ => ⟨S4x512x256, .f32⟩
  | .hbm, ⟨28, _⟩ => ⟨S4x512x256, .f32⟩
  | .hbm, ⟨29, _⟩ => ⟨S4x512x256, .f32⟩
  | .hbm, ⟨30, _⟩ => ⟨S_, .f32⟩
  | .hbm, ⟨31, _⟩ => ⟨S4x512x256, .f32⟩
  | .hbm, ⟨32, _⟩ => ⟨S4x512x256, .f32⟩
  | .hbm, ⟨33, _⟩ => ⟨S4x512x256, .f32⟩
  | .hbm, ⟨34, _⟩ => ⟨S_, .f32⟩
  | .hbm, ⟨35, _⟩ => ⟨S4x512x256, .f32⟩
  | .hbm, ⟨36, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S4x256x1024, .f32⟩
  | .hbm, ⟨12, _⟩ => ⟨S4x256x1024, .f32⟩
  | .hbm, ⟨13, _⟩ => ⟨S4x256x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S4x256x1024 : Shape := ⟨3, ![4, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S4x1024x1408 : Shape := ⟨3, ![4, 1024, 1408]⟩
abbrev S4096x1408 : Shape := ⟨2, ![4096, 1408]⟩
abbrev S512x1408 : Shape := ⟨2, ![512, 1408]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S4x1024x1408, .f32⟩
  | .hbm, ⟨12, _⟩ => ⟨S4x1024x1408, .f32⟩
  | .hbm, ⟨13, _⟩ => ⟨S4x1024x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S4x1024x1408 : Shape := ⟨3, ![4, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S4x704x1024 : Shape := ⟨3, ![4, 704, 1024]⟩
abbrev S2816x1024 : Shape := ⟨2, ![2816, 1024]⟩
abbrev S352x1024 : Shape := ⟨2, ![352, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S4x704x1024 : Shape := ⟨3, ![4, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S4x1024x1536 : Shape := ⟨3, ![4, 1024, 1536]⟩
abbrev S4096x1536 : Shape := ⟨2, ![4096, 1536]⟩
abbrev S512x1536 : Shape := ⟨2, ![512, 1536]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S4x1024x1536, .f32⟩
  | .hbm, ⟨12, _⟩ => ⟨S4x1024x1536, .f32⟩
  | .hbm, ⟨13, _⟩ => ⟨S4x1024x1536, .f32⟩
  | .local _ .vmem, ⟨0, _⟩ => ⟨S512x1536, .f32⟩
  | .local _ .vmem, ⟨1, _⟩ => ⟨S512x1536, .f32⟩
  | .local _ .vmem, ⟨2, _⟩ => ⟨S512x1536, .f32⟩
  | .local _ .vmem, ⟨3, _⟩ => ⟨S512x1536, .f32⟩
  | .local _ .vmem, ⟨4, _⟩ => ⟨S512x1536, .f32⟩
  | .local _ .vmem, ⟨5, _⟩ => ⟨S512x1536, .f32⟩
  | .local _ .vmem, ⟨6, _⟩ => ⟨S512x1536, .f32⟩
  | .local _ .vmem, ⟨7, _⟩ => ⟨S512x1536, .f32⟩
  | .local _ .vmem, ⟨8, _⟩ => ⟨S512x1536, .f32⟩
  | .local _ .vmem, ⟨9, _⟩ => ⟨S512x1536, .f32⟩
  | .local _ .vmem, ⟨10, _⟩ => ⟨S512x1536, .f32⟩
  | .local _ .vmem, ⟨11, _⟩ => ⟨S512x1536, .f32⟩
  | .local _ .vmem, ⟨12, _⟩ => ⟨S512x1536, .f32⟩
  | .local _ .vmem, ⟨13, _⟩ => ⟨S512x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S4x1024x1536 : Shape := ⟨3, ![4, 1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S_, .f32⟩
  | .hbm, ⟨5, _⟩ => ⟨S4x1024x1536, .f32⟩
  | .hbm, ⟨6, _⟩ => ⟨S4x1024x1536, .f32⟩
  | .hbm, ⟨7, _⟩ => ⟨S_, .f32⟩
  | .hbm, ⟨8, _⟩ => ⟨S4x1024x1536, .f32⟩
  | .hbm, ⟨9, _⟩ => ⟨S4x1024x1536, .f32⟩
  | .hbm, ⟨10, _⟩ => ⟨S4x1024x1536, .f32⟩
  | .hbm, ⟨11, _⟩ => ⟨S_, .f32⟩
  | .hbm, ⟨12, _⟩ => ⟨S4x1024x1536, .f32⟩
  | .hbm, ⟨13, _⟩ => ⟨S4x1024x1536, .f32⟩
  | .hbm, ⟨14, _⟩ => ⟨S4x1024x1536, .f32⟩
  | .hbm, ⟨15, _⟩ => ⟨S_, .f32⟩
  | .hbm, ⟨16, _⟩ => ⟨S4x1024x1536, .f32⟩
  | .hbm, ⟨17, _⟩ => ⟨S4x1024x1536, .f32⟩
  | .hbm, ⟨18, _⟩ => ⟨S4x1024x1536, .f32⟩
  | .hbm, ⟨19, _⟩ => ⟨S_, .f32⟩
  | .hbm, ⟨20, _⟩ => ⟨S4x1024x1536, .f32⟩
  | .hbm, ⟨21, _⟩ => ⟨S4x1024x1536, .f32⟩
  | .hbm, ⟨22, _⟩ => ⟨S_, .f32⟩
  | .hbm, ⟨23, _⟩ => ⟨S4x1024x1536, .f32⟩
  | .hbm, ⟨24, _⟩ => ⟨S4x1024x1536, .f32⟩
  | .hbm, ⟨25, _⟩ => ⟨S4x1024x1536, .f32⟩
  | .hbm, ⟨26, _⟩ => ⟨S_, .f32⟩
  | .hbm, ⟨27, _⟩ => ⟨S4x1024x1536, .f32⟩
  | .hbm, ⟨28, _⟩ => ⟨S4x1024x1536, .f32⟩
  | .hbm, ⟨29, _⟩ => ⟨S4x1024x1536, .f32⟩
  | .hbm, ⟨30, _⟩ => ⟨S_, .f32⟩
  | .hbm, ⟨31, _⟩ => ⟨S4x1024x1536, .f32⟩
  | .hbm, ⟨32, _⟩ => ⟨S4x1024x1536, .f32⟩
  | .hbm, ⟨33, _⟩ => ⟨S4x1024x1536, .f32⟩
  | .hbm, ⟨34, _⟩ => ⟨S_, .f32⟩
  | .hbm, ⟨35, _⟩ => ⟨S4x1024x1536, .f32⟩
  | .hbm, ⟨36, _⟩ => ⟨S4x1024x1536, .f32⟩
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S16x24x1024 : Shape := ⟨3, ![16, 24, 1024]⟩
abbrev S4x6144 : Shape := ⟨2, ![4, 6144]⟩
abbrev S24x1024 : Shape := ⟨2, ![24, 1024]⟩
abbrev S1x24x1024 : Shape := ⟨3, ![1, 24, 1024]⟩

abbrev nBuf : Space → Nat
  | .hbm => 15
  | .vmem => 8
  | .smem => 0
  | _ => 0

abbrev bufTy : (tb : Table) → Fin (tcTables nBuf tb) → BufTy
  | .hbm, ⟨0, _⟩ => ⟨S16x24x1024, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S24x1024, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S4x6144, .f32⟩
  | .hbm, ⟨12, _⟩ => ⟨S4x6144, .f32⟩
  | .hbm, ⟨13, _⟩ => ⟨S4x6144, .f32⟩
  | .hbm, ⟨14, _⟩ => ⟨S4x6144, .f32⟩
  | .local _ .vmem, ⟨0, _⟩ => ⟨S16x24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | .local _ .vmem, ⟨7, _⟩ => ⟨S24x1024, .f32⟩
  | _, _ => ⟨S16x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference21Ideal.lean ====
abbrev S16x24x1024 : Shape := ⟨3, ![16, 24, 1024]⟩
abbrev S4x6144 : Shape := ⟨2, ![4, 6144]⟩
abbrev S16x4x6144 : Shape := ⟨3, ![16, 4, 6144]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S16x24x1024, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S16x4x6144, .f32⟩
  | .hbm, ⟨5, _⟩ => ⟨S_, .f32⟩
  | .hbm, ⟨6, _⟩ => ⟨S4x6144, .f32⟩
  | .hbm, ⟨7, _⟩ => ⟨S_, .f32⟩
  | .hbm, ⟨8, _⟩ => ⟨S4x6144, .f32⟩
  | .hbm, ⟨9, _⟩ => ⟨S4x6144, .f32⟩
  | .hbm, ⟨10, _⟩ => ⟨S_, .f32⟩
  | .hbm, ⟨11, _⟩ => ⟨S4x6144, .f32⟩
  | .hbm, ⟨12, _⟩ => ⟨S4x6144, .f32⟩
  | .hbm, ⟨13, _⟩ => ⟨S4x6144, .f32⟩
  | .hbm, ⟨14, _⟩ => ⟨S_, .f32⟩
  | .hbm, ⟨15, _⟩ => ⟨S4x6144, .f32⟩
  | .hbm, ⟨16, _⟩ => ⟨S4x6144, .f32⟩
  | .hbm, ⟨17, _⟩ => ⟨S4x6144, .f32⟩
  | .hbm, ⟨18, _⟩ => ⟨S_, .f32⟩
  | .hbm, ⟨19, _⟩ => ⟨S4x6144, .f32⟩
  | .hbm, ⟨20, _⟩ => ⟨S4x6144, .f32⟩
  | .hbm, ⟨21, _⟩ => ⟨S4x6144, .f32⟩
  | .hbm, ⟨22, _⟩ => ⟨S_, .f32⟩
  | .hbm, ⟨23, _⟩ => ⟨S4x6144, .f32⟩
  | .hbm, ⟨24, _⟩ => ⟨S4x6144, .f32⟩
  | .hbm, ⟨25, _⟩ => ⟨S_, .f32⟩
  | .hbm, ⟨26, _⟩ => ⟨S4x6144, .f32⟩
  | .hbm, ⟨27, _⟩ => ⟨S4x6144, .f32⟩
  | .hbm, ⟨28, _⟩ => ⟨S4x6144, .f32⟩
  | .hbm, ⟨29, _⟩ => ⟨S_, .f32⟩
  | .hbm, ⟨30, _⟩ => ⟨S4x6144, .f32⟩
  | .hbm, ⟨31, _⟩ => ⟨S4x6144, .f32⟩
  | .hbm, ⟨32, _⟩ => ⟨S4x6144, .f32⟩
  | .hbm, ⟨33, _⟩ => ⟨S_, .f32⟩
  | .hbm, ⟨34, _⟩ => ⟨S4x6144, .f32⟩
  | .hbm, ⟨35, _⟩ => ⟨S4x6144, .f32⟩
  | .hbm, ⟨36, _⟩ => ⟨S4x6144, .f32⟩
  | .hbm, ⟨37, _⟩ => ⟨S_, .f32⟩
  | .hbm, ⟨38, _⟩ => ⟨S4x6144, .f32⟩
  | .hbm, ⟨39, _⟩ => ⟨S4x6144, .f32⟩
  | _, _ => ⟨S16x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .local _ .vmem, ⟨0, _⟩ => ⟨S8x32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference22Ideal.lean ====
abbrev S8x32x1024 : Shape := ⟨3, ![8, 32, 1024]⟩
abbrev S32x1024 : Shape := ⟨2, ![32, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S_, .f32⟩
  | .hbm, ⟨5, _⟩ => ⟨S32x1024, .f32⟩
  | .hbm, ⟨6, _⟩ => ⟨S_, .f32⟩
  | .hbm, ⟨7, _⟩ => ⟨S32x1024, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S_, .f32⟩
  | .hbm, ⟨14, _⟩ => ⟨S32x1024, .f32⟩
  | .hbm, ⟨15, _⟩ => ⟨S32x1024, .f32⟩
  | .hbm, ⟨16, _⟩ => ⟨S32x1024, .f32⟩
  | .hbm, ⟨17, _⟩ => ⟨S_, .f32⟩
  | .hbm, ⟨18, _⟩ => ⟨S32x1024, .f32⟩
  | .hbm, ⟨19, _⟩ => ⟨S32x1024, .f32⟩
  | .hbm, ⟨20, _⟩ => ⟨S32x1024, .f32⟩
  | .hbm, ⟨21, _⟩ => ⟨S_, .f32⟩
  | .hbm, ⟨22, _⟩ => ⟨S32x1024, .f32⟩
  | .hbm, ⟨23, _⟩ => ⟨S32x1024, .f32⟩
  | .hbm, ⟨24, _⟩ => ⟨S_, .f32⟩
  | .hbm, ⟨25, _⟩ => ⟨S32x1024, .f32⟩
  | .hbm, ⟨26, _⟩ => ⟨S32x1024, .f32⟩
  | .hbm, ⟨27, _⟩ => ⟨S32x1024, .f32⟩
  | .hbm, ⟨28, _⟩ => ⟨S_, .f32⟩
  | .hbm, ⟨29, _⟩ => ⟨S32x1024, .f32⟩
  | .hbm, ⟨30, _⟩ => ⟨S32x1024, .f32⟩
  | .hbm, ⟨31, _⟩ => ⟨S32x1024, .f32⟩
  | .hbm, ⟨32, _⟩ => ⟨S_, .f32⟩
  | .hbm, ⟨33, _⟩ => ⟨S32x1024, .f32⟩
  | .hbm, ⟨34, _⟩ => ⟨S32x1024, .f32⟩
  | .hbm, ⟨35, _⟩ => ⟨S32x1024, .f32⟩
  | .hbm, ⟨36, _⟩ => ⟨S_, .f32⟩
  | .hbm, ⟨37, _⟩ => ⟨S32x1024, .f32⟩
  | .hbm, ⟨38, _⟩ => ⟨S32x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.TileSum.lean ====
/- A sum over the 8448 rows, taken in six runs of 1408 rows. -/
module

public import Mathlib.Data.EReal.Operations
public import Mathlib.Logic.Equiv.Fin.Basic
public import Mathlib.Algebra.BigOperators.Fin

@[expose] public section

noncomputable section

namespace Cert.Wgrad

/-- A row of a run, among all rows. -/
def tileRow (s : Fin 6) (r : Fin 1408) : Fin 8448 := ⟨1408 * s.val + r.val, by omega⟩

/-- The rows in runs are all the rows. -/
theorem sum_tiles (f : Fin 8448 → EReal) : ∑ s : Fin 6, ∑ r : Fin 1408, f (tileRow s r) = ∑ x, f x := by
  rw [← Fintype.sum_prod_type']
  refine Fintype.sum_equiv ((finProdFinEquiv (m := 6) (n := 1408)).trans (finCongr (by norm_num : 6 * 1408 = 8448))) _ _ (fun p => ?_)
  refine congrArg f (Fin.ext ?_)
  show 1408 * p.1.val + p.2.val = p.2.val + 1408 * p.1.val
  omega

end Cert.Wgrad
-- ==== Proof.Wgrad2.lean ====
/- The gradient of the feed-forward block's first weight (either half): the kernel adds, for each block of the 1024 by 2816 result, the products of six runs of
   1408 rows; the sum is the reference's sum over all 8448 rows. -/
module

public import proofs.«01_k».proof.Defs
public import proofs.«01_k».proof.Proof.TileSum
public import proofs.«01_k».proof.Proof.Gen.Kernel2Ideal.Frame
public import proofs.«01_k».proof.Proof.Gen.Reference2Ideal.Run
public import Idealize.ShloMosaic.Adequacy
public import Idealize.ShloMosaic.Init
public import Idealize.ShloMosaic.Lib.Pipeline.ValueKit
public import Idealize.ShloMosaic.Lib.Tactic.CleanTypes

@[expose] public section

set_option maxRecDepth 16384

noncomputable section

namespace Cert.Wgrad2

section Reference

open Cert.Reference2Ideal Cert.Reference2Ideal.Gen Idealize.ShloMosaic Idealize.ShloMosaic.TcCoe
/-- The reference's gradient at an index: the same sum. -/
theorem reference_at (a : FVec Ideal S8448x1024 .bf16) (b : FVec Ideal S8448x2816 .bf16) (k : Fin 1024) (n : Fin 2816) :
    (truncf .bf16 (transpose S1024x2816 [1, 0] (Host.dotGeneral (F := Ideal) dot_S8448x2816_S8448x1024_S2816x1024_0_0_1_1_n_n none
        (extf .f32 b bitsLt_bf16_f32) (extf .f32 a bitsLt_bf16_f32)) transposes_S2816x1024_S1024x2816_1_0) bitsLt_bf16_f32
      : FVec Ideal S1024x2816 .bf16) (ix2 k n) = ∑ x : Fin 8448, (a (ix2 x k) : EReal) * b (ix2 x n) := by
  pointwise
  exact Finset.sum_congr rfl fun x _ => mul_comm _ _

end Reference

open Cert.Kernel2Ideal Cert.Kernel2Ideal.Gen Idealize.ShloMosaic Idealize.ShloMosaic.TcCoe
open Idealize.SL Idealize.SL.RA Idealize.SL.Sem Cert.Wgrad

section Body

variable (c : Dev nD) (i : grid0.Coords) (a3 : Memref sig .tc .vmem S1408x1024 .bf16) (h3 : a3.IsWhole)
  (a4 : Memref sig .tc .vmem S1408x1408 .bf16) (h4 : a4.IsWhole) (a5 : Memref sig .tc .vmem S1024x1408 .bf16) (h5 : a5.IsWhole)
  (a6 : Memref sig .tc .vmem S1024x1408 .f32) (h6 : a6.IsWhole)
  (x0 : Vec Ideal S1408x1024 .bf16) (x1 : Vec Ideal S1408x1408 .bf16) (xs : Vec Ideal S1024x1408 .f32)

theorem hz : (![0, 0] : Fin 2 → Nat) = fun _ => 0 := funext fun a => by fin_cases a <;> rfl

/-- The first run's product is kept. -/
theorem keep_A (hc0 : cond0_0 i) (hc1 : ¬cond0_1 i) (hc2 : ¬cond0_2 i) :
    sout0_A_0 (F := Ideal) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1408x1024) hz, View.ld_unit_zero (S := S1408x1408) hz]

/-- A later run's product is added to what is kept. -/
theorem keep_B (hc0 : ¬cond0_0 i) (hc1 : cond0_1 i) (hc2 : ¬cond0_2 i) :
    sout0_B_0 (F := Ideal) c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  simp only [View.readAt_eq_ld, h3.read_unread, h4.read_unread, h6.read_unread, View.ld_unit_zero (S := S1408x1024) hz, View.ld_unit_zero (S := S1408x1408) hz,
    View.ld_unit_zero (S := S1024x1408) hz]

/-- So is the last run's. -/
theorem keep_C (hc0 : ¬cond0_0 i) (hc1 : cond0_1 i) (hc2 : cond0_2 i) :
    sout0_C_0 (F := Ideal) c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz]
  simp only [View.readAt_eq_ld, h3.read_unread, h4.read_unread, h6.read_unread, View.ld_unit_zero (S := S1408x1024) hz, View.ld_unit_zero (S := S1408x1408) hz,
    View.ld_unit_zero (S := S1024x1408) hz]

/-- The block written is what is then kept. -/
theorem out_C (hc0 : ¬cond0_0 i) (hc1 : cond0_1 i) (hc2 : cond0_2 i) :
    out0_C_2 (F := Ideal) c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S1024x1408) _ hz]
  simp only [View.readAt_eq_ld, h3.read_unread, h4.read_unread, h6.read_unread, View.ld_unit_zero (S := S1408x1024) hz, View.ld_unit_zero (S := S1408x1408) hz,
    View.ld_unit_zero (S := S1024x1408) hz]

variable (k : Fin 1024) (n : Fin 1408)

theorem pay2_at : (k0_pay2 (F := Ideal) x0 x1 : S1024x1408.Idx → EReal) (ix2 k n) = ∑ r : Fin 1408, x0 (ix2 r k) * x1 (ix2 r n) := by
  pointwise [k0_pay2, k0_pay1]
theorem pay3_at : (k0_pay3 (F := Ideal) x0 x1 xs : S1024x1408.Idx → EReal) (ix2 k n) = xs (ix2 k n) + ∑ r : Fin 1408, x0 (ix2 r k) * x1 (ix2 r n) := by
  pointwise [k0_pay3, k0_pay1]
theorem pay4_at : (k0_pay4 (F := Ideal) xs : S1024x1408.Idx → EReal) (ix2 k n) = xs (ix2 k n) := by
  pointwise [k0_pay4]

end Body

variable (m : (ℓ : Loc nD τ sig) → Buf (Elt Ideal) ℓ) (c : Dev nD)

/-- The two arguments. -/
def argA : S8448x1024.Idx → EReal := m ((c.tc : Thread nD τ).loc main_arg0)
def argB : S8448x2816.Idx → EReal := m ((c.tc : Thread nD τ).loc main_arg1)

/-- The run of rows a point reads. -/
def run (t : Fin cfg0.N) : Fin 6 := ⟨t.val % 6, by omega⟩
/-- A row of a point's block of the result, and a column. -/
def rowOf (t : Fin cfg0.N) (k : Fin 1024) : Fin 1024 := ⟨t.val / 12 * 1024 + k.val, by have := t.isLt; have : cfg0.N = 12 := N_0; omega⟩
def colOf (t : Fin cfg0.N) (n : Fin 1408) : Fin 2816 := ⟨t.val / 6 % 2 * 1408 + n.val, by omega⟩

theorem place0 : ∀ t : Fin cfg0.N, (cfg0.win 0).index t (0 : Fin 2) = t.val % 6 ∧ (cfg0.win 0).index t (1 : Fin 2) = t.val / 12 := by decide +kernel
theorem place1 : ∀ t : Fin cfg0.N, (cfg0.win 1).index t (0 : Fin 2) = t.val % 6 ∧ (cfg0.win 1).index t (1 : Fin 2) = t.val / 6 % 2 := by decide +kernel
theorem place2 : ∀ t : Fin cfg0.N, (cfg0.win 2).index t (0 : Fin 2) = t.val / 12 ∧ (cfg0.win 2).index t (1 : Fin 2) = t.val / 6 % 2 := by decide +kernel

/-- The blocks a point reads. -/
theorem block0 (t : Fin cfg0.N) (r : Fin 1408) (k : Fin 1024) : iblk m c 0 t (ix2 r k) = argA m c (ix2 (tileRow (run t) r) (rowOf t k)) := by
  obtain ⟨e0, e1⟩ := place0 t
  have ht : t.val < 12 := lt_of_lt_of_eq t.isLt N_0
  unfold argA tileRow run rowOf
  blk_ext [iblk, e0, e1]
theorem block1 (t : Fin cfg0.N) (r : Fin 1408) (n : Fin 1408) : iblk m c 1 t (ix2 r n) = argB m c (ix2 (tileRow (run t) r) (colOf t n)) := by
  obtain ⟨e0, e1⟩ := place1 t
  have ht : t.val < 12 := lt_of_lt_of_eq t.isLt N_0
  unfold argB tileRow run colOf
  blk_ext [iblk, e0, e1]

/-- What a point adds to its block. -/
def term (t : Fin cfg0.N) (p : Fin 1024 × Fin 1408) : EReal :=
  ∑ r : Fin 1408, argA m c (ix2 (tileRow (run t) r) (rowOf t p.1)) * argB m c (ix2 (tileRow (run t) r) (colOf t p.2))
/-- What is kept after a point. -/
def held (n : Nat) (hn : n < cfg0.N) (p : Fin 1024 × Fin 1408) : EReal := (outsAt0 m c n hn).2 (ix2 p.1 p.2)

theorem held_first (t : Fin cfg0.N) (h0 : t.val % 6 = 0) (p : Fin 1024 × Fin 1408) : held m c t.val t.isLt p = 0 + term m c t p := by
  have ht : t.val < 12 := lt_of_lt_of_eq t.isLt N_0
  unfold held term
  rw [outsAt0_A m c t h0 (by omega) (by omega), zero_add]
  dsimp only
  rw [keep_A]
  refine (pay2_at _ _ p.1 p.2).trans (Finset.sum_congr rfl fun r _ => ?_)
  rw [block0, block1]
theorem held_next (t : Fin cfg0.N) (h0 : ¬t.val % 6 = 0) (p : Fin 1024 × Fin 1408) :
    held m c t.val t.isLt p = held m c (t.val - 1) (Nat.lt_of_le_of_lt (Nat.sub_le _ _) t.isLt) p + term m c t p := by
  have ht : t.val < 12 := lt_of_lt_of_eq t.isLt N_0
  unfold held term
  by_cases h2 : t.val % 6 = 5
  · rw [outsAt0_C m c t h0 (by omega) h2]
    dsimp only
    rw [keep_C]
    refine (pay3_at _ _ _ p.1 p.2).trans (congrArg _ (Finset.sum_congr rfl fun r _ => ?_))
    rw [block0, block1]
  · rw [outsAt0_B m c t h0 (by omega) h2]
    dsimp only
    rw [keep_B]
    refine (pay3_at _ _ _ p.1 p.2).trans (congrArg _ (Finset.sum_congr rfl fun r _ => ?_))
    rw [block0, block1]

/-- The gradient: the sum over all rows. -/
def grad (k : Fin 1024) (n : Fin 2816) : EReal := ∑ x : Fin 8448, argA m c (ix2 x k) * argB m c (ix2 x n)

/-- At a point of the last run, all rows have been added. -/
theorem held_last (t : Fin cfg0.N) (h : t.val % 6 = 5) (p : Fin 1024 × Fin 1408) : held m c t.val t.isLt p = grad m c (rowOf t p.1) (colOf t p.2) := by
  rw [Pipeline.eq_sum_fin_of_reset_step_apply_of_flush (held m c) 6 (fun _ => 0) (term m c) (held_first m c) (held_next m c) t h p, zero_add]
  unfold term grad
  rw [← sum_tiles]
  refine Finset.sum_congr rfl fun s _ => Finset.sum_congr rfl fun r _ => ?_
  have hs := s.isLt
  have e0 : run ⟨6 * (t.val / 6) + s.val, Pipeline.run_point_lt_of_flush t h s⟩ = s := Fin.ext (by show (6 * (t.val / 6) + s.val) % 6 = s.val; omega)
  have e1 : rowOf ⟨6 * (t.val / 6) + s.val, Pipeline.run_point_lt_of_flush t h s⟩ p.1 = rowOf t p.1 :=
    Fin.ext (by show (6 * (t.val / 6) + s.val) / 12 * 1024 + p.1.val = t.val / 12 * 1024 + p.1.val; omega)
  have e2 : colOf ⟨6 * (t.val / 6) + s.val, Pipeline.run_point_lt_of_flush t h s⟩ p.2 = colOf t p.2 :=
    Fin.ext (by show (6 * (t.val / 6) + s.val) / 6 % 2 * 1408 + p.2.val = t.val / 6 % 2 * 1408 + p.2.val; omega)
  rw [e0, e1, e2]

/-- The block a point of the last run writes. -/
theorem written (t : Fin cfg0.N) (h : t.val % 6 = 5) (k : Fin 1024) (n : Fin 1408) :
    (outsAt0 m c t.val t.isLt).1 (ix2 k n) = grad m c (rowOf t k) (colOf t n) := by
  have ht : t.val < 12 := lt_of_lt_of_eq t.isLt N_0
  refine Eq.trans ?_ (held_last m c t h (k, n))
  unfold held
  rw [outsAt0_C m c t (by omega) (by omega) h]
  dsimp only
  rw [out_C, keep_C]
  exact pay4_at _ k n

/-- The array after the last point: the gradient. -/
theorem array2 : (dats m 0 c).arrAt 2 cfg0.N = (fun i : S1024x2816.Idx => grad m c ⟨(i 0).val, (i 0).isLt⟩ ⟨(i 1).val, (i 1).isLt⟩) := by
  refine Pipeline.Dat.arrAt_eq_of_covers (cfg := cfg0) (dats m 0 c) 2 _ (by decide +kernel) (fun t hf y => ?_)
  rw [after0_2]
  obtain ⟨e0, e1⟩ := place2 t
  blk_simp [e0, e1]
  have key := written m c t (by have := (flush0_2 t).mp hf; omega) ((cfg0.win 2).xinj (cfg0.grid.coords t) y 0) ((cfg0.win 2).xinj (cfg0.grid.coords t) y 1)
  refine Eq.trans (congrArg (outsAt0 m c t.val t.isLt).1 ?_) (key.trans ?_)
  · funext a
    match a with
    | 0 => rfl
    | 1 => rfl
  · refine congrArg₂ (grad m c) (Fin.ext ?_) (Fin.ext ?_)
    · rfl
    · rfl

variable (ρ : Dev nD → PrngReg)

/-- The result of the kernel's program. -/
def out (c : Dev nD) : Buf (Elt Ideal) ((c.tc : Thread nD τ).loc main_v0) := (dats m 0 c).arrAt 2 cfg0.N

/-- The kernel's program ends with its result, its arguments unchanged. -/
theorem run_kernel : θ_run defs (onTc (τ := τ) (main (F := Ideal))) ⟨m, fun _ => 0, ρ⟩ (fun r => ∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 2, (h.2 c).1, (h.2 c).2⟩)
    (θ_run_and (run_main m ρ) (unchanged m ρ))

/-- The kernel's and the reference's programs end with equal results. -/
theorem value : Cert.algebraic_Kernel2Ideal_Reference2Ideal := by
  intro m g m' g' hpre hargs
  refine ⟨out m, run_kernel m g, ?_⟩
  refine (θ_run Cert.Reference2Ideal.defs _ _).mono (fun r h c => ⟨(h c).1.trans ?_, (h c).2⟩) (Cert.Reference2Ideal.Value.run (F := Ideal) m' g')
  obtain ⟨e0, e1⟩ := hargs c
  rw [e0, e1]
  funext i
  have hi : i = ix2 (i 0) (i 1) := by funext a; match a with | 0 => rfl | 1 => rfl
  rw [hi]
  exact (reference_at _ _ (i 0) (i 1)).trans (congrFun (array2 m c) (ix2 (i 0) (i 1))).symm

/-- The reference's frame. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Wgrad2
-- ==== Proof.Wgrad3.lean ====
/- The gradient of the feed-forward block's second weight: the kernel adds, for each block of the 2816 by 1024 result, the products of six runs of
   1408 rows; the sum is the reference's sum over all 8448 rows. -/
module

public import proofs.«01_k».proof.Defs
public import proofs.«01_k».proof.Proof.TileSum
public import proofs.«01_k».proof.Proof.Gen.Kernel3Ideal.Frame
public import proofs.«01_k».proof.Proof.Gen.Reference3Ideal.Run
public import Idealize.ShloMosaic.Adequacy
public import Idealize.ShloMosaic.Init
public import Idealize.ShloMosaic.Lib.Pipeline.ValueKit
public import Idealize.ShloMosaic.Lib.Tactic.CleanTypes

@[expose] public section

set_option maxRecDepth 16384

noncomputable section

namespace Cert.Wgrad3

section Reference

open Cert.Reference3Ideal Cert.Reference3Ideal.Gen Idealize.ShloMosaic Idealize.ShloMosaic.TcCoe
/-- The reference's gradient at an index: the same sum. -/
theorem reference_at (a : FVec Ideal S8448x2816 .bf16) (b : FVec Ideal S8448x1024 .bf16) (k : Fin 2816) (n : Fin 1024) :
    (truncf .bf16 (transpose S2816x1024 [1, 0] (Host.dotGeneral (F := Ideal) dot_S8448x1024_S8448x2816_S1024x2816_0_0_1_1_n_n none
        (extf .f32 b bitsLt_bf16_f32) (extf .f32 a bitsLt_bf16_f32)) transposes_S1024x2816_S2816x1024_1_0) bitsLt_bf16_f32
      : FVec Ideal S2816x1024 .bf16) (ix2 k n) = ∑ x : Fin 8448, (a (ix2 x k) : EReal) * b (ix2 x n) := by
  pointwise
  exact Finset.sum_congr rfl fun x _ => mul_comm _ _

end Reference

open Cert.Kernel3Ideal Cert.Kernel3Ideal.Gen Idealize.ShloMosaic Idealize.ShloMosaic.TcCoe
open Idealize.SL Idealize.SL.RA Idealize.SL.Sem Cert.Wgrad

section Body

variable (c : Dev nD) (i : grid0.Coords) (a3 : Memref sig .tc .vmem S1408x1408 .bf16) (h3 : a3.IsWhole)
  (a4 : Memref sig .tc .vmem S1408x1024 .bf16) (h4 : a4.IsWhole) (a5 : Memref sig .tc .vmem S1408x1024 .bf16) (h5 : a5.IsWhole)
  (a6 : Memref sig .tc .vmem S1408x1024 .f32) (h6 : a6.IsWhole)
  (x0 : Vec Ideal S1408x1408 .bf16) (x1 : Vec Ideal S1408x1024 .bf16) (xs : Vec Ideal S1408x1024 .f32)

theorem hz : (![0, 0] : Fin 2 → Nat) = fun _ => 0 := funext fun a => by fin_cases a <;> rfl

/-- The first run's product is kept. -/
theorem keep_A (hc0 : cond0_0 i) (hc1 : ¬cond0_1 i) (hc2 : ¬cond0_2 i) :
    sout0_A_0 (F := Ideal) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1408x1408) hz, View.ld_unit_zero (S := S1408x1024) hz]

/-- A later run's product is added to what is kept. -/
theorem keep_B (hc0 : ¬cond0_0 i) (hc1 : cond0_1 i) (hc2 : ¬cond0_2 i) :
    sout0_B_0 (F := Ideal) c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  simp only [View.readAt_eq_ld, h3.read_unread, h4.read_unread, h6.read_unread, View.ld_unit_zero (S := S1408x1408) hz, View.ld_unit_zero (S := S1408x1024) hz,
    View.ld_unit_zero (S := S1408x1024) hz]

/-- So is the last run's. -/
theorem keep_C (hc0 : ¬cond0_0 i) (hc1 : cond0_1 i) (hc2 : cond0_2 i) :
    sout0_C_0 (F := Ideal) c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz]
  simp only [View.readAt_eq_ld, h3.read_unread, h4.read_unread, h6.read_unread, View.ld_unit_zero (S := S1408x1408) hz, View.ld_unit_zero (S := S1408x1024) hz,
    View.ld_unit_zero (S := S1408x1024) hz]

/-- The block written is what is then kept. -/
theorem out_C (hc0 : ¬cond0_0 i) (hc1 : cond0_1 i) (hc2 : cond0_2 i) :
    out0_C_2 (F := Ideal) c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S1408x1024) _ hz]
  simp only [View.readAt_eq_ld, h3.read_unread, h4.read_unread, h6.read_unread, View.ld_unit_zero (S := S1408x1408) hz, View.ld_unit_zero (S := S1408x1024) hz,
    View.ld_unit_zero (S := S1408x1024) hz]

variable (k : Fin 1408) (n : Fin 1024)

theorem pay2_at : (k0_pay2 (F := Ideal) x0 x1 : S1408x1024.Idx → EReal) (ix2 k n) = ∑ r : Fin 1408, x0 (ix2 r k) * x1 (ix2 r n) := by
  pointwise [k0_pay2, k0_pay1]
theorem pay3_at : (k0_pay3 (F := Ideal) x0 x1 xs : S1408x1024.Idx → EReal) (ix2 k n) = xs (ix2 k n) + ∑ r : Fin 1408, x0 (ix2 r k) * x1 (ix2 r n) := by
  pointwise [k0_pay3, k0_pay1]
theorem pay4_at : (k0_pay4 (F := Ideal) xs : S1408x1024.Idx → EReal) (ix2 k n) = xs (ix2 k n) := by
  pointwise [k0_pay4]

end Body

variable (m : (ℓ : Loc nD τ sig) → Buf (Elt Ideal) ℓ) (c : Dev nD)

/-- The two arguments. -/
def argA : S8448x2816.Idx → EReal := m ((c.tc : Thread nD τ).loc main_arg0)
def argB : S8448x1024.Idx → EReal := m ((c.tc : Thread nD τ).loc main_arg1)

/-- The run of rows a point reads. -/
def run (t : Fin cfg0.N) : Fin 6 := ⟨t.val % 6, by omega⟩
/-- A row of a point's block of the result, and a column. -/
def rowOf (t : Fin cfg0.N) (k : Fin 1408) : Fin 2816 := ⟨t.val / 6 * 1408 + k.val, by have := t.isLt; have : cfg0.N = 12 := N_0; omega⟩
def colOf (t : Fin cfg0.N) (n : Fin 1024) : Fin 1024 := ⟨t.val / 6 % 1 * 1024 + n.val, by omega⟩

theorem place0 : ∀ t : Fin cfg0.N, (cfg0.win 0).index t (0 : Fin 2) = t.val % 6 ∧ (cfg0.win 0).index t (1 : Fin 2) = t.val / 6 := by decide +kernel
theorem place1 : ∀ t : Fin cfg0.N, (cfg0.win 1).index t (0 : Fin 2) = t.val % 6 ∧ (cfg0.win 1).index t (1 : Fin 2) = t.val / 6 % 1 := by decide +kernel
theorem place2 : ∀ t : Fin cfg0.N, (cfg0.win 2).index t (0 : Fin 2) = t.val / 6 ∧ (cfg0.win 2).index t (1 : Fin 2) = t.val / 6 % 1 := by decide +kernel

/-- The blocks a point reads. -/
theorem block0 (t : Fin cfg0.N) (r : Fin 1408) (k : Fin 1408) : iblk m c 0 t (ix2 r k) = argA m c (ix2 (tileRow (run t) r) (rowOf t k)) := by
  obtain ⟨e0, e1⟩ := place0 t
  have ht : t.val < 12 := lt_of_lt_of_eq t.isLt N_0
  unfold argA tileRow run rowOf
  blk_ext [iblk, e0, e1]
theorem block1 (t : Fin cfg0.N) (r : Fin 1408) (n : Fin 1024) : iblk m c 1 t (ix2 r n) = argB m c (ix2 (tileRow (run t) r) (colOf t n)) := by
  obtain ⟨e0, e1⟩ := place1 t
  have ht : t.val < 12 := lt_of_lt_of_eq t.isLt N_0
  unfold argB tileRow run colOf
  blk_ext [iblk, e0, e1]

/-- What a point adds to its block. -/
def term (t : Fin cfg0.N) (p : Fin 1408 × Fin 1024) : EReal :=
  ∑ r : Fin 1408, argA m c (ix2 (tileRow (run t) r) (rowOf t p.1)) * argB m c (ix2 (tileRow (run t) r) (colOf t p.2))
/-- What is kept after a point. -/
def held (n : Nat) (hn : n < cfg0.N) (p : Fin 1408 × Fin 1024) : EReal := (outsAt0 m c n hn).2 (ix2 p.1 p.2)

theorem held_first (t : Fin cfg0.N) (h0 : t.val % 6 = 0) (p : Fin 1408 × Fin 1024) : held m c t.val t.isLt p = 0 + term m c t p := by
  have ht : t.val < 12 := lt_of_lt_of_eq t.isLt N_0
  unfold held term
  rw [outsAt0_A m c t h0 (by omega) (by omega), zero_add]
  dsimp only
  rw [keep_A]
  refine (pay2_at _ _ p.1 p.2).trans (Finset.sum_congr rfl fun r _ => ?_)
  rw [block0, block1]
theorem held_next (t : Fin cfg0.N) (h0 : ¬t.val % 6 = 0) (p : Fin 1408 × Fin 1024) :
    held m c t.val t.isLt p = held m c (t.val - 1) (Nat.lt_of_le_of_lt (Nat.sub_le _ _) t.isLt) p + term m c t p := by
  have ht : t.val < 12 := lt_of_lt_of_eq t.isLt N_0
  unfold held term
  by_cases h2 : t.val % 6 = 5
  · rw [outsAt0_C m c t h0 (by omega) h2]
    dsimp only
    rw [keep_C]
    refine (pay3_at _ _ _ p.1 p.2).trans (congrArg _ (Finset.sum_congr rfl fun r _ => ?_))
    rw [block0, block1]
  · rw [outsAt0_B m c t h0 (by omega) h2]
    dsimp only
    rw [keep_B]
    refine (pay3_at _ _ _ p.1 p.2).trans (congrArg _ (Finset.sum_congr rfl fun r _ => ?_))
    rw [block0, block1]

/-- The gradient: the sum over all rows. -/
def grad (k : Fin 2816) (n : Fin 1024) : EReal := ∑ x : Fin 8448, argA m c (ix2 x k) * argB m c (ix2 x n)

/-- At a point of the last run, all rows have been added. -/
theorem held_last (t : Fin cfg0.N) (h : t.val % 6 = 5) (p : Fin 1408 × Fin 1024) : held m c t.val t.isLt p = grad m c (rowOf t p.1) (colOf t p.2) := by
  rw [Pipeline.eq_sum_fin_of_reset_step_apply_of_flush (held m c) 6 (fun _ => 0) (term m c) (held_first m c) (held_next m c) t h p, zero_add]
  unfold term grad
  rw [← sum_tiles]
  refine Finset.sum_congr rfl fun s _ => Finset.sum_congr rfl fun r _ => ?_
  have hs := s.isLt
  have e0 : run ⟨6 * (t.val / 6) + s.val, Pipeline.run_point_lt_of_flush t h s⟩ = s := Fin.ext (by show (6 * (t.val / 6) + s.val) % 6 = s.val; omega)
  have e1 : rowOf ⟨6 * (t.val / 6) + s.val, Pipeline.run_point_lt_of_flush t h s⟩ p.1 = rowOf t p.1 :=
    Fin.ext (by show (6 * (t.val / 6) + s.val) / 6 * 1408 + p.1.val = t.val / 6 * 1408 + p.1.val; omega)
  have e2 : colOf ⟨6 * (t.val / 6) + s.val, Pipeline.run_point_lt_of_flush t h s⟩ p.2 = colOf t p.2 :=
    Fin.ext (by show (6 * (t.val / 6) + s.val) / 6 % 1 * 1024 + p.2.val = t.val / 6 % 1 * 1024 + p.2.val; omega)
  rw [e0, e1, e2]

/-- The block a point of the last run writes. -/
theorem written (t : Fin cfg0.N) (h : t.val % 6 = 5) (k : Fin 1408) (n : Fin 1024) :
    (outsAt0 m c t.val t.isLt).1 (ix2 k n) = grad m c (rowOf t k) (colOf t n) := by
  have ht : t.val < 12 := lt_of_lt_of_eq t.isLt N_0
  refine Eq.trans ?_ (held_last m c t h (k, n))
  unfold held
  rw [outsAt0_C m c t (by omega) (by omega) h]
  dsimp only
  rw [out_C, keep_C]
  exact pay4_at _ k n

/-- The array after the last point: the gradient. -/
theorem array2 : (dats m 0 c).arrAt 2 cfg0.N = (fun i : S2816x1024.Idx => grad m c ⟨(i 0).val, (i 0).isLt⟩ ⟨(i 1).val, (i 1).isLt⟩) := by
  refine Pipeline.Dat.arrAt_eq_of_covers (cfg := cfg0) (dats m 0 c) 2 _ (by decide +kernel) (fun t hf y => ?_)
  rw [after0_2]
  obtain ⟨e0, e1⟩ := place2 t
  blk_simp [e0, e1]
  have key := written m c t (by have := (flush0_2 t).mp hf; omega) ((cfg0.win 2).xinj (cfg0.grid.coords t) y 0) ((cfg0.win 2).xinj (cfg0.grid.coords t) y 1)
  refine Eq.trans (congrArg (outsAt0 m c t.val t.isLt).1 ?_) (key.trans ?_)
  · funext a
    match a with
    | 0 => rfl
    | 1 => rfl
  · refine congrArg₂ (grad m c) (Fin.ext ?_) (Fin.ext ?_)
    · rfl
    · rfl

variable (ρ : Dev nD → PrngReg)

/-- The result of the kernel's program. -/
def out (c : Dev nD) : Buf (Elt Ideal) ((c.tc : Thread nD τ).loc main_v0) := (dats m 0 c).arrAt 2 cfg0.N

/-- The kernel's program ends with its result, its arguments unchanged. -/
theorem run_kernel : θ_run defs (onTc (τ := τ) (main (F := Ideal))) ⟨m, fun _ => 0, ρ⟩ (fun r => ∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 2, (h.2 c).1, (h.2 c).2⟩)
    (θ_run_and (run_main m ρ) (unchanged m ρ))

/-- The kernel's and the reference's programs end with equal results. -/
theorem value : Cert.algebraic_Kernel3Ideal_Reference3Ideal := by
  intro m g m' g' hpre hargs
  refine ⟨out m, run_kernel m g, ?_⟩
  refine (θ_run Cert.Reference3Ideal.defs _ _).mono (fun r h c => ⟨(h c).1.trans ?_, (h c).2⟩) (Cert.Reference3Ideal.Value.run (F := Ideal) m' g')
  obtain ⟨e0, e1⟩ := hargs c
  rw [e0, e1]
  funext i
  have hi : i = ix2 (i 0) (i 1) := by funext a; match a with | 0 => rfl | 1 => rfl
  rw [hi]
  exact (reference_at _ _ (i 0) (i 1)).trans (congrFun (array2 m c) (ix2 (i 0) (i 1))).symm

/-- The reference's frame. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Wgrad3
-- ==== Proof.Wgrad4.lean ====
/- The gradient of the output projection: the kernel adds, for each block of the 1024 by 1024 result, the products of six runs of
   1408 rows; the sum is the reference's sum over all 8448 rows. -/
module

public import proofs.«01_k».proof.Defs
public import proofs.«01_k».proof.Proof.TileSum
public import proofs.«01_k».proof.Proof.Gen.Kernel4Ideal.Frame
public import proofs.«01_k».proof.Proof.Gen.Reference4Ideal.Run
public import Idealize.ShloMosaic.Adequacy
public import Idealize.ShloMosaic.Init
public import Idealize.ShloMosaic.Lib.Pipeline.ValueKit
public import Idealize.ShloMosaic.Lib.Tactic.CleanTypes

@[expose] public section

set_option maxRecDepth 16384

noncomputable section

namespace Cert.Wgrad4

section Reference

open Cert.Reference4Ideal Cert.Reference4Ideal.Gen Idealize.ShloMosaic Idealize.ShloMosaic.TcCoe
/-- The reference's gradient at an index: the same sum. -/
theorem reference_at (a : FVec Ideal S8448x1024 .bf16) (b : FVec Ideal S8448x1024 .bf16) (k : Fin 1024) (n : Fin 1024) :
    (truncf .bf16 (transpose S1024x1024 [1, 0] (Host.dotGeneral (F := Ideal) dot_S8448x1024_S8448x1024_S1024x1024_0_0_1_1_n_n none
        (extf .f32 b bitsLt_bf16_f32) (extf .f32 a bitsLt_bf16_f32)) transposes_S1024x1024_S1024x1024_1_0) bitsLt_bf16_f32
      : FVec Ideal S1024x1024 .bf16) (ix2 k n) = ∑ x : Fin 8448, (a (ix2 x k) : EReal) * b (ix2 x n) := by
  pointwise
  exact Finset.sum_congr rfl fun x _ => mul_comm _ _

end Reference

open Cert.Kernel4Ideal Cert.Kernel4Ideal.Gen Idealize.ShloMosaic Idealize.ShloMosaic.TcCoe
open Idealize.SL Idealize.SL.RA Idealize.SL.Sem Cert.Wgrad

section Body

variable (c : Dev nD) (i : grid0.Coords) (a3 : Memref sig .tc .vmem S1408x1024 .bf16) (h3 : a3.IsWhole)
  (a4 : Memref sig .tc .vmem S1408x1024 .bf16) (h4 : a4.IsWhole) (a5 : Memref sig .tc .vmem S1024x1024 .bf16) (h5 : a5.IsWhole)
  (a6 : Memref sig .tc .vmem S1024x1024 .f32) (h6 : a6.IsWhole)
  (x0 : Vec Ideal S1408x1024 .bf16) (x1 : Vec Ideal S1408x1024 .bf16) (xs : Vec Ideal S1024x1024 .f32)

theorem hz : (![0, 0] : Fin 2 → Nat) = fun _ => 0 := funext fun a => by fin_cases a <;> rfl

/-- The first run's product is kept. -/
theorem keep_A (hc0 : cond0_0 i) (hc1 : ¬cond0_1 i) (hc2 : ¬cond0_2 i) :
    sout0_A_0 (F := Ideal) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1408x1024) hz, View.ld_unit_zero (S := S1408x1024) hz]

/-- A later run's product is added to what is kept. -/
theorem keep_B (hc0 : ¬cond0_0 i) (hc1 : cond0_1 i) (hc2 : ¬cond0_2 i) :
    sout0_B_0 (F := Ideal) c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  simp only [View.readAt_eq_ld, h3.read_unread, h4.read_unread, h6.read_unread, View.ld_unit_zero (S := S1408x1024) hz, View.ld_unit_zero (S := S1408x1024) hz,
    View.ld_unit_zero (S := S1024x1024) hz]

/-- So is the last run's. -/
theorem keep_C (hc0 : ¬cond0_0 i) (hc1 : cond0_1 i) (hc2 : cond0_2 i) :
    sout0_C_0 (F := Ideal) c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz]
  simp only [View.readAt_eq_ld, h3.read_unread, h4.read_unread, h6.read_unread, View.ld_unit_zero (S := S1408x1024) hz, View.ld_unit_zero (S := S1408x1024) hz,
    View.ld_unit_zero (S := S1024x1024) hz]

/-- The block written is what is then kept. -/
theorem out_C (hc0 : ¬cond0_0 i) (hc1 : cond0_1 i) (hc2 : cond0_2 i) :
    out0_C_2 (F := Ideal) c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1408x1024) hz, View.ld_unit_zero (S := S1408x1024) hz,
    View.ld_unit_zero (S := S1024x1024) hz]

variable (k : Fin 1024) (n : Fin 1024)

theorem pay2_at : (k0_pay2 (F := Ideal) x0 x1 : S1024x1024.Idx → EReal) (ix2 k n) = ∑ r : Fin 1408, x0 (ix2 r k) * x1 (ix2 r n) := by
  pointwise [k0_pay2, k0_pay1]
theorem pay3_at : (k0_pay3 (F := Ideal) x0 x1 xs : S1024x1024.Idx → EReal) (ix2 k n) = xs (ix2 k n) + ∑ r : Fin 1408, x0 (ix2 r k) * x1 (ix2 r n) := by
  pointwise [k0_pay3, k0_pay1]
theorem pay4_at : (k0_pay4 (F := Ideal) xs : S1024x1024.Idx → EReal) (ix2 k n) = xs (ix2 k n) := by
  pointwise [k0_pay4]

end Body

variable (m : (ℓ : Loc nD τ sig) → Buf (Elt Ideal) ℓ) (c : Dev nD)

/-- The two arguments. -/
def argA : S8448x1024.Idx → EReal := m ((c.tc : Thread nD τ).loc main_arg0)
def argB : S8448x1024.Idx → EReal := m ((c.tc : Thread nD τ).loc main_arg1)

/-- The run of rows a point reads. -/
def run (t : Fin cfg0.N) : Fin 6 := ⟨t.val % 6, by omega⟩
/-- A row of a point's block of the result, and a column. -/
def rowOf (t : Fin cfg0.N) (k : Fin 1024) : Fin 1024 := ⟨t.val / 6 * 1024 + k.val, by have := t.isLt; have : cfg0.N = 6 := N_0; omega⟩
def colOf (t : Fin cfg0.N) (n : Fin 1024) : Fin 1024 := ⟨t.val / 6 % 1 * 1024 + n.val, by omega⟩

theorem place0 : ∀ t : Fin cfg0.N, (cfg0.win 0).index t (0 : Fin 2) = t.val % 6 ∧ (cfg0.win 0).index t (1 : Fin 2) = t.val / 6 := by decide +kernel
theorem place1 : ∀ t : Fin cfg0.N, (cfg0.win 1).index t (0 : Fin 2) = t.val % 6 ∧ (cfg0.win 1).index t (1 : Fin 2) = t.val / 6 % 1 := by decide +kernel
theorem place2 : ∀ t : Fin cfg0.N, (cfg0.win 2).index t (0 : Fin 2) = t.val / 6 ∧ (cfg0.win 2).index t (1 : Fin 2) = t.val / 6 % 1 := by decide +kernel

/-- The blocks a point reads. -/
theorem block0 (t : Fin cfg0.N) (r : Fin 1408) (k : Fin 1024) : iblk m c 0 t (ix2 r k) = argA m c (ix2 (tileRow (run t) r) (rowOf t k)) := by
  obtain ⟨e0, e1⟩ := place0 t
  have ht : t.val < 6 := lt_of_lt_of_eq t.isLt N_0
  unfold argA tileRow run rowOf
  blk_ext [iblk, e0, e1]
theorem block1 (t : Fin cfg0.N) (r : Fin 1408) (n : Fin 1024) : iblk m c 1 t (ix2 r n) = argB m c (ix2 (tileRow (run t) r) (colOf t n)) := by
  obtain ⟨e0, e1⟩ := place1 t
  have ht : t.val < 6 := lt_of_lt_of_eq t.isLt N_0
  unfold argB tileRow run colOf
  blk_ext [iblk, e0, e1]

/-- What a point adds to its block. -/
def term (t : Fin cfg0.N) (p : Fin 1024 × Fin 1024) : EReal :=
  ∑ r : Fin 1408, argA m c (ix2 (tileRow (run t) r) (rowOf t p.1)) * argB m c (ix2 (tileRow (run t) r) (colOf t p.2))
/-- What is kept after a point. -/
def held (n : Nat) (hn : n < cfg0.N) (p : Fin 1024 × Fin 1024) : EReal := (outsAt0 m c n hn).2 (ix2 p.1 p.2)

theorem held_first (t : Fin cfg0.N) (h0 : t.val % 6 = 0) (p : Fin 1024 × Fin 1024) : held m c t.val t.isLt p = 0 + term m c t p := by
  have ht : t.val < 6 := lt_of_lt_of_eq t.isLt N_0
  unfold held term
  rw [outsAt0_A m c t h0 (by omega) (by omega), zero_add]
  dsimp only
  rw [keep_A]
  refine (pay2_at _ _ p.1 p.2).trans (Finset.sum_congr rfl fun r _ => ?_)
  rw [block0, block1]
theorem held_next (t : Fin cfg0.N) (h0 : ¬t.val % 6 = 0) (p : Fin 1024 × Fin 1024) :
    held m c t.val t.isLt p = held m c (t.val - 1) (Nat.lt_of_le_of_lt (Nat.sub_le _ _) t.isLt) p + term m c t p := by
  have ht : t.val < 6 := lt_of_lt_of_eq t.isLt N_0
  unfold held term
  by_cases h2 : t.val % 6 = 5
  · rw [outsAt0_C m c t h0 (by omega) h2]
    dsimp only
    rw [keep_C]
    refine (pay3_at _ _ _ p.1 p.2).trans (congrArg _ (Finset.sum_congr rfl fun r _ => ?_))
    rw [block0, block1]
  · rw [outsAt0_B m c t h0 (by omega) h2]
    dsimp only
    rw [keep_B]
    refine (pay3_at _ _ _ p.1 p.2).trans (congrArg _ (Finset.sum_congr rfl fun r _ => ?_))
    rw [block0, block1]

/-- The gradient: the sum over all rows. -/
def grad (k : Fin 1024) (n : Fin 1024) : EReal := ∑ x : Fin 8448, argA m c (ix2 x k) * argB m c (ix2 x n)

/-- At a point of the last run, all rows have been added. -/
theorem held_last (t : Fin cfg0.N) (h : t.val % 6 = 5) (p : Fin 1024 × Fin 1024) : held m c t.val t.isLt p = grad m c (rowOf t p.1) (colOf t p.2) := by
  rw [Pipeline.eq_sum_fin_of_reset_step_apply_of_flush (held m c) 6 (fun _ => 0) (term m c) (held_first m c) (held_next m c) t h p, zero_add]
  unfold term grad
  rw [← sum_tiles]
  refine Finset.sum_congr rfl fun s _ => Finset.sum_congr rfl fun r _ => ?_
  have hs := s.isLt
  have e0 : run ⟨6 * (t.val / 6) + s.val, Pipeline.run_point_lt_of_flush t h s⟩ = s := Fin.ext (by show (6 * (t.val / 6) + s.val) % 6 = s.val; omega)
  have e1 : rowOf ⟨6 * (t.val / 6) + s.val, Pipeline.run_point_lt_of_flush t h s⟩ p.1 = rowOf t p.1 :=
    Fin.ext (by show (6 * (t.val / 6) + s.val) / 6 * 1024 + p.1.val = t.val / 6 * 1024 + p.1.val; omega)
  have e2 : colOf ⟨6 * (t.val / 6) + s.val, Pipeline.run_point_lt_of_flush t h s⟩ p.2 = colOf t p.2 :=
    Fin.ext (by show (6 * (t.val / 6) + s.val) / 6 % 1 * 1024 + p.2.val = t.val / 6 % 1 * 1024 + p.2.val; omega)
  rw [e0, e1, e2]

/-- The block a point of the last run writes. -/
theorem written (t : Fin cfg0.N) (h : t.val % 6 = 5) (k : Fin 1024) (n : Fin 1024) :
    (outsAt0 m c t.val t.isLt).1 (ix2 k n) = grad m c (rowOf t k) (colOf t n) := by
  have ht : t.val < 6 := lt_of_lt_of_eq t.isLt N_0
  refine Eq.trans ?_ (held_last m c t h (k, n))
  unfold held
  rw [outsAt0_C m c t (by omega) (by omega) h]
  dsimp only
  rw [out_C, keep_C]
  exact pay4_at _ k n

/-- The array after the last point: the gradient. -/
theorem array2 : (dats m 0 c).arrAt 2 cfg0.N = (fun i : S1024x1024.Idx => grad m c ⟨(i 0).val, (i 0).isLt⟩ ⟨(i 1).val, (i 1).isLt⟩) := by
  refine Pipeline.Dat.arrAt_eq_of_covers (cfg := cfg0) (dats m 0 c) 2 _ (by decide +kernel) (fun t hf y => ?_)
  rw [after0_2]
  obtain ⟨e0, e1⟩ := place2 t
  blk_simp [e0, e1]
  have key := written m c t (by have := (flush0_2 t).mp hf; omega) ((cfg0.win 2).xinj (cfg0.grid.coords t) y 0) ((cfg0.win 2).xinj (cfg0.grid.coords t) y 1)
  refine Eq.trans (congrArg (outsAt0 m c t.val t.isLt).1 ?_) (key.trans ?_)
  · funext a
    match a with
    | 0 => rfl
    | 1 => rfl
  · refine congrArg₂ (grad m c) (Fin.ext ?_) (Fin.ext ?_)
    · rfl
    · rfl

variable (ρ : Dev nD → PrngReg)

/-- The result of the kernel's program. -/
def out (c : Dev nD) : Buf (Elt Ideal) ((c.tc : Thread nD τ).loc main_v0) := (dats m 0 c).arrAt 2 cfg0.N

/-- The kernel's program ends with its result, its arguments unchanged. -/
theorem run_kernel : θ_run defs (onTc (τ := τ) (main (F := Ideal))) ⟨m, fun _ => 0, ρ⟩ (fun r => ∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 2, (h.2 c).1, (h.2 c).2⟩)
    (θ_run_and (run_main m ρ) (unchanged m ρ))

/-- The kernel's and the reference's programs end with equal results. -/
theorem value : Cert.algebraic_Kernel4Ideal_Reference4Ideal := by
  intro m g m' g' hpre hargs
  refine ⟨out m, run_kernel m g, ?_⟩
  refine (θ_run Cert.Reference4Ideal.defs _ _).mono (fun r h c => ⟨(h c).1.trans ?_, (h c).2⟩) (Cert.Reference4Ideal.Value.run (F := Ideal) m' g')
  obtain ⟨e0, e1⟩ := hargs c
  rw [e0, e1]
  funext i
  have hi : i = ix2 (i 0) (i 1) := by funext a; match a with | 0 => rfl | 1 => rfl
  rw [hi]
  exact (reference_at _ _ (i 0) (i 1)).trans (congrFun (array2 m c) (ix2 (i 0) (i 1))).symm

/-- The reference's frame. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.Wgrad4
-- ==== Proof.Wgrad5.lean ====
/- The gradient of a branch's projection (either branch): the kernel adds, for each block of the 512 by 1024 result, the products of six runs of
   1408 rows; the sum is the reference's sum over all 8448 rows. -/
module

public import proofs.«01_k».proof.Defs
public import proofs.«01_k».proof.Proof.TileSum
public import proofs.«01_k».proof.Proof.Gen.Kernel5Ideal.Frame
public import proofs.«01_k».proof.Proof.Gen.Reference5Ideal.Run
public import Idealize.ShloMosaic.Adequacy
public import Idealize.ShloMosaic.Init
public import Idealize.ShloMosaic.Lib.Pipeline.ValueKit
public import Idealize.ShloMosaic.Lib.Tactic.CleanTypes

@[expose] public section

set_option maxRecDepth 16384

noncomputable section

namespace Cert.Wgrad5

section Reference

open Cert.Reference5Ideal Cert.Reference5Ideal.Gen Idealize.ShloMosaic Idealize.ShloMosaic.TcCoe
/-- The reference's gradient at an index: the same sum. -/
theorem reference_at (a : FVec Ideal S8448x512 .bf16) (b : FVec Ideal S8448x1024 .bf16) (k : Fin 512) (n : Fin 1024) :
    (truncf .bf16 (transpose S512x1024 [1, 0] (Host.dotGeneral (F := Ideal) dot_S8448x1024_S8448x512_S1024x512_0_0_1_1_n_n none
        (extf .f32 b bitsLt_bf16_f32) (extf .f32 a bitsLt_bf16_f32)) transposes_S1024x512_S512x1024_1_0) bitsLt_bf16_f32
      : FVec Ideal S512x1024 .bf16) (ix2 k n) = ∑ x : Fin 8448, (a (ix2 x k) : EReal) * b (ix2 x n) := by
  pointwise
  exact Finset.sum_congr rfl fun x _ => mul_comm _ _

end Reference

open Cert.Kernel5Ideal Cert.Kernel5Ideal.Gen Idealize.ShloMosaic Idealize.ShloMosaic.TcCoe
open Idealize.SL Idealize.SL.RA Idealize.SL.Sem Cert.Wgrad

section Body

variable (c : Dev nD) (i : grid0.Coords) (a3 : Memref sig .tc .vmem S1408x512 .bf16) (h3 : a3.IsWhole)
  (a4 : Memref sig .tc .vmem S1408x1024 .bf16) (h4 : a4.IsWhole) (a5 : Memref sig .tc .vmem S512x1024 .bf16) (h5 : a5.IsWhole)
  (a6 : Memref sig .tc .vmem S512x1024 .f32) (h6 : a6.IsWhole)
  (x0 : Vec Ideal S1408x512 .bf16) (x1 : Vec Ideal S1408x1024 .bf16) (xs : Vec Ideal S512x1024 .f32)

theorem hz : (![0, 0] : Fin 2 → Nat) = fun _ => 0 := funext fun a => by fin_cases a <;> rfl

/-- The first run's product is kept. -/
theorem keep_A (hc0 : cond0_0 i) (hc1 : ¬cond0_1 i) (hc2 : ¬cond0_2 i) :
    sout0_A_0 (F := Ideal) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1408x512) hz, View.ld_unit_zero (S := S1408x1024) hz]

/-- A later run's product is added to what is kept. -/
theorem keep_B (hc0 : ¬cond0_0 i) (hc1 : cond0_1 i) (hc2 : ¬cond0_2 i) :
    sout0_B_0 (F := Ideal) c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  simp only [View.readAt_eq_ld, h3.read_unread, h4.read_unread, h6.read_unread, View.ld_unit_zero (S := S1408x512) hz, View.ld_unit_zero (S := S1408x1024) hz,
    View.ld_unit_zero (S := S512x1024) hz]

/-- So is the last run's. -/
theorem keep_C (hc0 : ¬cond0_0 i) (hc1 : cond0_1 i) (hc2 : cond0_2 i) :
    sout0_C_0 (F := Ideal) c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz]
  simp only [View.readAt_eq_ld, h3.read_unread, h4.read_unread, h6.read_unread, View.ld_unit_zero (S := S1408x512) hz, View.ld_unit_zero (S := S1408x1024) hz,
    View.ld_unit_zero (S := S512x1024) hz]

/-- The block written is what is then kept. -/
theorem out_C (hc0 : ¬cond0_0 i) (hc1 : cond0_1 i) (hc2 : cond0_2 i) :
    out0_C_2 (F := Ideal) c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S512x1024) _ hz]
  simp only [View.readAt_eq_ld, h3.read_unread, h4.read_unread, h6.read_unread, View.ld_unit_zero (S := S1408x512) hz, View.ld_unit_zero (S := S1408x1024) hz,
    View.ld_unit_zero (S := S512x1024) hz]

variable (k : Fin 512) (n : Fin 1024)

theorem pay2_at : (k0_pay2 (F := Ideal) x0 x1 : S512x1024.Idx → EReal) (ix2 k n) = ∑ r : Fin 1408, x0 (ix2 r k) * x1 (ix2 r n) := by
  pointwise [k0_pay2, k0_pay1]
theorem pay3_at : (k0_pay3 (F := Ideal) x0 x1 xs : S512x1024.Idx → EReal) (ix2 k n) = xs (ix2 k n) + ∑ r : Fin 1408, x0 (ix2 r k) * x1 (ix2 r n) := by
  pointwise [k0_pay3, k0_pay1]
theorem pay4_at : (k0_pay4 (F := Ideal) xs : S512x1024.Idx → EReal) (ix2 k n) = xs (ix2 k n) := by
  pointwise [k0_pay4]

end Body

variable (m : (ℓ : Loc nD τ sig) → Buf (Elt Ideal) ℓ) (c : Dev nD)

/-- The two arguments. -/
def argA : S8448x512.Idx → EReal := m ((c.tc : Thread nD τ).loc main_arg0)
def argB : S8448x1024.Idx → EReal := m ((c.tc : Thread nD τ).loc main_arg1)

/-- The run of rows a point reads. -/
def run (t : Fin cfg0.N) : Fin 6 := ⟨t.val % 6, by omega⟩
/-- A row of a point's block of the result, and a column. -/
def rowOf (t : Fin cfg0.N) (k : Fin 512) : Fin 512 := ⟨t.val / 6 * 512 + k.val, by have := t.isLt; have : cfg0.N = 6 := N_0; omega⟩
def colOf (t : Fin cfg0.N) (n : Fin 1024) : Fin 1024 := ⟨t.val / 6 % 1 * 1024 + n.val, by omega⟩

theorem place0 : ∀ t : Fin cfg0.N, (cfg0.win 0).index t (0 : Fin 2) = t.val % 6 ∧ (cfg0.win 0).index t (1 : Fin 2) = t.val / 6 := by decide +kernel
theorem place1 : ∀ t : Fin cfg0.N, (cfg0.win 1).index t (0 : Fin 2) = t.val % 6 ∧ (cfg0.win 1).index t (1 : Fin 2) = t.val / 6 % 1 := by decide +kernel
theorem place2 : ∀ t : Fin cfg0.N, (cfg0.win 2).index t (0 : Fin 2) = t.val / 6 ∧ (cfg0.win 2).index t (1 : Fin 2) = t.val / 6 % 1 := by decide +kernel

/-- The blocks a point reads. -/
theorem block0 (t : Fin cfg0.N) (r : Fin 1408) (k : Fin 512) : iblk m c 0 t (ix2 r k) = argA m c (ix2 (tileRow (run t) r) (rowOf t k)) := by
  obtain ⟨e0, e1⟩ := place0 t
  have ht : t.val < 6 := lt_of_lt_of_eq t.isLt N_0
  unfold argA tileRow run rowOf
  blk_ext [iblk, e0, e1]
theorem block1 (t : Fin cfg0.N) (r : Fin 1408) (n : Fin 1024) : iblk m c 1 t (ix2 r n) = argB m c (ix2 (tileRow (run t) r) (colOf t n)) := by
  obtain ⟨e0, e1⟩ := place1 t
  have ht : t.val < 6 := lt_of_lt_of_eq t.isLt N_0
  unfold argB tileRow run colOf
  blk_ext [iblk, e0, e1]

/-- What a point adds to its block. -/
def term (t : Fin cfg0.N) (p : Fin 512 × Fin 1024) : EReal :=
  ∑ r : Fin 1408, argA m c (ix2 (tileRow (run t) r) (rowOf t p.1)) * argB m c (ix2 (tileRow (run t) r) (colOf t p.2))
/-- What is kept after a point. -/
def held (n : Nat) (hn : n < cfg0.N) (p : Fin 512 × Fin 1024) : EReal := (outsAt0 m c n hn).2 (ix2 p.1 p.2)

theorem held_first (t : Fin cfg0.N) (h0 : t.val % 6 = 0) (p : Fin 512 × Fin 1024) : held m c t.val t.isLt p = 0 + term m c t p := by
  have ht : t.val < 6 := lt_of_lt_of_eq t.isLt N_0
  unfold held term
  rw [outsAt0_A m c t h0 (by omega) (by omega), zero_add]
  dsimp only
  rw [keep_A]
  refine (pay2_at _ _ p.1 p.2).trans (Finset.sum_congr rfl fun r _ => ?_)
  rw [block0, block1]
theorem held_next (t : Fin cfg0.N) (h0 : ¬t.val % 6 = 0) (p : Fin 512 × Fin 1024) :
    held m c t.val t.isLt p = held m c (t.val - 1) (Nat.lt_of_le_of_lt (Nat.sub_le _ _) t.isLt) p + term m c t p := by
  have ht : t.val < 6 := lt_of_lt_of_eq t.isLt N_0
  unfold held term
  by_cases h2 : t.val % 6 = 5
  · rw [outsAt0_C m c t h0 (by omega) h2]
    dsimp only
    rw [keep_C]
    refine (pay3_at _ _ _ p.1 p.2).trans (congrArg _ (Finset.sum_congr rfl fun r _ => ?_))
    rw [block0, block1]
  · rw [outsAt0_B m c t h0 (by omega) h2]
    dsimp only
    rw [keep_B]
    refine (pay3_at _ _ _ p.1 p.2).trans (congrArg _ (Finset.sum_congr rfl fun r _ => ?_))
    rw [block0, block1]

/-- The gradient: the sum over all rows. -/
def grad (k : Fin 512) (n : Fin 1024) : EReal := ∑ x : Fin 8448, argA m c (ix2 x k) * argB m c (ix2 x n)

/-- At a point of the last run, all rows have been added. -/
theorem held_last (t : Fin cfg0.N) (h : t.val % 6 = 5) (p : Fin 512 × Fin 1024) : held m c t.val t.isLt p = grad m c (rowOf t p.1) (colOf t p.2) := by
  rw [Pipeline.eq_sum_fin_of_reset_step_apply_of_flush (held m c) 6 (fun _ => 0) (term m c) (held_first m c) (held_next m c) t h p, zero_add]
  unfold term grad
  rw [← sum_tiles]
  refine Finset.sum_congr rfl fun s _ => Finset.sum_congr rfl fun r _ => ?_
  have hs := s.isLt
  have e0 : run ⟨6 * (t.val / 6) + s.val, Pipeline.run_point_lt_of_flush t h s⟩ = s := Fin.ext (by show (6 * (t.val / 6) + s.val) % 6 = s.val; omega)
  have e1 : rowOf ⟨6 * (t.val / 6) + s.val, Pipeline.run_point_lt_of_flush t h s⟩ p.1 = rowOf t p.1 :=
    Fin.ext (by show (6 * (t.val / 6) + s.val) / 6 * 512 + p.1.val = t.val / 6 * 512 + p.1.val; omega)
  have e2 : colOf ⟨6 * (t.val / 6) + s.val, Pipeline.run_point_lt_of_flush t h s⟩ p.2 = colOf t p.2 :=
    Fin.ext (by show (6 * (t.val / 6) + s.val) / 6 % 1 * 1024 + p.2.val = t.val / 6 % 1 * 1024 + p.2.val; omega)
  rw [e0, e1, e2]

/-- The block a point of the last run writes. -/
theorem written (t : Fin cfg0.N) (h : t.val % 6 = 5) (k : Fin 512) (n : Fin 1024) :
    (outsAt0 m c t.val t.isLt).1 (ix2 k n) = grad m c (rowOf t k) (colOf t n) := by
  have ht : t.val < 6 := lt_of_lt_of_eq t.isLt N_0
  refine Eq.trans ?_ (held_last m c t h (k, n))
  unfold held
  rw [outsAt0_C m c t (by omega) (by omega) h]
  dsimp only
  rw [out_C, keep_C]
  exact pay4_at _ k n

/-- The array after the last point: the gradient. -/
theorem array2 : (dats m 0 c).arrAt 2 cfg0.N = (fun i : S512x1024.Idx => grad m c ⟨(i 0).val, (i 0).isLt⟩ ⟨(i 1).val, (i 1).isLt⟩) := by
  refine Pipeline.Dat.arrAt_eq_of_covers (cfg := cfg0) (dats m 0 c) 2 _ (by decide +kernel) (fun t hf y => ?_)
  rw [after0_2]
  obtain ⟨e0, e1⟩ := place2 t
  blk_simp [e0, e1]
  have key := written m c t (by have := (flush0_2 t).mp hf; omega) ((cfg0.win 2).xinj (cfg0.grid.coords t) y 0) ((cfg0.win 2).xinj (cfg0.grid.coords t) y 1)
  refine Eq.trans (congrArg (outsAt0 m c t.val t.isLt).1 ?_) (key.trans ?_)
  · funext a
    match a with
    | 0 => rfl
    | 1 => rfl
  · refine congrArg₂ (grad m c) (Fin.ext ?_) (Fin.ext ?_)
    · rfl
    · rfl

variable (ρ : Dev nD → PrngReg)

/-- The result of the kernel's program. -/
def out (c : Dev nD) : Buf (Elt Ideal) ((c.tc : Thread nD τ).loc main_v0) := (dats m 0 c).arrAt 2 cfg0.N

/-- The kernel's program ends with its result, its arguments unchanged. -/
theorem run_kernel : θ_run defs (onTc (τ := τ) (main (F := Ideal))) ⟨m, fun _ => 0, ρ⟩ (fun r => ∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 2, (h.2 c).1, (h.2 c).2⟩)
    (θ_run_and (run_main m ρ) (unchanged m ρ))

/-- The kernel's and the reference's programs end with equal results. -/
theorem value : Cert.algebraic_Kernel5Ideal_Reference5Ideal := by
  intro m g m' g' hpre hargs
  refine ⟨out m, run_kernel m g, ?_⟩
  refine (θ_run Cert.Reference5Ideal.defs _ _).mono (fun r h c => ⟨(h c).1.trans ?_, (h c).2⟩) (Cert.Reference5Ideal.Value.run (F := Ideal) m' g')
  obtain ⟨e0, e1⟩ := hargs c
  rw [e0, e1]
  funext i
  have hi : i = ix2 (i 0) (i 1) := by funext a; match a with | 0 => rfl | 1 => rfl
  rw [hi]
  exact (reference_at _ _ (i 0) (i 1)).trans (congrFun (array2 m c) (ix2 (i 0) (i 1))).symm

/-- The reference's frame. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.Wgrad5
-- ==== Proof.Wgrad6.lean ====
/- The gradient of the input projection's columns for the neighbourhood attention: the kernel adds, for each block of the 1024 by 1536 result, the products of six runs of
   1408 rows; the sum is the reference's sum over all 8448 rows. -/
module

public import proofs.«01_k».proof.Defs
public import proofs.«01_k».proof.Proof.TileSum
public import proofs.«01_k».proof.Proof.Gen.Kernel6Ideal.Frame
public import proofs.«01_k».proof.Proof.Gen.Reference6Ideal.Run
public import Idealize.ShloMosaic.Adequacy
public import Idealize.ShloMosaic.Init
public import Idealize.ShloMosaic.Lib.Pipeline.ValueKit
public import Idealize.ShloMosaic.Lib.Tactic.CleanTypes

@[expose] public section

set_option maxRecDepth 16384

noncomputable section

namespace Cert.Wgrad6

section Reference

open Cert.Reference6Ideal Cert.Reference6Ideal.Gen Idealize.ShloMosaic Idealize.ShloMosaic.TcCoe
/-- The reference's gradient at an index: the same sum. -/
theorem reference_at (a : FVec Ideal S8448x1024 .bf16) (b : FVec Ideal S8448x1536 .bf16) (k : Fin 1024) (n : Fin 1536) :
    (truncf .bf16 (transpose S1024x1536 [1, 0] (Host.dotGeneral (F := Ideal) dot_S8448x1536_S8448x1024_S1536x1024_0_0_1_1_n_n none
        (extf .f32 b bitsLt_bf16_f32) (extf .f32 a bitsLt_bf16_f32)) transposes_S1536x1024_S1024x1536_1_0) bitsLt_bf16_f32
      : FVec Ideal S1024x1536 .bf16) (ix2 k n) = ∑ x : Fin 8448, (a (ix2 x k) : EReal) * b (ix2 x n) := by
  pointwise
  exact Finset.sum_congr rfl fun x _ => mul_comm _ _

end Reference

open Cert.Kernel6Ideal Cert.Kernel6Ideal.Gen Idealize.ShloMosaic Idealize.ShloMosaic.TcCoe
open Idealize.SL Idealize.SL.RA Idealize.SL.Sem Cert.Wgrad

section Body

variable (c : Dev nD) (i : grid0.Coords) (a3 : Memref sig .tc .vmem S1408x1024 .bf16) (h3 : a3.IsWhole)
  (a4 : Memref sig .tc .vmem S1408x1536 .bf16) (h4 : a4.IsWhole) (a5 : Memref sig .tc .vmem S1024x1536 .bf16) (h5 : a5.IsWhole)
  (a6 : Memref sig .tc .vmem S1024x1536 .f32) (h6 : a6.IsWhole)
  (x0 : Vec Ideal S1408x1024 .bf16) (x1 : Vec Ideal S1408x1536 .bf16) (xs : Vec Ideal S1024x1536 .f32)

theorem hz : (![0, 0] : Fin 2 → Nat) = fun _ => 0 := funext fun a => by fin_cases a <;> rfl

/-- The first run's product is kept. -/
theorem keep_A (hc0 : cond0_0 i) (hc1 : ¬cond0_1 i) (hc2 : ¬cond0_2 i) :
    sout0_A_0 (F := Ideal) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1408x1024) hz, View.ld_unit_zero (S := S1408x1536) hz]

/-- A later run's product is added to what is kept. -/
theorem keep_B (hc0 : ¬cond0_0 i) (hc1 : cond0_1 i) (hc2 : ¬cond0_2 i) :
    sout0_B_0 (F := Ideal) c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  simp only [View.readAt_eq_ld, h3.read_unread, h4.read_unread, h6.read_unread, View.ld_unit_zero (S := S1408x1024) hz, View.ld_unit_zero (S := S1408x1536) hz,
    View.ld_unit_zero (S := S1024x1536) hz]

/-- So is the last run's. -/
theorem keep_C (hc0 : ¬cond0_0 i) (hc1 : cond0_1 i) (hc2 : cond0_2 i) :
    sout0_C_0 (F := Ideal) c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz]
  simp only [View.readAt_eq_ld, h3.read_unread, h4.read_unread, h6.read_unread, View.ld_unit_zero (S := S1408x1024) hz, View.ld_unit_zero (S := S1408x1536) hz,
    View.ld_unit_zero (S := S1024x1536) hz]

/-- The block written is what is then kept. -/
theorem out_C (hc0 : ¬cond0_0 i) (hc1 : cond0_1 i) (hc2 : cond0_2 i) :
    out0_C_2 (F := Ideal) c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S1024x1536) _ hz]
  simp only [View.readAt_eq_ld, h3.read_unread, h4.read_unread, h6.read_unread, View.ld_unit_zero (S := S1408x1024) hz, View.ld_unit_zero (S := S1408x1536) hz,
    View.ld_unit_zero (S := S1024x1536) hz]

variable (k : Fin 1024) (n : Fin 1536)

theorem pay2_at : (k0_pay2 (F := Ideal) x0 x1 : S1024x1536.Idx → EReal) (ix2 k n) = ∑ r : Fin 1408, x0 (ix2 r k) * x1 (ix2 r n) := by
  pointwise [k0_pay2, k0_pay1]
theorem pay3_at : (k0_pay3 (F := Ideal) x0 x1 xs : S1024x1536.Idx → EReal) (ix2 k n) = xs (ix2 k n) + ∑ r : Fin 1408, x0 (ix2 r k) * x1 (ix2 r n) := by
  pointwise [k0_pay3, k0_pay1]
theorem pay4_at : (k0_pay4 (F := Ideal) xs : S1024x1536.Idx → EReal) (ix2 k n) = xs (ix2 k n) := by
  pointwise [k0_pay4]

end Body

variable (m : (ℓ : Loc nD τ sig) → Buf (Elt Ideal) ℓ) (c : Dev nD)

/-- The two arguments. -/
def argA : S8448x1024.Idx → EReal := m ((c.tc : Thread nD τ).loc main_arg0)
def argB : S8448x1536.Idx → EReal := m ((c.tc : Thread nD τ).loc main_arg1)

/-- The run of rows a point reads. -/
def run (t : Fin cfg0.N) : Fin 6 := ⟨t.val % 6, by omega⟩
/-- A row of a point's block of the result, and a column. -/
def rowOf (t : Fin cfg0.N) (k : Fin 1024) : Fin 1024 := ⟨t.val / 6 * 1024 + k.val, by have := t.isLt; have : cfg0.N = 6 := N_0; omega⟩
def colOf (t : Fin cfg0.N) (n : Fin 1536) : Fin 1536 := ⟨t.val / 6 % 1 * 1536 + n.val, by omega⟩

theorem place0 : ∀ t : Fin cfg0.N, (cfg0.win 0).index t (0 : Fin 2) = t.val % 6 ∧ (cfg0.win 0).index t (1 : Fin 2) = t.val / 6 := by decide +kernel
theorem place1 : ∀ t : Fin cfg0.N, (cfg0.win 1).index t (0 : Fin 2) = t.val % 6 ∧ (cfg0.win 1).index t (1 : Fin 2) = t.val / 6 % 1 := by decide +kernel
theorem place2 : ∀ t : Fin cfg0.N, (cfg0.win 2).index t (0 : Fin 2) = t.val / 6 ∧ (cfg0.win 2).index t (1 : Fin 2) = t.val / 6 % 1 := by decide +kernel

/-- The blocks a point reads. -/
theorem block0 (t : Fin cfg0.N) (r : Fin 1408) (k : Fin 1024) : iblk m c 0 t (ix2 r k) = argA m c (ix2 (tileRow (run t) r) (rowOf t k)) := by
  obtain ⟨e0, e1⟩ := place0 t
  have ht : t.val < 6 := lt_of_lt_of_eq t.isLt N_0
  unfold argA tileRow run rowOf
  blk_ext [iblk, e0, e1]
theorem block1 (t : Fin cfg0.N) (r : Fin 1408) (n : Fin 1536) : iblk m c 1 t (ix2 r n) = argB m c (ix2 (tileRow (run t) r) (colOf t n)) := by
  obtain ⟨e0, e1⟩ := place1 t
  have ht : t.val < 6 := lt_of_lt_of_eq t.isLt N_0
  unfold argB tileRow run colOf
  blk_ext [iblk, e0, e1]

/-- What a point adds to its block. -/
def term (t : Fin cfg0.N) (p : Fin 1024 × Fin 1536) : EReal :=
  ∑ r : Fin 1408, argA m c (ix2 (tileRow (run t) r) (rowOf t p.1)) * argB m c (ix2 (tileRow (run t) r) (colOf t p.2))
/-- What is kept after a point. -/
def held (n : Nat) (hn : n < cfg0.N) (p : Fin 1024 × Fin 1536) : EReal := (outsAt0 m c n hn).2 (ix2 p.1 p.2)

theorem held_first (t : Fin cfg0.N) (h0 : t.val % 6 = 0) (p : Fin 1024 × Fin 1536) : held m c t.val t.isLt p = 0 + term m c t p := by
  have ht : t.val < 6 := lt_of_lt_of_eq t.isLt N_0
  unfold held term
  rw [outsAt0_A m c t h0 (by omega) (by omega), zero_add]
  dsimp only
  rw [keep_A]
  refine (pay2_at _ _ p.1 p.2).trans (Finset.sum_congr rfl fun r _ => ?_)
  rw [block0, block1]
theorem held_next (t : Fin cfg0.N) (h0 : ¬t.val % 6 = 0) (p : Fin 1024 × Fin 1536) :
    held m c t.val t.isLt p = held m c (t.val - 1) (Nat.lt_of_le_of_lt (Nat.sub_le _ _) t.isLt) p + term m c t p := by
  have ht : t.val < 6 := lt_of_lt_of_eq t.isLt N_0
  unfold held term
  by_cases h2 : t.val % 6 = 5
  · rw [outsAt0_C m c t h0 (by omega) h2]
    dsimp only
    rw [keep_C]
    refine (pay3_at _ _ _ p.1 p.2).trans (congrArg _ (Finset.sum_congr rfl fun r _ => ?_))
    rw [block0, block1]
  · rw [outsAt0_B m c t h0 (by omega) h2]
    dsimp only
    rw [keep_B]
    refine (pay3_at _ _ _ p.1 p.2).trans (congrArg _ (Finset.sum_congr rfl fun r _ => ?_))
    rw [block0, block1]

/-- The gradient: the sum over all rows. -/
def grad (k : Fin 1024) (n : Fin 1536) : EReal := ∑ x : Fin 8448, argA m c (ix2 x k) * argB m c (ix2 x n)

/-- At a point of the last run, all rows have been added. -/
theorem held_last (t : Fin cfg0.N) (h : t.val % 6 = 5) (p : Fin 1024 × Fin 1536) : held m c t.val t.isLt p = grad m c (rowOf t p.1) (colOf t p.2) := by
  rw [Pipeline.eq_sum_fin_of_reset_step_apply_of_flush (held m c) 6 (fun _ => 0) (term m c) (held_first m c) (held_next m c) t h p, zero_add]
  unfold term grad
  rw [← sum_tiles]
  refine Finset.sum_congr rfl fun s _ => Finset.sum_congr rfl fun r _ => ?_
  have hs := s.isLt
  have e0 : run ⟨6 * (t.val / 6) + s.val, Pipeline.run_point_lt_of_flush t h s⟩ = s := Fin.ext (by show (6 * (t.val / 6) + s.val) % 6 = s.val; omega)
  have e1 : rowOf ⟨6 * (t.val / 6) + s.val, Pipeline.run_point_lt_of_flush t h s⟩ p.1 = rowOf t p.1 :=
    Fin.ext (by show (6 * (t.val / 6) + s.val) / 6 * 1024 + p.1.val = t.val / 6 * 1024 + p.1.val; omega)
  have e2 : colOf ⟨6 * (t.val / 6) + s.val, Pipeline.run_point_lt_of_flush t h s⟩ p.2 = colOf t p.2 :=
    Fin.ext (by show (6 * (t.val / 6) + s.val) / 6 % 1 * 1536 + p.2.val = t.val / 6 % 1 * 1536 + p.2.val; omega)
  rw [e0, e1, e2]

/-- The block a point of the last run writes. -/
theorem written (t : Fin cfg0.N) (h : t.val % 6 = 5) (k : Fin 1024) (n : Fin 1536) :
    (outsAt0 m c t.val t.isLt).1 (ix2 k n) = grad m c (rowOf t k) (colOf t n) := by
  have ht : t.val < 6 := lt_of_lt_of_eq t.isLt N_0
  refine Eq.trans ?_ (held_last m c t h (k, n))
  unfold held
  rw [outsAt0_C m c t (by omega) (by omega) h]
  dsimp only
  rw [out_C, keep_C]
  exact pay4_at _ k n

/-- The array after the last point: the gradient. -/
theorem array2 : (dats m 0 c).arrAt 2 cfg0.N = (fun i : S1024x1536.Idx => grad m c ⟨(i 0).val, (i 0).isLt⟩ ⟨(i 1).val, (i 1).isLt⟩) := by
  refine Pipeline.Dat.arrAt_eq_of_covers (cfg := cfg0) (dats m 0 c) 2 _ (by decide +kernel) (fun t hf y => ?_)
  rw [after0_2]
  obtain ⟨e0, e1⟩ := place2 t
  blk_simp [e0, e1]
  have key := written m c t (by have := (flush0_2 t).mp hf; omega) ((cfg0.win 2).xinj (cfg0.grid.coords t) y 0) ((cfg0.win 2).xinj (cfg0.grid.coords t) y 1)
  refine Eq.trans (congrArg (outsAt0 m c t.val t.isLt).1 ?_) (key.trans ?_)
  · funext a
    match a with
    | 0 => rfl
    | 1 => rfl
  · refine congrArg₂ (grad m c) (Fin.ext ?_) (Fin.ext ?_)
    · rfl
    · rfl

variable (ρ : Dev nD → PrngReg)

/-- The result of the kernel's program. -/
def out (c : Dev nD) : Buf (Elt Ideal) ((c.tc : Thread nD τ).loc main_v0) := (dats m 0 c).arrAt 2 cfg0.N

/-- The kernel's program ends with its result, its arguments unchanged. -/
theorem run_kernel : θ_run defs (onTc (τ := τ) (main (F := Ideal))) ⟨m, fun _ => 0, ρ⟩ (fun r => ∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 2, (h.2 c).1, (h.2 c).2⟩)
    (θ_run_and (run_main m ρ) (unchanged m ρ))

/-- The kernel's and the reference's programs end with equal results. -/
theorem value : Cert.algebraic_Kernel6Ideal_Reference6Ideal := by
  intro m g m' g' hpre hargs
  refine ⟨out m, run_kernel m g, ?_⟩
  refine (θ_run Cert.Reference6Ideal.defs _ _).mono (fun r h c => ⟨(h c).1.trans ?_, (h c).2⟩) (Cert.Reference6Ideal.Value.run (F := Ideal) m' g')
  obtain ⟨e0, e1⟩ := hargs c
  rw [e0, e1]
  funext i
  have hi : i = ix2 (i 0) (i 1) := by funext a; match a with | 0 => rfl | 1 => rfl
  rw [hi]
  exact (reference_at _ _ (i 0) (i 1)).trans (congrFun (array2 m c) (ix2 (i 0) (i 1))).symm

/-- The reference's frame. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Wgrad6
-- ==== Proof.Wgrad7.lean ====
/- The gradient of the input projection's columns for the grouped-query attention: the kernel adds, for each block of the 1024 by 768 result, the products of six runs of
   1408 rows; the sum is the reference's sum over all 8448 rows. -/
module

public import proofs.«01_k».proof.Defs
public import proofs.«01_k».proof.Proof.TileSum
public import proofs.«01_k».proof.Proof.Gen.Kernel7Ideal.Frame
public import proofs.«01_k».proof.Proof.Gen.Reference7Ideal.Run
public import Idealize.ShloMosaic.Adequacy
public import Idealize.ShloMosaic.Init
public import Idealize.ShloMosaic.Lib.Pipeline.ValueKit
public import Idealize.ShloMosaic.Lib.Tactic.CleanTypes

@[expose] public section

set_option maxRecDepth 16384

noncomputable section

namespace Cert.Wgrad7

section Reference

open Cert.Reference7Ideal Cert.Reference7Ideal.Gen Idealize.ShloMosaic Idealize.ShloMosaic.TcCoe
/-- The reference's gradient at an index: the same sum. -/
theorem reference_at (a : FVec Ideal S8448x1024 .bf16) (b : FVec Ideal S8448x768 .bf16) (k : Fin 1024) (n : Fin 768) :
    (truncf .bf16 (transpose S1024x768 [1, 0] (Host.dotGeneral (F := Ideal) dot_S8448x768_S8448x1024_S768x1024_0_0_1_1_n_n none
        (extf .f32 b bitsLt_bf16_f32) (extf .f32 a bitsLt_bf16_f32)) transposes_S768x1024_S1024x768_1_0) bitsLt_bf16_f32
      : FVec Ideal S1024x768 .bf16) (ix2 k n) = ∑ x : Fin 8448, (a (ix2 x k) : EReal) * b (ix2 x n) := by
  pointwise
  exact Finset.sum_congr rfl fun x _ => mul_comm _ _

end Reference

open Cert.Kernel7Ideal Cert.Kernel7Ideal.Gen Idealize.ShloMosaic Idealize.ShloMosaic.TcCoe
open Idealize.SL Idealize.SL.RA Idealize.SL.Sem Cert.Wgrad

section Body

variable (c : Dev nD) (i : grid0.Coords) (a3 : Memref sig .tc .vmem S1408x1024 .bf16) (h3 : a3.IsWhole)
  (a4 : Memref sig .tc .vmem S1408x768 .bf16) (h4 : a4.IsWhole) (a5 : Memref sig .tc .vmem S1024x768 .bf16) (h5 : a5.IsWhole)
  (a6 : Memref sig .tc .vmem S1024x768 .f32) (h6 : a6.IsWhole)
  (x0 : Vec Ideal S1408x1024 .bf16) (x1 : Vec Ideal S1408x768 .bf16) (xs : Vec Ideal S1024x768 .f32)

theorem hz : (![0, 0] : Fin 2 → Nat) = fun _ => 0 := funext fun a => by fin_cases a <;> rfl

/-- The first run's product is kept. -/
theorem keep_A (hc0 : cond0_0 i) (hc1 : ¬cond0_1 i) (hc2 : ¬cond0_2 i) :
    sout0_A_0 (F := Ideal) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1408x1024) hz, View.ld_unit_zero (S := S1408x768) hz]

/-- A later run's product is added to what is kept. -/
theorem keep_B (hc0 : ¬cond0_0 i) (hc1 : cond0_1 i) (hc2 : ¬cond0_2 i) :
    sout0_B_0 (F := Ideal) c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  simp only [View.readAt_eq_ld, h3.read_unread, h4.read_unread, h6.read_unread, View.ld_unit_zero (S := S1408x1024) hz, View.ld_unit_zero (S := S1408x768) hz,
    View.ld_unit_zero (S := S1024x768) hz]

/-- So is the last run's. -/
theorem keep_C (hc0 : ¬cond0_0 i) (hc1 : cond0_1 i) (hc2 : cond0_2 i) :
    sout0_C_0 (F := Ideal) c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz]
  simp only [View.readAt_eq_ld, h3.read_unread, h4.read_unread, h6.read_unread, View.ld_unit_zero (S := S1408x1024) hz, View.ld_unit_zero (S := S1408x768) hz,
    View.ld_unit_zero (S := S1024x768) hz]

/-- The block written is what is then kept. -/
theorem out_C (hc0 : ¬cond0_0 i) (hc1 : cond0_1 i) (hc2 : cond0_2 i) :
    out0_C_2 (F := Ideal) c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S1024x768) _ hz]
  simp only [View.readAt_eq_ld, h3.read_unread, h4.read_unread, h6.read_unread, View.ld_unit_zero (S := S1408x1024) hz, View.ld_unit_zero (S := S1408x768) hz,
    View.ld_unit_zero (S := S1024x768) hz]

variable (k : Fin 1024) (n : Fin 768)

theorem pay2_at : (k0_pay2 (F := Ideal) x0 x1 : S1024x768.Idx → EReal) (ix2 k n) = ∑ r : Fin 1408, x0 (ix2 r k) * x1 (ix2 r n) := by
  pointwise [k0_pay2, k0_pay1]
theorem pay3_at : (k0_pay3 (F := Ideal) x0 x1 xs : S1024x768.Idx → EReal) (ix2 k n) = xs (ix2 k n) + ∑ r : Fin 1408, x0 (ix2 r k) * x1 (ix2 r n) := by
  pointwise [k0_pay3, k0_pay1]
theorem pay4_at : (k0_pay4 (F := Ideal) xs : S1024x768.Idx → EReal) (ix2 k n) = xs (ix2 k n) := by
  pointwise [k0_pay4]

end Body

variable (m : (ℓ : Loc nD τ sig) → Buf (Elt Ideal) ℓ) (c : Dev nD)

/-- The two arguments. -/
def argA : S8448x1024.Idx → EReal := m ((c.tc : Thread nD τ).loc main_arg0)
def argB : S8448x768.Idx → EReal := m ((c.tc : Thread nD τ).loc main_arg1)

/-- The run of rows a point reads. -/
def run (t : Fin cfg0.N) : Fin 6 := ⟨t.val % 6, by omega⟩
/-- A row of a point's block of the result, and a column. -/
def rowOf (t : Fin cfg0.N) (k : Fin 1024) : Fin 1024 := ⟨t.val / 6 * 1024 + k.val, by have := t.isLt; have : cfg0.N = 6 := N_0; omega⟩
def colOf (t : Fin cfg0.N) (n : Fin 768) : Fin 768 := ⟨t.val / 6 % 1 * 768 + n.val, by omega⟩

theorem place0 : ∀ t : Fin cfg0.N, (cfg0.win 0).index t (0 : Fin 2) = t.val % 6 ∧ (cfg0.win 0).index t (1 : Fin 2) = t.val / 6 := by decide +kernel
theorem place1 : ∀ t : Fin cfg0.N, (cfg0.win 1).index t (0 : Fin 2) = t.val % 6 ∧ (cfg0.win 1).index t (1 : Fin 2) = t.val / 6 % 1 := by decide +kernel
theorem place2 : ∀ t : Fin cfg0.N, (cfg0.win 2).index t (0 : Fin 2) = t.val / 6 ∧ (cfg0.win 2).index t (1 : Fin 2) = t.val / 6 % 1 := by decide +kernel

/-- The blocks a point reads. -/
theorem block0 (t : Fin cfg0.N) (r : Fin 1408) (k : Fin 1024) : iblk m c 0 t (ix2 r k) = argA m c (ix2 (tileRow (run t) r) (rowOf t k)) := by
  obtain ⟨e0, e1⟩ := place0 t
  have ht : t.val < 6 := lt_of_lt_of_eq t.isLt N_0
  unfold argA tileRow run rowOf
  blk_ext [iblk, e0, e1]
theorem block1 (t : Fin cfg0.N) (r : Fin 1408) (n : Fin 768) : iblk m c 1 t (ix2 r n) = argB m c (ix2 (tileRow (run t) r) (colOf t n)) := by
  obtain ⟨e0, e1⟩ := place1 t
  have ht : t.val < 6 := lt_of_lt_of_eq t.isLt N_0
  unfold argB tileRow run colOf
  blk_ext [iblk, e0, e1]

/-- What a point adds to its block. -/
def term (t : Fin cfg0.N) (p : Fin 1024 × Fin 768) : EReal :=
  ∑ r : Fin 1408, argA m c (ix2 (tileRow (run t) r) (rowOf t p.1)) * argB m c (ix2 (tileRow (run t) r) (colOf t p.2))
/-- What is kept after a point. -/
def held (n : Nat) (hn : n < cfg0.N) (p : Fin 1024 × Fin 768) : EReal := (outsAt0 m c n hn).2 (ix2 p.1 p.2)

theorem held_first (t : Fin cfg0.N) (h0 : t.val % 6 = 0) (p : Fin 1024 × Fin 768) : held m c t.val t.isLt p = 0 + term m c t p := by
  have ht : t.val < 6 := lt_of_lt_of_eq t.isLt N_0
  unfold held term
  rw [outsAt0_A m c t h0 (by omega) (by omega), zero_add]
  dsimp only
  rw [keep_A]
  refine (pay2_at _ _ p.1 p.2).trans (Finset.sum_congr rfl fun r _ => ?_)
  rw [block0, block1]
theorem held_next (t : Fin cfg0.N) (h0 : ¬t.val % 6 = 0) (p : Fin 1024 × Fin 768) :
    held m c t.val t.isLt p = held m c (t.val - 1) (Nat.lt_of_le_of_lt (Nat.sub_le _ _) t.isLt) p + term m c t p := by
  have ht : t.val < 6 := lt_of_lt_of_eq t.isLt N_0
  unfold held term
  by_cases h2 : t.val % 6 = 5
  · rw [outsAt0_C m c t h0 (by omega) h2]
    dsimp only
    rw [keep_C]
    refine (pay3_at _ _ _ p.1 p.2).trans (congrArg _ (Finset.sum_congr rfl fun r _ => ?_))
    rw [block0, block1]
  · rw [outsAt0_B m c t h0 (by omega) h2]
    dsimp only
    rw [keep_B]
    refine (pay3_at _ _ _ p.1 p.2).trans (congrArg _ (Finset.sum_congr rfl fun r _ => ?_))
    rw [block0, block1]

/-- The gradient: the sum over all rows. -/
def grad (k : Fin 1024) (n : Fin 768) : EReal := ∑ x : Fin 8448, argA m c (ix2 x k) * argB m c (ix2 x n)

/-- At a point of the last run, all rows have been added. -/
theorem held_last (t : Fin cfg0.N) (h : t.val % 6 = 5) (p : Fin 1024 × Fin 768) : held m c t.val t.isLt p = grad m c (rowOf t p.1) (colOf t p.2) := by
  rw [Pipeline.eq_sum_fin_of_reset_step_apply_of_flush (held m c) 6 (fun _ => 0) (term m c) (held_first m c) (held_next m c) t h p, zero_add]
  unfold term grad
  rw [← sum_tiles]
  refine Finset.sum_congr rfl fun s _ => Finset.sum_congr rfl fun r _ => ?_
  have hs := s.isLt
  have e0 : run ⟨6 * (t.val / 6) + s.val, Pipeline.run_point_lt_of_flush t h s⟩ = s := Fin.ext (by show (6 * (t.val / 6) + s.val) % 6 = s.val; omega)
  have e1 : rowOf ⟨6 * (t.val / 6) + s.val, Pipeline.run_point_lt_of_flush t h s⟩ p.1 = rowOf t p.1 :=
    Fin.ext (by show (6 * (t.val / 6) + s.val) / 6 * 1024 + p.1.val = t.val / 6 * 1024 + p.1.val; omega)
  have e2 : colOf ⟨6 * (t.val / 6) + s.val, Pipeline.run_point_lt_of_flush t h s⟩ p.2 = colOf t p.2 :=
    Fin.ext (by show (6 * (t.val / 6) + s.val) / 6 % 1 * 768 + p.2.val = t.val / 6 % 1 * 768 + p.2.val; omega)
  rw [e0, e1, e2]

/-- The block a point of the last run writes. -/
theorem written (t : Fin cfg0.N) (h : t.val % 6 = 5) (k : Fin 1024) (n : Fin 768) :
    (outsAt0 m c t.val t.isLt).1 (ix2 k n) = grad m c (rowOf t k) (colOf t n) := by
  have ht : t.val < 6 := lt_of_lt_of_eq t.isLt N_0
  refine Eq.trans ?_ (held_last m c t h (k, n))
  unfold held
  rw [outsAt0_C m c t (by omega) (by omega) h]
  dsimp only
  rw [out_C, keep_C]
  exact pay4_at _ k n

/-- The array after the last point: the gradient. -/
theorem array2 : (dats m 0 c).arrAt 2 cfg0.N = (fun i : S1024x768.Idx => grad m c ⟨(i 0).val, (i 0).isLt⟩ ⟨(i 1).val, (i 1).isLt⟩) := by
  refine Pipeline.Dat.arrAt_eq_of_covers (cfg := cfg0) (dats m 0 c) 2 _ (by decide +kernel) (fun t hf y => ?_)
  rw [after0_2]
  obtain ⟨e0, e1⟩ := place2 t
  blk_simp [e0, e1]
  have key := written m c t (by have := (flush0_2 t).mp hf; omega) ((cfg0.win 2).xinj (cfg0.grid.coords t) y 0) ((cfg0.win 2).xinj (cfg0.grid.coords t) y 1)
  refine Eq.trans (congrArg (outsAt0 m c t.val t.isLt).1 ?_) (key.trans ?_)
  · funext a
    match a with
    | 0 => rfl
    | 1 => rfl
  · refine congrArg₂ (grad m c) (Fin.ext ?_) (Fin.ext ?_)
    · rfl
    · rfl

variable (ρ : Dev nD → PrngReg)

/-- The result of the kernel's program. -/
def out (c : Dev nD) : Buf (Elt Ideal) ((c.tc : Thread nD τ).loc main_v0) := (dats m 0 c).arrAt 2 cfg0.N

/-- The kernel's program ends with its result, its arguments unchanged. -/
theorem run_kernel : θ_run defs (onTc (τ := τ) (main (F := Ideal))) ⟨m, fun _ => 0, ρ⟩ (fun r => ∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 2, (h.2 c).1, (h.2 c).2⟩)
    (θ_run_and (run_main m ρ) (unchanged m ρ))

/-- The kernel's and the reference's programs end with equal results. -/
theorem value : Cert.algebraic_Kernel7Ideal_Reference7Ideal := by
  intro m g m' g' hpre hargs
  refine ⟨out m, run_kernel m g, ?_⟩
  refine (θ_run Cert.Reference7Ideal.defs _ _).mono (fun r h c => ⟨(h c).1.trans ?_, (h c).2⟩) (Cert.Reference7Ideal.Value.run (F := Ideal) m' g')
  obtain ⟨e0, e1⟩ := hargs c
  rw [e0, e1]
  funext i
  have hi : i = ix2 (i 0) (i 1) := by funext a; match a with | 0 => rfl | 1 => rfl
  rw [hi]
  exact (reference_at _ _ (i 0) (i 1)).trans (congrFun (array2 m c) (ix2 (i 0) (i 1))).symm

/-- The reference's frame. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.Wgrad7
-- ==== Proof.Wgrad8.lean ====
/- The gradient of the input projection's columns for the gates: the kernel adds, for each block of the 1024 by 2048 result, the products of six runs of
   1408 rows; the sum is the reference's sum over all 8448 rows. -/
module

public import proofs.«01_k».proof.Defs
public import proofs.«01_k».proof.Proof.TileSum
public import proofs.«01_k».proof.Proof.Gen.Kernel8Ideal.Frame
public import proofs.«01_k».proof.Proof.Gen.Reference8Ideal.Run
public import Idealize.ShloMosaic.Adequacy
public import Idealize.ShloMosaic.Init
public import Idealize.ShloMosaic.Lib.Pipeline.ValueKit
public import Idealize.ShloMosaic.Lib.Tactic.CleanTypes

@[expose] public section

set_option maxRecDepth 16384

noncomputable section

namespace Cert.Wgrad8

section Reference

open Cert.Reference8Ideal Cert.Reference8Ideal.Gen Idealize.ShloMosaic Idealize.ShloMosaic.TcCoe
/-- The reference's gradient at an index: the same sum. -/
theorem reference_at (a : FVec Ideal S8448x1024 .bf16) (b : FVec Ideal S8448x2048 .bf16) (k : Fin 1024) (n : Fin 2048) :
    (truncf .bf16 (transpose S1024x2048 [1, 0] (Host.dotGeneral (F := Ideal) dot_S8448x2048_S8448x1024_S2048x1024_0_0_1_1_n_n none
        (extf .f32 b bitsLt_bf16_f32) (extf .f32 a bitsLt_bf16_f32)) transposes_S2048x1024_S1024x2048_1_0) bitsLt_bf16_f32
      : FVec Ideal S1024x2048 .bf16) (ix2 k n) = ∑ x : Fin 8448, (a (ix2 x k) : EReal) * b (ix2 x n) := by
  pointwise
  exact Finset.sum_congr rfl fun x _ => mul_comm _ _

end Reference

open Cert.Kernel8Ideal Cert.Kernel8Ideal.Gen Idealize.ShloMosaic Idealize.ShloMosaic.TcCoe
open Idealize.SL Idealize.SL.RA Idealize.SL.Sem Cert.Wgrad

section Body

variable (c : Dev nD) (i : grid0.Coords) (a3 : Memref sig .tc .vmem S1408x1024 .bf16) (h3 : a3.IsWhole)
  (a4 : Memref sig .tc .vmem S1408x2048 .bf16) (h4 : a4.IsWhole) (a5 : Memref sig .tc .vmem S1024x2048 .bf16) (h5 : a5.IsWhole)
  (a6 : Memref sig .tc .vmem S1024x2048 .f32) (h6 : a6.IsWhole)
  (x0 : Vec Ideal S1408x1024 .bf16) (x1 : Vec Ideal S1408x2048 .bf16) (xs : Vec Ideal S1024x2048 .f32)

theorem hz : (![0, 0] : Fin 2 → Nat) = fun _ => 0 := funext fun a => by fin_cases a <;> rfl

/-- The first run's product is kept. -/
theorem keep_A (hc0 : cond0_0 i) (hc1 : ¬cond0_1 i) (hc2 : ¬cond0_2 i) :
    sout0_A_0 (F := Ideal) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1408x1024) hz, View.ld_unit_zero (S := S1408x2048) hz]

/-- A later run's product is added to what is kept. -/
theorem keep_B (hc0 : ¬cond0_0 i) (hc1 : cond0_1 i) (hc2 : ¬cond0_2 i) :
    sout0_B_0 (F := Ideal) c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  simp only [View.readAt_eq_ld, h3.read_unread, h4.read_unread, h6.read_unread, View.ld_unit_zero (S := S1408x1024) hz, View.ld_unit_zero (S := S1408x2048) hz,
    View.ld_unit_zero (S := S1024x2048) hz]

/-- So is the last run's. -/
theorem keep_C (hc0 : ¬cond0_0 i) (hc1 : cond0_1 i) (hc2 : cond0_2 i) :
    sout0_C_0 (F := Ideal) c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz]
  simp only [View.readAt_eq_ld, h3.read_unread, h4.read_unread, h6.read_unread, View.ld_unit_zero (S := S1408x1024) hz, View.ld_unit_zero (S := S1408x2048) hz,
    View.ld_unit_zero (S := S1024x2048) hz]

/-- The block written is what is then kept. -/
theorem out_C (hc0 : ¬cond0_0 i) (hc1 : cond0_1 i) (hc2 : cond0_2 i) :
    out0_C_2 (F := Ideal) c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S1024x2048) _ hz]
  simp only [View.readAt_eq_ld, h3.read_unread, h4.read_unread, h6.read_unread, View.ld_unit_zero (S := S1408x1024) hz, View.ld_unit_zero (S := S1408x2048) hz,
    View.ld_unit_zero (S := S1024x2048) hz]

variable (k : Fin 1024) (n : Fin 2048)

theorem pay2_at : (k0_pay2 (F := Ideal) x0 x1 : S1024x2048.Idx → EReal) (ix2 k n) = ∑ r : Fin 1408, x0 (ix2 r k) * x1 (ix2 r n) := by
  pointwise [k0_pay2, k0_pay1]
theorem pay3_at : (k0_pay3 (F := Ideal) x0 x1 xs : S1024x2048.Idx → EReal) (ix2 k n) = xs (ix2 k n) + ∑ r : Fin 1408, x0 (ix2 r k) * x1 (ix2 r n) := by
  pointwise [k0_pay3, k0_pay1]
theorem pay4_at : (k0_pay4 (F := Ideal) xs : S1024x2048.Idx → EReal) (ix2 k n) = xs (ix2 k n) := by
  pointwise [k0_pay4]

end Body

variable (m : (ℓ : Loc nD τ sig) → Buf (Elt Ideal) ℓ) (c : Dev nD)

/-- The two arguments. -/
def argA : S8448x1024.Idx → EReal := m ((c.tc : Thread nD τ).loc main_arg0)
def argB : S8448x2048.Idx → EReal := m ((c.tc : Thread nD τ).loc main_arg1)

/-- The run of rows a point reads. -/
def run (t : Fin cfg0.N) : Fin 6 := ⟨t.val % 6, by omega⟩
/-- A row of a point's block of the result, and a column. -/
def rowOf (t : Fin cfg0.N) (k : Fin 1024) : Fin 1024 := ⟨t.val / 6 * 1024 + k.val, by have := t.isLt; have : cfg0.N = 6 := N_0; omega⟩
def colOf (t : Fin cfg0.N) (n : Fin 2048) : Fin 2048 := ⟨t.val / 6 % 1 * 2048 + n.val, by omega⟩

theorem place0 : ∀ t : Fin cfg0.N, (cfg0.win 0).index t (0 : Fin 2) = t.val % 6 ∧ (cfg0.win 0).index t (1 : Fin 2) = t.val / 6 := by decide +kernel
theorem place1 : ∀ t : Fin cfg0.N, (cfg0.win 1).index t (0 : Fin 2) = t.val % 6 ∧ (cfg0.win 1).index t (1 : Fin 2) = t.val / 6 % 1 := by decide +kernel
theorem place2 : ∀ t : Fin cfg0.N, (cfg0.win 2).index t (0 : Fin 2) = t.val / 6 ∧ (cfg0.win 2).index t (1 : Fin 2) = t.val / 6 % 1 := by decide +kernel

/-- The blocks a point reads. -/
theorem block0 (t : Fin cfg0.N) (r : Fin 1408) (k : Fin 1024) : iblk m c 0 t (ix2 r k) = argA m c (ix2 (tileRow (run t) r) (rowOf t k)) := by
  obtain ⟨e0, e1⟩ := place0 t
  have ht : t.val < 6 := lt_of_lt_of_eq t.isLt N_0
  unfold argA tileRow run rowOf
  blk_ext [iblk, e0, e1]
theorem block1 (t : Fin cfg0.N) (r : Fin 1408) (n : Fin 2048) : iblk m c 1 t (ix2 r n) = argB m c (ix2 (tileRow (run t) r) (colOf t n)) := by
  obtain ⟨e0, e1⟩ := place1 t
  have ht : t.val < 6 := lt_of_lt_of_eq t.isLt N_0
  unfold argB tileRow run colOf
  blk_ext [iblk, e0, e1]

/-- What a point adds to its block. -/
def term (t : Fin cfg0.N) (p : Fin 1024 × Fin 2048) : EReal :=
  ∑ r : Fin 1408, argA m c (ix2 (tileRow (run t) r) (rowOf t p.1)) * argB m c (ix2 (tileRow (run t) r) (colOf t p.2))
/-- What is kept after a point. -/
def held (n : Nat) (hn : n < cfg0.N) (p : Fin 1024 × Fin 2048) : EReal := (outsAt0 m c n hn).2 (ix2 p.1 p.2)

theorem held_first (t : Fin cfg0.N) (h0 : t.val % 6 = 0) (p : Fin 1024 × Fin 2048) : held m c t.val t.isLt p = 0 + term m c t p := by
  have ht : t.val < 6 := lt_of_lt_of_eq t.isLt N_0
  unfold held term
  rw [outsAt0_A m c t h0 (by omega) (by omega), zero_add]
  dsimp only
  rw [keep_A]
  refine (pay2_at _ _ p.1 p.2).trans (Finset.sum_congr rfl fun r _ => ?_)
  rw [block0, block1]
theorem held_next (t : Fin cfg0.N) (h0 : ¬t.val % 6 = 0) (p : Fin 1024 × Fin 2048) :
    held m c t.val t.isLt p = held m c (t.val - 1) (Nat.lt_of_le_of_lt (Nat.sub_le _ _) t.isLt) p + term m c t p := by
  have ht : t.val < 6 := lt_of_lt_of_eq t.isLt N_0
  unfold held term
  by_cases h2 : t.val % 6 = 5
  · rw [outsAt0_C m c t h0 (by omega) h2]
    dsimp only
    rw [keep_C]
    refine (pay3_at _ _ _ p.1 p.2).trans (congrArg _ (Finset.sum_congr rfl fun r _ => ?_))
    rw [block0, block1]
  · rw [outsAt0_B m c t h0 (by omega) h2]
    dsimp only
    rw [keep_B]
    refine (pay3_at _ _ _ p.1 p.2).trans (congrArg _ (Finset.sum_congr rfl fun r _ => ?_))
    rw [block0, block1]

/-- The gradient: the sum over all rows. -/
def grad (k : Fin 1024) (n : Fin 2048) : EReal := ∑ x : Fin 8448, argA m c (ix2 x k) * argB m c (ix2 x n)

/-- At a point of the last run, all rows have been added. -/
theorem held_last (t : Fin cfg0.N) (h : t.val % 6 = 5) (p : Fin 1024 × Fin 2048) : held m c t.val t.isLt p = grad m c (rowOf t p.1) (colOf t p.2) := by
  rw [Pipeline.eq_sum_fin_of_reset_step_apply_of_flush (held m c) 6 (fun _ => 0) (term m c) (held_first m c) (held_next m c) t h p, zero_add]
  unfold term grad
  rw [← sum_tiles]
  refine Finset.sum_congr rfl fun s _ => Finset.sum_congr rfl fun r _ => ?_
  have hs := s.isLt
  have e0 : run ⟨6 * (t.val / 6) + s.val, Pipeline.run_point_lt_of_flush t h s⟩ = s := Fin.ext (by show (6 * (t.val / 6) + s.val) % 6 = s.val; omega)
  have e1 : rowOf ⟨6 * (t.val / 6) + s.val, Pipeline.run_point_lt_of_flush t h s⟩ p.1 = rowOf t p.1 :=
    Fin.ext (by show (6 * (t.val / 6) + s.val) / 6 * 1024 + p.1.val = t.val / 6 * 1024 + p.1.val; omega)
  have e2 : colOf ⟨6 * (t.val / 6) + s.val, Pipeline.run_point_lt_of_flush t h s⟩ p.2 = colOf t p.2 :=
    Fin.ext (by show (6 * (t.val / 6) + s.val) / 6 % 1 * 2048 + p.2.val = t.val / 6 % 1 * 2048 + p.2.val; omega)
  rw [e0, e1, e2]

/-- The block a point of the last run writes. -/
theorem written (t : Fin cfg0.N) (h : t.val % 6 = 5) (k : Fin 1024) (n : Fin 2048) :
    (outsAt0 m c t.val t.isLt).1 (ix2 k n) = grad m c (rowOf t k) (colOf t n) := by
  have ht : t.val < 6 := lt_of_lt_of_eq t.isLt N_0
  refine Eq.trans ?_ (held_last m c t h (k, n))
  unfold held
  rw [outsAt0_C m c t (by omega) (by omega) h]
  dsimp only
  rw [out_C, keep_C]
  exact pay4_at _ k n

/-- The array after the last point: the gradient. -/
theorem array2 : (dats m 0 c).arrAt 2 cfg0.N = (fun i : S1024x2048.Idx => grad m c ⟨(i 0).val, (i 0).isLt⟩ ⟨(i 1).val, (i 1).isLt⟩) := by
  refine Pipeline.Dat.arrAt_eq_of_covers (cfg := cfg0) (dats m 0 c) 2 _ (by decide +kernel) (fun t hf y => ?_)
  rw [after0_2]
  obtain ⟨e0, e1⟩ := place2 t
  blk_simp [e0, e1]
  have key := written m c t (by have := (flush0_2 t).mp hf; omega) ((cfg0.win 2).xinj (cfg0.grid.coords t) y 0) ((cfg0.win 2).xinj (cfg0.grid.coords t) y 1)
  refine Eq.trans (congrArg (outsAt0 m c t.val t.isLt).1 ?_) (key.trans ?_)
  · funext a
    match a with
    | 0 => rfl
    | 1 => rfl
  · refine congrArg₂ (grad m c) (Fin.ext ?_) (Fin.ext ?_)
    · rfl
    · rfl

variable (ρ : Dev nD → PrngReg)

/-- The result of the kernel's program. -/
def out (c : Dev nD) : Buf (Elt Ideal) ((c.tc : Thread nD τ).loc main_v0) := (dats m 0 c).arrAt 2 cfg0.N

/-- The kernel's program ends with its result, its arguments unchanged. -/
theorem run_kernel : θ_run defs (onTc (τ := τ) (main (F := Ideal))) ⟨m, fun _ => 0, ρ⟩ (fun r => ∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 2, (h.2 c).1, (h.2 c).2⟩)
    (θ_run_and (run_main m ρ) (unchanged m ρ))

/-- The kernel's and the reference's programs end with equal results. -/
theorem value : Cert.algebraic_Kernel8Ideal_Reference8Ideal := by
  intro m g m' g' hpre hargs
  refine ⟨out m, run_kernel m g, ?_⟩
  refine (θ_run Cert.Reference8Ideal.defs _ _).mono (fun r h c => ⟨(h c).1.trans ?_, (h c).2⟩) (Cert.Reference8Ideal.Value.run (F := Ideal) m' g')
  obtain ⟨e0, e1⟩ := hargs c
  rw [e0, e1]
  funext i
  have hi : i = ix2 (i 0) (i 1) := by funext a; match a with | 0 => rfl | 1 => rfl
  rw [hi]
  exact (reference_at _ _ (i 0) (i 1)).trans (congrFun (array2 m c) (ix2 (i 0) (i 1))).symm

/-- The reference's frame. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

end Cert.Wgrad8
-- ==== Proof.Dy.lean ====
/- The gradient of the two branches' projections in their inputs: for each run of 256 rows the kernel multiplies the output's
   gradient by the transposed weight, as the reference does for all rows. -/
module

public import proofs.«01_k».proof.Defs
public import proofs.«01_k».proof.Proof.Gen.Kernel9Ideal.Frame
public import proofs.«01_k».proof.Proof.Gen.Reference9Ideal.Run
public import Idealize.ShloMosaic.Adequacy
public import Idealize.ShloMosaic.Init
public import Idealize.ShloMosaic.Lib.Pipeline.ValueKit
public import Idealize.ShloMosaic.Lib.Tactic.CleanTypes

@[expose] public section

set_option maxRecDepth 16384

noncomputable section

namespace Cert.Dy

section Reference

open Cert.Reference9Ideal Cert.Reference9Ideal.Gen Idealize.ShloMosaic Idealize.ShloMosaic.TcCoe
/-- The reference's gradient at an index: the row of the output's gradient times the row of the weight. -/
theorem reference_at (a : FVec Ideal S8448x1024 .bf16) (w : FVec Ideal S512x1024 .bf16) (r : Fin 8448) (k : Fin 512) :
    (truncf .bf16 (Host.dotGeneral (F := Ideal) dot_S8448x1024_S512x1024_S8448x512_1_1_0_0_n_n none
        (extf .f32 a bitsLt_bf16_f32) (extf .f32 w bitsLt_bf16_f32)) bitsLt_bf16_f32
      : FVec Ideal S8448x512 .bf16) (ix2 r k) = ∑ x : Fin 1024, (a (ix2 r x) : EReal) * w (ix2 k x) := by
  pointwise

end Reference

open Cert.Kernel9Ideal Cert.Kernel9Ideal.Gen Idealize.ShloMosaic Idealize.ShloMosaic.TcCoe
open Idealize.SL Idealize.SL.RA Idealize.SL.Sem

theorem hz : (![0, 0] : Fin 2 → Nat) = fun _ => 0 := funext fun a => by fin_cases a <;> rfl

section Body

variable (x0 x1 : Vec Ideal S256x1024 .bf16) (x2 x3 : Vec Ideal S512x1024 .bf16) (r : Fin 256) (k : Fin 512)

/-- What a point writes, from the blocks it reads. -/
theorem out4_at : (out0_4 (F := Ideal) x0 x1 x2 x3 : S256x512.Idx → EReal) (ix2 r k) = ∑ x : Fin 1024, x0 (ix2 r x) * x2 (ix2 k x) := by
  unfold out0_4
  rw [View.canon_unit_zero hz, View.ld_unit_zero (S := S256x1024) hz, View.ld_unit_zero (S := S512x1024) hz]
  pointwise [k0_pay1]
theorem out5_at : (out0_5 (F := Ideal) x0 x1 x2 x3 : S256x512.Idx → EReal) (ix2 r k) = ∑ x : Fin 1024, x1 (ix2 r x) * x3 (ix2 k x) := by
  unfold out0_5
  rw [View.canon_unit_zero hz, View.ld_unit_zero (S := S256x1024) hz, View.ld_unit_zero (S := S512x1024) hz]
  pointwise [k0_pay2]

end Body

variable (m : (ℓ : Loc nD τ sig) → Buf (Elt Ideal) ℓ) (c : Dev nD)

/-- The four arguments. -/
def argA : S8448x1024.Idx → EReal := m ((c.tc : Thread nD τ).loc main_arg0)
def argB : S8448x1024.Idx → EReal := m ((c.tc : Thread nD τ).loc main_arg1)
def argV : S512x1024.Idx → EReal := m ((c.tc : Thread nD τ).loc main_arg2)
def argW : S512x1024.Idx → EReal := m ((c.tc : Thread nD τ).loc main_arg3)

/-- A row of a point's block. -/
def rowOf (t : Fin cfg0.N) (r : Fin 256) : Fin 8448 := ⟨t.val * 256 + r.val, by have := t.isLt; have : cfg0.N = 33 := N_0; omega⟩

theorem place0 : ∀ t : Fin cfg0.N, (cfg0.win 0).index t (0 : Fin 2) = t.val ∧ (cfg0.win 0).index t (1 : Fin 2) = 0 := by decide +kernel
theorem place1 : ∀ t : Fin cfg0.N, (cfg0.win 1).index t (0 : Fin 2) = t.val ∧ (cfg0.win 1).index t (1 : Fin 2) = 0 := by decide +kernel
theorem place2 : ∀ t : Fin cfg0.N, (cfg0.win 2).index t (0 : Fin 2) = 0 ∧ (cfg0.win 2).index t (1 : Fin 2) = 0 := by decide +kernel
theorem place3 : ∀ t : Fin cfg0.N, (cfg0.win 3).index t (0 : Fin 2) = 0 ∧ (cfg0.win 3).index t (1 : Fin 2) = 0 := by decide +kernel
theorem place4 : ∀ t : Fin cfg0.N, (cfg0.win 4).index t (0 : Fin 2) = t.val ∧ (cfg0.win 4).index t (1 : Fin 2) = 0 := by decide +kernel
theorem place5 : ∀ t : Fin cfg0.N, (cfg0.win 5).index t (0 : Fin 2) = t.val ∧ (cfg0.win 5).index t (1 : Fin 2) = 0 := by decide +kernel

/-- The blocks a point reads. -/
theorem block0 (t : Fin cfg0.N) (r : Fin 256) (x : Fin 1024) : iblk m c 0 t (ix2 r x) = argA m c (ix2 (rowOf t r) x) := by
  obtain ⟨e0, e1⟩ := place0 t
  have ht : t.val < 33 := lt_of_lt_of_eq t.isLt N_0
  unfold argA rowOf
  blk_ext [iblk, e0, e1]
theorem block1 (t : Fin cfg0.N) (r : Fin 256) (x : Fin 1024) : iblk m c 1 t (ix2 r x) = argB m c (ix2 (rowOf t r) x) := by
  obtain ⟨e0, e1⟩ := place1 t
  have ht : t.val < 33 := lt_of_lt_of_eq t.isLt N_0
  unfold argB rowOf
  blk_ext [iblk, e0, e1]
theorem block2 (t : Fin cfg0.N) (k : Fin 512) (x : Fin 1024) : iblk m c 2 t (ix2 k x) = argV m c (ix2 k x) := by
  obtain ⟨e0, e1⟩ := place2 t
  unfold argV
  blk_ext [iblk, e0, e1]
theorem block3 (t : Fin cfg0.N) (k : Fin 512) (x : Fin 1024) : iblk m c 3 t (ix2 k x) = argW m c (ix2 k x) := by
  obtain ⟨e0, e1⟩ := place3 t
  unfold argW
  blk_ext [iblk, e0, e1]

/-- The two gradients. -/
def gradA (r : Fin 8448) (k : Fin 512) : EReal := ∑ x : Fin 1024, argA m c (ix2 r x) * argV m c (ix2 k x)
def gradB (r : Fin 8448) (k : Fin 512) : EReal := ∑ x : Fin 1024, argB m c (ix2 r x) * argW m c (ix2 k x)

theorem written4 (t : Fin cfg0.N) (r : Fin 256) (k : Fin 512) :
    (out0_4 (iblk m c 0 t) (iblk m c 1 t) (iblk m c 2 t) (iblk m c 3 t) : S256x512.Idx → EReal) (ix2 r k) = gradA m c (rowOf t r) k := by
  refine (out4_at _ _ _ _ r k).trans (Finset.sum_congr rfl fun x _ => ?_)
  rw [block0, block2]
theorem written5 (t : Fin cfg0.N) (r : Fin 256) (k : Fin 512) :
    (out0_5 (iblk m c 0 t) (iblk m c 1 t) (iblk m c 2 t) (iblk m c 3 t) : S256x512.Idx → EReal) (ix2 r k) = gradB m c (rowOf t r) k := by
  refine (out5_at _ _ _ _ r k).trans (Finset.sum_congr rfl fun x _ => ?_)
  rw [block1, block3]

/-- The arrays after the last point: the gradients. -/
theorem array4 : (dats m 0 c).arrAt 4 cfg0.N = (fun i : S8448x512.Idx => gradA m c ⟨(i 0).val, (i 0).isLt⟩ ⟨(i 1).val, (i 1).isLt⟩) := by
  refine Pipeline.Dat.arrAt_eq_of_covers (cfg := cfg0) (dats m 0 c) 4 _ (by decide +kernel) (fun t hf y => ?_)
  rw [after0_4]
  obtain ⟨e0, e1⟩ := place4 t
  blk_simp [e0, e1]
  refine Eq.trans (congrArg (out0_4 (iblk m c 0 t) (iblk m c 1 t) (iblk m c 2 t) (iblk m c 3 t)) ?_)
    ((written4 m c t ((cfg0.win 4).xinj (cfg0.grid.coords t) y 0) ((cfg0.win 4).xinj (cfg0.grid.coords t) y 1)).trans ?_)
  · funext a
    match a with
    | 0 => rfl
    | 1 => rfl
  · refine congrArg₂ (gradA m c) (Fin.ext ?_) (Fin.ext ?_)
    · rfl
    · rfl
theorem array5 : (dats m 0 c).arrAt 5 cfg0.N = (fun i : S8448x512.Idx => gradB m c ⟨(i 0).val, (i 0).isLt⟩ ⟨(i 1).val, (i 1).isLt⟩) := by
  refine Pipeline.Dat.arrAt_eq_of_covers (cfg := cfg0) (dats m 0 c) 5 _ (by decide +kernel) (fun t hf y => ?_)
  rw [after0_5]
  obtain ⟨e0, e1⟩ := place5 t
  blk_simp [e0, e1]
  refine Eq.trans (congrArg (out0_5 (iblk m c 0 t) (iblk m c 1 t) (iblk m c 2 t) (iblk m c 3 t)) ?_)
    ((written5 m c t ((cfg0.win 5).xinj (cfg0.grid.coords t) y 0) ((cfg0.win 5).xinj (cfg0.grid.coords t) y 1)).trans ?_)
  · funext a
    match a with
    | 0 => rfl
    | 1 => rfl
  · refine congrArg₂ (gradB m c) (Fin.ext ?_) (Fin.ext ?_)
    · rfl
    · rfl

variable (ρ : Dev nD → PrngReg)

/-- The results of the kernel's program. -/
def outA (c : Dev nD) : S8448x512.Idx → EReal := (dats m 0 c).arrAt 4 cfg0.N
def outB (c : Dev nD) : S8448x512.Idx → EReal := (dats m 0 c).arrAt 5 cfg0.N

/-- The kernel's and the reference's programs end with equal results. -/
theorem value : Cert.algebraic_Kernel9Ideal_Reference9Ideal := by
  intro m g m' g' hpre hargs
  refine ⟨outA m, outB m, (θ_run defs _ _).mono (fun _ h c => ⟨(h.1 c).1 4, (h.1 c).1 5, h.2 c⟩)
    (θ_run_and (run_main m g) (unchanged m g)), ?_⟩
  refine (θ_run Cert.Reference9Ideal.defs _ _).mono (fun r h c => ⟨(h c).1.trans ?_, (h c).2.1.trans ?_, (h c).2.2⟩)
    (Cert.Reference9Ideal.Value.run (F := Ideal) m' g')
  all_goals obtain ⟨e0, e1, e2, e3⟩ := hargs c
  · rw [e0, e2]
    funext i
    have hi : i = ix2 (i 0) (i 1) := by funext a; match a with | 0 => rfl | 1 => rfl
    rw [hi]
    exact (reference_at _ _ (i 0) (i 1)).trans (congrFun (array4 m c) (ix2 (i 0) (i 1))).symm
  · rw [e1, e3]
    funext i
    have hi : i = ix2 (i 0) (i 1) := by funext a; match a with | 0 => rfl | 1 => rfl
    rw [hi]
    exact (reference_at _ _ (i 0) (i 1)).trans (congrFun (array5 m c) (ix2 (i 0) (i 1))).symm

/-- The reference's frame. -/
theorem frame_reference : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

end Cert.Dy
-- ==== Proof.Swiglu.lean ====
/- The first product of the gated layer and its gate: for each run of 256 rows and 1408 columns the kernel takes the products with
   two column runs of the weight and multiplies the first, its logistic and the second, as the reference does for all rows and columns. -/
module

public import proofs.«01_k».proof.Defs
public import proofs.«01_k».proof.Proof.Gen.Kernel10Ideal.Frame
public import proofs.«01_k».proof.Proof.Gen.Reference10Ideal.Run
public import Idealize.ShloMosaic.Adequacy
public import Idealize.ShloMosaic.Init
public import Idealize.ShloMosaic.Lib.Pipeline.ValueKit
public import Idealize.ShloMosaic.Lib.Tactic.CleanTypes

@[expose] public section

set_option maxRecDepth 16384

noncomputable section

namespace Cert.Swiglu

section Formulas

open Idealize.ShloMosaic Idealize.ShloMosaic.TcCoe

/-- The first half of the product's columns. -/
def gateAt (a : (⟨2, ![8448, 1024]⟩ : Shape).Idx → EReal) (w : (⟨2, ![1024, 5632]⟩ : Shape).Idx → EReal) (r : Fin 8448) (k : Fin 2816) : EReal := ∑ x : Fin 1024, a (ix2 r x) * w (ix2 x ⟨k.val, by omega⟩)
/-- The second half. -/
def upAt (a : (⟨2, ![8448, 1024]⟩ : Shape).Idx → EReal) (w : (⟨2, ![1024, 5632]⟩ : Shape).Idx → EReal) (r : Fin 8448) (k : Fin 2816) : EReal := ∑ x : Fin 1024, a (ix2 r x) * w (ix2 x ⟨2816 + k.val, by omega⟩)
/-- The first half times its logistic times the second half. -/
def actAt (a : (⟨2, ![8448, 1024]⟩ : Shape).Idx → EReal) (w : (⟨2, ![1024, 5632]⟩ : Shape).Idx → EReal) (r : Fin 8448) (k : Fin 2816) : EReal := gateAt a w r k * Ideal.div 1 (1 + Ideal.exp (-gateAt a w r k)) * upAt a w r k

end Formulas

section Reference

open Cert.Reference10Ideal Cert.Reference10Ideal.Gen Idealize.ShloMosaic Idealize.ShloMosaic.TcCoe
/-- The reference at an index: the gated product. -/
theorem reference3 (a : FVec Ideal S8448x1024 .bf16) (w : FVec Ideal S1024x5632 .bf16) (r : Fin 8448) (k : Fin 2816) :
    (truncf .bf16 (mulf (mulf (extractStridedSlice S8448x2816 ![0, 0] (Host.dotGeneral dot_S8448x1024_S1024x5632_S8448x5632_1_0_0_1_n_n none (extf .f32 a bitsLt_bf16_f32) (extf .f32 w bitsLt_bf16_f32)) slices_S8448x5632_S8448x2816_0_0) (Host.divf (broadcastInDim S8448x2816 ![] bcast_S_S8448x2816 (constant S_ .f32 0x3F800000#32)) (addf (broadcastInDim S8448x2816 ![] bcast_S_S8448x2816 (constant S_ .f32 0x3F800000#32)) (Host.exp (Host.negf (extractStridedSlice S8448x2816 ![0, 0] (Host.dotGeneral dot_S8448x1024_S1024x5632_S8448x5632_1_0_0_1_n_n none (extf .f32 a bitsLt_bf16_f32) (extf .f32 w bitsLt_bf16_f32)) slices_S8448x5632_S8448x2816_0_0)))))) (extractStridedSlice S8448x2816 ![0, 2816] (Host.dotGeneral dot_S8448x1024_S1024x5632_S8448x5632_1_0_0_1_n_n none (extf .f32 a bitsLt_bf16_f32) (extf .f32 w bitsLt_bf16_f32)) slices_S8448x5632_S8448x2816_0_2816)) bitsLt_bf16_f32 : FVec Ideal S8448x2816 .bf16) (ix2 r k) = actAt a w r k := by
  unfold actAt gateAt upAt
  pointwise
/-- The reference at an index: the first product. -/
theorem reference4 (a : FVec Ideal S8448x1024 .bf16) (w : FVec Ideal S1024x5632 .bf16) (r : Fin 8448) (k : Fin 2816) :
    (truncf .bf16 (extractStridedSlice S8448x2816 ![0, 0] (Host.dotGeneral dot_S8448x1024_S1024x5632_S8448x5632_1_0_0_1_n_n none (extf .f32 a bitsLt_bf16_f32) (extf .f32 w bitsLt_bf16_f32)) slices_S8448x5632_S8448x2816_0_0) bitsLt_bf16_f32 : FVec Ideal S8448x2816 .bf16) (ix2 r k) = gateAt a w r k := by
  unfold gateAt
  pointwise
/-- The reference at an index: the second product. -/
theorem reference5 (a : FVec Ideal S8448x1024 .bf16) (w : FVec Ideal S1024x5632 .bf16) (r : Fin 8448) (k : Fin 2816) :
    (truncf .bf16 (extractStridedSlice S8448x2816 ![0, 2816] (Host.dotGeneral dot_S8448x1024_S1024x5632_S8448x5632_1_0_0_1_n_n none (extf .f32 a bitsLt_bf16_f32) (extf .f32 w bitsLt_bf16_f32)) slices_S8448x5632_S8448x2816_0_2816) bitsLt_bf16_f32 : FVec Ideal S8448x2816 .bf16) (ix2 r k) = upAt a w r k := by
  unfold upAt
  pointwise

end Reference

open Cert.Kernel10Ideal Cert.Kernel10Ideal.Gen Idealize.ShloMosaic Idealize.ShloMosaic.TcCoe
open Idealize.SL Idealize.SL.RA Idealize.SL.Sem

theorem hz : (![0, 0] : Fin 2 → Nat) = fun _ => 0 := funext fun a => by fin_cases a <;> rfl

/-- The product of two blocks. -/
def dotAt (x : S256x1024.Idx → EReal) (y : S1024x1408.Idx → EReal) (r : Fin 256) (k : Fin 1408) : EReal := ∑ j : Fin 1024, x (ix2 r j) * y (ix2 j k)

variable (m : (ℓ : Loc nD τ sig) → Buf (Elt Ideal) ℓ) (c : Dev nD)

/-- The arguments. -/
def arg0 : S8448x1024.Idx → EReal := m ((c.tc : Thread nD τ).loc main_arg0)
def arg1 : S1024x5632.Idx → EReal := m ((c.tc : Thread nD τ).loc main_arg1)

/-- A row and a column of a point's block. -/
def rowOf (t : Fin cfg0.N) (r : Fin 256) : Fin 8448 := ⟨t.val % 33 * 256 + r.val, by omega⟩
def colOf (t : Fin cfg0.N) (k : Fin 1408) : Fin 2816 := ⟨t.val / 33 * 1408 + k.val, by have := t.isLt; have : cfg0.N = 66 := N_0; omega⟩

theorem place0 : ∀ t : Fin cfg0.N, (cfg0.win 0).index t (0 : Fin 2) = t.val % 33 ∧ (cfg0.win 0).index t (1 : Fin 2) = 0 := by decide +kernel
/-- The rows a point reads of the argument. -/
theorem block0 (t : Fin cfg0.N) (r : Fin 256) (x : Fin 1024) : iblk m c 0 t (ix2 r x) = arg0 m c (ix2 (rowOf t r) x) := by
  obtain ⟨e0, e1⟩ := place0 t
  have ht : t.val < 66 := lt_of_lt_of_eq t.isLt N_0
  unfold arg0 rowOf
  blk_ext [iblk, e0, e1]
theorem place1 : ∀ t : Fin cfg0.N, (cfg0.win 1).index t (0 : Fin 2) = 0 ∧ (cfg0.win 1).index t (1 : Fin 2) = t.val / 33 := by decide +kernel
/-- The columns a point reads of the weight. -/
theorem block1 (t : Fin cfg0.N) (x : Fin 1024) (k : Fin 1408) :
    iblk m c 1 t (ix2 x k) = arg1 m c (ix2 x ⟨(colOf t k).val, by have := (colOf t k).isLt; omega⟩) := by
  obtain ⟨e0, e1⟩ := place1 t
  have ht : t.val < 66 := lt_of_lt_of_eq t.isLt N_0
  unfold arg1 colOf
  blk_ext [iblk, e0, e1]
theorem place2 : ∀ t : Fin cfg0.N, (cfg0.win 2).index t (0 : Fin 2) = 0 ∧ (cfg0.win 2).index t (1 : Fin 2) = t.val / 33 + 2 := by decide +kernel
/-- The columns a point reads of the weight. -/
theorem block2 (t : Fin cfg0.N) (x : Fin 1024) (k : Fin 1408) :
    iblk m c 2 t (ix2 x k) = arg1 m c (ix2 x ⟨2816 + (colOf t k).val, by have := (colOf t k).isLt; omega⟩) := by
  obtain ⟨e0, e1⟩ := place2 t
  have ht : t.val < 66 := lt_of_lt_of_eq t.isLt N_0
  unfold arg1 colOf
  blk_ext [iblk, e0, e1]
/-- The two products a point takes. -/
theorem first_half (t : Fin cfg0.N) (r : Fin 256) (k : Fin 1408) :
    dotAt (iblk m c 0 t) (iblk m c 1 t) r k = gateAt (arg0 m c) (arg1 m c) (rowOf t r) (colOf t k) :=
  Finset.sum_congr rfl fun x _ => by rw [block0, block1]
theorem second_half (t : Fin cfg0.N) (r : Fin 256) (k : Fin 1408) :
    dotAt (iblk m c 0 t) (iblk m c 2 t) r k = upAt (arg0 m c) (arg1 m c) (rowOf t r) (colOf t k) :=
  Finset.sum_congr rfl fun x _ => by rw [block0, block2]
/-- What a point writes: the gated product. -/
theorem written3 (t : Fin cfg0.N) (r : Fin 256) (k : Fin 1408) :
    (out0_3 (iblk m c 0 t) (iblk m c 1 t) (iblk m c 2 t) : S256x1408.Idx → EReal) (ix2 r k) = actAt (arg0 m c) (arg1 m c) (rowOf t r) (colOf t k) := by
  unfold out0_3
  rw [View.canon_unit_zero hz]
  simp only [View.ld_unit_zero (S := S256x1024) hz, View.ld_unit_zero (S := S1024x1408) hz]
  have h : ∀ (x0 : Vec Ideal S256x1024 .bf16) (x1 x2 : Vec Ideal S1024x1408 .bf16), (k0_pay3 (F := Ideal) x0 x1 x2 : S256x1408.Idx → EReal) (ix2 r k)
      = dotAt x0 x1 r k * Ideal.div 1 (1 + Ideal.exp (-dotAt x0 x1 r k)) * dotAt x0 x2 r k := fun x0 x1 x2 => by
    unfold dotAt
    pointwise [k0_pay3, k0_pay1, k0_pay2]
    rw [zero_sub]
  refine (h _ _ _).trans ?_
  unfold actAt
  rw [first_half m c t r k, second_half m c t r k]
theorem place3 : ∀ t : Fin cfg0.N, (cfg0.win 3).index t (0 : Fin 2) = t.val % 33 ∧ (cfg0.win 3).index t (1 : Fin 2) = t.val / 33 := by decide +kernel
/-- The array after the last point. -/
theorem array3 : (dats m 0 c).arrAt 3 cfg0.N = (fun i : S8448x2816.Idx => actAt (arg0 m c) (arg1 m c) ⟨(i 0).val, (i 0).isLt⟩ ⟨(i 1).val, (i 1).isLt⟩) := by
  refine Pipeline.Dat.arrAt_eq_of_covers (cfg := cfg0) (dats m 0 c) 3 _ (by decide +kernel) (fun t hf y => ?_)
  rw [after0_3]
  obtain ⟨e0, e1⟩ := place3 t
  blk_simp [e0, e1]
  refine Eq.trans (congrArg (out0_3 (iblk m c 0 t) (iblk m c 1 t) (iblk m c 2 t)) ?_)
    ((written3 m c t ((cfg0.win 3).xinj (cfg0.grid.coords t) y 0) ((cfg0.win 3).xinj (cfg0.grid.coords t) y 1)).trans ?_)
  · funext a
    match a with
    | 0 => rfl
    | 1 => rfl
  · refine congrArg₂ (actAt (arg0 m c) (arg1 m c)) (Fin.ext ?_) (Fin.ext ?_)
    · rfl
    · rfl
/-- What a point writes: the first product. -/
theorem written4 (t : Fin cfg0.N) (r : Fin 256) (k : Fin 1408) :
    (out0_4 (iblk m c 0 t) (iblk m c 1 t) (iblk m c 2 t) : S256x1408.Idx → EReal) (ix2 r k) = gateAt (arg0 m c) (arg1 m c) (rowOf t r) (colOf t k) := by
  unfold out0_4
  rw [View.canon_unit_zero hz]
  simp only [View.ld_unit_zero (S := S256x1024) hz, View.ld_unit_zero (S := S1024x1408) hz]
  have h : ∀ (x0 : Vec Ideal S256x1024 .bf16) (x1 : Vec Ideal S1024x1408 .bf16), (k0_pay4 (F := Ideal) x0 x1 : S256x1408.Idx → EReal) (ix2 r k)
      = dotAt x0 x1 r k := fun x0 x1 => by unfold dotAt; pointwise [k0_pay4, k0_pay1]
  exact (h _ _).trans (first_half m c t r k)
theorem place4 : ∀ t : Fin cfg0.N, (cfg0.win 4).index t (0 : Fin 2) = t.val % 33 ∧ (cfg0.win 4).index t (1 : Fin 2) = t.val / 33 := by decide +kernel
/-- The array after the last point. -/
theorem array4 : (dats m 0 c).arrAt 4 cfg0.N = (fun i : S8448x2816.Idx => gateAt (arg0 m c) (arg1 m c) ⟨(i 0).val, (i 0).isLt⟩ ⟨(i 1).val, (i 1).isLt⟩) := by
  refine Pipeline.Dat.arrAt_eq_of_covers (cfg := cfg0) (dats m 0 c) 4 _ (by decide +kernel) (fun t hf y => ?_)
  rw [after0_4]
  obtain ⟨e0, e1⟩ := place4 t
  blk_simp [e0, e1]
  refine Eq.trans (congrArg (out0_4 (iblk m c 0 t) (iblk m c 1 t) (iblk m c 2 t)) ?_)
    ((written4 m c t ((cfg0.win 4).xinj (cfg0.grid.coords t) y 0) ((cfg0.win 4).xinj (cfg0.grid.coords t) y 1)).trans ?_)
  · funext a
    match a with
    | 0 => rfl
    | 1 => rfl
  · refine congrArg₂ (gateAt (arg0 m c) (arg1 m c)) (Fin.ext ?_) (Fin.ext ?_)
    · rfl
    · rfl
/-- What a point writes: the second product. -/
theorem written5 (t : Fin cfg0.N) (r : Fin 256) (k : Fin 1408) :
    (out0_5 (iblk m c 0 t) (iblk m c 1 t) (iblk m c 2 t) : S256x1408.Idx → EReal) (ix2 r k) = upAt (arg0 m c) (arg1 m c) (rowOf t r) (colOf t k) := by
  unfold out0_5
  rw [View.canon_unit_zero hz]
  simp only [View.ld_unit_zero (S := S256x1024) hz, View.ld_unit_zero (S := S1024x1408) hz]
  have h : ∀ (x0 : Vec Ideal S256x1024 .bf16) (x1 : Vec Ideal S1024x1408 .bf16), (k0_pay5 (F := Ideal) x0 x1 : S256x1408.Idx → EReal) (ix2 r k)
      = dotAt x0 x1 r k := fun x0 x1 => by unfold dotAt; pointwise [k0_pay5, k0_pay2]
  exact (h _ _).trans (second_half m c t r k)
theorem place5 : ∀ t : Fin cfg0.N, (cfg0.win 5).index t (0 : Fin 2) = t.val % 33 ∧ (cfg0.win 5).index t (1 : Fin 2) = t.val / 33 := by decide +kernel
/-- The array after the last point. -/
theorem array5 : (dats m 0 c).arrAt 5 cfg0.N = (fun i : S8448x2816.Idx => upAt (arg0 m c) (arg1 m c) ⟨(i 0).val, (i 0).isLt⟩ ⟨(i 1).val, (i 1).isLt⟩) := by
  refine Pipeline.Dat.arrAt_eq_of_covers (cfg := cfg0) (dats m 0 c) 5 _ (by decide +kernel) (fun t hf y => ?_)
  rw [after0_5]
  obtain ⟨e0, e1⟩ := place5 t
  blk_simp [e0, e1]
  refine Eq.trans (congrArg (out0_5 (iblk m c 0 t) (iblk m c 1 t) (iblk m c 2 t)) ?_)
    ((written5 m c t ((cfg0.win 5).xinj (cfg0.grid.coords t) y 0) ((cfg0.win 5).xinj (cfg0.grid.coords t) y 1)).trans ?_)
  · funext a
    match a with
    | 0 => rfl
    | 1 => rfl
  · refine congrArg₂ (upAt (arg0 m c) (arg1 m c)) (Fin.ext ?_) (Fin.ext ?_)
    · rfl
    · rfl

variable (ρ : Dev nD → PrngReg)

/-- The results of the kernel's program. -/
def result0 (c : Dev nD) : S8448x2816.Idx → EReal := (dats m 0 c).arrAt 3 cfg0.N
def result1 (c : Dev nD) : S8448x2816.Idx → EReal := (dats m 0 c).arrAt 4 cfg0.N
def result2 (c : Dev nD) : S8448x2816.Idx → EReal := (dats m 0 c).arrAt 5 cfg0.N

/-- The kernel's and the reference's programs end with equal results. -/
theorem value : Cert.algebraic_Kernel10Ideal_Reference10Ideal := by
  intro m g m' g' hpre hargs
  refine ⟨result0 m, result1 m, result2 m, (θ_run defs _ _).mono (fun _ h c => ⟨(h.1 c).1 3, (h.1 c).1 4, (h.1 c).1 5, h.2 c⟩)
    (θ_run_and (run_main m g) (unchanged m g)), ?_⟩
  refine (θ_run Cert.Reference10Ideal.defs _ _).mono (fun r h c => ⟨(h c).1.trans ?_, (h c).2.1.trans ?_, (h c).2.2.1.trans ?_, (h c).2.2.2⟩)
    (Cert.Reference10Ideal.Value.run (F := Ideal) m' g')
  all_goals obtain ⟨e0, e1⟩ := hargs c
  · rw [e0, e1]
    funext i
    have hi : i = ix2 (i 0) (i 1) := by funext a; match a with | 0 => rfl | 1 => rfl
    rw [hi]
    exact (reference3 _ _ (i 0) (i 1)).trans (congrFun (array3 m c) (ix2 (i 0) (i 1))).symm
  · rw [e0, e1]
    funext i
    have hi : i = ix2 (i 0) (i 1) := by funext a; match a with | 0 => rfl | 1 => rfl
    rw [hi]
    exact (reference4 _ _ (i 0) (i 1)).trans (congrFun (array4 m c) (ix2 (i 0) (i 1))).symm
  · rw [e0, e1]
    funext i
    have hi : i = ix2 (i 0) (i 1) := by funext a; match a with | 0 => rfl | 1 => rfl
    rw [hi]
    exact (reference5 _ _ (i 0) (i 1)).trans (congrFun (array5 m c) (ix2 (i 0) (i 1))).symm

/-- The reference's frame. -/
theorem frame_reference : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

end Cert.Swiglu
-- ==== Proof.Qkv.lean ====
/- The product of the normalized rows with the weight of all queries, keys, values and gates: for each run of 256 rows the kernel takes
   the product and writes three runs of its columns, as the reference does for all rows. -/
module

public import proofs.«01_k».proof.Defs
public import proofs.«01_k».proof.Proof.Gen.Kernel11Ideal.Frame
public import proofs.«01_k».proof.Proof.Gen.Reference11Ideal.Run
public import Idealize.ShloMosaic.Adequacy
public import Idealize.ShloMosaic.Init
public import Idealize.ShloMosaic.Lib.Pipeline.ValueKit
public import Idealize.ShloMosaic.Lib.Tactic.CleanTypes

@[expose] public section

set_option maxRecDepth 16384

noncomputable section

namespace Cert.Qkv

section Formulas

open Idealize.ShloMosaic Idealize.ShloMosaic.TcCoe

open Idealize.ShloMosaic Idealize.ShloMosaic.TcCoe in
/-- The product at a row and a column of the weight. -/
def prodAt (a : (⟨2, ![8448, 1024]⟩ : Shape).Idx → EReal) (w : (⟨2, ![1024, 4352]⟩ : Shape).Idx → EReal) (r : Fin 8448) (k : Fin 4352) : EReal :=
  ∑ x : Fin 1024, a (ix2 r x) * w (ix2 x k)

/-- Its three runs of columns. -/
def colsA (a : (⟨2, ![8448, 1024]⟩ : Shape).Idx → EReal) (w : (⟨2, ![1024, 4352]⟩ : Shape).Idx → EReal) (r : Fin 8448) (k : Fin 1536) : EReal := prodAt a w r ⟨k.val, by omega⟩

def colsB (a : (⟨2, ![8448, 1024]⟩ : Shape).Idx → EReal) (w : (⟨2, ![1024, 4352]⟩ : Shape).Idx → EReal) (r : Fin 8448) (k : Fin 768) : EReal := prodAt a w r ⟨1536 + k.val, by omega⟩

def colsC (a : (⟨2, ![8448, 1024]⟩ : Shape).Idx → EReal) (w : (⟨2, ![1024, 4352]⟩ : Shape).Idx → EReal) (r : Fin 8448) (k : Fin 2048) : EReal := prodAt a w r ⟨2304 + k.val, by omega⟩

end Formulas

section Reference

open Cert.Reference11Ideal Cert.Reference11Ideal.Gen Idealize.ShloMosaic Idealize.ShloMosaic.TcCoe
/-- The reference at an index: the product at the column of the run. -/
theorem reference2 (a : FVec Ideal S8448x1024 .bf16) (w : FVec Ideal S1024x4352 .bf16) (r : Fin 8448) (k : Fin 1536) :
    (truncf .bf16 (extractStridedSlice S8448x1536 ![0, 0] (Host.dotGeneral dot_S8448x1024_S1024x4352_S8448x4352_1_0_0_1_n_n none (extf .f32 a bitsLt_bf16_f32) (extf .f32 w bitsLt_bf16_f32)) slices_S8448x4352_S8448x1536_0_0) bitsLt_bf16_f32 : FVec Ideal S8448x1536 .bf16) (ix2 r k) = colsA a w r k := by
  unfold colsA prodAt
  pointwise
/-- The reference at an index: the product at the column of the run. -/
theorem reference3 (a : FVec Ideal S8448x1024 .bf16) (w : FVec Ideal S1024x4352 .bf16) (r : Fin 8448) (k : Fin 768) :
    (truncf .bf16 (extractStridedSlice S8448x768 ![0, 1536] (Host.dotGeneral dot_S8448x1024_S1024x4352_S8448x4352_1_0_0_1_n_n none (extf .f32 a bitsLt_bf16_f32) (extf .f32 w bitsLt_bf16_f32)) slices_S8448x4352_S8448x768_0_1536) bitsLt_bf16_f32 : FVec Ideal S8448x768 .bf16) (ix2 r k) = colsB a w r k := by
  unfold colsB prodAt
  pointwise
/-- The reference at an index: the product at the column of the run. -/
theorem reference4 (a : FVec Ideal S8448x1024 .bf16) (w : FVec Ideal S1024x4352 .bf16) (r : Fin 8448) (k : Fin 2048) :
    (truncf .bf16 (extractStridedSlice S8448x2048 ![0, 2304] (Host.dotGeneral dot_S8448x1024_S1024x4352_S8448x4352_1_0_0_1_n_n none (extf .f32 a bitsLt_bf16_f32) (extf .f32 w bitsLt_bf16_f32)) slices_S8448x4352_S8448x2048_0_2304) bitsLt_bf16_f32 : FVec Ideal S8448x2048 .bf16) (ix2 r k) = colsC a w r k := by
  unfold colsC prodAt
  pointwise

end Reference

open Cert.Kernel11Ideal Cert.Kernel11Ideal.Gen Idealize.ShloMosaic Idealize.ShloMosaic.TcCoe
open Idealize.SL Idealize.SL.RA Idealize.SL.Sem

theorem hz : (![0, 0] : Fin 2 → Nat) = fun _ => 0 := funext fun a => by fin_cases a <;> rfl

variable (m : (ℓ : Loc nD τ sig) → Buf (Elt Ideal) ℓ) (c : Dev nD)

/-- The arguments. -/
def arg0 : S8448x1024.Idx → EReal := m ((c.tc : Thread nD τ).loc main_arg0)
def arg1 : S1024x4352.Idx → EReal := m ((c.tc : Thread nD τ).loc main_arg1)

/-- A row of a point's block. -/
def rowOf (t : Fin cfg0.N) (r : Fin 256) : Fin 8448 := ⟨t.val * 256 + r.val, by have := t.isLt; have : cfg0.N = 33 := N_0; omega⟩

theorem place0 : ∀ t : Fin cfg0.N, (cfg0.win 0).index t (0 : Fin 2) = t.val ∧ (cfg0.win 0).index t (1 : Fin 2) = 0 := by decide +kernel
/-- The rows a point reads of the argument. -/
theorem block0 (t : Fin cfg0.N) (r : Fin 256) (x : Fin 1024) : iblk m c 0 t (ix2 r x) = arg0 m c (ix2 (rowOf t r) x) := by
  obtain ⟨e0, e1⟩ := place0 t
  have ht : t.val < 33 := lt_of_lt_of_eq t.isLt N_0
  unfold arg0 rowOf
  blk_ext [iblk, e0, e1]
theorem place1 : ∀ t : Fin cfg0.N, (cfg0.win 1).index t (0 : Fin 2) = 0 ∧ (cfg0.win 1).index t (1 : Fin 2) = 0 := by decide +kernel
/-- The argument a point reads whole. -/
theorem block1 (t : Fin cfg0.N) (r : Fin 1024) (x : Fin 4352) : iblk m c 1 t (ix2 r x) = arg1 m c (ix2 r x) := by
  obtain ⟨e0, e1⟩ := place1 t
  unfold arg1
  blk_ext [iblk, e0, e1]
/-- What a point writes: the product at the column of the run. -/
theorem written2 (t : Fin cfg0.N) (r : Fin 256) (k : Fin 1536) :
    (out0_2 (iblk m c 0 t) (iblk m c 1 t) : S256x1536.Idx → EReal) (ix2 r k) = colsA (arg0 m c) (arg1 m c) (rowOf t r) (k) := by
  unfold out0_2
  rw [View.canon_unit_zero hz, View.ld_unit_zero (S := S256x1024) hz, View.ld_unit_zero (S := S1024x4352) hz]
  have h : ∀ (x0 : Vec Ideal S256x1024 .bf16) (x1 : Vec Ideal S1024x4352 .bf16), (k0_pay2 (F := Ideal) x0 x1 : S256x1536.Idx → EReal) (ix2 r k)
      = ∑ x : Fin 1024, x0 (ix2 r x) * x1 (ix2 x ⟨k.val, by omega⟩) := fun x0 x1 => by pointwise [k0_pay2, k0_pay1]
  refine (h _ _).trans ?_
  unfold colsA prodAt
  refine Finset.sum_congr rfl fun x _ => ?_
  rw [block0, block1]
theorem place2 : ∀ t : Fin cfg0.N, (cfg0.win 2).index t (0 : Fin 2) = t.val ∧ (cfg0.win 2).index t (1 : Fin 2) = 0 := by decide +kernel
/-- The array after the last point. -/
theorem array2 : (dats m 0 c).arrAt 2 cfg0.N = (fun i : S8448x1536.Idx => colsA (arg0 m c) (arg1 m c) ⟨(i 0).val, (i 0).isLt⟩ ⟨(i 1).val, (i 1).isLt⟩) := by
  refine Pipeline.Dat.arrAt_eq_of_covers (cfg := cfg0) (dats m 0 c) 2 _ (by decide +kernel) (fun t hf y => ?_)
  rw [after0_2]
  obtain ⟨e0, e1⟩ := place2 t
  blk_simp [e0, e1]
  refine Eq.trans (congrArg (out0_2 (iblk m c 0 t) (iblk m c 1 t)) ?_)
    ((written2 m c t ((cfg0.win 2).xinj (cfg0.grid.coords t) y 0) ((cfg0.win 2).xinj (cfg0.grid.coords t) y 1)).trans ?_)
  · funext a
    match a with
    | 0 => rfl
    | 1 => rfl
  · refine congrArg₂ (colsA (arg0 m c) (arg1 m c)) (Fin.ext ?_) (Fin.ext ?_)
    · rfl
    · rfl
/-- What a point writes: the product at the column of the run. -/
theorem written3 (t : Fin cfg0.N) (r : Fin 256) (k : Fin 768) :
    (out0_3 (iblk m c 0 t) (iblk m c 1 t) : S256x768.Idx → EReal) (ix2 r k) = colsB (arg0 m c) (arg1 m c) (rowOf t r) (k) := by
  unfold out0_3
  rw [View.canon_unit_zero hz, View.ld_unit_zero (S := S256x1024) hz, View.ld_unit_zero (S := S1024x4352) hz]
  have h : ∀ (x0 : Vec Ideal S256x1024 .bf16) (x1 : Vec Ideal S1024x4352 .bf16), (k0_pay3 (F := Ideal) x0 x1 : S256x768.Idx → EReal) (ix2 r k)
      = ∑ x : Fin 1024, x0 (ix2 r x) * x1 (ix2 x ⟨1536 + k.val, by omega⟩) := fun x0 x1 => by pointwise [k0_pay3, k0_pay1]
  refine (h _ _).trans ?_
  unfold colsB prodAt
  refine Finset.sum_congr rfl fun x _ => ?_
  rw [block0, block1]
theorem place3 : ∀ t : Fin cfg0.N, (cfg0.win 3).index t (0 : Fin 2) = t.val ∧ (cfg0.win 3).index t (1 : Fin 2) = 0 := by decide +kernel
/-- The array after the last point. -/
theorem array3 : (dats m 0 c).arrAt 3 cfg0.N = (fun i : S8448x768.Idx => colsB (arg0 m c) (arg1 m c) ⟨(i 0).val, (i 0).isLt⟩ ⟨(i 1).val, (i 1).isLt⟩) := by
  refine Pipeline.Dat.arrAt_eq_of_covers (cfg := cfg0) (dats m 0 c) 3 _ (by decide +kernel) (fun t hf y => ?_)
  rw [after0_3]
  obtain ⟨e0, e1⟩ := place3 t
  blk_simp [e0, e1]
  refine Eq.trans (congrArg (out0_3 (iblk m c 0 t) (iblk m c 1 t)) ?_)
    ((written3 m c t ((cfg0.win 3).xinj (cfg0.grid.coords t) y 0) ((cfg0.win 3).xinj (cfg0.grid.coords t) y 1)).trans ?_)
  · funext a
    match a with
    | 0 => rfl
    | 1 => rfl
  · refine congrArg₂ (colsB (arg0 m c) (arg1 m c)) (Fin.ext ?_) (Fin.ext ?_)
    · rfl
    · rfl
/-- What a point writes: the product at the column of the run. -/
theorem written4 (t : Fin cfg0.N) (r : Fin 256) (k : Fin 2048) :
    (out0_4 (iblk m c 0 t) (iblk m c 1 t) : S256x2048.Idx → EReal) (ix2 r k) = colsC (arg0 m c) (arg1 m c) (rowOf t r) (k) := by
  unfold out0_4
  rw [View.canon_unit_zero hz, View.ld_unit_zero (S := S256x1024) hz, View.ld_unit_zero (S := S1024x4352) hz]
  have h : ∀ (x0 : Vec Ideal S256x1024 .bf16) (x1 : Vec Ideal S1024x4352 .bf16), (k0_pay4 (F := Ideal) x0 x1 : S256x2048.Idx → EReal) (ix2 r k)
      = ∑ x : Fin 1024, x0 (ix2 r x) * x1 (ix2 x ⟨2304 + k.val, by omega⟩) := fun x0 x1 => by pointwise [k0_pay4, k0_pay1]
  refine (h _ _).trans ?_
  unfold colsC prodAt
  refine Finset.sum_congr rfl fun x _ => ?_
  rw [block0, block1]
theorem place4 : ∀ t : Fin cfg0.N, (cfg0.win 4).index t (0 : Fin 2) = t.val ∧ (cfg0.win 4).index t (1 : Fin 2) = 0 := by decide +kernel
/-- The array after the last point. -/
theorem array4 : (dats m 0 c).arrAt 4 cfg0.N = (fun i : S8448x2048.Idx => colsC (arg0 m c) (arg1 m c) ⟨(i 0).val, (i 0).isLt⟩ ⟨(i 1).val, (i 1).isLt⟩) := by
  refine Pipeline.Dat.arrAt_eq_of_covers (cfg := cfg0) (dats m 0 c) 4 _ (by decide +kernel) (fun t hf y => ?_)
  rw [after0_4]
  obtain ⟨e0, e1⟩ := place4 t
  blk_simp [e0, e1]
  refine Eq.trans (congrArg (out0_4 (iblk m c 0 t) (iblk m c 1 t)) ?_)
    ((written4 m c t ((cfg0.win 4).xinj (cfg0.grid.coords t) y 0) ((cfg0.win 4).xinj (cfg0.grid.coords t) y 1)).trans ?_)
  · funext a
    match a with
    | 0 => rfl
    | 1 => rfl
  · refine congrArg₂ (colsC (arg0 m c) (arg1 m c)) (Fin.ext ?_) (Fin.ext ?_)
    · rfl
    · rfl

variable (ρ : Dev nD → PrngReg)

/-- The results of the kernel's program. -/
def result0 (c : Dev nD) : S8448x1536.Idx → EReal := (dats m 0 c).arrAt 2 cfg0.N
def result1 (c : Dev nD) : S8448x768.Idx → EReal := (dats m 0 c).arrAt 3 cfg0.N
def result2 (c : Dev nD) : S8448x2048.Idx → EReal := (dats m 0 c).arrAt 4 cfg0.N

/-- The kernel's and the reference's programs end with equal results. -/
theorem value : Cert.algebraic_Kernel11Ideal_Reference11Ideal := by
  intro m g m' g' hpre hargs
  refine ⟨result0 m, result1 m, result2 m, (θ_run defs _ _).mono (fun _ h c => ⟨(h.1 c).1 2, (h.1 c).1 3, (h.1 c).1 4, h.2 c⟩)
    (θ_run_and (run_main m g) (unchanged m g)), ?_⟩
  refine (θ_run Cert.Reference11Ideal.defs _ _).mono (fun r h c => ⟨(h c).1.trans ?_, (h c).2.1.trans ?_, (h c).2.2.1.trans ?_, (h c).2.2.2⟩)
    (Cert.Reference11Ideal.Value.run (F := Ideal) m' g')
  all_goals obtain ⟨e0, e1⟩ := hargs c
  · rw [e0, e1]
    funext i
    have hi : i = ix2 (i 0) (i 1) := by funext a; match a with | 0 => rfl | 1 => rfl
    rw [hi]
    exact (reference2 _ _ (i 0) (i 1)).trans (congrFun (array2 m c) (ix2 (i 0) (i 1))).symm
  · rw [e0, e1]
    funext i
    have hi : i = ix2 (i 0) (i 1) := by funext a; match a with | 0 => rfl | 1 => rfl
    rw [hi]
    exact (reference3 _ _ (i 0) (i 1)).trans (congrFun (array3 m c) (ix2 (i 0) (i 1))).symm
  · rw [e0, e1]
    funext i
    have hi : i = ix2 (i 0) (i 1) := by funext a; match a with | 0 => rfl | 1 => rfl
    rw [hi]
    exact (reference4 _ _ (i 0) (i 1)).trans (congrFun (array4 m c) (ix2 (i 0) (i 1))).symm

/-- The reference's frame. -/
theorem frame_reference : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

end Cert.Qkv
-- ==== Proof.Down.lean ====
/- The second product of the gated layer with what follows it: for each run of 256 rows the kernel takes the product, adds it gated to
   the residual row, and norms and modulates that row for the next layer, as the reference does for all rows. -/
module

public import proofs.«01_k».proof.Defs
public import proofs.«01_k».proof.Proof.Gen.Kernel12Ideal.Frame
public import proofs.«01_k».proof.Proof.Gen.Reference12Ideal.Run
public import Idealize.ShloMosaic.Adequacy
public import Idealize.ShloMosaic.Init
public import Idealize.ShloMosaic.Lib.Pipeline.ValueKit
public import Idealize.ShloMosaic.Lib.Tactic.CleanTypes

@[expose] public section

set_option maxRecDepth 16384

noncomputable section

namespace Cert.Down

section Formulas

open Idealize.ShloMosaic Idealize.ShloMosaic.TcCoe

/-- A line of the modulation: the latent rows take the first of its two groups, the context rows the second. -/
def lineAt (d : (⟨3, ![2, 6, 1024]⟩ : Shape).Idx → EReal) (j : Fin 6) (r : Fin 8448) (k : Fin 1024) : EReal := if h : r.val < 8192 then d (ix3 0 j k) else d (ix3 1 j k)
/-- The product. -/
def prodAt (a : (⟨2, ![8448, 2816]⟩ : Shape).Idx → EReal) (w : (⟨2, ![2816, 1024]⟩ : Shape).Idx → EReal) (r : Fin 8448) (k : Fin 1024) : EReal := ∑ j : Fin 2816, a (ix2 r j) * w (ix2 j k)
/-- The residual row with the gated product added. -/
def residualAt (a : (⟨2, ![8448, 2816]⟩ : Shape).Idx → EReal) (w : (⟨2, ![2816, 1024]⟩ : Shape).Idx → EReal) (x : (⟨2, ![8448, 1024]⟩ : Shape).Idx → EReal) (d : (⟨3, ![2, 6, 1024]⟩ : Shape).Idx → EReal) (r : Fin 8448) (k : Fin 1024) : EReal := x (ix2 r k) + lineAt d 5 r k * prodAt a w r k
/-- That row over the root of its mean square, times the norm's weight, modulated. -/
def normedAt (a : (⟨2, ![8448, 2816]⟩ : Shape).Idx → EReal) (w : (⟨2, ![2816, 1024]⟩ : Shape).Idx → EReal) (x : (⟨2, ![8448, 1024]⟩ : Shape).Idx → EReal) (d : (⟨3, ![2, 6, 1024]⟩ : Shape).Idx → EReal) (n : (⟨2, ![1, 1024]⟩ : Shape).Idx → EReal) (d₂ : (⟨3, ![2, 6, 1024]⟩ : Shape).Idx → EReal) (r : Fin 8448) (k : Fin 1024) : EReal :=
  residualAt a w x d r k
      * Ideal.rsqrt (Ideal.div (∑ j : Fin 1024, residualAt a w x d r j * residualAt a w x d r j) (Ideal.ofBits FTy.f32 0x44800000#32)
        + Ideal.ofBits FTy.f32 0x358637BD#32)
      * n (ix2 0 k) * (1 + lineAt d₂ 1 r k) + lineAt d₂ 0 r k

end Formulas

section Reference

open Cert.Reference12Ideal Cert.Reference12Ideal.Gen Idealize.ShloMosaic Idealize.ShloMosaic.TcCoe
/-- The reference at an index: the residual row. -/
theorem reference6 (a : FVec Ideal S8448x2816 .bf16) (w : FVec Ideal S2816x1024 .bf16) (x : FVec Ideal S8448x1024 .f32) (d : FVec Ideal S2x6x1024 .f32) (r : Fin 8448) (k : Fin 1024) :
    (addf x (mulf (concatenate S8448x1024 0 [⟨S8192x1024, (broadcastInDim S8192x1024 ![1] bcast_S1024_S8192x1024_1 (shapeCast _ (extractStridedSlice S1x1024 ![0, 0] (shapeCast _ (extractStridedSlice S2x1x1024 ![0, 5, 0] d slices_S2x6x1024_S2x1x1024_0_5_0) shapeCasts_S2x1x1024_S2x1024) slices_S2x1024_S1x1024_0_0) shapeCasts_S1x1024_S1024))⟩, ⟨S256x1024, (broadcastInDim S256x1024 ![1] bcast_S1024_S256x1024_1 (shapeCast _ (extractStridedSlice S1x1024 ![1, 0] (shapeCast _ (extractStridedSlice S2x1x1024 ![0, 5, 0] d slices_S2x6x1024_S2x1x1024_0_5_0) shapeCasts_S2x1x1024_S2x1024) slices_S2x1024_S1x1024_1_0) shapeCasts_S1x1024_S1024))⟩] concatenates_S8192x1024_S256x1024_S8448x1024_d0) (Host.dotGeneral dot_S8448x2816_S2816x1024_S8448x1024_1_0_0_1_n_n none (extf .f32 a bitsLt_bf16_f32) (extf .f32 w bitsLt_bf16_f32))) : FVec Ideal S8448x1024 .f32) (ix2 r k) = residualAt a w x d r k := by
  unfold residualAt lineAt prodAt
  pointwise
/-- The reference at an index: the product. -/
theorem reference7 (a : FVec Ideal S8448x2816 .bf16) (w : FVec Ideal S2816x1024 .bf16) (r : Fin 8448) (k : Fin 1024) :
    (truncf .bf16 (Host.dotGeneral dot_S8448x2816_S2816x1024_S8448x1024_1_0_0_1_n_n none (extf .f32 a bitsLt_bf16_f32) (extf .f32 w bitsLt_bf16_f32)) bitsLt_bf16_f32 : FVec Ideal S8448x1024 .bf16) (ix2 r k) = prodAt a w r k := by
  unfold prodAt
  pointwise
/-- The reference at an index: the normed row. -/
theorem reference8 (a : FVec Ideal S8448x2816 .bf16) (w : FVec Ideal S2816x1024 .bf16) (x : FVec Ideal S8448x1024 .f32) (d : FVec Ideal S2x6x1024 .f32) (n : FVec Ideal S1x1024 .f32) (d₂ : FVec Ideal S2x6x1024 .f32) (r : Fin 8448) (k : Fin 1024) :
    (truncf .bf16 (addf (mulf (mulf (mulf (addf x (mulf (concatenate S8448x1024 0 [⟨S8192x1024, (broadcastInDim S8192x1024 ![1] bcast_S1024_S8192x1024_1 (shapeCast _ (extractStridedSlice S1x1024 ![0, 0] (shapeCast _ (extractStridedSlice S2x1x1024 ![0, 5, 0] d slices_S2x6x1024_S2x1x1024_0_5_0) shapeCasts_S2x1x1024_S2x1024) slices_S2x1024_S1x1024_0_0) shapeCasts_S1x1024_S1024))⟩, ⟨S256x1024, (broadcastInDim S256x1024 ![1] bcast_S1024_S256x1024_1 (shapeCast _ (extractStridedSlice S1x1024 ![1, 0] (shapeCast _ (extractStridedSlice S2x1x1024 ![0, 5, 0] d slices_S2x6x1024_S2x1x1024_0_5_0) shapeCasts_S2x1x1024_S2x1024) slices_S2x1024_S1x1024_1_0) shapeCasts_S1x1024_S1024))⟩] concatenates_S8192x1024_S256x1024_S8448x1024_d0) (Host.dotGeneral dot_S8448x2816_S2816x1024_S8448x1024_1_0_0_1_n_n none (extf .f32 a bitsLt_bf16_f32) (extf .f32 w bitsLt_bf16_f32)))) (broadcastInDim S8448x1024 ![0, 1] bcast_S8448x1_S8448x1024_0_1 (Host.rsqrt (addf (Host.divf (broadcastInDim S8448x1 ![0] bcast_S8448_S8448x1_0 (Host.reduceAdd (mulf (addf x (mulf (concatenate S8448x1024 0 [⟨S8192x1024, (broadcastInDim S8192x1024 ![1] bcast_S1024_S8192x1024_1 (shapeCast _ (extractStridedSlice S1x1024 ![0, 0] (shapeCast _ (extractStridedSlice S2x1x1024 ![0, 5, 0] d slices_S2x6x1024_S2x1x1024_0_5_0) shapeCasts_S2x1x1024_S2x1024) slices_S2x1024_S1x1024_0_0) shapeCasts_S1x1024_S1024))⟩, ⟨S256x1024, (broadcastInDim S256x1024 ![1] bcast_S1024_S256x1024_1 (shapeCast _ (extractStridedSlice S1x1024 ![1, 0] (shapeCast _ (extractStridedSlice S2x1x1024 ![0, 5, 0] d slices_S2x6x1024_S2x1x1024_0_5_0) shapeCasts_S2x1x1024_S2x1024) slices_S2x1024_S1x1024_1_0) shapeCasts_S1x1024_S1024))⟩] concatenates_S8192x1024_S256x1024_S8448x1024_d0) (Host.dotGeneral dot_S8448x2816_S2816x1024_S8448x1024_1_0_0_1_n_n none (extf .f32 a bitsLt_bf16_f32) (extf .f32 w bitsLt_bf16_f32)))) (addf x (mulf (concatenate S8448x1024 0 [⟨S8192x1024, (broadcastInDim S8192x1024 ![1] bcast_S1024_S8192x1024_1 (shapeCast _ (extractStridedSlice S1x1024 ![0, 0] (shapeCast _ (extractStridedSlice S2x1x1024 ![0, 5, 0] d slices_S2x6x1024_S2x1x1024_0_5_0) shapeCasts_S2x1x1024_S2x1024) slices_S2x1024_S1x1024_0_0) shapeCasts_S1x1024_S1024))⟩, ⟨S256x1024, (broadcastInDim S256x1024 ![1] bcast_S1024_S256x1024_1 (shapeCast _ (extractStridedSlice S1x1024 ![1, 0] (shapeCast _ (extractStridedSlice S2x1x1024 ![0, 5, 0] d slices_S2x6x1024_S2x1x1024_0_5_0) shapeCasts_S2x1x1024_S2x1024) slices_S2x1024_S1x1024_1_0) shapeCasts_S1x1024_S1024))⟩] concatenates_S8192x1024_S256x1024_S8448x1024_d0) (Host.dotGeneral dot_S8448x2816_S2816x1024_S8448x1024_1_0_0_1_n_n none (extf .f32 a bitsLt_bf16_f32) (extf .f32 w bitsLt_bf16_f32))))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 n)) (addf (broadcastInDim S8448x1024 ![] bcast_S_S8448x1024 (constant S_ .f32 0x3F800000#32)) (concatenate S8448x1024 0 [⟨S8192x1024, (broadcastInDim S8192x1024 ![1] bcast_S1024_S8192x1024_1 (shapeCast _ (extractStridedSlice S1x1024 ![0, 0] (shapeCast _ (extractStridedSlice S2x1x1024 ![0, 1, 0] d₂ slices_S2x6x1024_S2x1x1024_0_1_0) shapeCasts_S2x1x1024_S2x1024) slices_S2x1024_S1x1024_0_0) shapeCasts_S1x1024_S1024))⟩, ⟨S256x1024, (broadcastInDim S256x1024 ![1] bcast_S1024_S256x1024_1 (shapeCast _ (extractStridedSlice S1x1024 ![1, 0] (shapeCast _ (extractStridedSlice S2x1x1024 ![0, 1, 0] d₂ slices_S2x6x1024_S2x1x1024_0_1_0) shapeCasts_S2x1x1024_S2x1024) slices_S2x1024_S1x1024_1_0) shapeCasts_S1x1024_S1024))⟩] concatenates_S8192x1024_S256x1024_S8448x1024_d0))) (concatenate S8448x1024 0 [⟨S8192x1024, (broadcastInDim S8192x1024 ![1] bcast_S1024_S8192x1024_1 (shapeCast _ (extractStridedSlice S1x1024 ![0, 0] (shapeCast _ (extractStridedSlice S2x1x1024 ![0, 0, 0] d₂ slices_S2x6x1024_S2x1x1024_0_0_0) shapeCasts_S2x1x1024_S2x1024) slices_S2x1024_S1x1024_0_0) shapeCasts_S1x1024_S1024))⟩, ⟨S256x1024, (broadcastInDim S256x1024 ![1] bcast_S1024_S256x1024_1 (shapeCast _ (extractStridedSlice S1x1024 ![1, 0] (shapeCast _ (extractStridedSlice S2x1x1024 ![0, 0, 0] d₂ slices_S2x6x1024_S2x1x1024_0_0_0) shapeCasts_S2x1x1024_S2x1024) slices_S2x1024_S1x1024_1_0) shapeCasts_S1x1024_S1024))⟩] concatenates_S8192x1024_S256x1024_S8448x1024_d0)) bitsLt_bf16_f32 : FVec Ideal S8448x1024 .bf16) (ix2 r k) = normedAt a w x d n d₂ r k := by
  unfold normedAt residualAt lineAt prodAt
  pointwise

end Reference

open Cert.Kernel12Ideal Cert.Kernel12Ideal.Gen Idealize.ShloMosaic Idealize.ShloMosaic.TcCoe
open Idealize.SL Idealize.SL.RA Idealize.SL.Sem

theorem hz : (![0, 0] : Fin 2 → Nat) = fun _ => 0 := funext fun a => by fin_cases a <;> rfl

/-- The product of two blocks. -/
def dotAt (x : S256x2816.Idx → EReal) (y : S2816x1024.Idx → EReal) (r : Fin 256) (k : Fin 1024) : EReal := ∑ j : Fin 2816, x (ix2 r j) * y (ix2 j k)
/-- The residual row of a point's blocks. -/
def rowAt (x : S256x2816.Idx → EReal) (y : S2816x1024.Idx → EReal) (z : S256x1024.Idx → EReal) (d : S1x6x1024.Idx → EReal) (r : Fin 256) (k : Fin 1024) : EReal :=
  z (ix2 r k) + d (ix3 0 5 k) * dotAt x y r k

section Body

variable (x0 : Vec Ideal S256x2816 .bf16) (x1 : Vec Ideal S2816x1024 .bf16) (x2 : Vec Ideal S256x1024 .f32) (x3 x5 : Vec Ideal S1x6x1024 .f32)
  (x4 : Vec Ideal S1x1024 .f32) (r : Fin 256) (k : Fin 1024)

/-- The three values a point writes, of its blocks. -/
theorem row_at : (k0_pay3 (F := Ideal) x0 x1 x2 (View.ld x3 r0_3) : S256x1024.Idx → EReal) (ix2 r k) = rowAt x0 x1 x2 x3 r k := by
  unfold rowAt dotAt
  pointwise [k0_pay3, k0_pay2]
theorem dot_at : (k0_pay4 (F := Ideal) x0 x1 : S256x1024.Idx → EReal) (ix2 r k) = dotAt x0 x1 r k := by
  unfold dotAt
  pointwise [k0_pay4, k0_pay2]
theorem normed_at : (k0_pay1 (F := Ideal) (k0_pay5 (View.ld x5 r0_5)) (k0_pay6 x0 x1 x2 (View.ld x3 r0_3) x4) (k0_pay7 (View.ld x5 r0_6))
      : S256x1024.Idx → EReal) (ix2 r k)
    = rowAt x0 x1 x2 x3 r k
        * Ideal.rsqrt (Ideal.div (∑ j : Fin 1024, rowAt x0 x1 x2 x3 r j * rowAt x0 x1 x2 x3 r j) (Ideal.ofBits FTy.f32 0x44800000#32)
          + Ideal.ofBits FTy.f32 0x358637BD#32)
        * x4 (ix2 0 k) * (1 + x5 (ix3 0 1 k)) + x5 (ix3 0 0 k) := by
  unfold rowAt dotAt
  pointwise [k0_pay1, k0_pay5, k0_pay6, k0_pay7, k0_pay3, k0_pay2]

end Body

variable (m : (ℓ : Loc nD τ sig) → Buf (Elt Ideal) ℓ) (c : Dev nD)

/-- The arguments. -/
def arg0 : S8448x2816.Idx → EReal := m ((c.tc : Thread nD τ).loc main_arg0)
def arg1 : S2816x1024.Idx → EReal := m ((c.tc : Thread nD τ).loc main_arg1)
def arg2 : S8448x1024.Idx → EReal := m ((c.tc : Thread nD τ).loc main_arg2)
def arg3 : S2x6x1024.Idx → EReal := m ((c.tc : Thread nD τ).loc main_arg3)
def arg4 : S1x1024.Idx → EReal := m ((c.tc : Thread nD τ).loc main_arg4)
def arg5 : S2x6x1024.Idx → EReal := m ((c.tc : Thread nD τ).loc main_arg5)

/-- A row of a point's block. -/
def rowOf (t : Fin cfg0.N) (r : Fin 256) : Fin 8448 := ⟨t.val * 256 + r.val, by have := t.isLt; have : cfg0.N = 33 := N_0; omega⟩

theorem place0 : ∀ t : Fin cfg0.N, (cfg0.win 0).index t (0 : Fin 2) = t.val ∧ (cfg0.win 0).index t (1 : Fin 2) = 0 := by decide +kernel
/-- The rows a point reads of the argument. -/
theorem block0 (t : Fin cfg0.N) (r : Fin 256) (x : Fin 2816) : iblk m c 0 t (ix2 r x) = arg0 m c (ix2 (rowOf t r) x) := by
  obtain ⟨e0, e1⟩ := place0 t
  have ht : t.val < 33 := lt_of_lt_of_eq t.isLt N_0
  unfold arg0 rowOf
  blk_ext [iblk, e0, e1]
theorem place1 : ∀ t : Fin cfg0.N, (cfg0.win 1).index t (0 : Fin 2) = 0 ∧ (cfg0.win 1).index t (1 : Fin 2) = 0 := by decide +kernel
/-- The argument a point reads whole. -/
theorem block1 (t : Fin cfg0.N) (r : Fin 2816) (x : Fin 1024) : iblk m c 1 t (ix2 r x) = arg1 m c (ix2 r x) := by
  obtain ⟨e0, e1⟩ := place1 t
  unfold arg1
  blk_ext [iblk, e0, e1]
theorem place2 : ∀ t : Fin cfg0.N, (cfg0.win 2).index t (0 : Fin 2) = t.val ∧ (cfg0.win 2).index t (1 : Fin 2) = 0 := by decide +kernel
/-- The rows a point reads of the argument. -/
theorem block2 (t : Fin cfg0.N) (r : Fin 256) (x : Fin 1024) : iblk m c 2 t (ix2 r x) = arg2 m c (ix2 (rowOf t r) x) := by
  obtain ⟨e0, e1⟩ := place2 t
  have ht : t.val < 33 := lt_of_lt_of_eq t.isLt N_0
  unfold arg2 rowOf
  blk_ext [iblk, e0, e1]
theorem place3 : ∀ t : Fin cfg0.N, (cfg0.win 3).index t (0 : Fin 3) = t.val / 32 ∧ (cfg0.win 3).index t (1 : Fin 3) = 0
    ∧ (cfg0.win 3).index t (2 : Fin 3) = 0 := by decide +kernel
/-- The group of the modulation a point reads. -/
theorem group3 (t : Fin cfg0.N) (j : Fin 6) (k : Fin 1024) :
    iblk m c 3 t (ix3 0 j k) = arg3 m c (ix3 ⟨t.val / 32, by have := t.isLt; have : cfg0.N = 33 := N_0; omega⟩ j k) := by
  obtain ⟨e0, e1, e2⟩ := place3 t
  have ht : t.val < 33 := lt_of_lt_of_eq t.isLt N_0
  unfold arg3
  blk_ext [iblk, e0, e1, e2]
theorem block3 (t : Fin cfg0.N) (r : Fin 256) (j : Fin 6) (k : Fin 1024) :
    iblk m c 3 t (ix3 0 j k) = lineAt (arg3 m c) j (rowOf t r) k := by
  have ht : t.val < 33 := lt_of_lt_of_eq t.isLt N_0
  have hr := r.isLt
  rw [group3]
  unfold lineAt
  by_cases h : t.val < 32
  · have h0 : t.val / 32 = 0 := by omega
    rw [dif_pos (show (rowOf t r).val < 8192 by show t.val * 256 + r.val < 8192; omega)]
    exact congrArg (fun g => arg3 m c (ix3 g j k)) (Fin.ext h0)
  · have h1 : t.val / 32 = 1 := by omega
    rw [dif_neg (show ¬(rowOf t r).val < 8192 by show ¬t.val * 256 + r.val < 8192; omega)]
    exact congrArg (fun g => arg3 m c (ix3 g j k)) (Fin.ext h1)
theorem place4 : ∀ t : Fin cfg0.N, (cfg0.win 4).index t (0 : Fin 2) = 0 ∧ (cfg0.win 4).index t (1 : Fin 2) = 0 := by decide +kernel
/-- The argument a point reads whole. -/
theorem block4 (t : Fin cfg0.N) (r : Fin 1) (x : Fin 1024) : iblk m c 4 t (ix2 r x) = arg4 m c (ix2 r x) := by
  obtain ⟨e0, e1⟩ := place4 t
  unfold arg4
  blk_ext [iblk, e0, e1]
theorem place5 : ∀ t : Fin cfg0.N, (cfg0.win 5).index t (0 : Fin 3) = t.val / 32 ∧ (cfg0.win 5).index t (1 : Fin 3) = 0
    ∧ (cfg0.win 5).index t (2 : Fin 3) = 0 := by decide +kernel
/-- The group of the modulation a point reads. -/
theorem group5 (t : Fin cfg0.N) (j : Fin 6) (k : Fin 1024) :
    iblk m c 5 t (ix3 0 j k) = arg5 m c (ix3 ⟨t.val / 32, by have := t.isLt; have : cfg0.N = 33 := N_0; omega⟩ j k) := by
  obtain ⟨e0, e1, e2⟩ := place5 t
  have ht : t.val < 33 := lt_of_lt_of_eq t.isLt N_0
  unfold arg5
  blk_ext [iblk, e0, e1, e2]
theorem block5 (t : Fin cfg0.N) (r : Fin 256) (j : Fin 6) (k : Fin 1024) :
    iblk m c 5 t (ix3 0 j k) = lineAt (arg5 m c) j (rowOf t r) k := by
  have ht : t.val < 33 := lt_of_lt_of_eq t.isLt N_0
  have hr := r.isLt
  rw [group5]
  unfold lineAt
  by_cases h : t.val < 32
  · have h0 : t.val / 32 = 0 := by omega
    rw [dif_pos (show (rowOf t r).val < 8192 by show t.val * 256 + r.val < 8192; omega)]
    exact congrArg (fun g => arg5 m c (ix3 g j k)) (Fin.ext h0)
  · have h1 : t.val / 32 = 1 := by omega
    rw [dif_neg (show ¬(rowOf t r).val < 8192 by show ¬t.val * 256 + r.val < 8192; omega)]
    exact congrArg (fun g => arg5 m c (ix3 g j k)) (Fin.ext h1)
/-- The product and the residual row a point computes. -/
theorem product_block (t : Fin cfg0.N) (r : Fin 256) (k : Fin 1024) :
    dotAt (iblk m c 0 t) (iblk m c 1 t) r k = prodAt (arg0 m c) (arg1 m c) (rowOf t r) k :=
  Finset.sum_congr rfl fun x _ => by rw [block0, block1]
theorem residual_block (t : Fin cfg0.N) (r : Fin 256) (k : Fin 1024) :
    rowAt (iblk m c 0 t) (iblk m c 1 t) (iblk m c 2 t) (iblk m c 3 t) r k = residualAt (arg0 m c) (arg1 m c) (arg2 m c) (arg3 m c) (rowOf t r) k := by
  unfold rowAt residualAt
  rw [product_block, block2, block3 m c t r]
/-- What a point writes: the residual row. -/
theorem written6 (t : Fin cfg0.N) (r : Fin 256) (k : Fin 1024) :
    (out0_6 (iblk m c 0 t) (iblk m c 1 t) (iblk m c 2 t) (iblk m c 3 t) (iblk m c 4 t) (iblk m c 5 t) : S256x1024.Idx → EReal) (ix2 r k) = residualAt (arg0 m c) (arg1 m c) (arg2 m c) (arg3 m c) (rowOf t r) (k) := by
  unfold out0_6
  rw [View.canon_unit_zero hz]
  simp only [View.ld_unit_zero (S := S256x2816) hz, View.ld_unit_zero (S := S2816x1024) hz, View.ld_unit_zero (S := S256x1024) hz]
  exact (row_at _ _ _ _ r k).trans (residual_block m c t r k)
theorem place6 : ∀ t : Fin cfg0.N, (cfg0.win 6).index t (0 : Fin 2) = t.val ∧ (cfg0.win 6).index t (1 : Fin 2) = 0 := by decide +kernel
/-- The array after the last point. -/
theorem array6 : (dats m 0 c).arrAt 6 cfg0.N = (fun i : S8448x1024.Idx => residualAt (arg0 m c) (arg1 m c) (arg2 m c) (arg3 m c) ⟨(i 0).val, (i 0).isLt⟩ ⟨(i 1).val, (i 1).isLt⟩) := by
  refine Pipeline.Dat.arrAt_eq_of_covers (cfg := cfg0) (dats m 0 c) 6 _ (by decide +kernel) (fun t hf y => ?_)
  rw [after0_6]
  obtain ⟨e0, e1⟩ := place6 t
  blk_simp [e0, e1]
  refine Eq.trans (congrArg (out0_6 (iblk m c 0 t) (iblk m c 1 t) (iblk m c 2 t) (iblk m c 3 t) (iblk m c 4 t) (iblk m c 5 t)) ?_)
    ((written6 m c t ((cfg0.win 6).xinj (cfg0.grid.coords t) y 0) ((cfg0.win 6).xinj (cfg0.grid.coords t) y 1)).trans ?_)
  · funext a
    match a with
    | 0 => rfl
    | 1 => rfl
  · refine congrArg₂ (residualAt (arg0 m c) (arg1 m c) (arg2 m c) (arg3 m c)) (Fin.ext ?_) (Fin.ext ?_)
    · rfl
    · rfl
/-- What a point writes: the product. -/
theorem written7 (t : Fin cfg0.N) (r : Fin 256) (k : Fin 1024) :
    (out0_7 (iblk m c 0 t) (iblk m c 1 t) (iblk m c 2 t) (iblk m c 3 t) (iblk m c 4 t) (iblk m c 5 t) : S256x1024.Idx → EReal) (ix2 r k) = prodAt (arg0 m c) (arg1 m c) (rowOf t r) (k) := by
  unfold out0_7
  rw [View.canon_unit_zero hz]
  simp only [View.ld_unit_zero (S := S256x2816) hz, View.ld_unit_zero (S := S2816x1024) hz]
  exact (dot_at _ _ r k).trans (product_block m c t r k)
theorem place7 : ∀ t : Fin cfg0.N, (cfg0.win 7).index t (0 : Fin 2) = t.val ∧ (cfg0.win 7).index t (1 : Fin 2) = 0 := by decide +kernel
/-- The array after the last point. -/
theorem array7 : (dats m 0 c).arrAt 7 cfg0.N = (fun i : S8448x1024.Idx => prodAt (arg0 m c) (arg1 m c) ⟨(i 0).val, (i 0).isLt⟩ ⟨(i 1).val, (i 1).isLt⟩) := by
  refine Pipeline.Dat.arrAt_eq_of_covers (cfg := cfg0) (dats m 0 c) 7 _ (by decide +kernel) (fun t hf y => ?_)
  rw [after0_7]
  obtain ⟨e0, e1⟩ := place7 t
  blk_simp [e0, e1]
  refine Eq.trans (congrArg (out0_7 (iblk m c 0 t) (iblk m c 1 t) (iblk m c 2 t) (iblk m c 3 t) (iblk m c 4 t) (iblk m c 5 t)) ?_)
    ((written7 m c t ((cfg0.win 7).xinj (cfg0.grid.coords t) y 0) ((cfg0.win 7).xinj (cfg0.grid.coords t) y 1)).trans ?_)
  · funext a
    match a with
    | 0 => rfl
    | 1 => rfl
  · refine congrArg₂ (prodAt (arg0 m c) (arg1 m c)) (Fin.ext ?_) (Fin.ext ?_)
    · rfl
    · rfl
/-- What a point writes: the normed row. -/
theorem written8 (t : Fin cfg0.N) (r : Fin 256) (k : Fin 1024) :
    (out0_8 (iblk m c 0 t) (iblk m c 1 t) (iblk m c 2 t) (iblk m c 3 t) (iblk m c 4 t) (iblk m c 5 t) : S256x1024.Idx → EReal) (ix2 r k) = normedAt (arg0 m c) (arg1 m c) (arg2 m c) (arg3 m c) (arg4 m c) (arg5 m c) (rowOf t r) (k) := by
  unfold out0_8
  rw [View.canon_unit_zero hz]
  simp only [View.ld_unit_zero (S := S256x2816) hz, View.ld_unit_zero (S := S2816x1024) hz, View.ld_unit_zero (S := S256x1024) hz, View.ld_unit_zero (S := S1x1024) hz]
  refine (normed_at _ _ _ _ _ _ r k).trans ?_
  unfold normedAt
  simp only [residual_block m c t r]
  rw [block4, block5 m c t r, block5 m c t r]
theorem place8 : ∀ t : Fin cfg0.N, (cfg0.win 8).index t (0 : Fin 2) = t.val ∧ (cfg0.win 8).index t (1 : Fin 2) = 0 := by decide +kernel
/-- The array after the last point. -/
theorem array8 : (dats m 0 c).arrAt 8 cfg0.N = (fun i : S8448x1024.Idx => normedAt (arg0 m c) (arg1 m c) (arg2 m c) (arg3 m c) (arg4 m c) (arg5 m c) ⟨(i 0).val, (i 0).isLt⟩ ⟨(i 1).val, (i 1).isLt⟩) := by
  refine Pipeline.Dat.arrAt_eq_of_covers (cfg := cfg0) (dats m 0 c) 8 _ (by decide +kernel) (fun t hf y => ?_)
  rw [after0_8]
  obtain ⟨e0, e1⟩ := place8 t
  blk_simp [e0, e1]
  refine Eq.trans (congrArg (out0_8 (iblk m c 0 t) (iblk m c 1 t) (iblk m c 2 t) (iblk m c 3 t) (iblk m c 4 t) (iblk m c 5 t)) ?_)
    ((written8 m c t ((cfg0.win 8).xinj (cfg0.grid.coords t) y 0) ((cfg0.win 8).xinj (cfg0.grid.coords t) y 1)).trans ?_)
  · funext a
    match a with
    | 0 => rfl
    | 1 => rfl
  · refine congrArg₂ (normedAt (arg0 m c) (arg1 m c) (arg2 m c) (arg3 m c) (arg4 m c) (arg5 m c)) (Fin.ext ?_) (Fin.ext ?_)
    · rfl
    · rfl

variable (ρ : Dev nD → PrngReg)

/-- The results of the kernel's program. -/
def result0 (c : Dev nD) : S8448x1024.Idx → EReal := (dats m 0 c).arrAt 6 cfg0.N
def result1 (c : Dev nD) : S8448x1024.Idx → EReal := (dats m 0 c).arrAt 7 cfg0.N
def result2 (c : Dev nD) : S8448x1024.Idx → EReal := (dats m 0 c).arrAt 8 cfg0.N

/-- The kernel's and the reference's programs end with equal results. -/
theorem value : Cert.algebraic_Kernel12Ideal_Reference12Ideal := by
  intro m g m' g' hpre hargs
  refine ⟨result0 m, result1 m, result2 m, (θ_run defs _ _).mono (fun _ h c => ⟨(h.1 c).1 6, (h.1 c).1 7, (h.1 c).1 8, h.2 c⟩)
    (θ_run_and (run_main m g) (unchanged m g)), ?_⟩
  refine (θ_run Cert.Reference12Ideal.defs _ _).mono (fun r h c => ⟨(h c).1.trans ?_, (h c).2.1.trans ?_, (h c).2.2.1.trans ?_, (h c).2.2.2⟩)
    (Cert.Reference12Ideal.Value.run (F := Ideal) m' g')
  all_goals obtain ⟨e0, e1, e2, e3, e4, e5⟩ := hargs c
  · rw [e0, e1, e2, e3]
    funext i
    have hi : i = ix2 (i 0) (i 1) := by funext a; match a with | 0 => rfl | 1 => rfl
    rw [hi]
    exact (reference6 _ _ _ _ (i 0) (i 1)).trans (congrFun (array6 m c) (ix2 (i 0) (i 1))).symm
  · rw [e0, e1]
    funext i
    have hi : i = ix2 (i 0) (i 1) := by funext a; match a with | 0 => rfl | 1 => rfl
    rw [hi]
    exact (reference7 _ _ (i 0) (i 1)).trans (congrFun (array7 m c) (ix2 (i 0) (i 1))).symm
  · unfold Cert.Reference12Ideal.Value.res_main_v49
    rw [e0, e1, e2, e3, e4, e5]
    funext i
    have hi : i = ix2 (i 0) (i 1) := by funext a; match a with | 0 => rfl | 1 => rfl
    rw [hi]
    exact (reference8 _ _ _ _ _ _ (i 0) (i 1)).trans (congrFun (array8 m c) (ix2 (i 0) (i 1))).symm

/-- The reference's frame. -/
theorem frame_reference : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

end Cert.Down
-- ==== Proof.Merge.lean ====
/- The two branches merged: for each run of 256 rows the kernel takes the two projections and adds them, each times the logistic
   of its gate, as the reference does for all rows. -/
module

public import proofs.«01_k».proof.Defs
public import proofs.«01_k».proof.Proof.Gen.Kernel13Ideal.Frame
public import proofs.«01_k».proof.Proof.Gen.Reference13Ideal.Run
public import Idealize.ShloMosaic.Adequacy
public import Idealize.ShloMosaic.Init
public import Idealize.ShloMosaic.Lib.Pipeline.ValueKit
public import Idealize.ShloMosaic.Lib.Tactic.CleanTypes

@[expose] public section

set_option maxRecDepth 16384

noncomputable section

namespace Cert.Merge

section Formulas

open Idealize.ShloMosaic Idealize.ShloMosaic.TcCoe

/-- A branch's projection. -/
def projAt (a : (⟨2, ![8448, 512]⟩ : Shape).Idx → EReal) (v : (⟨2, ![512, 1024]⟩ : Shape).Idx → EReal) (r : Fin 8448) (k : Fin 1024) : EReal := ∑ x : Fin 512, a (ix2 r x) * v (ix2 x k)
/-- The logistic function. -/
def logisticAt (x : EReal) : EReal := Ideal.div 1 (1 + Ideal.exp (-x))
/-- The two projections, each times the logistic of its gate, added. -/
def mergedAt (a b : (⟨2, ![8448, 512]⟩ : Shape).Idx → EReal) (g : (⟨2, ![8448, 2048]⟩ : Shape).Idx → EReal) (v w : (⟨2, ![512, 1024]⟩ : Shape).Idx → EReal) (r : Fin 8448) (k : Fin 1024) : EReal :=
  logisticAt (g (ix2 r ⟨k.val, by omega⟩)) * projAt a v r k + logisticAt (g (ix2 r ⟨1024 + k.val, by omega⟩)) * projAt b w r k

end Formulas

section Reference

open Cert.Reference13Ideal Cert.Reference13Ideal.Gen Idealize.ShloMosaic Idealize.ShloMosaic.TcCoe
/-- The reference at an index: the gated sum. -/
theorem reference6 (a : FVec Ideal S8448x512 .bf16) (b : FVec Ideal S8448x512 .bf16) (g : FVec Ideal S8448x2048 .bf16) (v : FVec Ideal S512x1024 .bf16) (w : FVec Ideal S512x1024 .bf16) (r : Fin 8448) (k : Fin 1024) :
    (truncf .bf16 (addf (mulf (Host.divf (broadcastInDim S8448x1024 ![] bcast_S_S8448x1024 (constant S_ .f32 0x3F800000#32)) (addf (broadcastInDim S8448x1024 ![] bcast_S_S8448x1024 (constant S_ .f32 0x3F800000#32)) (Host.exp (Host.negf (extractStridedSlice S8448x1024 ![0, 0] (extf .f32 g bitsLt_bf16_f32) slices_S8448x2048_S8448x1024_0_0))))) (Host.dotGeneral dot_S8448x512_S512x1024_S8448x1024_1_0_0_1_n_n none (extf .f32 a bitsLt_bf16_f32) (extf .f32 v bitsLt_bf16_f32))) (mulf (Host.divf (broadcastInDim S8448x1024 ![] bcast_S_S8448x1024 (constant S_ .f32 0x3F800000#32)) (addf (broadcastInDim S8448x1024 ![] bcast_S_S8448x1024 (constant S_ .f32 0x3F800000#32)) (Host.exp (Host.negf (extractStridedSlice S8448x1024 ![0, 1024] (extf .f32 g bitsLt_bf16_f32) slices_S8448x2048_S8448x1024_0_1024))))) (Host.dotGeneral dot_S8448x512_S512x1024_S8448x1024_1_0_0_1_n_n none (extf .f32 b bitsLt_bf16_f32) (extf .f32 w bitsLt_bf16_f32)))) bitsLt_bf16_f32 : FVec Ideal S8448x1024 .bf16) (ix2 r k) = mergedAt a b g v w r k := by
  unfold mergedAt projAt logisticAt
  pointwise
/-- The reference at an index: the first projection. -/
theorem reference7 (a : FVec Ideal S8448x512 .bf16) (v : FVec Ideal S512x1024 .bf16) (r : Fin 8448) (k : Fin 1024) :
    (truncf .bf16 (Host.dotGeneral dot_S8448x512_S512x1024_S8448x1024_1_0_0_1_n_n none (extf .f32 a bitsLt_bf16_f32) (extf .f32 v bitsLt_bf16_f32)) bitsLt_bf16_f32 : FVec Ideal S8448x1024 .bf16) (ix2 r k) = projAt a v r k := by
  unfold projAt
  pointwise
/-- The reference at an index: the second projection. -/
theorem reference8 (b : FVec Ideal S8448x512 .bf16) (w : FVec Ideal S512x1024 .bf16) (r : Fin 8448) (k : Fin 1024) :
    (truncf .bf16 (Host.dotGeneral dot_S8448x512_S512x1024_S8448x1024_1_0_0_1_n_n none (extf .f32 b bitsLt_bf16_f32) (extf .f32 w bitsLt_bf16_f32)) bitsLt_bf16_f32 : FVec Ideal S8448x1024 .bf16) (ix2 r k) = projAt b w r k := by
  unfold projAt
  pointwise

end Reference

open Cert.Kernel13Ideal Cert.Kernel13Ideal.Gen Idealize.ShloMosaic Idealize.ShloMosaic.TcCoe
open Idealize.SL Idealize.SL.RA Idealize.SL.Sem

theorem hz : (![0, 0] : Fin 2 → Nat) = fun _ => 0 := funext fun a => by fin_cases a <;> rfl

/-- The product of two blocks. -/
def dotAt (x : S256x512.Idx → EReal) (y : S512x1024.Idx → EReal) (r : Fin 256) (k : Fin 1024) : EReal := ∑ j : Fin 512, x (ix2 r j) * y (ix2 j k)

variable (m : (ℓ : Loc nD τ sig) → Buf (Elt Ideal) ℓ) (c : Dev nD)

/-- The arguments. -/
def arg0 : S8448x512.Idx → EReal := m ((c.tc : Thread nD τ).loc main_arg0)
def arg1 : S8448x512.Idx → EReal := m ((c.tc : Thread nD τ).loc main_arg1)
def arg2 : S8448x2048.Idx → EReal := m ((c.tc : Thread nD τ).loc main_arg2)
def arg3 : S512x1024.Idx → EReal := m ((c.tc : Thread nD τ).loc main_arg3)
def arg4 : S512x1024.Idx → EReal := m ((c.tc : Thread nD τ).loc main_arg4)

/-- A row of a point's block. -/
def rowOf (t : Fin cfg0.N) (r : Fin 256) : Fin 8448 := ⟨t.val * 256 + r.val, by have := t.isLt; have : cfg0.N = 33 := N_0; omega⟩

theorem place0 : ∀ t : Fin cfg0.N, (cfg0.win 0).index t (0 : Fin 2) = t.val ∧ (cfg0.win 0).index t (1 : Fin 2) = 0 := by decide +kernel
/-- The rows a point reads of the argument. -/
theorem block0 (t : Fin cfg0.N) (r : Fin 256) (x : Fin 512) : iblk m c 0 t (ix2 r x) = arg0 m c (ix2 (rowOf t r) x) := by
  obtain ⟨e0, e1⟩ := place0 t
  have ht : t.val < 33 := lt_of_lt_of_eq t.isLt N_0
  unfold arg0 rowOf
  blk_ext [iblk, e0, e1]
theorem place1 : ∀ t : Fin cfg0.N, (cfg0.win 1).index t (0 : Fin 2) = t.val ∧ (cfg0.win 1).index t (1 : Fin 2) = 0 := by decide +kernel
/-- The rows a point reads of the argument. -/
theorem block1 (t : Fin cfg0.N) (r : Fin 256) (x : Fin 512) : iblk m c 1 t (ix2 r x) = arg1 m c (ix2 (rowOf t r) x) := by
  obtain ⟨e0, e1⟩ := place1 t
  have ht : t.val < 33 := lt_of_lt_of_eq t.isLt N_0
  unfold arg1 rowOf
  blk_ext [iblk, e0, e1]
theorem place2 : ∀ t : Fin cfg0.N, (cfg0.win 2).index t (0 : Fin 2) = t.val ∧ (cfg0.win 2).index t (1 : Fin 2) = 0 := by decide +kernel
/-- The columns a point reads of the gates. -/
theorem block2 (t : Fin cfg0.N) (r : Fin 256) (k : Fin 1024) : iblk m c 2 t (ix2 r k) = arg2 m c (ix2 (rowOf t r) ⟨k.val, by omega⟩) := by
  obtain ⟨e0, e1⟩ := place2 t
  have ht : t.val < 33 := lt_of_lt_of_eq t.isLt N_0
  unfold arg2 rowOf
  blk_ext [iblk, e0, e1]
theorem place3 : ∀ t : Fin cfg0.N, (cfg0.win 3).index t (0 : Fin 2) = t.val ∧ (cfg0.win 3).index t (1 : Fin 2) = 1 := by decide +kernel
/-- The columns a point reads of the gates. -/
theorem block3 (t : Fin cfg0.N) (r : Fin 256) (k : Fin 1024) : iblk m c 3 t (ix2 r k) = arg2 m c (ix2 (rowOf t r) ⟨1024 + k.val, by omega⟩) := by
  obtain ⟨e0, e1⟩ := place3 t
  have ht : t.val < 33 := lt_of_lt_of_eq t.isLt N_0
  unfold arg2 rowOf
  blk_ext [iblk, e0, e1]
theorem place4 : ∀ t : Fin cfg0.N, (cfg0.win 4).index t (0 : Fin 2) = 0 ∧ (cfg0.win 4).index t (1 : Fin 2) = 0 := by decide +kernel
/-- The argument a point reads whole. -/
theorem block4 (t : Fin cfg0.N) (r : Fin 512) (x : Fin 1024) : iblk m c 4 t (ix2 r x) = arg3 m c (ix2 r x) := by
  obtain ⟨e0, e1⟩ := place4 t
  unfold arg3
  blk_ext [iblk, e0, e1]
theorem place5 : ∀ t : Fin cfg0.N, (cfg0.win 5).index t (0 : Fin 2) = 0 ∧ (cfg0.win 5).index t (1 : Fin 2) = 0 := by decide +kernel
/-- The argument a point reads whole. -/
theorem block5 (t : Fin cfg0.N) (r : Fin 512) (x : Fin 1024) : iblk m c 5 t (ix2 r x) = arg4 m c (ix2 r x) := by
  obtain ⟨e0, e1⟩ := place5 t
  unfold arg4
  blk_ext [iblk, e0, e1]
/-- The two products a point takes. -/
theorem first_product (t : Fin cfg0.N) (r : Fin 256) (k : Fin 1024) :
    dotAt (iblk m c 0 t) (iblk m c 4 t) r k = projAt (arg0 m c) (arg3 m c) (rowOf t r) k :=
  Finset.sum_congr rfl fun x _ => by rw [block0, block4]
theorem second_product (t : Fin cfg0.N) (r : Fin 256) (k : Fin 1024) :
    dotAt (iblk m c 1 t) (iblk m c 5 t) r k = projAt (arg1 m c) (arg4 m c) (rowOf t r) k :=
  Finset.sum_congr rfl fun x _ => by rw [block1, block5]
/-- What a point writes: the gated sum. -/
theorem written6 (t : Fin cfg0.N) (r : Fin 256) (k : Fin 1024) :
    (out0_6 (iblk m c 0 t) (iblk m c 1 t) (iblk m c 2 t) (iblk m c 3 t) (iblk m c 4 t) (iblk m c 5 t) : S256x1024.Idx → EReal) (ix2 r k) = mergedAt (arg0 m c) (arg1 m c) (arg2 m c) (arg3 m c) (arg4 m c) (rowOf t r) (k) := by
  unfold out0_6
  rw [View.canon_unit_zero hz]
  simp only [View.ld_unit_zero (S := S256x512) hz, View.ld_unit_zero (S := S512x1024) hz, View.ld_unit_zero (S := S256x1024) hz]
  have h : ∀ (x0 x1 : Vec Ideal S256x512 .bf16) (x2 x3 : Vec Ideal S256x1024 .bf16) (x4 x5 : Vec Ideal S512x1024 .bf16),
      (k0_pay3 (F := Ideal) x0 x4 x1 x5 x2 x3 : S256x1024.Idx → EReal) (ix2 r k)
        = logisticAt (x2 (ix2 r k)) * dotAt x0 x4 r k
          + logisticAt (x3 (ix2 r k)) * dotAt x1 x5 r k := fun x0 x1 x2 x3 x4 x5 => by
    unfold logisticAt dotAt
    pointwise [k0_pay3, k0_pay1, k0_pay2]
    rw [zero_sub, zero_sub]
  refine (h _ _ _ _ _ _).trans ?_
  unfold mergedAt
  rw [first_product m c t r k, second_product m c t r k, block2, block3]
theorem place6 : ∀ t : Fin cfg0.N, (cfg0.win 6).index t (0 : Fin 2) = t.val ∧ (cfg0.win 6).index t (1 : Fin 2) = 0 := by decide +kernel
/-- The array after the last point. -/
theorem array6 : (dats m 0 c).arrAt 6 cfg0.N = (fun i : S8448x1024.Idx => mergedAt (arg0 m c) (arg1 m c) (arg2 m c) (arg3 m c) (arg4 m c) ⟨(i 0).val, (i 0).isLt⟩ ⟨(i 1).val, (i 1).isLt⟩) := by
  refine Pipeline.Dat.arrAt_eq_of_covers (cfg := cfg0) (dats m 0 c) 6 _ (by decide +kernel) (fun t hf y => ?_)
  rw [after0_6]
  obtain ⟨e0, e1⟩ := place6 t
  blk_simp [e0, e1]
  refine Eq.trans (congrArg (out0_6 (iblk m c 0 t) (iblk m c 1 t) (iblk m c 2 t) (iblk m c 3 t) (iblk m c 4 t) (iblk m c 5 t)) ?_)
    ((written6 m c t ((cfg0.win 6).xinj (cfg0.grid.coords t) y 0) ((cfg0.win 6).xinj (cfg0.grid.coords t) y 1)).trans ?_)
  · funext a
    match a with
    | 0 => rfl
    | 1 => rfl
  · refine congrArg₂ (mergedAt (arg0 m c) (arg1 m c) (arg2 m c) (arg3 m c) (arg4 m c)) (Fin.ext ?_) (Fin.ext ?_)
    · rfl
    · rfl
/-- What a point writes: the first projection. -/
theorem written7 (t : Fin cfg0.N) (r : Fin 256) (k : Fin 1024) :
    (out0_7 (iblk m c 0 t) (iblk m c 1 t) (iblk m c 2 t) (iblk m c 3 t) (iblk m c 4 t) (iblk m c 5 t) : S256x1024.Idx → EReal) (ix2 r k) = projAt (arg0 m c) (arg3 m c) (rowOf t r) (k) := by
  unfold out0_7
  rw [View.canon_unit_zero hz, View.ld_unit_zero (S := S256x512) hz, View.ld_unit_zero (S := S512x1024) hz]
  have h : ∀ (x0 : Vec Ideal S256x512 .bf16) (x1 : Vec Ideal S512x1024 .bf16), (k0_pay4 (F := Ideal) x0 x1 : S256x1024.Idx → EReal) (ix2 r k)
      = dotAt x0 x1 r k := fun x0 x1 => by unfold dotAt; pointwise [k0_pay4, k0_pay1]
  exact (h _ _).trans (first_product m c t r k)
theorem place7 : ∀ t : Fin cfg0.N, (cfg0.win 7).index t (0 : Fin 2) = t.val ∧ (cfg0.win 7).index t (1 : Fin 2) = 0 := by decide +kernel
/-- The array after the last point. -/
theorem array7 : (dats m 0 c).arrAt 7 cfg0.N = (fun i : S8448x1024.Idx => projAt (arg0 m c) (arg3 m c) ⟨(i 0).val, (i 0).isLt⟩ ⟨(i 1).val, (i 1).isLt⟩) := by
  refine Pipeline.Dat.arrAt_eq_of_covers (cfg := cfg0) (dats m 0 c) 7 _ (by decide +kernel) (fun t hf y => ?_)
  rw [after0_7]
  obtain ⟨e0, e1⟩ := place7 t
  blk_simp [e0, e1]
  refine Eq.trans (congrArg (out0_7 (iblk m c 0 t) (iblk m c 1 t) (iblk m c 2 t) (iblk m c 3 t) (iblk m c 4 t) (iblk m c 5 t)) ?_)
    ((written7 m c t ((cfg0.win 7).xinj (cfg0.grid.coords t) y 0) ((cfg0.win 7).xinj (cfg0.grid.coords t) y 1)).trans ?_)
  · funext a
    match a with
    | 0 => rfl
    | 1 => rfl
  · refine congrArg₂ (projAt (arg0 m c) (arg3 m c)) (Fin.ext ?_) (Fin.ext ?_)
    · rfl
    · rfl
/-- What a point writes: the second projection. -/
theorem written8 (t : Fin cfg0.N) (r : Fin 256) (k : Fin 1024) :
    (out0_8 (iblk m c 0 t) (iblk m c 1 t) (iblk m c 2 t) (iblk m c 3 t) (iblk m c 4 t) (iblk m c 5 t) : S256x1024.Idx → EReal) (ix2 r k) = projAt (arg1 m c) (arg4 m c) (rowOf t r) (k) := by
  unfold out0_8
  rw [View.canon_unit_zero hz, View.ld_unit_zero (S := S256x512) hz, View.ld_unit_zero (S := S512x1024) hz]
  have h : ∀ (x0 : Vec Ideal S256x512 .bf16) (x1 : Vec Ideal S512x1024 .bf16), (k0_pay5 (F := Ideal) x0 x1 : S256x1024.Idx → EReal) (ix2 r k)
      = dotAt x0 x1 r k := fun x0 x1 => by unfold dotAt; pointwise [k0_pay5, k0_pay2]
  exact (h _ _).trans (second_product m c t r k)
theorem place8 : ∀ t : Fin cfg0.N, (cfg0.win 8).index t (0 : Fin 2) = t.val ∧ (cfg0.win 8).index t (1 : Fin 2) = 0 := by decide +kernel
/-- The array after the last point. -/
theorem array8 : (dats m 0 c).arrAt 8 cfg0.N = (fun i : S8448x1024.Idx => projAt (arg1 m c) (arg4 m c) ⟨(i 0).val, (i 0).isLt⟩ ⟨(i 1).val, (i 1).isLt⟩) := by
  refine Pipeline.Dat.arrAt_eq_of_covers (cfg := cfg0) (dats m 0 c) 8 _ (by decide +kernel) (fun t hf y => ?_)
  rw [after0_8]
  obtain ⟨e0, e1⟩ := place8 t
  blk_simp [e0, e1]
  refine Eq.trans (congrArg (out0_8 (iblk m c 0 t) (iblk m c 1 t) (iblk m c 2 t) (iblk m c 3 t) (iblk m c 4 t) (iblk m c 5 t)) ?_)
    ((written8 m c t ((cfg0.win 8).xinj (cfg0.grid.coords t) y 0) ((cfg0.win 8).xinj (cfg0.grid.coords t) y 1)).trans ?_)
  · funext a
    match a with
    | 0 => rfl
    | 1 => rfl
  · refine congrArg₂ (projAt (arg1 m c) (arg4 m c)) (Fin.ext ?_) (Fin.ext ?_)
    · rfl
    · rfl

variable (ρ : Dev nD → PrngReg)

/-- The results of the kernel's program. -/
def result0 (c : Dev nD) : S8448x1024.Idx → EReal := (dats m 0 c).arrAt 6 cfg0.N
def result1 (c : Dev nD) : S8448x1024.Idx → EReal := (dats m 0 c).arrAt 7 cfg0.N
def result2 (c : Dev nD) : S8448x1024.Idx → EReal := (dats m 0 c).arrAt 8 cfg0.N

/-- The kernel's and the reference's programs end with equal results. -/
theorem value : Cert.algebraic_Kernel13Ideal_Reference13Ideal := by
  intro m g m' g' hpre hargs
  refine ⟨result0 m, result1 m, result2 m, (θ_run defs _ _).mono (fun _ h c => ⟨(h.1 c).1 6, (h.1 c).1 7, (h.1 c).1 8, h.2 c⟩)
    (θ_run_and (run_main m g) (unchanged m g)), ?_⟩
  refine (θ_run Cert.Reference13Ideal.defs _ _).mono (fun r h c => ⟨(h c).1.trans ?_, (h c).2.1.trans ?_, (h c).2.2.1.trans ?_, (h c).2.2.2⟩)
    (Cert.Reference13Ideal.Value.run (F := Ideal) m' g')
  all_goals obtain ⟨e0, e1, e2, e3, e4⟩ := hargs c
  · rw [e0, e1, e2, e3, e4]
    funext i
    have hi : i = ix2 (i 0) (i 1) := by funext a; match a with | 0 => rfl | 1 => rfl
    rw [hi]
    exact (reference6 _ _ _ _ _ (i 0) (i 1)).trans (congrFun (array6 m c) (ix2 (i 0) (i 1))).symm
  · rw [e0, e3]
    funext i
    have hi : i = ix2 (i 0) (i 1) := by funext a; match a with | 0 => rfl | 1 => rfl
    rw [hi]
    exact (reference7 _ _ (i 0) (i 1)).trans (congrFun (array7 m c) (ix2 (i 0) (i 1))).symm
  · rw [e1, e4]
    funext i
    have hi : i = ix2 (i 0) (i 1) := by funext a; match a with | 0 => rfl | 1 => rfl
    rw [hi]
    exact (reference8 _ _ (i 0) (i 1)).trans (congrFun (array8 m c) (ix2 (i 0) (i 1))).symm

/-- The reference's frame. -/
theorem frame_reference : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

end Cert.Merge
-- ==== Proof.Wo.lean ====
/- The output projection of attention with what follows it: for each run of 256 rows the kernel takes the product, adds it gated to
   the residual row, and norms and modulates that row for the gated layer, as the reference does for all rows. -/
module

public import proofs.«01_k».proof.Defs
public import proofs.«01_k».proof.Proof.Gen.Kernel14Ideal.Frame
public import proofs.«01_k».proof.Proof.Gen.Reference14Ideal.Run
public import Idealize.ShloMosaic.Adequacy
public import Idealize.ShloMosaic.Init
public import Idealize.ShloMosaic.Lib.Pipeline.ValueKit
public import Idealize.ShloMosaic.Lib.Tactic.CleanTypes

@[expose] public section

set_option maxRecDepth 16384

noncomputable section

namespace Cert.Wo

section Formulas

open Idealize.ShloMosaic Idealize.ShloMosaic.TcCoe

/-- A line of the modulation: the latent rows take the first of its two groups, the context rows the second. -/
def lineAt (d : (⟨3, ![2, 6, 1024]⟩ : Shape).Idx → EReal) (j : Fin 6) (r : Fin 8448) (k : Fin 1024) : EReal := if h : r.val < 8192 then d (ix3 0 j k) else d (ix3 1 j k)
/-- The product. -/
def prodAt (a : (⟨2, ![8448, 1024]⟩ : Shape).Idx → EReal) (w : (⟨2, ![1024, 1024]⟩ : Shape).Idx → EReal) (r : Fin 8448) (k : Fin 1024) : EReal := ∑ j : Fin 1024, a (ix2 r j) * w (ix2 j k)
/-- The residual row with the gated product added. -/
def residualAt (a : (⟨2, ![8448, 1024]⟩ : Shape).Idx → EReal) (w : (⟨2, ![1024, 1024]⟩ : Shape).Idx → EReal) (x : (⟨2, ![8448, 1024]⟩ : Shape).Idx → EReal) (d : (⟨3, ![2, 6, 1024]⟩ : Shape).Idx → EReal) (r : Fin 8448) (k : Fin 1024) : EReal := x (ix2 r k) + lineAt d 2 r k * prodAt a w r k
/-- That row over the root of its mean square, times the norm's weight, modulated. -/
def normedAt (a : (⟨2, ![8448, 1024]⟩ : Shape).Idx → EReal) (w : (⟨2, ![1024, 1024]⟩ : Shape).Idx → EReal) (x : (⟨2, ![8448, 1024]⟩ : Shape).Idx → EReal) (d : (⟨3, ![2, 6, 1024]⟩ : Shape).Idx → EReal) (n : (⟨2, ![1, 1024]⟩ : Shape).Idx → EReal) (r : Fin 8448) (k : Fin 1024) : EReal :=
  residualAt a w x d r k
      * Ideal.rsqrt (Ideal.div (∑ j : Fin 1024, residualAt a w x d r j * residualAt a w x d r j) (Ideal.ofBits FTy.f32 0x44800000#32)
        + Ideal.ofBits FTy.f32 0x358637BD#32)
      * n (ix2 0 k) * (1 + lineAt d 4 r k) + lineAt d 3 r k

end Formulas

section Reference

open Cert.Reference14Ideal Cert.Reference14Ideal.Gen Idealize.ShloMosaic Idealize.ShloMosaic.TcCoe
/-- The reference at an index: the residual row. -/
theorem reference5 (a : FVec Ideal S8448x1024 .bf16) (w : FVec Ideal S1024x1024 .bf16) (x : FVec Ideal S8448x1024 .f32) (d : FVec Ideal S2x6x1024 .f32) (r : Fin 8448) (k : Fin 1024) :
    (addf x (mulf (concatenate S8448x1024 0 [⟨S8192x1024, (broadcastInDim S8192x1024 ![1] bcast_S1024_S8192x1024_1 (shapeCast _ (extractStridedSlice S1x1024 ![0, 0] (shapeCast _ (extractStridedSlice S2x1x1024 ![0, 2, 0] d slices_S2x6x1024_S2x1x1024_0_2_0) shapeCasts_S2x1x1024_S2x1024) slices_S2x1024_S1x1024_0_0) shapeCasts_S1x1024_S1024))⟩, ⟨S256x1024, (broadcastInDim S256x1024 ![1] bcast_S1024_S256x1024_1 (shapeCast _ (extractStridedSlice S1x1024 ![1, 0] (shapeCast _ (extractStridedSlice S2x1x1024 ![0, 2, 0] d slices_S2x6x1024_S2x1x1024_0_2_0) shapeCasts_S2x1x1024_S2x1024) slices_S2x1024_S1x1024_1_0) shapeCasts_S1x1024_S1024))⟩] concatenates_S8192x1024_S256x1024_S8448x1024_d0) (Host.dotGeneral dot_S8448x1024_S1024x1024_S8448x1024_1_0_0_1_n_n none (extf .f32 a bitsLt_bf16_f32) (extf .f32 w bitsLt_bf16_f32))) : FVec Ideal S8448x1024 .f32) (ix2 r k) = residualAt a w x d r k := by
  unfold residualAt lineAt prodAt
  pointwise
/-- The reference at an index: the product. -/
theorem reference6 (a : FVec Ideal S8448x1024 .bf16) (w : FVec Ideal S1024x1024 .bf16) (r : Fin 8448) (k : Fin 1024) :
    (truncf .bf16 (Host.dotGeneral dot_S8448x1024_S1024x1024_S8448x1024_1_0_0_1_n_n none (extf .f32 a bitsLt_bf16_f32) (extf .f32 w bitsLt_bf16_f32)) bitsLt_bf16_f32 : FVec Ideal S8448x1024 .bf16) (ix2 r k) = prodAt a w r k := by
  unfold prodAt
  pointwise
/-- The reference at an index: the normed row. -/
theorem reference7 (a : FVec Ideal S8448x1024 .bf16) (w : FVec Ideal S1024x1024 .bf16) (x : FVec Ideal S8448x1024 .f32) (d : FVec Ideal S2x6x1024 .f32) (n : FVec Ideal S1x1024 .f32) (r : Fin 8448) (k : Fin 1024) :
    (truncf .bf16 (addf (mulf (mulf (mulf (addf x (mulf (concatenate S8448x1024 0 [⟨S8192x1024, (broadcastInDim S8192x1024 ![1] bcast_S1024_S8192x1024_1 (shapeCast _ (extractStridedSlice S1x1024 ![0, 0] (shapeCast _ (extractStridedSlice S2x1x1024 ![0, 2, 0] d slices_S2x6x1024_S2x1x1024_0_2_0) shapeCasts_S2x1x1024_S2x1024) slices_S2x1024_S1x1024_0_0) shapeCasts_S1x1024_S1024))⟩, ⟨S256x1024, (broadcastInDim S256x1024 ![1] bcast_S1024_S256x1024_1 (shapeCast _ (extractStridedSlice S1x1024 ![1, 0] (shapeCast _ (extractStridedSlice S2x1x1024 ![0, 2, 0] d slices_S2x6x1024_S2x1x1024_0_2_0) shapeCasts_S2x1x1024_S2x1024) slices_S2x1024_S1x1024_1_0) shapeCasts_S1x1024_S1024))⟩] concatenates_S8192x1024_S256x1024_S8448x1024_d0) (Host.dotGeneral dot_S8448x1024_S1024x1024_S8448x1024_1_0_0_1_n_n none (extf .f32 a bitsLt_bf16_f32) (extf .f32 w bitsLt_bf16_f32)))) (broadcastInDim S8448x1024 ![0, 1] bcast_S8448x1_S8448x1024_0_1 (Host.rsqrt (addf (Host.divf (broadcastInDim S8448x1 ![0] bcast_S8448_S8448x1_0 (Host.reduceAdd (mulf (addf x (mulf (concatenate S8448x1024 0 [⟨S8192x1024, (broadcastInDim S8192x1024 ![1] bcast_S1024_S8192x1024_1 (shapeCast _ (extractStridedSlice S1x1024 ![0, 0] (shapeCast _ (extractStridedSlice S2x1x1024 ![0, 2, 0] d slices_S2x6x1024_S2x1x1024_0_2_0) shapeCasts_S2x1x1024_S2x1024) slices_S2x1024_S1x1024_0_0) shapeCasts_S1x1024_S1024))⟩, ⟨S256x1024, (broadcastInDim S256x1024 ![1] bcast_S1024_S256x1024_1 (shapeCast _ (extractStridedSlice S1x1024 ![1, 0] (shapeCast _ (extractStridedSlice S2x1x1024 ![0, 2, 0] d slices_S2x6x1024_S2x1x1024_0_2_0) shapeCasts_S2x1x1024_S2x1024) slices_S2x1024_S1x1024_1_0) shapeCasts_S1x1024_S1024))⟩] concatenates_S8192x1024_S256x1024_S8448x1024_d0) (Host.dotGeneral dot_S8448x1024_S1024x1024_S8448x1024_1_0_0_1_n_n none (extf .f32 a bitsLt_bf16_f32) (extf .f32 w bitsLt_bf16_f32)))) (addf x (mulf (concatenate S8448x1024 0 [⟨S8192x1024, (broadcastInDim S8192x1024 ![1] bcast_S1024_S8192x1024_1 (shapeCast _ (extractStridedSlice S1x1024 ![0, 0] (shapeCast _ (extractStridedSlice S2x1x1024 ![0, 2, 0] d slices_S2x6x1024_S2x1x1024_0_2_0) shapeCasts_S2x1x1024_S2x1024) slices_S2x1024_S1x1024_0_0) shapeCasts_S1x1024_S1024))⟩, ⟨S256x1024, (broadcastInDim S256x1024 ![1] bcast_S1024_S256x1024_1 (shapeCast _ (extractStridedSlice S1x1024 ![1, 0] (shapeCast _ (extractStridedSlice S2x1x1024 ![0, 2, 0] d slices_S2x6x1024_S2x1x1024_0_2_0) shapeCasts_S2x1x1024_S2x1024) slices_S2x1024_S1x1024_1_0) shapeCasts_S1x1024_S1024))⟩] concatenates_S8192x1024_S256x1024_S8448x1024_d0) (Host.dotGeneral dot_S8448x1024_S1024x1024_S8448x1024_1_0_0_1_n_n none (extf .f32 a bitsLt_bf16_f32) (extf .f32 w bitsLt_bf16_f32))))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 n)) (addf (broadcastInDim S8448x1024 ![] bcast_S_S8448x1024 (constant S_ .f32 0x3F800000#32)) (concatenate S8448x1024 0 [⟨S8192x1024, (broadcastInDim S8192x1024 ![1] bcast_S1024_S8192x1024_1 (shapeCast _ (extractStridedSlice S1x1024 ![0, 0] (shapeCast _ (extractStridedSlice S2x1x1024 ![0, 4, 0] d slices_S2x6x1024_S2x1x1024_0_4_0) shapeCasts_S2x1x1024_S2x1024) slices_S2x1024_S1x1024_0_0) shapeCasts_S1x1024_S1024))⟩, ⟨S256x1024, (broadcastInDim S256x1024 ![1] bcast_S1024_S256x1024_1 (shapeCast _ (extractStridedSlice S1x1024 ![1, 0] (shapeCast _ (extractStridedSlice S2x1x1024 ![0, 4, 0] d slices_S2x6x1024_S2x1x1024_0_4_0) shapeCasts_S2x1x1024_S2x1024) slices_S2x1024_S1x1024_1_0) shapeCasts_S1x1024_S1024))⟩] concatenates_S8192x1024_S256x1024_S8448x1024_d0))) (concatenate S8448x1024 0 [⟨S8192x1024, (broadcastInDim S8192x1024 ![1] bcast_S1024_S8192x1024_1 (shapeCast _ (extractStridedSlice S1x1024 ![0, 0] (shapeCast _ (extractStridedSlice S2x1x1024 ![0, 3, 0] d slices_S2x6x1024_S2x1x1024_0_3_0) shapeCasts_S2x1x1024_S2x1024) slices_S2x1024_S1x1024_0_0) shapeCasts_S1x1024_S1024))⟩, ⟨S256x1024, (broadcastInDim S256x1024 ![1] bcast_S1024_S256x1024_1 (shapeCast _ (extractStridedSlice S1x1024 ![1, 0] (shapeCast _ (extractStridedSlice S2x1x1024 ![0, 3, 0] d slices_S2x6x1024_S2x1x1024_0_3_0) shapeCasts_S2x1x1024_S2x1024) slices_S2x1024_S1x1024_1_0) shapeCasts_S1x1024_S1024))⟩] concatenates_S8192x1024_S256x1024_S8448x1024_d0)) bitsLt_bf16_f32 : FVec Ideal S8448x1024 .bf16) (ix2 r k) = normedAt a w x d n r k := by
  unfold normedAt residualAt lineAt prodAt
  pointwise

end Reference

open Cert.Kernel14Ideal Cert.Kernel14Ideal.Gen Idealize.ShloMosaic Idealize.ShloMosaic.TcCoe
open Idealize.SL Idealize.SL.RA Idealize.SL.Sem

theorem hz : (![0, 0] : Fin 2 → Nat) = fun _ => 0 := funext fun a => by fin_cases a <;> rfl

/-- The product of two blocks. -/
def dotAt (x : S256x1024.Idx → EReal) (y : S1024x1024.Idx → EReal) (r : Fin 256) (k : Fin 1024) : EReal := ∑ j : Fin 1024, x (ix2 r j) * y (ix2 j k)
/-- The residual row of a point's blocks. -/
def rowAt (x : S256x1024.Idx → EReal) (y : S1024x1024.Idx → EReal) (z : S256x1024.Idx → EReal) (d : S1x6x1024.Idx → EReal) (r : Fin 256) (k : Fin 1024) : EReal :=
  z (ix2 r k) + d (ix3 0 2 k) * dotAt x y r k

section Body

variable (x0 : Vec Ideal S256x1024 .bf16) (x1 : Vec Ideal S1024x1024 .bf16) (x2 : Vec Ideal S256x1024 .f32) (x3 x5 : Vec Ideal S1x6x1024 .f32)
  (x4 : Vec Ideal S1x1024 .f32) (r : Fin 256) (k : Fin 1024)

/-- The three values a point writes, of its blocks. -/
theorem row_at : (k0_pay3 (F := Ideal) x0 x1 x2 (View.ld x3 r0_2) : S256x1024.Idx → EReal) (ix2 r k) = rowAt x0 x1 x2 x3 r k := by
  unfold rowAt dotAt
  pointwise [k0_pay3, k0_pay2]
theorem dot_at : (k0_pay4 (F := Ideal) x0 x1 : S256x1024.Idx → EReal) (ix2 r k) = dotAt x0 x1 r k := by
  unfold dotAt
  pointwise [k0_pay4, k0_pay2]
theorem normed_at : (k0_pay1 (F := Ideal) (k0_pay5 (View.ld x5 r0_4)) (k0_pay6 x0 x1 x2 (View.ld x3 r0_2) x4) (k0_pay7 (View.ld x5 r0_5))
      : S256x1024.Idx → EReal) (ix2 r k)
    = rowAt x0 x1 x2 x3 r k
        * Ideal.rsqrt (Ideal.div (∑ j : Fin 1024, rowAt x0 x1 x2 x3 r j * rowAt x0 x1 x2 x3 r j) (Ideal.ofBits FTy.f32 0x44800000#32)
          + Ideal.ofBits FTy.f32 0x358637BD#32)
        * x4 (ix2 0 k) * (1 + x5 (ix3 0 4 k)) + x5 (ix3 0 3 k) := by
  unfold rowAt dotAt
  pointwise [k0_pay1, k0_pay5, k0_pay6, k0_pay7, k0_pay3, k0_pay2]

end Body

variable (m : (ℓ : Loc nD τ sig) → Buf (Elt Ideal) ℓ) (c : Dev nD)

/-- The arguments. -/
def arg0 : S8448x1024.Idx → EReal := m ((c.tc : Thread nD τ).loc main_arg0)
def arg1 : S1024x1024.Idx → EReal := m ((c.tc : Thread nD τ).loc main_arg1)
def arg2 : S8448x1024.Idx → EReal := m ((c.tc : Thread nD τ).loc main_arg2)
def arg3 : S2x6x1024.Idx → EReal := m ((c.tc : Thread nD τ).loc main_arg3)
def arg4 : S1x1024.Idx → EReal := m ((c.tc : Thread nD τ).loc main_arg4)

/-- A row of a point's block. -/
def rowOf (t : Fin cfg0.N) (r : Fin 256) : Fin 8448 := ⟨t.val * 256 + r.val, by have := t.isLt; have : cfg0.N = 33 := N_0; omega⟩

theorem place0 : ∀ t : Fin cfg0.N, (cfg0.win 0).index t (0 : Fin 2) = t.val ∧ (cfg0.win 0).index t (1 : Fin 2) = 0 := by decide +kernel
/-- The rows a point reads of the argument. -/
theorem block0 (t : Fin cfg0.N) (r : Fin 256) (x : Fin 1024) : iblk m c 0 t (ix2 r x) = arg0 m c (ix2 (rowOf t r) x) := by
  obtain ⟨e0, e1⟩ := place0 t
  have ht : t.val < 33 := lt_of_lt_of_eq t.isLt N_0
  unfold arg0 rowOf
  blk_ext [iblk, e0, e1]
theorem place1 : ∀ t : Fin cfg0.N, (cfg0.win 1).index t (0 : Fin 2) = 0 ∧ (cfg0.win 1).index t (1 : Fin 2) = 0 := by decide +kernel
/-- The argument a point reads whole. -/
theorem block1 (t : Fin cfg0.N) (r : Fin 1024) (x : Fin 1024) : iblk m c 1 t (ix2 r x) = arg1 m c (ix2 r x) := by
  obtain ⟨e0, e1⟩ := place1 t
  unfold arg1
  blk_ext [iblk, e0, e1]
theorem place2 : ∀ t : Fin cfg0.N, (cfg0.win 2).index t (0 : Fin 2) = t.val ∧ (cfg0.win 2).index t (1 : Fin 2) = 0 := by decide +kernel
/-- The rows a point reads of the argument. -/
theorem block2 (t : Fin cfg0.N) (r : Fin 256) (x : Fin 1024) : iblk m c 2 t (ix2 r x) = arg2 m c (ix2 (rowOf t r) x) := by
  obtain ⟨e0, e1⟩ := place2 t
  have ht : t.val < 33 := lt_of_lt_of_eq t.isLt N_0
  unfold arg2 rowOf
  blk_ext [iblk, e0, e1]
theorem place3 : ∀ t : Fin cfg0.N, (cfg0.win 3).index t (0 : Fin 3) = t.val / 32 ∧ (cfg0.win 3).index t (1 : Fin 3) = 0
    ∧ (cfg0.win 3).index t (2 : Fin 3) = 0 := by decide +kernel
/-- The group of the modulation a point reads. -/
theorem group3 (t : Fin cfg0.N) (j : Fin 6) (k : Fin 1024) :
    iblk m c 3 t (ix3 0 j k) = arg3 m c (ix3 ⟨t.val / 32, by have := t.isLt; have : cfg0.N = 33 := N_0; omega⟩ j k) := by
  obtain ⟨e0, e1, e2⟩ := place3 t
  have ht : t.val < 33 := lt_of_lt_of_eq t.isLt N_0
  unfold arg3
  blk_ext [iblk, e0, e1, e2]
theorem block3 (t : Fin cfg0.N) (r : Fin 256) (j : Fin 6) (k : Fin 1024) :
    iblk m c 3 t (ix3 0 j k) = lineAt (arg3 m c) j (rowOf t r) k := by
  have ht : t.val < 33 := lt_of_lt_of_eq t.isLt N_0
  have hr := r.isLt
  rw [group3]
  unfold lineAt
  by_cases h : t.val < 32
  · have h0 : t.val / 32 = 0 := by omega
    rw [dif_pos (show (rowOf t r).val < 8192 by show t.val * 256 + r.val < 8192; omega)]
    exact congrArg (fun g => arg3 m c (ix3 g j k)) (Fin.ext h0)
  · have h1 : t.val / 32 = 1 := by omega
    rw [dif_neg (show ¬(rowOf t r).val < 8192 by show ¬t.val * 256 + r.val < 8192; omega)]
    exact congrArg (fun g => arg3 m c (ix3 g j k)) (Fin.ext h1)
theorem place4 : ∀ t : Fin cfg0.N, (cfg0.win 4).index t (0 : Fin 2) = 0 ∧ (cfg0.win 4).index t (1 : Fin 2) = 0 := by decide +kernel
/-- The argument a point reads whole. -/
theorem block4 (t : Fin cfg0.N) (r : Fin 1) (x : Fin 1024) : iblk m c 4 t (ix2 r x) = arg4 m c (ix2 r x) := by
  obtain ⟨e0, e1⟩ := place4 t
  unfold arg4
  blk_ext [iblk, e0, e1]
/-- The product and the residual row a point computes. -/
theorem product_block (t : Fin cfg0.N) (r : Fin 256) (k : Fin 1024) :
    dotAt (iblk m c 0 t) (iblk m c 1 t) r k = prodAt (arg0 m c) (arg1 m c) (rowOf t r) k :=
  Finset.sum_congr rfl fun x _ => by rw [block0, block1]
theorem residual_block (t : Fin cfg0.N) (r : Fin 256) (k : Fin 1024) :
    rowAt (iblk m c 0 t) (iblk m c 1 t) (iblk m c 2 t) (iblk m c 3 t) r k = residualAt (arg0 m c) (arg1 m c) (arg2 m c) (arg3 m c) (rowOf t r) k := by
  unfold rowAt residualAt
  rw [product_block, block2, block3 m c t r]
/-- What a point writes: the residual row. -/
theorem written5 (t : Fin cfg0.N) (r : Fin 256) (k : Fin 1024) :
    (out0_5 (iblk m c 0 t) (iblk m c 1 t) (iblk m c 2 t) (iblk m c 3 t) (iblk m c 4 t) : S256x1024.Idx → EReal) (ix2 r k) = residualAt (arg0 m c) (arg1 m c) (arg2 m c) (arg3 m c) (rowOf t r) (k) := by
  unfold out0_5
  rw [View.canon_unit_zero hz]
  simp only [View.ld_unit_zero (S := S256x1024) hz, View.ld_unit_zero (S := S1024x1024) hz]
  exact (row_at _ _ _ _ r k).trans (residual_block m c t r k)
theorem place5 : ∀ t : Fin cfg0.N, (cfg0.win 5).index t (0 : Fin 2) = t.val ∧ (cfg0.win 5).index t (1 : Fin 2) = 0 := by decide +kernel
/-- The array after the last point. -/
theorem array5 : (dats m 0 c).arrAt 5 cfg0.N = (fun i : S8448x1024.Idx => residualAt (arg0 m c) (arg1 m c) (arg2 m c) (arg3 m c) ⟨(i 0).val, (i 0).isLt⟩ ⟨(i 1).val, (i 1).isLt⟩) := by
  refine Pipeline.Dat.arrAt_eq_of_covers (cfg := cfg0) (dats m 0 c) 5 _ (by decide +kernel) (fun t hf y => ?_)
  rw [after0_5]
  obtain ⟨e0, e1⟩ := place5 t
  blk_simp [e0, e1]
  refine Eq.trans (congrArg (out0_5 (iblk m c 0 t) (iblk m c 1 t) (iblk m c 2 t) (iblk m c 3 t) (iblk m c 4 t)) ?_)
    ((written5 m c t ((cfg0.win 5).xinj (cfg0.grid.coords t) y 0) ((cfg0.win 5).xinj (cfg0.grid.coords t) y 1)).trans ?_)
  · funext a
    match a with
    | 0 => rfl
    | 1 => rfl
  · refine congrArg₂ (residualAt (arg0 m c) (arg1 m c) (arg2 m c) (arg3 m c)) (Fin.ext ?_) (Fin.ext ?_)
    · rfl
    · rfl
/-- What a point writes: the product. -/
theorem written6 (t : Fin cfg0.N) (r : Fin 256) (k : Fin 1024) :
    (out0_6 (iblk m c 0 t) (iblk m c 1 t) (iblk m c 2 t) (iblk m c 3 t) (iblk m c 4 t) : S256x1024.Idx → EReal) (ix2 r k) = prodAt (arg0 m c) (arg1 m c) (rowOf t r) (k) := by
  unfold out0_6
  rw [View.canon_unit_zero hz]
  simp only [View.ld_unit_zero (S := S256x1024) hz, View.ld_unit_zero (S := S1024x1024) hz]
  exact (dot_at _ _ r k).trans (product_block m c t r k)
theorem place6 : ∀ t : Fin cfg0.N, (cfg0.win 6).index t (0 : Fin 2) = t.val ∧ (cfg0.win 6).index t (1 : Fin 2) = 0 := by decide +kernel
/-- The array after the last point. -/
theorem array6 : (dats m 0 c).arrAt 6 cfg0.N = (fun i : S8448x1024.Idx => prodAt (arg0 m c) (arg1 m c) ⟨(i 0).val, (i 0).isLt⟩ ⟨(i 1).val, (i 1).isLt⟩) := by
  refine Pipeline.Dat.arrAt_eq_of_covers (cfg := cfg0) (dats m 0 c) 6 _ (by decide +kernel) (fun t hf y => ?_)
  rw [after0_6]
  obtain ⟨e0, e1⟩ := place6 t
  blk_simp [e0, e1]
  refine Eq.trans (congrArg (out0_6 (iblk m c 0 t) (iblk m c 1 t) (iblk m c 2 t) (iblk m c 3 t) (iblk m c 4 t)) ?_)
    ((written6 m c t ((cfg0.win 6).xinj (cfg0.grid.coords t) y 0) ((cfg0.win 6).xinj (cfg0.grid.coords t) y 1)).trans ?_)
  · funext a
    match a with
    | 0 => rfl
    | 1 => rfl
  · refine congrArg₂ (prodAt (arg0 m c) (arg1 m c)) (Fin.ext ?_) (Fin.ext ?_)
    · rfl
    · rfl
/-- What a point writes: the normed row. -/
theorem written7 (t : Fin cfg0.N) (r : Fin 256) (k : Fin 1024) :
    (out0_7 (iblk m c 0 t) (iblk m c 1 t) (iblk m c 2 t) (iblk m c 3 t) (iblk m c 4 t) : S256x1024.Idx → EReal) (ix2 r k) = normedAt (arg0 m c) (arg1 m c) (arg2 m c) (arg3 m c) (arg4 m c) (rowOf t r) (k) := by
  unfold out0_7
  rw [View.canon_unit_zero hz]
  simp only [View.ld_unit_zero (S := S256x1024) hz, View.ld_unit_zero (S := S1024x1024) hz, View.ld_unit_zero (S := S1x1024) hz]
  refine (normed_at _ _ _ _ _ _ r k).trans ?_
  unfold normedAt
  simp only [residual_block m c t r]
  rw [block4, block3 m c t r, block3 m c t r]
theorem place7 : ∀ t : Fin cfg0.N, (cfg0.win 7).index t (0 : Fin 2) = t.val ∧ (cfg0.win 7).index t (1 : Fin 2) = 0 := by decide +kernel
/-- The array after the last point. -/
theorem array7 : (dats m 0 c).arrAt 7 cfg0.N = (fun i : S8448x1024.Idx => normedAt (arg0 m c) (arg1 m c) (arg2 m c) (arg3 m c) (arg4 m c) ⟨(i 0).val, (i 0).isLt⟩ ⟨(i 1).val, (i 1).isLt⟩) := by
  refine Pipeline.Dat.arrAt_eq_of_covers (cfg := cfg0) (dats m 0 c) 7 _ (by decide +kernel) (fun t hf y => ?_)
  rw [after0_7]
  obtain ⟨e0, e1⟩ := place7 t
  blk_simp [e0, e1]
  refine Eq.trans (congrArg (out0_7 (iblk m c 0 t) (iblk m c 1 t) (iblk m c 2 t) (iblk m c 3 t) (iblk m c 4 t)) ?_)
    ((written7 m c t ((cfg0.win 7).xinj (cfg0.grid.coords t) y 0) ((cfg0.win 7).xinj (cfg0.grid.coords t) y 1)).trans ?_)
  · funext a
    match a with
    | 0 => rfl
    | 1 => rfl
  · refine congrArg₂ (normedAt (arg0 m c) (arg1 m c) (arg2 m c) (arg3 m c) (arg4 m c)) (Fin.ext ?_) (Fin.ext ?_)
    · rfl
    · rfl

variable (ρ : Dev nD → PrngReg)

/-- The results of the kernel's program. -/
def result0 (c : Dev nD) : S8448x1024.Idx → EReal := (dats m 0 c).arrAt 5 cfg0.N
def result1 (c : Dev nD) : S8448x1024.Idx → EReal := (dats m 0 c).arrAt 6 cfg0.N
def result2 (c : Dev nD) : S8448x1024.Idx → EReal := (dats m 0 c).arrAt 7 cfg0.N

/-- The kernel's and the reference's programs end with equal results. -/
theorem value : Cert.algebraic_Kernel14Ideal_Reference14Ideal := by
  intro m g m' g' hpre hargs
  refine ⟨result0 m, result1 m, result2 m, (θ_run defs _ _).mono (fun _ h c => ⟨(h.1 c).1 5, (h.1 c).1 6, (h.1 c).1 7, h.2 c⟩)
    (θ_run_and (run_main m g) (unchanged m g)), ?_⟩
  refine (θ_run Cert.Reference14Ideal.defs _ _).mono (fun r h c => ⟨(h c).1.trans ?_, (h c).2.1.trans ?_, (h c).2.2.1.trans ?_, (h c).2.2.2⟩)
    (Cert.Reference14Ideal.Value.run (F := Ideal) m' g')
  all_goals obtain ⟨e0, e1, e2, e3, e4⟩ := hargs c
  · rw [e0, e1, e2, e3]
    funext i
    have hi : i = ix2 (i 0) (i 1) := by funext a; match a with | 0 => rfl | 1 => rfl
    rw [hi]
    exact (reference5 _ _ _ _ (i 0) (i 1)).trans (congrFun (array5 m c) (ix2 (i 0) (i 1))).symm
  · rw [e0, e1]
    funext i
    have hi : i = ix2 (i 0) (i 1) := by funext a; match a with | 0 => rfl | 1 => rfl
    rw [hi]
    exact (reference6 _ _ (i 0) (i 1)).trans (congrFun (array6 m c) (ix2 (i 0) (i 1))).symm
  · unfold Cert.Reference14Ideal.Value.res_main_v49
    rw [e0, e1, e2, e3, e4]
    funext i
    have hi : i = ix2 (i 0) (i 1) := by funext a; match a with | 0 => rfl | 1 => rfl
    rw [hi]
    exact (reference7 _ _ _ _ _ (i 0) (i 1)).trans (congrFun (array7 m c) (ix2 (i 0) (i 1))).symm

/-- The reference's frame. -/
theorem frame_reference : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

end Cert.Wo
-- ==== Proof.Adam.lean ====
/- The AdamW step of one entry, over the reals. -/
module

public import Idealize.ShloMosaic.Init
public import Idealize.ShloMosaic.Lib.Pipeline.ValueKit

@[expose] public section

noncomputable section

namespace Cert.Adam

open Idealize.ShloMosaic

/-- The new first moment of an entry, of its gradient and its first moment. -/
def moment (g u : EReal) : EReal := Ideal.ofBits FTy.f32 0x3F666666#32 * u + Ideal.ofBits FTy.f32 0x3DCCCCCD#32 * g
/-- The new second moment of an entry, of its gradient and its second moment. -/
def square (g v : EReal) : EReal := Ideal.ofBits FTy.f32 0x3F7FBE77#32 * v + Ideal.ofBits FTy.f32 0x3A83126F#32 * (g * g)
/-- The change of an entry: the first moment over the root of the second, both corrected, and the decay of the weight, times the rate. -/
def change (w g u v : EReal) : EReal :=
  Ideal.ofBits FTy.f32 0xBA83126F#32 * (Ideal.div (Ideal.div (moment g u) (Ideal.ofBits FTy.f32 0x3F26BD02#32))
    (Ideal.sqrt (Ideal.div (square g v) (Ideal.ofBits FTy.f32 0x3C231ACC#32)) + Ideal.ofBits FTy.f32 0x322BCC77#32) + Ideal.ofBits FTy.f32 0x3C23D70A#32 * w)

end Cert.Adam
-- ==== Proof.AdamIn.lean ====
/- The AdamW step of the attention's input weights: the kernel takes the entries as rows, 512 at a time, and steps every entry as the reference does. -/
module

public import proofs.«01_k».proof.Defs
public import proofs.«01_k».proof.Proof.Adam
public import proofs.«01_k».proof.Proof.Gen.Kernel15Ideal.Frame
public import proofs.«01_k».proof.Proof.Gen.Reference15Ideal.Run
public import Idealize.ShloMosaic.Adequacy
public import Idealize.ShloMosaic.Init
public import Idealize.ShloMosaic.Lib.Pipeline.ValueKit
public import Idealize.ShloMosaic.Lib.StableHlo.RunRead
public import Idealize.ShloMosaic.Lib.Tactic.CleanTypes

@[expose] public section

set_option maxRecDepth 16384

noncomputable section

namespace Cert.AdamIn

open Cert.Adam

section Reference

open Cert.Reference15Ideal Cert.Reference15Ideal.Gen Idealize.ShloMosaic Idealize.ShloMosaic.TcCoe
variable (w g u v : FVec Ideal S4x1024x1088 .f32) (l : Fin 4) (r : Fin 1024) (k : Fin 1088)
/-- The reference's change of an entry. -/
theorem reference_change : (mulf (broadcastInDim S4x1024x1088 ![] bcast_S_S4x1024x1088 (constant S_ .f32 0xBA83126F#32)) (addf (Host.divf (Host.divf (addf (mulf (broadcastInDim S4x1024x1088 ![] bcast_S_S4x1024x1088 (constant S_ .f32 0x3F666666#32)) u) (mulf (broadcastInDim S4x1024x1088 ![] bcast_S_S4x1024x1088 (constant S_ .f32 0x3DCCCCCD#32)) g)) (broadcastInDim S4x1024x1088 ![] bcast_S_S4x1024x1088 (constant S_ .f32 0x3F26BD02#32))) (addf (Host.sqrt (Host.divf (addf (mulf (broadcastInDim S4x1024x1088 ![] bcast_S_S4x1024x1088 (constant S_ .f32 0x3F7FBE77#32)) v) (mulf (broadcastInDim S4x1024x1088 ![] bcast_S_S4x1024x1088 (constant S_ .f32 0x3A83126F#32)) (mulf g g))) (broadcastInDim S4x1024x1088 ![] bcast_S_S4x1024x1088 (constant S_ .f32 0x3C231ACC#32)))) (broadcastInDim S4x1024x1088 ![] bcast_S_S4x1024x1088 (constant S_ .f32 0x322BCC77#32)))) (mulf (broadcastInDim S4x1024x1088 ![] bcast_S_S4x1024x1088 (constant S_ .f32 0x3C23D70A#32)) w)) : FVec Ideal S4x1024x1088 .f32) (ix3 l r k)
    = change (w (ix3 l r k)) (g (ix3 l r k)) (u (ix3 l r k)) (v (ix3 l r k)) := by
  unfold change moment square
  pointwise
/-- The reference's first moment of an entry. -/
theorem reference_moment : (addf (mulf (broadcastInDim S4x1024x1088 ![] bcast_S_S4x1024x1088 (constant S_ .f32 0x3F666666#32)) u) (mulf (broadcastInDim S4x1024x1088 ![] bcast_S_S4x1024x1088 (constant S_ .f32 0x3DCCCCCD#32)) g) : FVec Ideal S4x1024x1088 .f32) (ix3 l r k) = moment (g (ix3 l r k)) (u (ix3 l r k)) := by
  unfold moment
  pointwise
/-- The reference's second moment of an entry. -/
theorem reference_square : (addf (mulf (broadcastInDim S4x1024x1088 ![] bcast_S_S4x1024x1088 (constant S_ .f32 0x3F7FBE77#32)) v) (mulf (broadcastInDim S4x1024x1088 ![] bcast_S_S4x1024x1088 (constant S_ .f32 0x3A83126F#32)) (mulf g g)) : FVec Ideal S4x1024x1088 .f32) (ix3 l r k) = square (g (ix3 l r k)) (v (ix3 l r k)) := by
  unfold square
  pointwise

end Reference

open Cert.Kernel15Ideal Cert.Kernel15Ideal.Gen Idealize.ShloMosaic Idealize.ShloMosaic.TcCoe
open Idealize.SL Idealize.SL.RA Idealize.SL.Sem

theorem hz : (![0, 0] : Fin 2 → Nat) = fun _ => 0 := funext fun a => by fin_cases a <;> rfl

variable (m : (ℓ : Loc nD τ sig) → Buf (Elt Ideal) ℓ) (c : Dev nD)

/-- The arguments. -/
def arg0 : S4x1024x1088.Idx → EReal := m ((c.tc : Thread nD τ).loc main_arg0)
def arg1 : S4x1024x1088.Idx → EReal := m ((c.tc : Thread nD τ).loc main_arg1)
def arg2 : S4x1024x1088.Idx → EReal := m ((c.tc : Thread nD τ).loc main_arg2)
def arg3 : S4x1024x1088.Idx → EReal := m ((c.tc : Thread nD τ).loc main_arg3)
/-- The arguments as rows. -/
def flat0 : S4096x1088.Idx → EReal := V m c main_v0
def flat1 : S4096x1088.Idx → EReal := V m c main_v1
def flat2 : S4096x1088.Idx → EReal := V m c main_v2
def flat3 : S4096x1088.Idx → EReal := V m c main_v3

/-- A row of a point's block. -/
def rowOf (t : Fin cfg0.N) (r : Fin 512) : Fin 4096 := ⟨t.val * 512 + r.val, by have := t.isLt; have : cfg0.N = 8 := N_0; omega⟩
/-- A row of an entry. -/
def flatRow (l : Fin 4) (r : Fin 1024) : Fin 4096 := ⟨l.val * 1024 + r.val, by omega⟩

theorem flat_at (x : FVec Ideal S4x1024x1088 .f32) (l : Fin 4) (r : Fin 1024) (k : Fin 1088) :
    (shapeCast S4096x1088 x shapeCasts_S4x1024x1088_S4096x1088 : FVec Ideal S4096x1088 .f32) (ix2 (flatRow l r) k) = x (ix3 l r k) := by
  unfold flatRow
  pointwise
theorem flat0_at (l : Fin 4) (r : Fin 1024) (k : Fin 1088) : flat0 m c (ix2 (flatRow l r) k) = arg0 m c (ix3 l r k) := by
  have h : V m c main_v0 = shapeCast S4096x1088 (m ((c.tc : Thread nD τ).loc main_arg0)) shapeCasts_S4x1024x1088_S4096x1088 := by
    unfold V V0
    after_reads_simp
    rfl
  exact (congrFun h _).trans (flat_at (m ((c.tc : Thread nD τ).loc main_arg0)) l r k)
theorem flat1_at (l : Fin 4) (r : Fin 1024) (k : Fin 1088) : flat1 m c (ix2 (flatRow l r) k) = arg1 m c (ix3 l r k) := by
  have h : V m c main_v1 = shapeCast S4096x1088 (m ((c.tc : Thread nD τ).loc main_arg1)) shapeCasts_S4x1024x1088_S4096x1088 := by
    unfold V V0
    after_reads_simp
    rfl
  exact (congrFun h _).trans (flat_at (m ((c.tc : Thread nD τ).loc main_arg1)) l r k)
theorem flat2_at (l : Fin 4) (r : Fin 1024) (k : Fin 1088) : flat2 m c (ix2 (flatRow l r) k) = arg2 m c (ix3 l r k) := by
  have h : V m c main_v2 = shapeCast S4096x1088 (m ((c.tc : Thread nD τ).loc main_arg2)) shapeCasts_S4x1024x1088_S4096x1088 := by
    unfold V V0
    after_reads_simp
    rfl
  exact (congrFun h _).trans (flat_at (m ((c.tc : Thread nD τ).loc main_arg2)) l r k)
theorem flat3_at (l : Fin 4) (r : Fin 1024) (k : Fin 1088) : flat3 m c (ix2 (flatRow l r) k) = arg3 m c (ix3 l r k) := by
  have h : V m c main_v3 = shapeCast S4096x1088 (m ((c.tc : Thread nD τ).loc main_arg3)) shapeCasts_S4x1024x1088_S4096x1088 := by
    unfold V V0
    after_reads_simp
    rfl
  exact (congrFun h _).trans (flat_at (m ((c.tc : Thread nD τ).loc main_arg3)) l r k)
theorem place0 : ∀ t : Fin cfg0.N, (cfg0.win 0).index t (0 : Fin 2) = t.val ∧ (cfg0.win 0).index t (1 : Fin 2) = 0 := by decide +kernel
/-- The rows a point reads of the argument. -/
theorem block0 (t : Fin cfg0.N) (r : Fin 512) (k : Fin 1088) : iblk m c 0 t (ix2 r k) = flat0 m c (ix2 (rowOf t r) k) := by
  obtain ⟨e0, e1⟩ := place0 t
  have ht : t.val < 8 := lt_of_lt_of_eq t.isLt N_0
  unfold flat0 rowOf
  blk_ext [iblk, e0, e1]
theorem place1 : ∀ t : Fin cfg0.N, (cfg0.win 1).index t (0 : Fin 2) = t.val ∧ (cfg0.win 1).index t (1 : Fin 2) = 0 := by decide +kernel
/-- The rows a point reads of the argument. -/
theorem block1 (t : Fin cfg0.N) (r : Fin 512) (k : Fin 1088) : iblk m c 1 t (ix2 r k) = flat1 m c (ix2 (rowOf t r) k) := by
  obtain ⟨e0, e1⟩ := place1 t
  have ht : t.val < 8 := lt_of_lt_of_eq t.isLt N_0
  unfold flat1 rowOf
  blk_ext [iblk, e0, e1]
theorem place2 : ∀ t : Fin cfg0.N, (cfg0.win 2).index t (0 : Fin 2) = t.val ∧ (cfg0.win 2).index t (1 : Fin 2) = 0 := by decide +kernel
/-- The rows a point reads of the argument. -/
theorem block2 (t : Fin cfg0.N) (r : Fin 512) (k : Fin 1088) : iblk m c 2 t (ix2 r k) = flat2 m c (ix2 (rowOf t r) k) := by
  obtain ⟨e0, e1⟩ := place2 t
  have ht : t.val < 8 := lt_of_lt_of_eq t.isLt N_0
  unfold flat2 rowOf
  blk_ext [iblk, e0, e1]
theorem place3 : ∀ t : Fin cfg0.N, (cfg0.win 3).index t (0 : Fin 2) = t.val ∧ (cfg0.win 3).index t (1 : Fin 2) = 0 := by decide +kernel
/-- The rows a point reads of the argument. -/
theorem block3 (t : Fin cfg0.N) (r : Fin 512) (k : Fin 1088) : iblk m c 3 t (ix2 r k) = flat3 m c (ix2 (rowOf t r) k) := by
  obtain ⟨e0, e1⟩ := place3 t
  have ht : t.val < 8 := lt_of_lt_of_eq t.isLt N_0
  unfold flat3 rowOf
  blk_ext [iblk, e0, e1]
/-- What a point writes: the change. -/
theorem written4 (t : Fin cfg0.N) (r : Fin 512) (k : Fin 1088) :
    (out0_4 (iblk m c 0 t) (iblk m c 1 t) (iblk m c 2 t) (iblk m c 3 t) : S512x1088.Idx → EReal) (ix2 r k)
      = change (flat0 m c (ix2 (rowOf t r) k)) (flat1 m c (ix2 (rowOf t r) k)) (flat2 m c (ix2 (rowOf t r) k)) (flat3 m c (ix2 (rowOf t r) k)) := by
  unfold out0_4
  rw [View.canon_unit_zero hz]
  simp only [View.ld_unit_zero (S := S512x1088) hz]
  have h : ∀ (x0 x1 x2 x3 : Vec Ideal S512x1088 .f32), (k0_pay4 (F := Ideal) x0 x1 x2 x3 : S512x1088.Idx → EReal) (ix2 r k)
      = change (x0 (ix2 r k)) (x1 (ix2 r k)) (x2 (ix2 r k)) (x3 (ix2 r k)) := fun x0 x1 x2 x3 => by
    unfold change moment square
    pointwise [k0_pay4, k0_pay2, k0_pay3, k0_pay1]
  refine (h _ _ _ _).trans ?_
  rw [block0, block1, block2, block3]
theorem place4 : ∀ t : Fin cfg0.N, (cfg0.win 4).index t (0 : Fin 2) = t.val ∧ (cfg0.win 4).index t (1 : Fin 2) = 0 := by decide +kernel
/-- The change's array at a row and a column. -/
def rows4 (a : Fin 4096) (k : Fin 1088) : EReal := change (flat0 m c (ix2 a k)) (flat1 m c (ix2 a k)) (flat2 m c (ix2 a k)) (flat3 m c (ix2 a k))
/-- The array after the last point. -/
theorem array4 : (dats m 0 c).arrAt 4 cfg0.N = (fun i : S4096x1088.Idx => rows4 m c ⟨(i 0).val, (i 0).isLt⟩ ⟨(i 1).val, (i 1).isLt⟩) := by
  refine Pipeline.Dat.arrAt_eq_of_covers (cfg := cfg0) (dats m 0 c) 4 _ (by decide +kernel) (fun t hf y => ?_)
  rw [after0_4]
  obtain ⟨e0, e1⟩ := place4 t
  blk_simp [e0, e1]
  refine Eq.trans (congrArg (out0_4 (iblk m c 0 t) (iblk m c 1 t) (iblk m c 2 t) (iblk m c 3 t)) ?_)
    ((written4 m c t ((cfg0.win 4).xinj (cfg0.grid.coords t) y 0) ((cfg0.win 4).xinj (cfg0.grid.coords t) y 1)).trans ?_)
  · funext a
    match a with
    | 0 => rfl
    | 1 => rfl
  · refine congrArg₂ (rows4 m c) (Fin.ext ?_) (Fin.ext ?_)
    · rfl
    · rfl
/-- What a point writes: the first moment. -/
theorem written5 (t : Fin cfg0.N) (r : Fin 512) (k : Fin 1088) :
    (out0_5 (iblk m c 0 t) (iblk m c 1 t) (iblk m c 2 t) (iblk m c 3 t) : S512x1088.Idx → EReal) (ix2 r k)
      = moment (flat1 m c (ix2 (rowOf t r) k)) (flat2 m c (ix2 (rowOf t r) k)) := by
  unfold out0_5
  rw [View.canon_unit_zero hz]
  simp only [View.ld_unit_zero (S := S512x1088) hz]
  have h : ∀ (x1 x2 : Vec Ideal S512x1088 .f32), (k0_pay2 (F := Ideal) x1 x2 : S512x1088.Idx → EReal) (ix2 r k)
      = moment (x1 (ix2 r k)) (x2 (ix2 r k)) := fun x1 x2 => by
    unfold moment
    pointwise [k0_pay2, k0_pay1]
  refine (h _ _).trans ?_
  rw [block1, block2]
theorem place5 : ∀ t : Fin cfg0.N, (cfg0.win 5).index t (0 : Fin 2) = t.val ∧ (cfg0.win 5).index t (1 : Fin 2) = 0 := by decide +kernel
/-- The first moment's array at a row and a column. -/
def rows5 (a : Fin 4096) (k : Fin 1088) : EReal := moment (flat1 m c (ix2 a k)) (flat2 m c (ix2 a k))
/-- The array after the last point. -/
theorem array5 : (dats m 0 c).arrAt 5 cfg0.N = (fun i : S4096x1088.Idx => rows5 m c ⟨(i 0).val, (i 0).isLt⟩ ⟨(i 1).val, (i 1).isLt⟩) := by
  refine Pipeline.Dat.arrAt_eq_of_covers (cfg := cfg0) (dats m 0 c) 5 _ (by decide +kernel) (fun t hf y => ?_)
  rw [after0_5]
  obtain ⟨e0, e1⟩ := place5 t
  blk_simp [e0, e1]
  refine Eq.trans (congrArg (out0_5 (iblk m c 0 t) (iblk m c 1 t) (iblk m c 2 t) (iblk m c 3 t)) ?_)
    ((written5 m c t ((cfg0.win 5).xinj (cfg0.grid.coords t) y 0) ((cfg0.win 5).xinj (cfg0.grid.coords t) y 1)).trans ?_)
  · funext a
    match a with
    | 0 => rfl
    | 1 => rfl
  · refine congrArg₂ (rows5 m c) (Fin.ext ?_) (Fin.ext ?_)
    · rfl
    · rfl
/-- What a point writes: the second moment. -/
theorem written6 (t : Fin cfg0.N) (r : Fin 512) (k : Fin 1088) :
    (out0_6 (iblk m c 0 t) (iblk m c 1 t) (iblk m c 2 t) (iblk m c 3 t) : S512x1088.Idx → EReal) (ix2 r k)
      = square (flat1 m c (ix2 (rowOf t r) k)) (flat3 m c (ix2 (rowOf t r) k)) := by
  unfold out0_6
  rw [View.canon_unit_zero hz]
  simp only [View.ld_unit_zero (S := S512x1088) hz]
  have h : ∀ (x1 x3 : Vec Ideal S512x1088 .f32), (k0_pay3 (F := Ideal) x1 x3 : S512x1088.Idx → EReal) (ix2 r k)
      = square (x1 (ix2 r k)) (x3 (ix2 r k)) := fun x1 x3 => by
    unfold square
    pointwise [k0_pay3, k0_pay1]
  refine (h _ _).trans ?_
  rw [block1, block3]
theorem place6 : ∀ t : Fin cfg0.N, (cfg0.win 6).index t (0 : Fin 2) = t.val ∧ (cfg0.win 6).index t (1 : Fin 2) = 0 := by decide +kernel
/-- The second moment's array at a row and a column. -/
def rows6 (a : Fin 4096) (k : Fin 1088) : EReal := square (flat1 m c (ix2 a k)) (flat3 m c (ix2 a k))
/-- The array after the last point. -/
theorem array6 : (dats m 0 c).arrAt 6 cfg0.N = (fun i : S4096x1088.Idx => rows6 m c ⟨(i 0).val, (i 0).isLt⟩ ⟨(i 1).val, (i 1).isLt⟩) := by
  refine Pipeline.Dat.arrAt_eq_of_covers (cfg := cfg0) (dats m 0 c) 6 _ (by decide +kernel) (fun t hf y => ?_)
  rw [after0_6]
  obtain ⟨e0, e1⟩ := place6 t
  blk_simp [e0, e1]
  refine Eq.trans (congrArg (out0_6 (iblk m c 0 t) (iblk m c 1 t) (iblk m c 2 t) (iblk m c 3 t)) ?_)
    ((written6 m c t ((cfg0.win 6).xinj (cfg0.grid.coords t) y 0) ((cfg0.win 6).xinj (cfg0.grid.coords t) y 1)).trans ?_)
  · funext a
    match a with
    | 0 => rfl
    | 1 => rfl
  · refine congrArg₂ (rows6 m c) (Fin.ext ?_) (Fin.ext ?_)
    · rfl
    · rfl

/-- The results of the kernel's program. -/
def result0 (c : Dev nD) : S4x1024x1088.Idx → EReal := Pipeline.afterTail₀ cfgs (dats m) 0 (V0 m) [hostOps1] c main_v5
def result1 (c : Dev nD) : S4x1024x1088.Idx → EReal := Pipeline.afterTail₀ cfgs (dats m) 0 (V0 m) [hostOps1] c main_v6
def result2 (c : Dev nD) : S4x1024x1088.Idx → EReal := Pipeline.afterTail₀ cfgs (dats m) 0 (V0 m) [hostOps1] c main_v7

theorem back_at (x : FVec Ideal S4096x1088 .f32) (l : Fin 4) (r : Fin 1024) (k : Fin 1088) :
    (shapeCast S4x1024x1088 x shapeCasts_S4096x1088_S4x1024x1088 : FVec Ideal S4x1024x1088 .f32) (ix3 l r k) = x (ix2 (flatRow l r) k) := by
  unfold flatRow
  pointwise
theorem tail0 (W : Valuation τ sig (Elt Ideal)) (x : FVec Ideal S4096x1088 .f32) (hx : W (Proc.tc.devRef main_v4_0) = x) :
    StableHlo.after [hostOps1].flatten W (Proc.tc.devRef main_v5) = shapeCast S4x1024x1088 x shapeCasts_S4096x1088_S4x1024x1088 := by
  subst hx
  after_reads_simp
  rfl
/-- The kernel's result at an entry. -/
theorem result0_at (l : Fin 4) (r : Fin 1024) (k : Fin 1088) :
    result0 m c (ix3 l r k) = change (arg0 m c (ix3 l r k)) (arg1 m c (ix3 l r k)) (arg2 m c (ix3 l r k)) (arg3 m c (ix3 l r k)) := by
  refine (congrFun (tail0 _ _ (Pipeline.withArrays_arr spec0 launch0.win.arr_inj c _ _ 4)) (ix3 l r k)).trans ?_
  refine (back_at _ l r k).trans ((congrFun (array4 m c) (ix2 (flatRow l r) k)).trans ?_)
  refine Eq.trans (b := rows4 m c (flatRow l r) k) rfl ?_
  unfold rows4
  rw [flat0_at, flat1_at, flat2_at, flat3_at]
theorem tail1 (W : Valuation τ sig (Elt Ideal)) (x : FVec Ideal S4096x1088 .f32) (hx : W (Proc.tc.devRef main_v4_1) = x) :
    StableHlo.after [hostOps1].flatten W (Proc.tc.devRef main_v6) = shapeCast S4x1024x1088 x shapeCasts_S4096x1088_S4x1024x1088 := by
  subst hx
  after_reads_simp
  rfl
/-- The kernel's result at an entry. -/
theorem result1_at (l : Fin 4) (r : Fin 1024) (k : Fin 1088) :
    result1 m c (ix3 l r k) = moment (arg1 m c (ix3 l r k)) (arg2 m c (ix3 l r k)) := by
  refine (congrFun (tail1 _ _ (Pipeline.withArrays_arr spec0 launch0.win.arr_inj c _ _ 5)) (ix3 l r k)).trans ?_
  refine (back_at _ l r k).trans ((congrFun (array5 m c) (ix2 (flatRow l r) k)).trans ?_)
  refine Eq.trans (b := rows5 m c (flatRow l r) k) rfl ?_
  unfold rows5
  rw [flat1_at, flat2_at]
theorem tail2 (W : Valuation τ sig (Elt Ideal)) (x : FVec Ideal S4096x1088 .f32) (hx : W (Proc.tc.devRef main_v4_2) = x) :
    StableHlo.after [hostOps1].flatten W (Proc.tc.devRef main_v7) = shapeCast S4x1024x1088 x shapeCasts_S4096x1088_S4x1024x1088 := by
  subst hx
  after_reads_simp
  rfl
/-- The kernel's result at an entry. -/
theorem result2_at (l : Fin 4) (r : Fin 1024) (k : Fin 1088) :
    result2 m c (ix3 l r k) = square (arg1 m c (ix3 l r k)) (arg3 m c (ix3 l r k)) := by
  refine (congrFun (tail2 _ _ (Pipeline.withArrays_arr spec0 launch0.win.arr_inj c _ _ 6)) (ix3 l r k)).trans ?_
  refine (back_at _ l r k).trans ((congrFun (array6 m c) (ix2 (flatRow l r) k)).trans ?_)
  refine Eq.trans (b := rows6 m c (flatRow l r) k) rfl ?_
  unfold rows6
  rw [flat1_at, flat3_at]

/-- The kernel's and the reference's programs end with equal results. -/
theorem value : Cert.algebraic_Kernel15Ideal_Reference15Ideal := by
  intro m g m' g' hpre hargs
  refine ⟨result0 m, result1 m, result2 m, (θ_run defs _ _).mono (fun _ h c =>
      ⟨(h.1 c).2 main_v5 (Pipeline.mem_restRefs_of main_v5 (by decide) (by decide)), (h.1 c).2 main_v6 (Pipeline.mem_restRefs_of main_v6 (by decide) (by decide)),
        (h.1 c).2 main_v7 (Pipeline.mem_restRefs_of main_v7 (by decide) (by decide)), h.2 c⟩)
    (θ_run_and (run_main m g) (unchanged m g)), ?_⟩
  refine (θ_run Cert.Reference15Ideal.defs _ _).mono (fun r h c => ⟨(h c).1.trans ?_, (h c).2.1.trans ?_, (h c).2.2.1.trans ?_, (h c).2.2.2⟩)
    (Cert.Reference15Ideal.Value.run (F := Ideal) m' g')
  all_goals obtain ⟨e0, e1, e2, e3⟩ := hargs c
  · rw [e0, e1, e2, e3]
    funext i
    have hi : i = ix3 (i 0) (i 1) (i 2) := by funext a; match a with | 0 => rfl | 1 => rfl | 2 => rfl
    rw [hi]
    exact (reference_change _ _ _ _ (i 0) (i 1) (i 2)).trans (result0_at m c (i 0) (i 1) (i 2)).symm
  · rw [e1, e2]
    funext i
    have hi : i = ix3 (i 0) (i 1) (i 2) := by funext a; match a with | 0 => rfl | 1 => rfl | 2 => rfl
    rw [hi]
    exact (reference_moment _ _ (i 0) (i 1) (i 2)).trans (result1_at m c (i 0) (i 1) (i 2)).symm
  · rw [e1, e3]
    funext i
    have hi : i = ix3 (i 0) (i 1) (i 2) := by funext a; match a with | 0 => rfl | 1 => rfl | 2 => rfl
    rw [hi]
    exact (reference_square _ _ (i 0) (i 1) (i 2)).trans (result2_at m c (i 0) (i 1) (i 2)).symm

/-- The reference's frame. -/
theorem frame_reference : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

end Cert.AdamIn
-- ==== Proof.AdamP.lean ====
/- The AdamW step of a latent projection's weights: the kernel takes the entries as rows, 512 at a time, and steps every entry as the reference does. -/
module

public import proofs.«01_k».proof.Defs
public import proofs.«01_k».proof.Proof.Adam
public import proofs.«01_k».proof.Proof.Gen.Kernel16Ideal.Frame
public import proofs.«01_k».proof.Proof.Gen.Reference16Ideal.Run
public import Idealize.ShloMosaic.Adequacy
public import Idealize.ShloMosaic.Init
public import Idealize.ShloMosaic.Lib.Pipeline.ValueKit
public import Idealize.ShloMosaic.Lib.StableHlo.RunRead
public import Idealize.ShloMosaic.Lib.Tactic.CleanTypes

@[expose] public section

set_option maxRecDepth 16384

noncomputable section

namespace Cert.AdamP

open Cert.Adam

section Reference

open Cert.Reference16Ideal Cert.Reference16Ideal.Gen Idealize.ShloMosaic Idealize.ShloMosaic.TcCoe
variable (w g u v : FVec Ideal S4x512x256 .f32) (l : Fin 4) (r : Fin 512) (k : Fin 256)
/-- The reference's change of an entry. -/
theorem reference_change : (mulf (broadcastInDim S4x512x256 ![] bcast_S_S4x512x256 (constant S_ .f32 0xBA83126F#32)) (addf (Host.divf (Host.divf (addf (mulf (broadcastInDim S4x512x256 ![] bcast_S_S4x512x256 (constant S_ .f32 0x3F666666#32)) u) (mulf (broadcastInDim S4x512x256 ![] bcast_S_S4x512x256 (constant S_ .f32 0x3DCCCCCD#32)) g)) (broadcastInDim S4x512x256 ![] bcast_S_S4x512x256 (constant S_ .f32 0x3F26BD02#32))) (addf (Host.sqrt (Host.divf (addf (mulf (broadcastInDim S4x512x256 ![] bcast_S_S4x512x256 (constant S_ .f32 0x3F7FBE77#32)) v) (mulf (broadcastInDim S4x512x256 ![] bcast_S_S4x512x256 (constant S_ .f32 0x3A83126F#32)) (mulf g g))) (broadcastInDim S4x512x256 ![] bcast_S_S4x512x256 (constant S_ .f32 0x3C231ACC#32)))) (broadcastInDim S4x512x256 ![] bcast_S_S4x512x256 (constant S_ .f32 0x322BCC77#32)))) (mulf (broadcastInDim S4x512x256 ![] bcast_S_S4x512x256 (constant S_ .f32 0x3C23D70A#32)) w)) : FVec Ideal S4x512x256 .f32) (ix3 l r k)
    = change (w (ix3 l r k)) (g (ix3 l r k)) (u (ix3 l r k)) (v (ix3 l r k)) := by
  unfold change moment square
  pointwise
/-- The reference's first moment of an entry. -/
theorem reference_moment : (addf (mulf (broadcastInDim S4x512x256 ![] bcast_S_S4x512x256 (constant S_ .f32 0x3F666666#32)) u) (mulf (broadcastInDim S4x512x256 ![] bcast_S_S4x512x256 (constant S_ .f32 0x3DCCCCCD#32)) g) : FVec Ideal S4x512x256 .f32) (ix3 l r k) = moment (g (ix3 l r k)) (u (ix3 l r k)) := by
  unfold moment
  pointwise
/-- The reference's second moment of an entry. -/
theorem reference_square : (addf (mulf (broadcastInDim S4x512x256 ![] bcast_S_S4x512x256 (constant S_ .f32 0x3F7FBE77#32)) v) (mulf (broadcastInDim S4x512x256 ![] bcast_S_S4x512x256 (constant S_ .f32 0x3A83126F#32)) (mulf g g)) : FVec Ideal S4x512x256 .f32) (ix3 l r k) = square (g (ix3 l r k)) (v (ix3 l r k)) := by
  unfold square
  pointwise

end Reference

open Cert.Kernel16Ideal Cert.Kernel16Ideal.Gen Idealize.ShloMosaic Idealize.ShloMosaic.TcCoe
open Idealize.SL Idealize.SL.RA Idealize.SL.Sem

theorem hz : (![0, 0] : Fin 2 → Nat) = fun _ => 0 := funext fun a => by fin_cases a <;> rfl

variable (m : (ℓ : Loc nD τ sig) → Buf (Elt Ideal) ℓ) (c : Dev nD)

/-- The arguments. -/
def arg0 : S4x512x256.Idx → EReal := m ((c.tc : Thread nD τ).loc main_arg0)
def arg1 : S4x512x256.Idx → EReal := m ((c.tc : Thread nD τ).loc main_arg1)
def arg2 : S4x512x256.Idx → EReal := m ((c.tc : Thread nD τ).loc main_arg2)
def arg3 : S4x512x256.Idx → EReal := m ((c.tc : Thread nD τ).loc main_arg3)
/-- The arguments as rows. -/
def flat0 : S2048x256.Idx → EReal := V m c main_v0
def flat1 : S2048x256.Idx → EReal := V m c main_v1
def flat2 : S2048x256.Idx → EReal := V m c main_v2
def flat3 : S2048x256.Idx → EReal := V m c main_v3

/-- A row of a point's block. -/
def rowOf (t : Fin cfg0.N) (r : Fin 512) : Fin 2048 := ⟨t.val * 512 + r.val, by have := t.isLt; have : cfg0.N = 4 := N_0; omega⟩
/-- A row of an entry. -/
def flatRow (l : Fin 4) (r : Fin 512) : Fin 2048 := ⟨l.val * 512 + r.val, by omega⟩

theorem flat_at (x : FVec Ideal S4x512x256 .f32) (l : Fin 4) (r : Fin 512) (k : Fin 256) :
    (shapeCast S2048x256 x shapeCasts_S4x512x256_S2048x256 : FVec Ideal S2048x256 .f32) (ix2 (flatRow l r) k) = x (ix3 l r k) := by
  unfold flatRow
  pointwise
theorem flat0_at (l : Fin 4) (r : Fin 512) (k : Fin 256) : flat0 m c (ix2 (flatRow l r) k) = arg0 m c (ix3 l r k) := by
  have h : V m c main_v0 = shapeCast S2048x256 (m ((c.tc : Thread nD τ).loc main_arg0)) shapeCasts_S4x512x256_S2048x256 := by
    unfold V V0
    after_reads_simp
    rfl
  exact (congrFun h _).trans (flat_at (m ((c.tc : Thread nD τ).loc main_arg0)) l r k)
theorem flat1_at (l : Fin 4) (r : Fin 512) (k : Fin 256) : flat1 m c (ix2 (flatRow l r) k) = arg1 m c (ix3 l r k) := by
  have h : V m c main_v1 = shapeCast S2048x256 (m ((c.tc : Thread nD τ).loc main_arg1)) shapeCasts_S4x512x256_S2048x256 := by
    unfold V V0
    after_reads_simp
    rfl
  exact (congrFun h _).trans (flat_at (m ((c.tc : Thread nD τ).loc main_arg1)) l r k)
theorem flat2_at (l : Fin 4) (r : Fin 512) (k : Fin 256) : flat2 m c (ix2 (flatRow l r) k) = arg2 m c (ix3 l r k) := by
  have h : V m c main_v2 = shapeCast S2048x256 (m ((c.tc : Thread nD τ).loc main_arg2)) shapeCasts_S4x512x256_S2048x256 := by
    unfold V V0
    after_reads_simp
    rfl
  exact (congrFun h _).trans (flat_at (m ((c.tc : Thread nD τ).loc main_arg2)) l r k)
theorem flat3_at (l : Fin 4) (r : Fin 512) (k : Fin 256) : flat3 m c (ix2 (flatRow l r) k) = arg3 m c (ix3 l r k) := by
  have h : V m c main_v3 = shapeCast S2048x256 (m ((c.tc : Thread nD τ).loc main_arg3)) shapeCasts_S4x512x256_S2048x256 := by
    unfold V V0
    after_reads_simp
    rfl
  exact (congrFun h _).trans (flat_at (m ((c.tc : Thread nD τ).loc main_arg3)) l r k)
theorem place0 : ∀ t : Fin cfg0.N, (cfg0.win 0).index t (0 : Fin 2) = t.val ∧ (cfg0.win 0).index t (1 : Fin 2) = 0 := by decide +kernel
/-- The rows a point reads of the argument. -/
theorem block0 (t : Fin cfg0.N) (r : Fin 512) (k : Fin 256) : iblk m c 0 t (ix2 r k) = flat0 m c (ix2 (rowOf t r) k) := by
  obtain ⟨e0, e1⟩ := place0 t
  have ht : t.val < 4 := lt_of_lt_of_eq t.isLt N_0
  unfold flat0 rowOf
  blk_ext [iblk, e0, e1]
theorem place1 : ∀ t : Fin cfg0.N, (cfg0.win 1).index t (0 : Fin 2) = t.val ∧ (cfg0.win 1).index t (1 : Fin 2) = 0 := by decide +kernel
/-- The rows a point reads of the argument. -/
theorem block1 (t : Fin cfg0.N) (r : Fin 512) (k : Fin 256) : iblk m c 1 t (ix2 r k) = flat1 m c (ix2 (rowOf t r) k) := by
  obtain ⟨e0, e1⟩ := place1 t
  have ht : t.val < 4 := lt_of_lt_of_eq t.isLt N_0
  unfold flat1 rowOf
  blk_ext [iblk, e0, e1]
theorem place2 : ∀ t : Fin cfg0.N, (cfg0.win 2).index t (0 : Fin 2) = t.val ∧ (cfg0.win 2).index t (1 : Fin 2) = 0 := by decide +kernel
/-- The rows a point reads of the argument. -/
theorem block2 (t : Fin cfg0.N) (r : Fin 512) (k : Fin 256) : iblk m c 2 t (ix2 r k) = flat2 m c (ix2 (rowOf t r) k) := by
  obtain ⟨e0, e1⟩ := place2 t
  have ht : t.val < 4 := lt_of_lt_of_eq t.isLt N_0
  unfold flat2 rowOf
  blk_ext [iblk, e0, e1]
theorem place3 : ∀ t : Fin cfg0.N, (cfg0.win 3).index t (0 : Fin 2) = t.val ∧ (cfg0.win 3).index t (1 : Fin 2) = 0 := by decide +kernel
/-- The rows a point reads of the argument. -/
theorem block3 (t : Fin cfg0.N) (r : Fin 512) (k : Fin 256) : iblk m c 3 t (ix2 r k) = flat3 m c (ix2 (rowOf t r) k) := by
  obtain ⟨e0, e1⟩ := place3 t
  have ht : t.val < 4 := lt_of_lt_of_eq t.isLt N_0
  unfold flat3 rowOf
  blk_ext [iblk, e0, e1]
/-- What a point writes: the change. -/
theorem written4 (t : Fin cfg0.N) (r : Fin 512) (k : Fin 256) :
    (out0_4 (iblk m c 0 t) (iblk m c 1 t) (iblk m c 2 t) (iblk m c 3 t) : S512x256.Idx → EReal) (ix2 r k)
      = change (flat0 m c (ix2 (rowOf t r) k)) (flat1 m c (ix2 (rowOf t r) k)) (flat2 m c (ix2 (rowOf t r) k)) (flat3 m c (ix2 (rowOf t r) k)) := by
  unfold out0_4
  rw [View.canon_unit_zero hz]
  simp only [View.ld_unit_zero (S := S512x256) hz]
  have h : ∀ (x0 x1 x2 x3 : Vec Ideal S512x256 .f32), (k0_pay4 (F := Ideal) x0 x1 x2 x3 : S512x256.Idx → EReal) (ix2 r k)
      = change (x0 (ix2 r k)) (x1 (ix2 r k)) (x2 (ix2 r k)) (x3 (ix2 r k)) := fun x0 x1 x2 x3 => by
    unfold change moment square
    pointwise [k0_pay4, k0_pay2, k0_pay3, k0_pay1]
  refine (h _ _ _ _).trans ?_
  rw [block0, block1, block2, block3]
theorem place4 : ∀ t : Fin cfg0.N, (cfg0.win 4).index t (0 : Fin 2) = t.val ∧ (cfg0.win 4).index t (1 : Fin 2) = 0 := by decide +kernel
/-- The change's array at a row and a column. -/
def rows4 (a : Fin 2048) (k : Fin 256) : EReal := change (flat0 m c (ix2 a k)) (flat1 m c (ix2 a k)) (flat2 m c (ix2 a k)) (flat3 m c (ix2 a k))
/-- The array after the last point. -/
theorem array4 : (dats m 0 c).arrAt 4 cfg0.N = (fun i : S2048x256.Idx => rows4 m c ⟨(i 0).val, (i 0).isLt⟩ ⟨(i 1).val, (i 1).isLt⟩) := by
  refine Pipeline.Dat.arrAt_eq_of_covers (cfg := cfg0) (dats m 0 c) 4 _ (by decide +kernel) (fun t hf y => ?_)
  rw [after0_4]
  obtain ⟨e0, e1⟩ := place4 t
  blk_simp [e0, e1]
  refine Eq.trans (congrArg (out0_4 (iblk m c 0 t) (iblk m c 1 t) (iblk m c 2 t) (iblk m c 3 t)) ?_)
    ((written4 m c t ((cfg0.win 4).xinj (cfg0.grid.coords t) y 0) ((cfg0.win 4).xinj (cfg0.grid.coords t) y 1)).trans ?_)
  · funext a
    match a with
    | 0 => rfl
    | 1 => rfl
  · refine congrArg₂ (rows4 m c) (Fin.ext ?_) (Fin.ext ?_)
    · rfl
    · rfl
/-- What a point writes: the first moment. -/
theorem written5 (t : Fin cfg0.N) (r : Fin 512) (k : Fin 256) :
    (out0_5 (iblk m c 0 t) (iblk m c 1 t) (iblk m c 2 t) (iblk m c 3 t) : S512x256.Idx → EReal) (ix2 r k)
      = moment (flat1 m c (ix2 (rowOf t r) k)) (flat2 m c (ix2 (rowOf t r) k)) := by
  unfold out0_5
  rw [View.canon_unit_zero hz]
  simp only [View.ld_unit_zero (S := S512x256) hz]
  have h : ∀ (x1 x2 : Vec Ideal S512x256 .f32), (k0_pay2 (F := Ideal) x1 x2 : S512x256.Idx → EReal) (ix2 r k)
      = moment (x1 (ix2 r k)) (x2 (ix2 r k)) := fun x1 x2 => by
    unfold moment
    pointwise [k0_pay2, k0_pay1]
  refine (h _ _).trans ?_
  rw [block1, block2]
theorem place5 : ∀ t : Fin cfg0.N, (cfg0.win 5).index t (0 : Fin 2) = t.val ∧ (cfg0.win 5).index t (1 : Fin 2) = 0 := by decide +kernel
/-- The first moment's array at a row and a column. -/
def rows5 (a : Fin 2048) (k : Fin 256) : EReal := moment (flat1 m c (ix2 a k)) (flat2 m c (ix2 a k))
/-- The array after the last point. -/
theorem array5 : (dats m 0 c).arrAt 5 cfg0.N = (fun i : S2048x256.Idx => rows5 m c ⟨(i 0).val, (i 0).isLt⟩ ⟨(i 1).val, (i 1).isLt⟩) := by
  refine Pipeline.Dat.arrAt_eq_of_covers (cfg := cfg0) (dats m 0 c) 5 _ (by decide +kernel) (fun t hf y => ?_)
  rw [after0_5]
  obtain ⟨e0, e1⟩ := place5 t
  blk_simp [e0, e1]
  refine Eq.trans (congrArg (out0_5 (iblk m c 0 t) (iblk m c 1 t) (iblk m c 2 t) (iblk m c 3 t)) ?_)
    ((written5 m c t ((cfg0.win 5).xinj (cfg0.grid.coords t) y 0) ((cfg0.win 5).xinj (cfg0.grid.coords t) y 1)).trans ?_)
  · funext a
    match a with
    | 0 => rfl
    | 1 => rfl
  · refine congrArg₂ (rows5 m c) (Fin.ext ?_) (Fin.ext ?_)
    · rfl
    · rfl
/-- What a point writes: the second moment. -/
theorem written6 (t : Fin cfg0.N) (r : Fin 512) (k : Fin 256) :
    (out0_6 (iblk m c 0 t) (iblk m c 1 t) (iblk m c 2 t) (iblk m c 3 t) : S512x256.Idx → EReal) (ix2 r k)
      = square (flat1 m c (ix2 (rowOf t r) k)) (flat3 m c (ix2 (rowOf t r) k)) := by
  unfold out0_6
  rw [View.canon_unit_zero hz]
  simp only [View.ld_unit_zero (S := S512x256) hz]
  have h : ∀ (x1 x3 : Vec Ideal S512x256 .f32), (k0_pay3 (F := Ideal) x1 x3 : S512x256.Idx → EReal) (ix2 r k)
      = square (x1 (ix2 r k)) (x3 (ix2 r k)) := fun x1 x3 => by
    unfold square
    pointwise [k0_pay3, k0_pay1]
  refine (h _ _).trans ?_
  rw [block1, block3]
theorem place6 : ∀ t : Fin cfg0.N, (cfg0.win 6).index t (0 : Fin 2) = t.val ∧ (cfg0.win 6).index t (1 : Fin 2) = 0 := by decide +kernel
/-- The second moment's array at a row and a column. -/
def rows6 (a : Fin 2048) (k : Fin 256) : EReal := square (flat1 m c (ix2 a k)) (flat3 m c (ix2 a k))
/-- The array after the last point. -/
theorem array6 : (dats m 0 c).arrAt 6 cfg0.N = (fun i : S2048x256.Idx => rows6 m c ⟨(i 0).val, (i 0).isLt⟩ ⟨(i 1).val, (i 1).isLt⟩) := by
  refine Pipeline.Dat.arrAt_eq_of_covers (cfg := cfg0) (dats m 0 c) 6 _ (by decide +kernel) (fun t hf y => ?_)
  rw [after0_6]
  obtain ⟨e0, e1⟩ := place6 t
  blk_simp [e0, e1]
  refine Eq.trans (congrArg (out0_6 (iblk m c 0 t) (iblk m c 1 t) (iblk m c 2 t) (iblk m c 3 t)) ?_)
    ((written6 m c t ((cfg0.win 6).xinj (cfg0.grid.coords t) y 0) ((cfg0.win 6).xinj (cfg0.grid.coords t) y 1)).trans ?_)
  · funext a
    match a with
    | 0 => rfl
    | 1 => rfl
  · refine congrArg₂ (rows6 m c) (Fin.ext ?_) (Fin.ext ?_)
    · rfl
    · rfl

/-- The results of the kernel's program. -/
def result0 (c : Dev nD) : S4x512x256.Idx → EReal := Pipeline.afterTail₀ cfgs (dats m) 0 (V0 m) [hostOps1] c main_v5
def result1 (c : Dev nD) : S4x512x256.Idx → EReal := Pipeline.afterTail₀ cfgs (dats m) 0 (V0 m) [hostOps1] c main_v6
def result2 (c : Dev nD) : S4x512x256.Idx → EReal := Pipeline.afterTail₀ cfgs (dats m) 0 (V0 m) [hostOps1] c main_v7

theorem back_at (x : FVec Ideal S2048x256 .f32) (l : Fin 4) (r : Fin 512) (k : Fin 256) :
    (shapeCast S4x512x256 x shapeCasts_S2048x256_S4x512x256 : FVec Ideal S4x512x256 .f32) (ix3 l r k) = x (ix2 (flatRow l r) k) := by
  unfold flatRow
  pointwise
theorem tail0 (W : Valuation τ sig (Elt Ideal)) (x : FVec Ideal S2048x256 .f32) (hx : W (Proc.tc.devRef main_v4_0) = x) :
    StableHlo.after [hostOps1].flatten W (Proc.tc.devRef main_v5) = shapeCast S4x512x256 x shapeCasts_S2048x256_S4x512x256 := by
  subst hx
  after_reads_simp
  rfl
/-- The kernel's result at an entry. -/
theorem result0_at (l : Fin 4) (r : Fin 512) (k : Fin 256) :
    result0 m c (ix3 l r k) = change (arg0 m c (ix3 l r k)) (arg1 m c (ix3 l r k)) (arg2 m c (ix3 l r k)) (arg3 m c (ix3 l r k)) := by
  refine (congrFun (tail0 _ _ (Pipeline.withArrays_arr spec0 launch0.win.arr_inj c _ _ 4)) (ix3 l r k)).trans ?_
  refine (back_at _ l r k).trans ((congrFun (array4 m c) (ix2 (flatRow l r) k)).trans ?_)
  refine Eq.trans (b := rows4 m c (flatRow l r) k) rfl ?_
  unfold rows4
  rw [flat0_at, flat1_at, flat2_at, flat3_at]
theorem tail1 (W : Valuation τ sig (Elt Ideal)) (x : FVec Ideal S2048x256 .f32) (hx : W (Proc.tc.devRef main_v4_1) = x) :
    StableHlo.after [hostOps1].flatten W (Proc.tc.devRef main_v6) = shapeCast S4x512x256 x shapeCasts_S2048x256_S4x512x256 := by
  subst hx
  after_reads_simp
  rfl
/-- The kernel's result at an entry. -/
theorem result1_at (l : Fin 4) (r : Fin 512) (k : Fin 256) :
    result1 m c (ix3 l r k) = moment (arg1 m c (ix3 l r k)) (arg2 m c (ix3 l r k)) := by
  refine (congrFun (tail1 _ _ (Pipeline.withArrays_arr spec0 launch0.win.arr_inj c _ _ 5)) (ix3 l r k)).trans ?_
  refine (back_at _ l r k).trans ((congrFun (array5 m c) (ix2 (flatRow l r) k)).trans ?_)
  refine Eq.trans (b := rows5 m c (flatRow l r) k) rfl ?_
  unfold rows5
  rw [flat1_at, flat2_at]
theorem tail2 (W : Valuation τ sig (Elt Ideal)) (x : FVec Ideal S2048x256 .f32) (hx : W (Proc.tc.devRef main_v4_2) = x) :
    StableHlo.after [hostOps1].flatten W (Proc.tc.devRef main_v7) = shapeCast S4x512x256 x shapeCasts_S2048x256_S4x512x256 := by
  subst hx
  after_reads_simp
  rfl
/-- The kernel's result at an entry. -/
theorem result2_at (l : Fin 4) (r : Fin 512) (k : Fin 256) :
    result2 m c (ix3 l r k) = square (arg1 m c (ix3 l r k)) (arg3 m c (ix3 l r k)) := by
  refine (congrFun (tail2 _ _ (Pipeline.withArrays_arr spec0 launch0.win.arr_inj c _ _ 6)) (ix3 l r k)).trans ?_
  refine (back_at _ l r k).trans ((congrFun (array6 m c) (ix2 (flatRow l r) k)).trans ?_)
  refine Eq.trans (b := rows6 m c (flatRow l r) k) rfl ?_
  unfold rows6
  rw [flat1_at, flat3_at]

/-- The kernel's and the reference's programs end with equal results. -/
theorem value : Cert.algebraic_Kernel16Ideal_Reference16Ideal := by
  intro m g m' g' hpre hargs
  refine ⟨result0 m, result1 m, result2 m, (θ_run defs _ _).mono (fun _ h c =>
      ⟨(h.1 c).2 main_v5 (Pipeline.mem_restRefs_of main_v5 (by decide) (by decide)), (h.1 c).2 main_v6 (Pipeline.mem_restRefs_of main_v6 (by decide) (by decide)),
        (h.1 c).2 main_v7 (Pipeline.mem_restRefs_of main_v7 (by decide) (by decide)), h.2 c⟩)
    (θ_run_and (run_main m g) (unchanged m g)), ?_⟩
  refine (θ_run Cert.Reference16Ideal.defs _ _).mono (fun r h c => ⟨(h c).1.trans ?_, (h c).2.1.trans ?_, (h c).2.2.1.trans ?_, (h c).2.2.2⟩)
    (Cert.Reference16Ideal.Value.run (F := Ideal) m' g')
  all_goals obtain ⟨e0, e1, e2, e3⟩ := hargs c
  · rw [e0, e1, e2, e3]
    funext i
    have hi : i = ix3 (i 0) (i 1) (i 2) := by funext a; match a with | 0 => rfl | 1 => rfl | 2 => rfl
    rw [hi]
    exact (reference_change _ _ _ _ (i 0) (i 1) (i 2)).trans (result0_at m c (i 0) (i 1) (i 2)).symm
  · rw [e1, e2]
    funext i
    have hi : i = ix3 (i 0) (i 1) (i 2) := by funext a; match a with | 0 => rfl | 1 => rfl | 2 => rfl
    rw [hi]
    exact (reference_moment _ _ (i 0) (i 1) (i 2)).trans (result1_at m c (i 0) (i 1) (i 2)).symm
  · rw [e1, e3]
    funext i
    have hi : i = ix3 (i 0) (i 1) (i 2) := by funext a; match a with | 0 => rfl | 1 => rfl | 2 => rfl
    rw [hi]
    exact (reference_square _ _ (i 0) (i 1) (i 2)).trans (result2_at m c (i 0) (i 1) (i 2)).symm

/-- The reference's frame. -/
theorem frame_reference : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

end Cert.AdamP
-- ==== Proof.AdamO.lean ====
/- The AdamW step of the output projection's weights: the kernel takes the entries as rows, 512 at a time, and steps every entry as the reference does. -/
module

public import proofs.«01_k».proof.Defs
public import proofs.«01_k».proof.Proof.Adam
public import proofs.«01_k».proof.Proof.Gen.Kernel17Ideal.Frame
public import proofs.«01_k».proof.Proof.Gen.Reference17Ideal.Run
public import Idealize.ShloMosaic.Adequacy
public import Idealize.ShloMosaic.Init
public import Idealize.ShloMosaic.Lib.Pipeline.ValueKit
public import Idealize.ShloMosaic.Lib.StableHlo.RunRead
public import Idealize.ShloMosaic.Lib.Tactic.CleanTypes

@[expose] public section

set_option maxRecDepth 16384

noncomputable section

namespace Cert.AdamO

open Cert.Adam

section Reference

open Cert.Reference17Ideal Cert.Reference17Ideal.Gen Idealize.ShloMosaic Idealize.ShloMosaic.TcCoe
variable (w g u v : FVec Ideal S4x256x1024 .f32) (l : Fin 4) (r : Fin 256) (k : Fin 1024)
/-- The reference's change of an entry. -/
theorem reference_change : (mulf (broadcastInDim S4x256x1024 ![] bcast_S_S4x256x1024 (constant S_ .f32 0xBA83126F#32)) (addf (Host.divf (Host.divf (addf (mulf (broadcastInDim S4x256x1024 ![] bcast_S_S4x256x1024 (constant S_ .f32 0x3F666666#32)) u) (mulf (broadcastInDim S4x256x1024 ![] bcast_S_S4x256x1024 (constant S_ .f32 0x3DCCCCCD#32)) g)) (broadcastInDim S4x256x1024 ![] bcast_S_S4x256x1024 (constant S_ .f32 0x3F26BD02#32))) (addf (Host.sqrt (Host.divf (addf (mulf (broadcastInDim S4x256x1024 ![] bcast_S_S4x256x1024 (constant S_ .f32 0x3F7FBE77#32)) v) (mulf (broadcastInDim S4x256x1024 ![] bcast_S_S4x256x1024 (constant S_ .f32 0x3A83126F#32)) (mulf g g))) (broadcastInDim S4x256x1024 ![] bcast_S_S4x256x1024 (constant S_ .f32 0x3C231ACC#32)))) (broadcastInDim S4x256x1024 ![] bcast_S_S4x256x1024 (constant S_ .f32 0x322BCC77#32)))) (mulf (broadcastInDim S4x256x1024 ![] bcast_S_S4x256x1024 (constant S_ .f32 0x3C23D70A#32)) w)) : FVec Ideal S4x256x1024 .f32) (ix3 l r k)
    = change (w (ix3 l r k)) (g (ix3 l r k)) (u (ix3 l r k)) (v (ix3 l r k)) := by
  unfold change moment square
  pointwise
/-- The reference's first moment of an entry. -/
theorem reference_moment : (addf (mulf (broadcastInDim S4x256x1024 ![] bcast_S_S4x256x1024 (constant S_ .f32 0x3F666666#32)) u) (mulf (broadcastInDim S4x256x1024 ![] bcast_S_S4x256x1024 (constant S_ .f32 0x3DCCCCCD#32)) g) : FVec Ideal S4x256x1024 .f32) (ix3 l r k) = moment (g (ix3 l r k)) (u (ix3 l r k)) := by
  unfold moment
  pointwise
/-- The reference's second moment of an entry. -/
theorem reference_square : (addf (mulf (broadcastInDim S4x256x1024 ![] bcast_S_S4x256x1024 (constant S_ .f32 0x3F7FBE77#32)) v) (mulf (broadcastInDim S4x256x1024 ![] bcast_S_S4x256x1024 (constant S_ .f32 0x3A83126F#32)) (mulf g g)) : FVec Ideal S4x256x1024 .f32) (ix3 l r k) = square (g (ix3 l r k)) (v (ix3 l r k)) := by
  unfold square
  pointwise

end Reference

open Cert.Kernel17Ideal Cert.Kernel17Ideal.Gen Idealize.ShloMosaic Idealize.ShloMosaic.TcCoe
open Idealize.SL Idealize.SL.RA Idealize.SL.Sem

theorem hz : (![0, 0] : Fin 2 → Nat) = fun _ => 0 := funext fun a => by fin_cases a <;> rfl

variable (m : (ℓ : Loc nD τ sig) → Buf (Elt Ideal) ℓ) (c : Dev nD)

/-- The arguments. -/
def arg0 : S4x256x1024.Idx → EReal := m ((c.tc : Thread nD τ).loc main_arg0)
def arg1 : S4x256x1024.Idx → EReal := m ((c.tc : Thread nD τ).loc main_arg1)
def arg2 : S4x256x1024.Idx → EReal := m ((c.tc : Thread nD τ).loc main_arg2)
def arg3 : S4x256x1024.Idx → EReal := m ((c.tc : Thread nD τ).loc main_arg3)
/-- The arguments as rows. -/
def flat0 : S1024x1024.Idx → EReal := V m c main_v0
def flat1 : S1024x1024.Idx → EReal := V m c main_v1
def flat2 : S1024x1024.Idx → EReal := V m c main_v2
def flat3 : S1024x1024.Idx → EReal := V m c main_v3

/-- A row of a point's block. -/
def rowOf (t : Fin cfg0.N) (r : Fin 512) : Fin 1024 := ⟨t.val * 512 + r.val, by have := t.isLt; have : cfg0.N = 2 := N_0; omega⟩
/-- A row of an entry. -/
def flatRow (l : Fin 4) (r : Fin 256) : Fin 1024 := ⟨l.val * 256 + r.val, by omega⟩

theorem flat_at (x : FVec Ideal S4x256x1024 .f32) (l : Fin 4) (r : Fin 256) (k : Fin 1024) :
    (shapeCast S1024x1024 x shapeCasts_S4x256x1024_S1024x1024 : FVec Ideal S1024x1024 .f32) (ix2 (flatRow l r) k) = x (ix3 l r k) := by
  unfold flatRow
  pointwise
theorem flat0_at (l : Fin 4) (r : Fin 256) (k : Fin 1024) : flat0 m c (ix2 (flatRow l r) k) = arg0 m c (ix3 l r k) := by
  have h : V m c main_v0 = shapeCast S1024x1024 (m ((c.tc : Thread nD τ).loc main_arg0)) shapeCasts_S4x256x1024_S1024x1024 := by
    unfold V V0
    after_reads_simp
    rfl
  exact (congrFun h _).trans (flat_at (m ((c.tc : Thread nD τ).loc main_arg0)) l r k)
theorem flat1_at (l : Fin 4) (r : Fin 256) (k : Fin 1024) : flat1 m c (ix2 (flatRow l r) k) = arg1 m c (ix3 l r k) := by
  have h : V m c main_v1 = shapeCast S1024x1024 (m ((c.tc : Thread nD τ).loc main_arg1)) shapeCasts_S4x256x1024_S1024x1024 := by
    unfold V V0
    after_reads_simp
    rfl
  exact (congrFun h _).trans (flat_at (m ((c.tc : Thread nD τ).loc main_arg1)) l r k)
theorem flat2_at (l : Fin 4) (r : Fin 256) (k : Fin 1024) : flat2 m c (ix2 (flatRow l r) k) = arg2 m c (ix3 l r k) := by
  have h : V m c main_v2 = shapeCast S1024x1024 (m ((c.tc : Thread nD τ).loc main_arg2)) shapeCasts_S4x256x1024_S1024x1024 := by
    unfold V V0
    after_reads_simp
    rfl
  exact (congrFun h _).trans (flat_at (m ((c.tc : Thread nD τ).loc main_arg2)) l r k)
theorem flat3_at (l : Fin 4) (r : Fin 256) (k : Fin 1024) : flat3 m c (ix2 (flatRow l r) k) = arg3 m c (ix3 l r k) := by
  have h : V m c main_v3 = shapeCast S1024x1024 (m ((c.tc : Thread nD τ).loc main_arg3)) shapeCasts_S4x256x1024_S1024x1024 := by
    unfold V V0
    after_reads_simp
    rfl
  exact (congrFun h _).trans (flat_at (m ((c.tc : Thread nD τ).loc main_arg3)) l r k)
theorem place0 : ∀ t : Fin cfg0.N, (cfg0.win 0).index t (0 : Fin 2) = t.val ∧ (cfg0.win 0).index t (1 : Fin 2) = 0 := by decide +kernel
/-- The rows a point reads of the argument. -/
theorem block0 (t : Fin cfg0.N) (r : Fin 512) (k : Fin 1024) : iblk m c 0 t (ix2 r k) = flat0 m c (ix2 (rowOf t r) k) := by
  obtain ⟨e0, e1⟩ := place0 t
  have ht : t.val < 2 := lt_of_lt_of_eq t.isLt N_0
  unfold flat0 rowOf
  blk_ext [iblk, e0, e1]
theorem place1 : ∀ t : Fin cfg0.N, (cfg0.win 1).index t (0 : Fin 2) = t.val ∧ (cfg0.win 1).index t (1 : Fin 2) = 0 := by decide +kernel
/-- The rows a point reads of the argument. -/
theorem block1 (t : Fin cfg0.N) (r : Fin 512) (k : Fin 1024) : iblk m c 1 t (ix2 r k) = flat1 m c (ix2 (rowOf t r) k) := by
  obtain ⟨e0, e1⟩ := place1 t
  have ht : t.val < 2 := lt_of_lt_of_eq t.isLt N_0
  unfold flat1 rowOf
  blk_ext [iblk, e0, e1]
theorem place2 : ∀ t : Fin cfg0.N, (cfg0.win 2).index t (0 : Fin 2) = t.val ∧ (cfg0.win 2).index t (1 : Fin 2) = 0 := by decide +kernel
/-- The rows a point reads of the argument. -/
theorem block2 (t : Fin cfg0.N) (r : Fin 512) (k : Fin 1024) : iblk m c 2 t (ix2 r k) = flat2 m c (ix2 (rowOf t r) k) := by
  obtain ⟨e0, e1⟩ := place2 t
  have ht : t.val < 2 := lt_of_lt_of_eq t.isLt N_0
  unfold flat2 rowOf
  blk_ext [iblk, e0, e1]
theorem place3 : ∀ t : Fin cfg0.N, (cfg0.win 3).index t (0 : Fin 2) = t.val ∧ (cfg0.win 3).index t (1 : Fin 2) = 0 := by decide +kernel
/-- The rows a point reads of the argument. -/
theorem block3 (t : Fin cfg0.N) (r : Fin 512) (k : Fin 1024) : iblk m c 3 t (ix2 r k) = flat3 m c (ix2 (rowOf t r) k) := by
  obtain ⟨e0, e1⟩ := place3 t
  have ht : t.val < 2 := lt_of_lt_of_eq t.isLt N_0
  unfold flat3 rowOf
  blk_ext [iblk, e0, e1]
/-- What a point writes: the change. -/
theorem written4 (t : Fin cfg0.N) (r : Fin 512) (k : Fin 1024) :
    (out0_4 (iblk m c 0 t) (iblk m c 1 t) (iblk m c 2 t) (iblk m c 3 t) : S512x1024.Idx → EReal) (ix2 r k)
      = change (flat0 m c (ix2 (rowOf t r) k)) (flat1 m c (ix2 (rowOf t r) k)) (flat2 m c (ix2 (rowOf t r) k)) (flat3 m c (ix2 (rowOf t r) k)) := by
  unfold out0_4
  rw [View.canon_unit_zero hz]
  simp only [View.ld_unit_zero (S := S512x1024) hz]
  have h : ∀ (x0 x1 x2 x3 : Vec Ideal S512x1024 .f32), (k0_pay4 (F := Ideal) x0 x1 x2 x3 : S512x1024.Idx → EReal) (ix2 r k)
      = change (x0 (ix2 r k)) (x1 (ix2 r k)) (x2 (ix2 r k)) (x3 (ix2 r k)) := fun x0 x1 x2 x3 => by
    unfold change moment square
    pointwise [k0_pay4, k0_pay2, k0_pay3, k0_pay1]
  refine (h _ _ _ _).trans ?_
  rw [block0, block1, block2, block3]
theorem place4 : ∀ t : Fin cfg0.N, (cfg0.win 4).index t (0 : Fin 2) = t.val ∧ (cfg0.win 4).index t (1 : Fin 2) = 0 := by decide +kernel
/-- The change's array at a row and a column. -/
def rows4 (a : Fin 1024) (k : Fin 1024) : EReal := change (flat0 m c (ix2 a k)) (flat1 m c (ix2 a k)) (flat2 m c (ix2 a k)) (flat3 m c (ix2 a k))
/-- The array after the last point. -/
theorem array4 : (dats m 0 c).arrAt 4 cfg0.N = (fun i : S1024x1024.Idx => rows4 m c ⟨(i 0).val, (i 0).isLt⟩ ⟨(i 1).val, (i 1).isLt⟩) := by
  refine Pipeline.Dat.arrAt_eq_of_covers (cfg := cfg0) (dats m 0 c) 4 _ (by decide +kernel) (fun t hf y => ?_)
  rw [after0_4]
  obtain ⟨e0, e1⟩ := place4 t
  blk_simp [e0, e1]
  refine Eq.trans (congrArg (out0_4 (iblk m c 0 t) (iblk m c 1 t) (iblk m c 2 t) (iblk m c 3 t)) ?_)
    ((written4 m c t ((cfg0.win 4).xinj (cfg0.grid.coords t) y 0) ((cfg0.win 4).xinj (cfg0.grid.coords t) y 1)).trans ?_)
  · funext a
    match a with
    | 0 => rfl
    | 1 => rfl
  · refine congrArg₂ (rows4 m c) (Fin.ext ?_) (Fin.ext ?_)
    · rfl
    · rfl
/-- What a point writes: the first moment. -/
theorem written5 (t : Fin cfg0.N) (r : Fin 512) (k : Fin 1024) :
    (out0_5 (iblk m c 0 t) (iblk m c 1 t) (iblk m c 2 t) (iblk m c 3 t) : S512x1024.Idx → EReal) (ix2 r k)
      = moment (flat1 m c (ix2 (rowOf t r) k)) (flat2 m c (ix2 (rowOf t r) k)) := by
  unfold out0_5
  rw [View.canon_unit_zero hz]
  simp only [View.ld_unit_zero (S := S512x1024) hz]
  have h : ∀ (x1 x2 : Vec Ideal S512x1024 .f32), (k0_pay2 (F := Ideal) x1 x2 : S512x1024.Idx → EReal) (ix2 r k)
      = moment (x1 (ix2 r k)) (x2 (ix2 r k)) := fun x1 x2 => by
    unfold moment
    pointwise [k0_pay2, k0_pay1]
  refine (h _ _).trans ?_
  rw [block1, block2]
theorem place5 : ∀ t : Fin cfg0.N, (cfg0.win 5).index t (0 : Fin 2) = t.val ∧ (cfg0.win 5).index t (1 : Fin 2) = 0 := by decide +kernel
/-- The first moment's array at a row and a column. -/
def rows5 (a : Fin 1024) (k : Fin 1024) : EReal := moment (flat1 m c (ix2 a k)) (flat2 m c (ix2 a k))
/-- The array after the last point. -/
theorem array5 : (dats m 0 c).arrAt 5 cfg0.N = (fun i : S1024x1024.Idx => rows5 m c ⟨(i 0).val, (i 0).isLt⟩ ⟨(i 1).val, (i 1).isLt⟩) := by
  refine Pipeline.Dat.arrAt_eq_of_covers (cfg := cfg0) (dats m 0 c) 5 _ (by decide +kernel) (fun t hf y => ?_)
  rw [after0_5]
  obtain ⟨e0, e1⟩ := place5 t
  blk_simp [e0, e1]
  refine Eq.trans (congrArg (out0_5 (iblk m c 0 t) (iblk m c 1 t) (iblk m c 2 t) (iblk m c 3 t)) ?_)
    ((written5 m c t ((cfg0.win 5).xinj (cfg0.grid.coords t) y 0) ((cfg0.win 5).xinj (cfg0.grid.coords t) y 1)).trans ?_)
  · funext a
    match a with
    | 0 => rfl
    | 1 => rfl
  · refine congrArg₂ (rows5 m c) (Fin.ext ?_) (Fin.ext ?_)
    · rfl
    · rfl
/-- What a point writes: the second moment. -/
theorem written6 (t : Fin cfg0.N) (r : Fin 512) (k : Fin 1024) :
    (out0_6 (iblk m c 0 t) (iblk m c 1 t) (iblk m c 2 t) (iblk m c 3 t) : S512x1024.Idx → EReal) (ix2 r k)
      = square (flat1 m c (ix2 (rowOf t r) k)) (flat3 m c (ix2 (rowOf t r) k)) := by
  unfold out0_6
  rw [View.canon_unit_zero hz]
  simp only [View.ld_unit_zero (S := S512x1024) hz]
  have h : ∀ (x1 x3 : Vec Ideal S512x1024 .f32), (k0_pay3 (F := Ideal) x1 x3 : S512x1024.Idx → EReal) (ix2 r k)
      = square (x1 (ix2 r k)) (x3 (ix2 r k)) := fun x1 x3 => by
    unfold square
    pointwise [k0_pay3, k0_pay1]
  refine (h _ _).trans ?_
  rw [block1, block3]
theorem place6 : ∀ t : Fin cfg0.N, (cfg0.win 6).index t (0 : Fin 2) = t.val ∧ (cfg0.win 6).index t (1 : Fin 2) = 0 := by decide +kernel
/-- The second moment's array at a row and a column. -/
def rows6 (a : Fin 1024) (k : Fin 1024) : EReal := square (flat1 m c (ix2 a k)) (flat3 m c (ix2 a k))
/-- The array after the last point. -/
theorem array6 : (dats m 0 c).arrAt 6 cfg0.N = (fun i : S1024x1024.Idx => rows6 m c ⟨(i 0).val, (i 0).isLt⟩ ⟨(i 1).val, (i 1).isLt⟩) := by
  refine Pipeline.Dat.arrAt_eq_of_covers (cfg := cfg0) (dats m 0 c) 6 _ (by decide +kernel) (fun t hf y => ?_)
  rw [after0_6]
  obtain ⟨e0, e1⟩ := place6 t
  blk_simp [e0, e1]
  refine Eq.trans (congrArg (out0_6 (iblk m c 0 t) (iblk m c 1 t) (iblk m c 2 t) (iblk m c 3 t)) ?_)
    ((written6 m c t ((cfg0.win 6).xinj (cfg0.grid.coords t) y 0) ((cfg0.win 6).xinj (cfg0.grid.coords t) y 1)).trans ?_)
  · funext a
    match a with
    | 0 => rfl
    | 1 => rfl
  · refine congrArg₂ (rows6 m c) (Fin.ext ?_) (Fin.ext ?_)
    · rfl
    · rfl

/-- The results of the kernel's program. -/
def result0 (c : Dev nD) : S4x256x1024.Idx → EReal := Pipeline.afterTail₀ cfgs (dats m) 0 (V0 m) [hostOps1] c main_v5
def result1 (c : Dev nD) : S4x256x1024.Idx → EReal := Pipeline.afterTail₀ cfgs (dats m) 0 (V0 m) [hostOps1] c main_v6
def result2 (c : Dev nD) : S4x256x1024.Idx → EReal := Pipeline.afterTail₀ cfgs (dats m) 0 (V0 m) [hostOps1] c main_v7

theorem back_at (x : FVec Ideal S1024x1024 .f32) (l : Fin 4) (r : Fin 256) (k : Fin 1024) :
    (shapeCast S4x256x1024 x shapeCasts_S1024x1024_S4x256x1024 : FVec Ideal S4x256x1024 .f32) (ix3 l r k) = x (ix2 (flatRow l r) k) := by
  unfold flatRow
  pointwise
theorem tail0 (W : Valuation τ sig (Elt Ideal)) (x : FVec Ideal S1024x1024 .f32) (hx : W (Proc.tc.devRef main_v4_0) = x) :
    StableHlo.after [hostOps1].flatten W (Proc.tc.devRef main_v5) = shapeCast S4x256x1024 x shapeCasts_S1024x1024_S4x256x1024 := by
  subst hx
  after_reads_simp
  rfl
/-- The kernel's result at an entry. -/
theorem result0_at (l : Fin 4) (r : Fin 256) (k : Fin 1024) :
    result0 m c (ix3 l r k) = change (arg0 m c (ix3 l r k)) (arg1 m c (ix3 l r k)) (arg2 m c (ix3 l r k)) (arg3 m c (ix3 l r k)) := by
  refine (congrFun (tail0 _ _ (Pipeline.withArrays_arr spec0 launch0.win.arr_inj c _ _ 4)) (ix3 l r k)).trans ?_
  refine (back_at _ l r k).trans ((congrFun (array4 m c) (ix2 (flatRow l r) k)).trans ?_)
  refine Eq.trans (b := rows4 m c (flatRow l r) k) rfl ?_
  unfold rows4
  rw [flat0_at, flat1_at, flat2_at, flat3_at]
theorem tail1 (W : Valuation τ sig (Elt Ideal)) (x : FVec Ideal S1024x1024 .f32) (hx : W (Proc.tc.devRef main_v4_1) = x) :
    StableHlo.after [hostOps1].flatten W (Proc.tc.devRef main_v6) = shapeCast S4x256x1024 x shapeCasts_S1024x1024_S4x256x1024 := by
  subst hx
  after_reads_simp
  rfl
/-- The kernel's result at an entry. -/
theorem result1_at (l : Fin 4) (r : Fin 256) (k : Fin 1024) :
    result1 m c (ix3 l r k) = moment (arg1 m c (ix3 l r k)) (arg2 m c (ix3 l r k)) := by
  refine (congrFun (tail1 _ _ (Pipeline.withArrays_arr spec0 launch0.win.arr_inj c _ _ 5)) (ix3 l r k)).trans ?_
  refine (back_at _ l r k).trans ((congrFun (array5 m c) (ix2 (flatRow l r) k)).trans ?_)
  refine Eq.trans (b := rows5 m c (flatRow l r) k) rfl ?_
  unfold rows5
  rw [flat1_at, flat2_at]
theorem tail2 (W : Valuation τ sig (Elt Ideal)) (x : FVec Ideal S1024x1024 .f32) (hx : W (Proc.tc.devRef main_v4_2) = x) :
    StableHlo.after [hostOps1].flatten W (Proc.tc.devRef main_v7) = shapeCast S4x256x1024 x shapeCasts_S1024x1024_S4x256x1024 := by
  subst hx
  after_reads_simp
  rfl
/-- The kernel's result at an entry. -/
theorem result2_at (l : Fin 4) (r : Fin 256) (k : Fin 1024) :
    result2 m c (ix3 l r k) = square (arg1 m c (ix3 l r k)) (arg3 m c (ix3 l r k)) := by
  refine (congrFun (tail2 _ _ (Pipeline.withArrays_arr spec0 launch0.win.arr_inj c _ _ 6)) (ix3 l r k)).trans ?_
  refine (back_at _ l r k).trans ((congrFun (array6 m c) (ix2 (flatRow l r) k)).trans ?_)
  refine Eq.trans (b := rows6 m c (flatRow l r) k) rfl ?_
  unfold rows6
  rw [flat1_at, flat3_at]

/-- The kernel's and the reference's programs end with equal results. -/
theorem value : Cert.algebraic_Kernel17Ideal_Reference17Ideal := by
  intro m g m' g' hpre hargs
  refine ⟨result0 m, result1 m, result2 m, (θ_run defs _ _).mono (fun _ h c =>
      ⟨(h.1 c).2 main_v5 (Pipeline.mem_restRefs_of main_v5 (by decide) (by decide)), (h.1 c).2 main_v6 (Pipeline.mem_restRefs_of main_v6 (by decide) (by decide)),
        (h.1 c).2 main_v7 (Pipeline.mem_restRefs_of main_v7 (by decide) (by decide)), h.2 c⟩)
    (θ_run_and (run_main m g) (unchanged m g)), ?_⟩
  refine (θ_run Cert.Reference17Ideal.defs _ _).mono (fun r h c => ⟨(h c).1.trans ?_, (h c).2.1.trans ?_, (h c).2.2.1.trans ?_, (h c).2.2.2⟩)
    (Cert.Reference17Ideal.Value.run (F := Ideal) m' g')
  all_goals obtain ⟨e0, e1, e2, e3⟩ := hargs c
  · rw [e0, e1, e2, e3]
    funext i
    have hi : i = ix3 (i 0) (i 1) (i 2) := by funext a; match a with | 0 => rfl | 1 => rfl | 2 => rfl
    rw [hi]
    exact (reference_change _ _ _ _ (i 0) (i 1) (i 2)).trans (result0_at m c (i 0) (i 1) (i 2)).symm
  · rw [e1, e2]
    funext i
    have hi : i = ix3 (i 0) (i 1) (i 2) := by funext a; match a with | 0 => rfl | 1 => rfl | 2 => rfl
    rw [hi]
    exact (reference_moment _ _ (i 0) (i 1) (i 2)).trans (result1_at m c (i 0) (i 1) (i 2)).symm
  · rw [e1, e3]
    funext i
    have hi : i = ix3 (i 0) (i 1) (i 2) := by funext a; match a with | 0 => rfl | 1 => rfl | 2 => rfl
    rw [hi]
    exact (reference_square _ _ (i 0) (i 1) (i 2)).trans (result2_at m c (i 0) (i 1) (i 2)).symm

/-- The reference's frame. -/
theorem frame_reference : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

end Cert.AdamO
-- ==== Proof.AdamFfnIn.lean ====
/- The AdamW step of the feed-forward's input weights: the kernel takes the entries as rows, 512 at a time, and steps every entry as the reference does. -/
module

public import proofs.«01_k».proof.Defs
public import proofs.«01_k».proof.Proof.Adam
public import proofs.«01_k».proof.Proof.Gen.Kernel18Ideal.Frame
public import proofs.«01_k».proof.Proof.Gen.Reference18Ideal.Run
public import Idealize.ShloMosaic.Adequacy
public import Idealize.ShloMosaic.Init
public import Idealize.ShloMosaic.Lib.Pipeline.ValueKit
public import Idealize.ShloMosaic.Lib.StableHlo.RunRead
public import Idealize.ShloMosaic.Lib.Tactic.CleanTypes

@[expose] public section

set_option maxRecDepth 16384

noncomputable section

namespace Cert.AdamFfnIn

open Cert.Adam

section Reference

open Cert.Reference18Ideal Cert.Reference18Ideal.Gen Idealize.ShloMosaic Idealize.ShloMosaic.TcCoe
variable (w g u v : FVec Ideal S4x1024x1408 .f32) (l : Fin 4) (r : Fin 1024) (k : Fin 1408)
/-- The reference's change of an entry. -/
theorem reference_change : (mulf (broadcastInDim S4x1024x1408 ![] bcast_S_S4x1024x1408 (constant S_ .f32 0xBA83126F#32)) (addf (Host.divf (Host.divf (addf (mulf (broadcastInDim S4x1024x1408 ![] bcast_S_S4x1024x1408 (constant S_ .f32 0x3F666666#32)) u) (mulf (broadcastInDim S4x1024x1408 ![] bcast_S_S4x1024x1408 (constant S_ .f32 0x3DCCCCCD#32)) g)) (broadcastInDim S4x1024x1408 ![] bcast_S_S4x1024x1408 (constant S_ .f32 0x3F26BD02#32))) (addf (Host.sqrt (Host.divf (addf (mulf (broadcastInDim S4x1024x1408 ![] bcast_S_S4x1024x1408 (constant S_ .f32 0x3F7FBE77#32)) v) (mulf (broadcastInDim S4x1024x1408 ![] bcast_S_S4x1024x1408 (constant S_ .f32 0x3A83126F#32)) (mulf g g))) (broadcastInDim S4x1024x1408 ![] bcast_S_S4x1024x1408 (constant S_ .f32 0x3C231ACC#32)))) (broadcastInDim S4x1024x1408 ![] bcast_S_S4x1024x1408 (constant S_ .f32 0x322BCC77#32)))) (mulf (broadcastInDim S4x1024x1408 ![] bcast_S_S4x1024x1408 (constant S_ .f32 0x3C23D70A#32)) w)) : FVec Ideal S4x1024x1408 .f32) (ix3 l r k)
    = change (w (ix3 l r k)) (g (ix3 l r k)) (u (ix3 l r k)) (v (ix3 l r k)) := by
  unfold change moment square
  pointwise
/-- The reference's first moment of an entry. -/
theorem reference_moment : (addf (mulf (broadcastInDim S4x1024x1408 ![] bcast_S_S4x1024x1408 (constant S_ .f32 0x3F666666#32)) u) (mulf (broadcastInDim S4x1024x1408 ![] bcast_S_S4x1024x1408 (constant S_ .f32 0x3DCCCCCD#32)) g) : FVec Ideal S4x1024x1408 .f32) (ix3 l r k) = moment (g (ix3 l r k)) (u (ix3 l r k)) := by
  unfold moment
  pointwise
/-- The reference's second moment of an entry. -/
theorem reference_square : (addf (mulf (broadcastInDim S4x1024x1408 ![] bcast_S_S4x1024x1408 (constant S_ .f32 0x3F7FBE77#32)) v) (mulf (broadcastInDim S4x1024x1408 ![] bcast_S_S4x1024x1408 (constant S_ .f32 0x3A83126F#32)) (mulf g g)) : FVec Ideal S4x1024x1408 .f32) (ix3 l r k) = square (g (ix3 l r k)) (v (ix3 l r k)) := by
  unfold square
  pointwise

end Reference

open Cert.Kernel18Ideal Cert.Kernel18Ideal.Gen Idealize.ShloMosaic Idealize.ShloMosaic.TcCoe
open Idealize.SL Idealize.SL.RA Idealize.SL.Sem

theorem hz : (![0, 0] : Fin 2 → Nat) = fun _ => 0 := funext fun a => by fin_cases a <;> rfl

variable (m : (ℓ : Loc nD τ sig) → Buf (Elt Ideal) ℓ) (c : Dev nD)

/-- The arguments. -/
def arg0 : S4x1024x1408.Idx → EReal := m ((c.tc : Thread nD τ).loc main_arg0)
def arg1 : S4x1024x1408.Idx → EReal := m ((c.tc : Thread nD τ).loc main_arg1)
def arg2 : S4x1024x1408.Idx → EReal := m ((c.tc : Thread nD τ).loc main_arg2)
def arg3 : S4x1024x1408.Idx → EReal := m ((c.tc : Thread nD τ).loc main_arg3)
/-- The arguments as rows. -/
def flat0 : S4096x1408.Idx → EReal := V m c main_v0
def flat1 : S4096x1408.Idx → EReal := V m c main_v1
def flat2 : S4096x1408.Idx → EReal := V m c main_v2
def flat3 : S4096x1408.Idx → EReal := V m c main_v3

/-- A row of a point's block. -/
def rowOf (t : Fin cfg0.N) (r : Fin 512) : Fin 4096 := ⟨t.val * 512 + r.val, by have := t.isLt; have : cfg0.N = 8 := N_0; omega⟩
/-- A row of an entry. -/
def flatRow (l : Fin 4) (r : Fin 1024) : Fin 4096 := ⟨l.val * 1024 + r.val, by omega⟩

theorem flat_at (x : FVec Ideal S4x1024x1408 .f32) (l : Fin 4) (r : Fin 1024) (k : Fin 1408) :
    (shapeCast S4096x1408 x shapeCasts_S4x1024x1408_S4096x1408 : FVec Ideal S4096x1408 .f32) (ix2 (flatRow l r) k) = x (ix3 l r k) := by
  unfold flatRow
  pointwise
theorem flat0_at (l : Fin 4) (r : Fin 1024) (k : Fin 1408) : flat0 m c (ix2 (flatRow l r) k) = arg0 m c (ix3 l r k) := by
  have h : V m c main_v0 = shapeCast S4096x1408 (m ((c.tc : Thread nD τ).loc main_arg0)) shapeCasts_S4x1024x1408_S4096x1408 := by
    unfold V V0
    after_reads_simp
    rfl
  exact (congrFun h _).trans (flat_at (m ((c.tc : Thread nD τ).loc main_arg0)) l r k)
theorem flat1_at (l : Fin 4) (r : Fin 1024) (k : Fin 1408) : flat1 m c (ix2 (flatRow l r) k) = arg1 m c (ix3 l r k) := by
  have h : V m c main_v1 = shapeCast S4096x1408 (m ((c.tc : Thread nD τ).loc main_arg1)) shapeCasts_S4x1024x1408_S4096x1408 := by
    unfold V V0
    after_reads_simp
    rfl
  exact (congrFun h _).trans (flat_at (m ((c.tc : Thread nD τ).loc main_arg1)) l r k)
theorem flat2_at (l : Fin 4) (r : Fin 1024) (k : Fin 1408) : flat2 m c (ix2 (flatRow l r) k) = arg2 m c (ix3 l r k) := by
  have h : V m c main_v2 = shapeCast S4096x1408 (m ((c.tc : Thread nD τ).loc main_arg2)) shapeCasts_S4x1024x1408_S4096x1408 := by
    unfold V V0
    after_reads_simp
    rfl
  exact (congrFun h _).trans (flat_at (m ((c.tc : Thread nD τ).loc main_arg2)) l r k)
theorem flat3_at (l : Fin 4) (r : Fin 1024) (k : Fin 1408) : flat3 m c (ix2 (flatRow l r) k) = arg3 m c (ix3 l r k) := by
  have h : V m c main_v3 = shapeCast S4096x1408 (m ((c.tc : Thread nD τ).loc main_arg3)) shapeCasts_S4x1024x1408_S4096x1408 := by
    unfold V V0
    after_reads_simp
    rfl
  exact (congrFun h _).trans (flat_at (m ((c.tc : Thread nD τ).loc main_arg3)) l r k)
theorem place0 : ∀ t : Fin cfg0.N, (cfg0.win 0).index t (0 : Fin 2) = t.val ∧ (cfg0.win 0).index t (1 : Fin 2) = 0 := by decide +kernel
/-- The rows a point reads of the argument. -/
theorem block0 (t : Fin cfg0.N) (r : Fin 512) (k : Fin 1408) : iblk m c 0 t (ix2 r k) = flat0 m c (ix2 (rowOf t r) k) := by
  obtain ⟨e0, e1⟩ := place0 t
  have ht : t.val < 8 := lt_of_lt_of_eq t.isLt N_0
  unfold flat0 rowOf
  blk_ext [iblk, e0, e1]
theorem place1 : ∀ t : Fin cfg0.N, (cfg0.win 1).index t (0 : Fin 2) = t.val ∧ (cfg0.win 1).index t (1 : Fin 2) = 0 := by decide +kernel
/-- The rows a point reads of the argument. -/
theorem block1 (t : Fin cfg0.N) (r : Fin 512) (k : Fin 1408) : iblk m c 1 t (ix2 r k) = flat1 m c (ix2 (rowOf t r) k) := by
  obtain ⟨e0, e1⟩ := place1 t
  have ht : t.val < 8 := lt_of_lt_of_eq t.isLt N_0
  unfold flat1 rowOf
  blk_ext [iblk, e0, e1]
theorem place2 : ∀ t : Fin cfg0.N, (cfg0.win 2).index t (0 : Fin 2) = t.val ∧ (cfg0.win 2).index t (1 : Fin 2) = 0 := by decide +kernel
/-- The rows a point reads of the argument. -/
theorem block2 (t : Fin cfg0.N) (r : Fin 512) (k : Fin 1408) : iblk m c 2 t (ix2 r k) = flat2 m c (ix2 (rowOf t r) k) := by
  obtain ⟨e0, e1⟩ := place2 t
  have ht : t.val < 8 := lt_of_lt_of_eq t.isLt N_0
  unfold flat2 rowOf
  blk_ext [iblk, e0, e1]
theorem place3 : ∀ t : Fin cfg0.N, (cfg0.win 3).index t (0 : Fin 2) = t.val ∧ (cfg0.win 3).index t (1 : Fin 2) = 0 := by decide +kernel
/-- The rows a point reads of the argument. -/
theorem block3 (t : Fin cfg0.N) (r : Fin 512) (k : Fin 1408) : iblk m c 3 t (ix2 r k) = flat3 m c (ix2 (rowOf t r) k) := by
  obtain ⟨e0, e1⟩ := place3 t
  have ht : t.val < 8 := lt_of_lt_of_eq t.isLt N_0
  unfold flat3 rowOf
  blk_ext [iblk, e0, e1]
/-- What a point writes: the change. -/
theorem written4 (t : Fin cfg0.N) (r : Fin 512) (k : Fin 1408) :
    (out0_4 (iblk m c 0 t) (iblk m c 1 t) (iblk m c 2 t) (iblk m c 3 t) : S512x1408.Idx → EReal) (ix2 r k)
      = change (flat0 m c (ix2 (rowOf t r) k)) (flat1 m c (ix2 (rowOf t r) k)) (flat2 m c (ix2 (rowOf t r) k)) (flat3 m c (ix2 (rowOf t r) k)) := by
  unfold out0_4
  rw [View.canon_unit_zero hz]
  simp only [View.ld_unit_zero (S := S512x1408) hz]
  have h : ∀ (x0 x1 x2 x3 : Vec Ideal S512x1408 .f32), (k0_pay4 (F := Ideal) x0 x1 x2 x3 : S512x1408.Idx → EReal) (ix2 r k)
      = change (x0 (ix2 r k)) (x1 (ix2 r k)) (x2 (ix2 r k)) (x3 (ix2 r k)) := fun x0 x1 x2 x3 => by
    unfold change moment square
    pointwise [k0_pay4, k0_pay2, k0_pay3, k0_pay1]
  refine (h _ _ _ _).trans ?_
  rw [block0, block1, block2, block3]
theorem place4 : ∀ t : Fin cfg0.N, (cfg0.win 4).index t (0 : Fin 2) = t.val ∧ (cfg0.win 4).index t (1 : Fin 2) = 0 := by decide +kernel
/-- The change's array at a row and a column. -/
def rows4 (a : Fin 4096) (k : Fin 1408) : EReal := change (flat0 m c (ix2 a k)) (flat1 m c (ix2 a k)) (flat2 m c (ix2 a k)) (flat3 m c (ix2 a k))
/-- The array after the last point. -/
theorem array4 : (dats m 0 c).arrAt 4 cfg0.N = (fun i : S4096x1408.Idx => rows4 m c ⟨(i 0).val, (i 0).isLt⟩ ⟨(i 1).val, (i 1).isLt⟩) := by
  refine Pipeline.Dat.arrAt_eq_of_covers (cfg := cfg0) (dats m 0 c) 4 _ (by decide +kernel) (fun t hf y => ?_)
  rw [after0_4]
  obtain ⟨e0, e1⟩ := place4 t
  blk_simp [e0, e1]
  refine Eq.trans (congrArg (out0_4 (iblk m c 0 t) (iblk m c 1 t) (iblk m c 2 t) (iblk m c 3 t)) ?_)
    ((written4 m c t ((cfg0.win 4).xinj (cfg0.grid.coords t) y 0) ((cfg0.win 4).xinj (cfg0.grid.coords t) y 1)).trans ?_)
  · funext a
    match a with
    | 0 => rfl
    | 1 => rfl
  · refine congrArg₂ (rows4 m c) (Fin.ext ?_) (Fin.ext ?_)
    · rfl
    · rfl
/-- What a point writes: the first moment. -/
theorem written5 (t : Fin cfg0.N) (r : Fin 512) (k : Fin 1408) :
    (out0_5 (iblk m c 0 t) (iblk m c 1 t) (iblk m c 2 t) (iblk m c 3 t) : S512x1408.Idx → EReal) (ix2 r k)
      = moment (flat1 m c (ix2 (rowOf t r) k)) (flat2 m c (ix2 (rowOf t r) k)) := by
  unfold out0_5
  rw [View.canon_unit_zero hz]
  simp only [View.ld_unit_zero (S := S512x1408) hz]
  have h : ∀ (x1 x2 : Vec Ideal S512x1408 .f32), (k0_pay2 (F := Ideal) x1 x2 : S512x1408.Idx → EReal) (ix2 r k)
      = moment (x1 (ix2 r k)) (x2 (ix2 r k)) := fun x1 x2 => by
    unfold moment
    pointwise [k0_pay2, k0_pay1]
  refine (h _ _).trans ?_
  rw [block1, block2]
theorem place5 : ∀ t : Fin cfg0.N, (cfg0.win 5).index t (0 : Fin 2) = t.val ∧ (cfg0.win 5).index t (1 : Fin 2) = 0 := by decide +kernel
/-- The first moment's array at a row and a column. -/
def rows5 (a : Fin 4096) (k : Fin 1408) : EReal := moment (flat1 m c (ix2 a k)) (flat2 m c (ix2 a k))
/-- The array after the last point. -/
theorem array5 : (dats m 0 c).arrAt 5 cfg0.N = (fun i : S4096x1408.Idx => rows5 m c ⟨(i 0).val, (i 0).isLt⟩ ⟨(i 1).val, (i 1).isLt⟩) := by
  refine Pipeline.Dat.arrAt_eq_of_covers (cfg := cfg0) (dats m 0 c) 5 _ (by decide +kernel) (fun t hf y => ?_)
  rw [after0_5]
  obtain ⟨e0, e1⟩ := place5 t
  blk_simp [e0, e1]
  refine Eq.trans (congrArg (out0_5 (iblk m c 0 t) (iblk m c 1 t) (iblk m c 2 t) (iblk m c 3 t)) ?_)
    ((written5 m c t ((cfg0.win 5).xinj (cfg0.grid.coords t) y 0) ((cfg0.win 5).xinj (cfg0.grid.coords t) y 1)).trans ?_)
  · funext a
    match a with
    | 0 => rfl
    | 1 => rfl
  · refine congrArg₂ (rows5 m c) (Fin.ext ?_) (Fin.ext ?_)
    · rfl
    · rfl
/-- What a point writes: the second moment. -/
theorem written6 (t : Fin cfg0.N) (r : Fin 512) (k : Fin 1408) :
    (out0_6 (iblk m c 0 t) (iblk m c 1 t) (iblk m c 2 t) (iblk m c 3 t) : S512x1408.Idx → EReal) (ix2 r k)
      = square (flat1 m c (ix2 (rowOf t r) k)) (flat3 m c (ix2 (rowOf t r) k)) := by
  unfold out0_6
  rw [View.canon_unit_zero hz]
  simp only [View.ld_unit_zero (S := S512x1408) hz]
  have h : ∀ (x1 x3 : Vec Ideal S512x1408 .f32), (k0_pay3 (F := Ideal) x1 x3 : S512x1408.Idx → EReal) (ix2 r k)
      = square (x1 (ix2 r k)) (x3 (ix2 r k)) := fun x1 x3 => by
    unfold square
    pointwise [k0_pay3, k0_pay1]
  refine (h _ _).trans ?_
  rw [block1, block3]
theorem place6 : ∀ t : Fin cfg0.N, (cfg0.win 6).index t (0 : Fin 2) = t.val ∧ (cfg0.win 6).index t (1 : Fin 2) = 0 := by decide +kernel
/-- The second moment's array at a row and a column. -/
def rows6 (a : Fin 4096) (k : Fin 1408) : EReal := square (flat1 m c (ix2 a k)) (flat3 m c (ix2 a k))
/-- The array after the last point. -/
theorem array6 : (dats m 0 c).arrAt 6 cfg0.N = (fun i : S4096x1408.Idx => rows6 m c ⟨(i 0).val, (i 0).isLt⟩ ⟨(i 1).val, (i 1).isLt⟩) := by
  refine Pipeline.Dat.arrAt_eq_of_covers (cfg := cfg0) (dats m 0 c) 6 _ (by decide +kernel) (fun t hf y => ?_)
  rw [after0_6]
  obtain ⟨e0, e1⟩ := place6 t
  blk_simp [e0, e1]
  refine Eq.trans (congrArg (out0_6 (iblk m c 0 t) (iblk m c 1 t) (iblk m c 2 t) (iblk m c 3 t)) ?_)
    ((written6 m c t ((cfg0.win 6).xinj (cfg0.grid.coords t) y 0) ((cfg0.win 6).xinj (cfg0.grid.coords t) y 1)).trans ?_)
  · funext a
    match a with
    | 0 => rfl
    | 1 => rfl
  · refine congrArg₂ (rows6 m c) (Fin.ext ?_) (Fin.ext ?_)
    · rfl
    · rfl

/-- The results of the kernel's program. -/
def result0 (c : Dev nD) : S4x1024x1408.Idx → EReal := Pipeline.afterTail₀ cfgs (dats m) 0 (V0 m) [hostOps1] c main_v5
def result1 (c : Dev nD) : S4x1024x1408.Idx → EReal := Pipeline.afterTail₀ cfgs (dats m) 0 (V0 m) [hostOps1] c main_v6
def result2 (c : Dev nD) : S4x1024x1408.Idx → EReal := Pipeline.afterTail₀ cfgs (dats m) 0 (V0 m) [hostOps1] c main_v7

theorem back_at (x : FVec Ideal S4096x1408 .f32) (l : Fin 4) (r : Fin 1024) (k : Fin 1408) :
    (shapeCast S4x1024x1408 x shapeCasts_S4096x1408_S4x1024x1408 : FVec Ideal S4x1024x1408 .f32) (ix3 l r k) = x (ix2 (flatRow l r) k) := by
  unfold flatRow
  pointwise
theorem tail0 (W : Valuation τ sig (Elt Ideal)) (x : FVec Ideal S4096x1408 .f32) (hx : W (Proc.tc.devRef main_v4_0) = x) :
    StableHlo.after [hostOps1].flatten W (Proc.tc.devRef main_v5) = shapeCast S4x1024x1408 x shapeCasts_S4096x1408_S4x1024x1408 := by
  subst hx
  after_reads_simp
  rfl
/-- The kernel's result at an entry. -/
theorem result0_at (l : Fin 4) (r : Fin 1024) (k : Fin 1408) :
    result0 m c (ix3 l r k) = change (arg0 m c (ix3 l r k)) (arg1 m c (ix3 l r k)) (arg2 m c (ix3 l r k)) (arg3 m c (ix3 l r k)) := by
  refine (congrFun (tail0 _ _ (Pipeline.withArrays_arr spec0 launch0.win.arr_inj c _ _ 4)) (ix3 l r k)).trans ?_
  refine (back_at _ l r k).trans ((congrFun (array4 m c) (ix2 (flatRow l r) k)).trans ?_)
  refine Eq.trans (b := rows4 m c (flatRow l r) k) rfl ?_
  unfold rows4
  rw [flat0_at, flat1_at, flat2_at, flat3_at]
theorem tail1 (W : Valuation τ sig (Elt Ideal)) (x : FVec Ideal S4096x1408 .f32) (hx : W (Proc.tc.devRef main_v4_1) = x) :
    StableHlo.after [hostOps1].flatten W (Proc.tc.devRef main_v6) = shapeCast S4x1024x1408 x shapeCasts_S4096x1408_S4x1024x1408 := by
  subst hx
  after_reads_simp
  rfl
/-- The kernel's result at an entry. -/
theorem result1_at (l : Fin 4) (r : Fin 1024) (k : Fin 1408) :
    result1 m c (ix3 l r k) = moment (arg1 m c (ix3 l r k)) (arg2 m c (ix3 l r k)) := by
  refine (congrFun (tail1 _ _ (Pipeline.withArrays_arr spec0 launch0.win.arr_inj c _ _ 5)) (ix3 l r k)).trans ?_
  refine (back_at _ l r k).trans ((congrFun (array5 m c) (ix2 (flatRow l r) k)).trans ?_)
  refine Eq.trans (b := rows5 m c (flatRow l r) k) rfl ?_
  unfold rows5
  rw [flat1_at, flat2_at]
theorem tail2 (W : Valuation τ sig (Elt Ideal)) (x : FVec Ideal S4096x1408 .f32) (hx : W (Proc.tc.devRef main_v4_2) = x) :
    StableHlo.after [hostOps1].flatten W (Proc.tc.devRef main_v7) = shapeCast S4x1024x1408 x shapeCasts_S4096x1408_S4x1024x1408 := by
  subst hx
  after_reads_simp
  rfl
/-- The kernel's result at an entry. -/
theorem result2_at (l : Fin 4) (r : Fin 1024) (k : Fin 1408) :
    result2 m c (ix3 l r k) = square (arg1 m c (ix3 l r k)) (arg3 m c (ix3 l r k)) := by
  refine (congrFun (tail2 _ _ (Pipeline.withArrays_arr spec0 launch0.win.arr_inj c _ _ 6)) (ix3 l r k)).trans ?_
  refine (back_at _ l r k).trans ((congrFun (array6 m c) (ix2 (flatRow l r) k)).trans ?_)
  refine Eq.trans (b := rows6 m c (flatRow l r) k) rfl ?_
  unfold rows6
  rw [flat1_at, flat3_at]

/-- The kernel's and the reference's programs end with equal results. -/
theorem value : Cert.algebraic_Kernel18Ideal_Reference18Ideal := by
  intro m g m' g' hpre hargs
  refine ⟨result0 m, result1 m, result2 m, (θ_run defs _ _).mono (fun _ h c =>
      ⟨(h.1 c).2 main_v5 (Pipeline.mem_restRefs_of main_v5 (by decide) (by decide)), (h.1 c).2 main_v6 (Pipeline.mem_restRefs_of main_v6 (by decide) (by decide)),
        (h.1 c).2 main_v7 (Pipeline.mem_restRefs_of main_v7 (by decide) (by decide)), h.2 c⟩)
    (θ_run_and (run_main m g) (unchanged m g)), ?_⟩
  refine (θ_run Cert.Reference18Ideal.defs _ _).mono (fun r h c => ⟨(h c).1.trans ?_, (h c).2.1.trans ?_, (h c).2.2.1.trans ?_, (h c).2.2.2⟩)
    (Cert.Reference18Ideal.Value.run (F := Ideal) m' g')
  all_goals obtain ⟨e0, e1, e2, e3⟩ := hargs c
  · rw [e0, e1, e2, e3]
    funext i
    have hi : i = ix3 (i 0) (i 1) (i 2) := by funext a; match a with | 0 => rfl | 1 => rfl | 2 => rfl
    rw [hi]
    exact (reference_change _ _ _ _ (i 0) (i 1) (i 2)).trans (result0_at m c (i 0) (i 1) (i 2)).symm
  · rw [e1, e2]
    funext i
    have hi : i = ix3 (i 0) (i 1) (i 2) := by funext a; match a with | 0 => rfl | 1 => rfl | 2 => rfl
    rw [hi]
    exact (reference_moment _ _ (i 0) (i 1) (i 2)).trans (result1_at m c (i 0) (i 1) (i 2)).symm
  · rw [e1, e3]
    funext i
    have hi : i = ix3 (i 0) (i 1) (i 2) := by funext a; match a with | 0 => rfl | 1 => rfl | 2 => rfl
    rw [hi]
    exact (reference_square _ _ (i 0) (i 1) (i 2)).trans (result2_at m c (i 0) (i 1) (i 2)).symm

/-- The reference's frame. -/
theorem frame_reference : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

end Cert.AdamFfnIn
-- ==== Proof.AdamFfnOut.lean ====
/- The AdamW step of the feed-forward's output weights: the kernel takes the entries as rows, 352 at a time, and steps every entry as the reference does. -/
module

public import proofs.«01_k».proof.Defs
public import proofs.«01_k».proof.Proof.Adam
public import proofs.«01_k».proof.Proof.Gen.Kernel19Ideal.Frame
public import proofs.«01_k».proof.Proof.Gen.Reference19Ideal.Run
public import Idealize.ShloMosaic.Adequacy
public import Idealize.ShloMosaic.Init
public import Idealize.ShloMosaic.Lib.Pipeline.ValueKit
public import Idealize.ShloMosaic.Lib.StableHlo.RunRead
public import Idealize.ShloMosaic.Lib.Tactic.CleanTypes

@[expose] public section

set_option maxRecDepth 16384

noncomputable section

namespace Cert.AdamFfnOut

open Cert.Adam

section Reference

open Cert.Reference19Ideal Cert.Reference19Ideal.Gen Idealize.ShloMosaic Idealize.ShloMosaic.TcCoe
variable (w g u v : FVec Ideal S4x704x1024 .f32) (l : Fin 4) (r : Fin 704) (k : Fin 1024)
/-- The reference's change of an entry. -/
theorem reference_change : (mulf (broadcastInDim S4x704x1024 ![] bcast_S_S4x704x1024 (constant S_ .f32 0xBA83126F#32)) (addf (Host.divf (Host.divf (addf (mulf (broadcastInDim S4x704x1024 ![] bcast_S_S4x704x1024 (constant S_ .f32 0x3F666666#32)) u) (mulf (broadcastInDim S4x704x1024 ![] bcast_S_S4x704x1024 (constant S_ .f32 0x3DCCCCCD#32)) g)) (broadcastInDim S4x704x1024 ![] bcast_S_S4x704x1024 (constant S_ .f32 0x3F26BD02#32))) (addf (Host.sqrt (Host.divf (addf (mulf (broadcastInDim S4x704x1024 ![] bcast_S_S4x704x1024 (constant S_ .f32 0x3F7FBE77#32)) v) (mulf (broadcastInDim S4x704x1024 ![] bcast_S_S4x704x1024 (constant S_ .f32 0x3A83126F#32)) (mulf g g))) (broadcastInDim S4x704x1024 ![] bcast_S_S4x704x1024 (constant S_ .f32 0x3C231ACC#32)))) (broadcastInDim S4x704x1024 ![] bcast_S_S4x704x1024 (constant S_ .f32 0x322BCC77#32)))) (mulf (broadcastInDim S4x704x1024 ![] bcast_S_S4x704x1024 (constant S_ .f32 0x3C23D70A#32)) w)) : FVec Ideal S4x704x1024 .f32) (ix3 l r k)
    = change (w (ix3 l r k)) (g (ix3 l r k)) (u (ix3 l r k)) (v (ix3 l r k)) := by
  unfold change moment square
  pointwise
/-- The reference's first moment of an entry. -/
theorem reference_moment : (addf (mulf (broadcastInDim S4x704x1024 ![] bcast_S_S4x704x1024 (constant S_ .f32 0x3F666666#32)) u) (mulf (broadcastInDim S4x704x1024 ![] bcast_S_S4x704x1024 (constant S_ .f32 0x3DCCCCCD#32)) g) : FVec Ideal S4x704x1024 .f32) (ix3 l r k) = moment (g (ix3 l r k)) (u (ix3 l r k)) := by
  unfold moment
  pointwise
/-- The reference's second moment of an entry. -/
theorem reference_square : (addf (mulf (broadcastInDim S4x704x1024 ![] bcast_S_S4x704x1024 (constant S_ .f32 0x3F7FBE77#32)) v) (mulf (broadcastInDim S4x704x1024 ![] bcast_S_S4x704x1024 (constant S_ .f32 0x3A83126F#32)) (mulf g g)) : FVec Ideal S4x704x1024 .f32) (ix3 l r k) = square (g (ix3 l r k)) (v (ix3 l r k)) := by
  unfold square
  pointwise

end Reference

open Cert.Kernel19Ideal Cert.Kernel19Ideal.Gen Idealize.ShloMosaic Idealize.ShloMosaic.TcCoe
open Idealize.SL Idealize.SL.RA Idealize.SL.Sem

theorem hz : (![0, 0] : Fin 2 → Nat) = fun _ => 0 := funext fun a => by fin_cases a <;> rfl

variable (m : (ℓ : Loc nD τ sig) → Buf (Elt Ideal) ℓ) (c : Dev nD)

/-- The arguments. -/
def arg0 : S4x704x1024.Idx → EReal := m ((c.tc : Thread nD τ).loc main_arg0)
def arg1 : S4x704x1024.Idx → EReal := m ((c.tc : Thread nD τ).loc main_arg1)
def arg2 : S4x704x1024.Idx → EReal := m ((c.tc : Thread nD τ).loc main_arg2)
def arg3 : S4x704x1024.Idx → EReal := m ((c.tc : Thread nD τ).loc main_arg3)
/-- The arguments as rows. -/
def flat0 : S2816x1024.Idx → EReal := V m c main_v0
def flat1 : S2816x1024.Idx → EReal := V m c main_v1
def flat2 : S2816x1024.Idx → EReal := V m c main_v2
def flat3 : S2816x1024.Idx → EReal := V m c main_v3

/-- A row of a point's block. -/
def rowOf (t : Fin cfg0.N) (r : Fin 352) : Fin 2816 := ⟨t.val * 352 + r.val, by have := t.isLt; have : cfg0.N = 8 := N_0; omega⟩
/-- A row of an entry. -/
def flatRow (l : Fin 4) (r : Fin 704) : Fin 2816 := ⟨l.val * 704 + r.val, by omega⟩

theorem flat_at (x : FVec Ideal S4x704x1024 .f32) (l : Fin 4) (r : Fin 704) (k : Fin 1024) :
    (shapeCast S2816x1024 x shapeCasts_S4x704x1024_S2816x1024 : FVec Ideal S2816x1024 .f32) (ix2 (flatRow l r) k) = x (ix3 l r k) := by
  unfold flatRow
  pointwise
theorem flat0_at (l : Fin 4) (r : Fin 704) (k : Fin 1024) : flat0 m c (ix2 (flatRow l r) k) = arg0 m c (ix3 l r k) := by
  have h : V m c main_v0 = shapeCast S2816x1024 (m ((c.tc : Thread nD τ).loc main_arg0)) shapeCasts_S4x704x1024_S2816x1024 := by
    unfold V V0
    after_reads_simp
    rfl
  exact (congrFun h _).trans (flat_at (m ((c.tc : Thread nD τ).loc main_arg0)) l r k)
theorem flat1_at (l : Fin 4) (r : Fin 704) (k : Fin 1024) : flat1 m c (ix2 (flatRow l r) k) = arg1 m c (ix3 l r k) := by
  have h : V m c main_v1 = shapeCast S2816x1024 (m ((c.tc : Thread nD τ).loc main_arg1)) shapeCasts_S4x704x1024_S2816x1024 := by
    unfold V V0
    after_reads_simp
    rfl
  exact (congrFun h _).trans (flat_at (m ((c.tc : Thread nD τ).loc main_arg1)) l r k)
theorem flat2_at (l : Fin 4) (r : Fin 704) (k : Fin 1024) : flat2 m c (ix2 (flatRow l r) k) = arg2 m c (ix3 l r k) := by
  have h : V m c main_v2 = shapeCast S2816x1024 (m ((c.tc : Thread nD τ).loc main_arg2)) shapeCasts_S4x704x1024_S2816x1024 := by
    unfold V V0
    after_reads_simp
    rfl
  exact (congrFun h _).trans (flat_at (m ((c.tc : Thread nD τ).loc main_arg2)) l r k)
theorem flat3_at (l : Fin 4) (r : Fin 704) (k : Fin 1024) : flat3 m c (ix2 (flatRow l r) k) = arg3 m c (ix3 l r k) := by
  have h : V m c main_v3 = shapeCast S2816x1024 (m ((c.tc : Thread nD τ).loc main_arg3)) shapeCasts_S4x704x1024_S2816x1024 := by
    unfold V V0
    after_reads_simp
    rfl
  exact (congrFun h _).trans (flat_at (m ((c.tc : Thread nD τ).loc main_arg3)) l r k)
theorem place0 : ∀ t : Fin cfg0.N, (cfg0.win 0).index t (0 : Fin 2) = t.val ∧ (cfg0.win 0).index t (1 : Fin 2) = 0 := by decide +kernel
/-- The rows a point reads of the argument. -/
theorem block0 (t : Fin cfg0.N) (r : Fin 352) (k : Fin 1024) : iblk m c 0 t (ix2 r k) = flat0 m c (ix2 (rowOf t r) k) := by
  obtain ⟨e0, e1⟩ := place0 t
  have ht : t.val < 8 := lt_of_lt_of_eq t.isLt N_0
  unfold flat0 rowOf
  blk_ext [iblk, e0, e1]
theorem place1 : ∀ t : Fin cfg0.N, (cfg0.win 1).index t (0 : Fin 2) = t.val ∧ (cfg0.win 1).index t (1 : Fin 2) = 0 := by decide +kernel
/-- The rows a point reads of the argument. -/
theorem block1 (t : Fin cfg0.N) (r : Fin 352) (k : Fin 1024) : iblk m c 1 t (ix2 r k) = flat1 m c (ix2 (rowOf t r) k) := by
  obtain ⟨e0, e1⟩ := place1 t
  have ht : t.val < 8 := lt_of_lt_of_eq t.isLt N_0
  unfold flat1 rowOf
  blk_ext [iblk, e0, e1]
theorem place2 : ∀ t : Fin cfg0.N, (cfg0.win 2).index t (0 : Fin 2) = t.val ∧ (cfg0.win 2).index t (1 : Fin 2) = 0 := by decide +kernel
/-- The rows a point reads of the argument. -/
theorem block2 (t : Fin cfg0.N) (r : Fin 352) (k : Fin 1024) : iblk m c 2 t (ix2 r k) = flat2 m c (ix2 (rowOf t r) k) := by
  obtain ⟨e0, e1⟩ := place2 t
  have ht : t.val < 8 := lt_of_lt_of_eq t.isLt N_0
  unfold flat2 rowOf
  blk_ext [iblk, e0, e1]
theorem place3 : ∀ t : Fin cfg0.N, (cfg0.win 3).index t (0 : Fin 2) = t.val ∧ (cfg0.win 3).index t (1 : Fin 2) = 0 := by decide +kernel
/-- The rows a point reads of the argument. -/
theorem block3 (t : Fin cfg0.N) (r : Fin 352) (k : Fin 1024) : iblk m c 3 t (ix2 r k) = flat3 m c (ix2 (rowOf t r) k) := by
  obtain ⟨e0, e1⟩ := place3 t
  have ht : t.val < 8 := lt_of_lt_of_eq t.isLt N_0
  unfold flat3 rowOf
  blk_ext [iblk, e0, e1]
/-- What a point writes: the change. -/
theorem written4 (t : Fin cfg0.N) (r : Fin 352) (k : Fin 1024) :
    (out0_4 (iblk m c 0 t) (iblk m c 1 t) (iblk m c 2 t) (iblk m c 3 t) : S352x1024.Idx → EReal) (ix2 r k)
      = change (flat0 m c (ix2 (rowOf t r) k)) (flat1 m c (ix2 (rowOf t r) k)) (flat2 m c (ix2 (rowOf t r) k)) (flat3 m c (ix2 (rowOf t r) k)) := by
  unfold out0_4
  rw [View.canon_unit_zero hz]
  simp only [View.ld_unit_zero (S := S352x1024) hz]
  have h : ∀ (x0 x1 x2 x3 : Vec Ideal S352x1024 .f32), (k0_pay4 (F := Ideal) x0 x1 x2 x3 : S352x1024.Idx → EReal) (ix2 r k)
      = change (x0 (ix2 r k)) (x1 (ix2 r k)) (x2 (ix2 r k)) (x3 (ix2 r k)) := fun x0 x1 x2 x3 => by
    unfold change moment square
    pointwise [k0_pay4, k0_pay2, k0_pay3, k0_pay1]
  refine (h _ _ _ _).trans ?_
  rw [block0, block1, block2, block3]
theorem place4 : ∀ t : Fin cfg0.N, (cfg0.win 4).index t (0 : Fin 2) = t.val ∧ (cfg0.win 4).index t (1 : Fin 2) = 0 := by decide +kernel
/-- The change's array at a row and a column. -/
def rows4 (a : Fin 2816) (k : Fin 1024) : EReal := change (flat0 m c (ix2 a k)) (flat1 m c (ix2 a k)) (flat2 m c (ix2 a k)) (flat3 m c (ix2 a k))
/-- The array after the last point. -/
theorem array4 : (dats m 0 c).arrAt 4 cfg0.N = (fun i : S2816x1024.Idx => rows4 m c ⟨(i 0).val, (i 0).isLt⟩ ⟨(i 1).val, (i 1).isLt⟩) := by
  refine Pipeline.Dat.arrAt_eq_of_covers (cfg := cfg0) (dats m 0 c) 4 _ (by decide +kernel) (fun t hf y => ?_)
  rw [after0_4]
  obtain ⟨e0, e1⟩ := place4 t
  blk_simp [e0, e1]
  refine Eq.trans (congrArg (out0_4 (iblk m c 0 t) (iblk m c 1 t) (iblk m c 2 t) (iblk m c 3 t)) ?_)
    ((written4 m c t ((cfg0.win 4).xinj (cfg0.grid.coords t) y 0) ((cfg0.win 4).xinj (cfg0.grid.coords t) y 1)).trans ?_)
  · funext a
    match a with
    | 0 => rfl
    | 1 => rfl
  · refine congrArg₂ (rows4 m c) (Fin.ext ?_) (Fin.ext ?_)
    · rfl
    · rfl
/-- What a point writes: the first moment. -/
theorem written5 (t : Fin cfg0.N) (r : Fin 352) (k : Fin 1024) :
    (out0_5 (iblk m c 0 t) (iblk m c 1 t) (iblk m c 2 t) (iblk m c 3 t) : S352x1024.Idx → EReal) (ix2 r k)
      = moment (flat1 m c (ix2 (rowOf t r) k)) (flat2 m c (ix2 (rowOf t r) k)) := by
  unfold out0_5
  rw [View.canon_unit_zero hz]
  simp only [View.ld_unit_zero (S := S352x1024) hz]
  have h : ∀ (x1 x2 : Vec Ideal S352x1024 .f32), (k0_pay2 (F := Ideal) x1 x2 : S352x1024.Idx → EReal) (ix2 r k)
      = moment (x1 (ix2 r k)) (x2 (ix2 r k)) := fun x1 x2 => by
    unfold moment
    pointwise [k0_pay2, k0_pay1]
  refine (h _ _).trans ?_
  rw [block1, block2]
theorem place5 : ∀ t : Fin cfg0.N, (cfg0.win 5).index t (0 : Fin 2) = t.val ∧ (cfg0.win 5).index t (1 : Fin 2) = 0 := by decide +kernel
/-- The first moment's array at a row and a column. -/
def rows5 (a : Fin 2816) (k : Fin 1024) : EReal := moment (flat1 m c (ix2 a k)) (flat2 m c (ix2 a k))
/-- The array after the last point. -/
theorem array5 : (dats m 0 c).arrAt 5 cfg0.N = (fun i : S2816x1024.Idx => rows5 m c ⟨(i 0).val, (i 0).isLt⟩ ⟨(i 1).val, (i 1).isLt⟩) := by
  refine Pipeline.Dat.arrAt_eq_of_covers (cfg := cfg0) (dats m 0 c) 5 _ (by decide +kernel) (fun t hf y => ?_)
  rw [after0_5]
  obtain ⟨e0, e1⟩ := place5 t
  blk_simp [e0, e1]
  refine Eq.trans (congrArg (out0_5 (iblk m c 0 t) (iblk m c 1 t) (iblk m c 2 t) (iblk m c 3 t)) ?_)
    ((written5 m c t ((cfg0.win 5).xinj (cfg0.grid.coords t) y 0) ((cfg0.win 5).xinj (cfg0.grid.coords t) y 1)).trans ?_)
  · funext a
    match a with
    | 0 => rfl
    | 1 => rfl
  · refine congrArg₂ (rows5 m c) (Fin.ext ?_) (Fin.ext ?_)
    · rfl
    · rfl
/-- What a point writes: the second moment. -/
theorem written6 (t : Fin cfg0.N) (r : Fin 352) (k : Fin 1024) :
    (out0_6 (iblk m c 0 t) (iblk m c 1 t) (iblk m c 2 t) (iblk m c 3 t) : S352x1024.Idx → EReal) (ix2 r k)
      = square (flat1 m c (ix2 (rowOf t r) k)) (flat3 m c (ix2 (rowOf t r) k)) := by
  unfold out0_6
  rw [View.canon_unit_zero hz]
  simp only [View.ld_unit_zero (S := S352x1024) hz]
  have h : ∀ (x1 x3 : Vec Ideal S352x1024 .f32), (k0_pay3 (F := Ideal) x1 x3 : S352x1024.Idx → EReal) (ix2 r k)
      = square (x1 (ix2 r k)) (x3 (ix2 r k)) := fun x1 x3 => by
    unfold square
    pointwise [k0_pay3, k0_pay1]
  refine (h _ _).trans ?_
  rw [block1, block3]
theorem place6 : ∀ t : Fin cfg0.N, (cfg0.win 6).index t (0 : Fin 2) = t.val ∧ (cfg0.win 6).index t (1 : Fin 2) = 0 := by decide +kernel
/-- The second moment's array at a row and a column. -/
def rows6 (a : Fin 2816) (k : Fin 1024) : EReal := square (flat1 m c (ix2 a k)) (flat3 m c (ix2 a k))
/-- The array after the last point. -/
theorem array6 : (dats m 0 c).arrAt 6 cfg0.N = (fun i : S2816x1024.Idx => rows6 m c ⟨(i 0).val, (i 0).isLt⟩ ⟨(i 1).val, (i 1).isLt⟩) := by
  refine Pipeline.Dat.arrAt_eq_of_covers (cfg := cfg0) (dats m 0 c) 6 _ (by decide +kernel) (fun t hf y => ?_)
  rw [after0_6]
  obtain ⟨e0, e1⟩ := place6 t
  blk_simp [e0, e1]
  refine Eq.trans (congrArg (out0_6 (iblk m c 0 t) (iblk m c 1 t) (iblk m c 2 t) (iblk m c 3 t)) ?_)
    ((written6 m c t ((cfg0.win 6).xinj (cfg0.grid.coords t) y 0) ((cfg0.win 6).xinj (cfg0.grid.coords t) y 1)).trans ?_)
  · funext a
    match a with
    | 0 => rfl
    | 1 => rfl
  · refine congrArg₂ (rows6 m c) (Fin.ext ?_) (Fin.ext ?_)
    · rfl
    · rfl

/-- The results of the kernel's program. -/
def result0 (c : Dev nD) : S4x704x1024.Idx → EReal := Pipeline.afterTail₀ cfgs (dats m) 0 (V0 m) [hostOps1] c main_v5
def result1 (c : Dev nD) : S4x704x1024.Idx → EReal := Pipeline.afterTail₀ cfgs (dats m) 0 (V0 m) [hostOps1] c main_v6
def result2 (c : Dev nD) : S4x704x1024.Idx → EReal := Pipeline.afterTail₀ cfgs (dats m) 0 (V0 m) [hostOps1] c main_v7

theorem back_at (x : FVec Ideal S2816x1024 .f32) (l : Fin 4) (r : Fin 704) (k : Fin 1024) :
    (shapeCast S4x704x1024 x shapeCasts_S2816x1024_S4x704x1024 : FVec Ideal S4x704x1024 .f32) (ix3 l r k) = x (ix2 (flatRow l r) k) := by
  unfold flatRow
  pointwise
theorem tail0 (W : Valuation τ sig (Elt Ideal)) (x : FVec Ideal S2816x1024 .f32) (hx : W (Proc.tc.devRef main_v4_0) = x) :
    StableHlo.after [hostOps1].flatten W (Proc.tc.devRef main_v5) = shapeCast S4x704x1024 x shapeCasts_S2816x1024_S4x704x1024 := by
  subst hx
  after_reads_simp
  rfl
/-- The kernel's result at an entry. -/
theorem result0_at (l : Fin 4) (r : Fin 704) (k : Fin 1024) :
    result0 m c (ix3 l r k) = change (arg0 m c (ix3 l r k)) (arg1 m c (ix3 l r k)) (arg2 m c (ix3 l r k)) (arg3 m c (ix3 l r k)) := by
  refine (congrFun (tail0 _ _ (Pipeline.withArrays_arr spec0 launch0.win.arr_inj c _ _ 4)) (ix3 l r k)).trans ?_
  refine (back_at _ l r k).trans ((congrFun (array4 m c) (ix2 (flatRow l r) k)).trans ?_)
  refine Eq.trans (b := rows4 m c (flatRow l r) k) rfl ?_
  unfold rows4
  rw [flat0_at, flat1_at, flat2_at, flat3_at]
theorem tail1 (W : Valuation τ sig (Elt Ideal)) (x : FVec Ideal S2816x1024 .f32) (hx : W (Proc.tc.devRef main_v4_1) = x) :
    StableHlo.after [hostOps1].flatten W (Proc.tc.devRef main_v6) = shapeCast S4x704x1024 x shapeCasts_S2816x1024_S4x704x1024 := by
  subst hx
  after_reads_simp
  rfl
/-- The kernel's result at an entry. -/
theorem result1_at (l : Fin 4) (r : Fin 704) (k : Fin 1024) :
    result1 m c (ix3 l r k) = moment (arg1 m c (ix3 l r k)) (arg2 m c (ix3 l r k)) := by
  refine (congrFun (tail1 _ _ (Pipeline.withArrays_arr spec0 launch0.win.arr_inj c _ _ 5)) (ix3 l r k)).trans ?_
  refine (back_at _ l r k).trans ((congrFun (array5 m c) (ix2 (flatRow l r) k)).trans ?_)
  refine Eq.trans (b := rows5 m c (flatRow l r) k) rfl ?_
  unfold rows5
  rw [flat1_at, flat2_at]
theorem tail2 (W : Valuation τ sig (Elt Ideal)) (x : FVec Ideal S2816x1024 .f32) (hx : W (Proc.tc.devRef main_v4_2) = x) :
    StableHlo.after [hostOps1].flatten W (Proc.tc.devRef main_v7) = shapeCast S4x704x1024 x shapeCasts_S2816x1024_S4x704x1024 := by
  subst hx
  after_reads_simp
  rfl
/-- The kernel's result at an entry. -/
theorem result2_at (l : Fin 4) (r : Fin 704) (k : Fin 1024) :
    result2 m c (ix3 l r k) = square (arg1 m c (ix3 l r k)) (arg3 m c (ix3 l r k)) := by
  refine (congrFun (tail2 _ _ (Pipeline.withArrays_arr spec0 launch0.win.arr_inj c _ _ 6)) (ix3 l r k)).trans ?_
  refine (back_at _ l r k).trans ((congrFun (array6 m c) (ix2 (flatRow l r) k)).trans ?_)
  refine Eq.trans (b := rows6 m c (flatRow l r) k) rfl ?_
  unfold rows6
  rw [flat1_at, flat3_at]

/-- The kernel's and the reference's programs end with equal results. -/
theorem value : Cert.algebraic_Kernel19Ideal_Reference19Ideal := by
  intro m g m' g' hpre hargs
  refine ⟨result0 m, result1 m, result2 m, (θ_run defs _ _).mono (fun _ h c =>
      ⟨(h.1 c).2 main_v5 (Pipeline.mem_restRefs_of main_v5 (by decide) (by decide)), (h.1 c).2 main_v6 (Pipeline.mem_restRefs_of main_v6 (by decide) (by decide)),
        (h.1 c).2 main_v7 (Pipeline.mem_restRefs_of main_v7 (by decide) (by decide)), h.2 c⟩)
    (θ_run_and (run_main m g) (unchanged m g)), ?_⟩
  refine (θ_run Cert.Reference19Ideal.defs _ _).mono (fun r h c => ⟨(h c).1.trans ?_, (h c).2.1.trans ?_, (h c).2.2.1.trans ?_, (h c).2.2.2⟩)
    (Cert.Reference19Ideal.Value.run (F := Ideal) m' g')
  all_goals obtain ⟨e0, e1, e2, e3⟩ := hargs c
  · rw [e0, e1, e2, e3]
    funext i
    have hi : i = ix3 (i 0) (i 1) (i 2) := by funext a; match a with | 0 => rfl | 1 => rfl | 2 => rfl
    rw [hi]
    exact (reference_change _ _ _ _ (i 0) (i 1) (i 2)).trans (result0_at m c (i 0) (i 1) (i 2)).symm
  · rw [e1, e2]
    funext i
    have hi : i = ix3 (i 0) (i 1) (i 2) := by funext a; match a with | 0 => rfl | 1 => rfl | 2 => rfl
    rw [hi]
    exact (reference_moment _ _ (i 0) (i 1) (i 2)).trans (result1_at m c (i 0) (i 1) (i 2)).symm
  · rw [e1, e3]
    funext i
    have hi : i = ix3 (i 0) (i 1) (i 2) := by funext a; match a with | 0 => rfl | 1 => rfl | 2 => rfl
    rw [hi]
    exact (reference_square _ _ (i 0) (i 1) (i 2)).trans (result2_at m c (i 0) (i 1) (i 2)).symm

/-- The reference's frame. -/
theorem frame_reference : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

end Cert.AdamFfnOut
-- ==== Proof.AdamMod.lean ====
/- The AdamW step of the gates' weights: the kernel takes the entries as rows, 512 at a time, and steps every entry as the reference does. -/
module

public import proofs.«01_k».proof.Defs
public import proofs.«01_k».proof.Proof.Adam
public import proofs.«01_k».proof.Proof.Gen.Kernel20Ideal.Frame
public import proofs.«01_k».proof.Proof.Gen.Reference20Ideal.Run
public import Idealize.ShloMosaic.Adequacy
public import Idealize.ShloMosaic.Init
public import Idealize.ShloMosaic.Lib.Pipeline.ValueKit
public import Idealize.ShloMosaic.Lib.StableHlo.RunRead
public import Idealize.ShloMosaic.Lib.Tactic.CleanTypes

@[expose] public section

set_option maxRecDepth 16384

noncomputable section

namespace Cert.AdamMod

open Cert.Adam

section Reference

open Cert.Reference20Ideal Cert.Reference20Ideal.Gen Idealize.ShloMosaic Idealize.ShloMosaic.TcCoe
variable (w g u v : FVec Ideal S4x1024x1536 .f32) (l : Fin 4) (r : Fin 1024) (k : Fin 1536)
/-- The reference's change of an entry. -/
theorem reference_change : (mulf (broadcastInDim S4x1024x1536 ![] bcast_S_S4x1024x1536 (constant S_ .f32 0xBA83126F#32)) (addf (Host.divf (Host.divf (addf (mulf (broadcastInDim S4x1024x1536 ![] bcast_S_S4x1024x1536 (constant S_ .f32 0x3F666666#32)) u) (mulf (broadcastInDim S4x1024x1536 ![] bcast_S_S4x1024x1536 (constant S_ .f32 0x3DCCCCCD#32)) g)) (broadcastInDim S4x1024x1536 ![] bcast_S_S4x1024x1536 (constant S_ .f32 0x3F26BD02#32))) (addf (Host.sqrt (Host.divf (addf (mulf (broadcastInDim S4x1024x1536 ![] bcast_S_S4x1024x1536 (constant S_ .f32 0x3F7FBE77#32)) v) (mulf (broadcastInDim S4x1024x1536 ![] bcast_S_S4x1024x1536 (constant S_ .f32 0x3A83126F#32)) (mulf g g))) (broadcastInDim S4x1024x1536 ![] bcast_S_S4x1024x1536 (constant S_ .f32 0x3C231ACC#32)))) (broadcastInDim S4x1024x1536 ![] bcast_S_S4x1024x1536 (constant S_ .f32 0x322BCC77#32)))) (mulf (broadcastInDim S4x1024x1536 ![] bcast_S_S4x1024x1536 (constant S_ .f32 0x3C23D70A#32)) w)) : FVec Ideal S4x1024x1536 .f32) (ix3 l r k)
    = change (w (ix3 l r k)) (g (ix3 l r k)) (u (ix3 l r k)) (v (ix3 l r k)) := by
  unfold change moment square
  pointwise
/-- The reference's first moment of an entry. -/
theorem reference_moment : (addf (mulf (broadcastInDim S4x1024x1536 ![] bcast_S_S4x1024x1536 (constant S_ .f32 0x3F666666#32)) u) (mulf (broadcastInDim S4x1024x1536 ![] bcast_S_S4x1024x1536 (constant S_ .f32 0x3DCCCCCD#32)) g) : FVec Ideal S4x1024x1536 .f32) (ix3 l r k) = moment (g (ix3 l r k)) (u (ix3 l r k)) := by
  unfold moment
  pointwise
/-- The reference's second moment of an entry. -/
theorem reference_square : (addf (mulf (broadcastInDim S4x1024x1536 ![] bcast_S_S4x1024x1536 (constant S_ .f32 0x3F7FBE77#32)) v) (mulf (broadcastInDim S4x1024x1536 ![] bcast_S_S4x1024x1536 (constant S_ .f32 0x3A83126F#32)) (mulf g g)) : FVec Ideal S4x1024x1536 .f32) (ix3 l r k) = square (g (ix3 l r k)) (v (ix3 l r k)) := by
  unfold square
  pointwise

end Reference

open Cert.Kernel20Ideal Cert.Kernel20Ideal.Gen Idealize.ShloMosaic Idealize.ShloMosaic.TcCoe
open Idealize.SL Idealize.SL.RA Idealize.SL.Sem

theorem hz : (![0, 0] : Fin 2 → Nat) = fun _ => 0 := funext fun a => by fin_cases a <;> rfl

variable (m : (ℓ : Loc nD τ sig) → Buf (Elt Ideal) ℓ) (c : Dev nD)

/-- The arguments. -/
def arg0 : S4x1024x1536.Idx → EReal := m ((c.tc : Thread nD τ).loc main_arg0)
def arg1 : S4x1024x1536.Idx → EReal := m ((c.tc : Thread nD τ).loc main_arg1)
def arg2 : S4x1024x1536.Idx → EReal := m ((c.tc : Thread nD τ).loc main_arg2)
def arg3 : S4x1024x1536.Idx → EReal := m ((c.tc : Thread nD τ).loc main_arg3)
/-- The arguments as rows. -/
def flat0 : S4096x1536.Idx → EReal := V m c main_v0
def flat1 : S4096x1536.Idx → EReal := V m c main_v1
def flat2 : S4096x1536.Idx → EReal := V m c main_v2
def flat3 : S4096x1536.Idx → EReal := V m c main_v3

/-- A row of a point's block. -/
def rowOf (t : Fin cfg0.N) (r : Fin 512) : Fin 4096 := ⟨t.val * 512 + r.val, by have := t.isLt; have : cfg0.N = 8 := N_0; omega⟩
/-- A row of an entry. -/
def flatRow (l : Fin 4) (r : Fin 1024) : Fin 4096 := ⟨l.val * 1024 + r.val, by omega⟩

theorem flat_at (x : FVec Ideal S4x1024x1536 .f32) (l : Fin 4) (r : Fin 1024) (k : Fin 1536) :
    (shapeCast S4096x1536 x shapeCasts_S4x1024x1536_S4096x1536 : FVec Ideal S4096x1536 .f32) (ix2 (flatRow l r) k) = x (ix3 l r k) := by
  unfold flatRow
  pointwise
theorem flat0_at (l : Fin 4) (r : Fin 1024) (k : Fin 1536) : flat0 m c (ix2 (flatRow l r) k) = arg0 m c (ix3 l r k) := by
  have h : V m c main_v0 = shapeCast S4096x1536 (m ((c.tc : Thread nD τ).loc main_arg0)) shapeCasts_S4x1024x1536_S4096x1536 := by
    unfold V V0
    after_reads_simp
    rfl
  exact (congrFun h _).trans (flat_at (m ((c.tc : Thread nD τ).loc main_arg0)) l r k)
theorem flat1_at (l : Fin 4) (r : Fin 1024) (k : Fin 1536) : flat1 m c (ix2 (flatRow l r) k) = arg1 m c (ix3 l r k) := by
  have h : V m c main_v1 = shapeCast S4096x1536 (m ((c.tc : Thread nD τ).loc main_arg1)) shapeCasts_S4x1024x1536_S4096x1536 := by
    unfold V V0
    after_reads_simp
    rfl
  exact (congrFun h _).trans (flat_at (m ((c.tc : Thread nD τ).loc main_arg1)) l r k)
theorem flat2_at (l : Fin 4) (r : Fin 1024) (k : Fin 1536) : flat2 m c (ix2 (flatRow l r) k) = arg2 m c (ix3 l r k) := by
  have h : V m c main_v2 = shapeCast S4096x1536 (m ((c.tc : Thread nD τ).loc main_arg2)) shapeCasts_S4x1024x1536_S4096x1536 := by
    unfold V V0
    after_reads_simp
    rfl
  exact (congrFun h _).trans (flat_at (m ((c.tc : Thread nD τ).loc main_arg2)) l r k)
theorem flat3_at (l : Fin 4) (r : Fin 1024) (k : Fin 1536) : flat3 m c (ix2 (flatRow l r) k) = arg3 m c (ix3 l r k) := by
  have h : V m c main_v3 = shapeCast S4096x1536 (m ((c.tc : Thread nD τ).loc main_arg3)) shapeCasts_S4x1024x1536_S4096x1536 := by
    unfold V V0
    after_reads_simp
    rfl
  exact (congrFun h _).trans (flat_at (m ((c.tc : Thread nD τ).loc main_arg3)) l r k)
theorem place0 : ∀ t : Fin cfg0.N, (cfg0.win 0).index t (0 : Fin 2) = t.val ∧ (cfg0.win 0).index t (1 : Fin 2) = 0 := by decide +kernel
/-- The rows a point reads of the argument. -/
theorem block0 (t : Fin cfg0.N) (r : Fin 512) (k : Fin 1536) : iblk m c 0 t (ix2 r k) = flat0 m c (ix2 (rowOf t r) k) := by
  obtain ⟨e0, e1⟩ := place0 t
  have ht : t.val < 8 := lt_of_lt_of_eq t.isLt N_0
  unfold flat0 rowOf
  blk_ext [iblk, e0, e1]
theorem place1 : ∀ t : Fin cfg0.N, (cfg0.win 1).index t (0 : Fin 2) = t.val ∧ (cfg0.win 1).index t (1 : Fin 2) = 0 := by decide +kernel
/-- The rows a point reads of the argument. -/
theorem block1 (t : Fin cfg0.N) (r : Fin 512) (k : Fin 1536) : iblk m c 1 t (ix2 r k) = flat1 m c (ix2 (rowOf t r) k) := by
  obtain ⟨e0, e1⟩ := place1 t
  have ht : t.val < 8 := lt_of_lt_of_eq t.isLt N_0
  unfold flat1 rowOf
  blk_ext [iblk, e0, e1]
theorem place2 : ∀ t : Fin cfg0.N, (cfg0.win 2).index t (0 : Fin 2) = t.val ∧ (cfg0.win 2).index t (1 : Fin 2) = 0 := by decide +kernel
/-- The rows a point reads of the argument. -/
theorem block2 (t : Fin cfg0.N) (r : Fin 512) (k : Fin 1536) : iblk m c 2 t (ix2 r k) = flat2 m c (ix2 (rowOf t r) k) := by
  obtain ⟨e0, e1⟩ := place2 t
  have ht : t.val < 8 := lt_of_lt_of_eq t.isLt N_0
  unfold flat2 rowOf
  blk_ext [iblk, e0, e1]
theorem place3 : ∀ t : Fin cfg0.N, (cfg0.win 3).index t (0 : Fin 2) = t.val ∧ (cfg0.win 3).index t (1 : Fin 2) = 0 := by decide +kernel
/-- The rows a point reads of the argument. -/
theorem block3 (t : Fin cfg0.N) (r : Fin 512) (k : Fin 1536) : iblk m c 3 t (ix2 r k) = flat3 m c (ix2 (rowOf t r) k) := by
  obtain ⟨e0, e1⟩ := place3 t
  have ht : t.val < 8 := lt_of_lt_of_eq t.isLt N_0
  unfold flat3 rowOf
  blk_ext [iblk, e0, e1]
/-- What a point writes: the change. -/
theorem written4 (t : Fin cfg0.N) (r : Fin 512) (k : Fin 1536) :
    (out0_4 (iblk m c 0 t) (iblk m c 1 t) (iblk m c 2 t) (iblk m c 3 t) : S512x1536.Idx → EReal) (ix2 r k)
      = change (flat0 m c (ix2 (rowOf t r) k)) (flat1 m c (ix2 (rowOf t r) k)) (flat2 m c (ix2 (rowOf t r) k)) (flat3 m c (ix2 (rowOf t r) k)) := by
  unfold out0_4
  rw [View.canon_unit_zero hz]
  simp only [View.ld_unit_zero (S := S512x1536) hz]
  have h : ∀ (x0 x1 x2 x3 : Vec Ideal S512x1536 .f32), (k0_pay4 (F := Ideal) x0 x1 x2 x3 : S512x1536.Idx → EReal) (ix2 r k)
      = change (x0 (ix2 r k)) (x1 (ix2 r k)) (x2 (ix2 r k)) (x3 (ix2 r k)) := fun x0 x1 x2 x3 => by
    unfold change moment square
    pointwise [k0_pay4, k0_pay2, k0_pay3, k0_pay1]
  refine (h _ _ _ _).trans ?_
  rw [block0, block1, block2, block3]
theorem place4 : ∀ t : Fin cfg0.N, (cfg0.win 4).index t (0 : Fin 2) = t.val ∧ (cfg0.win 4).index t (1 : Fin 2) = 0 := by decide +kernel
/-- The change's array at a row and a column. -/
def rows4 (a : Fin 4096) (k : Fin 1536) : EReal := change (flat0 m c (ix2 a k)) (flat1 m c (ix2 a k)) (flat2 m c (ix2 a k)) (flat3 m c (ix2 a k))
/-- The array after the last point. -/
theorem array4 : (dats m 0 c).arrAt 4 cfg0.N = (fun i : S4096x1536.Idx => rows4 m c ⟨(i 0).val, (i 0).isLt⟩ ⟨(i 1).val, (i 1).isLt⟩) := by
  refine Pipeline.Dat.arrAt_eq_of_covers (cfg := cfg0) (dats m 0 c) 4 _ (by decide +kernel) (fun t hf y => ?_)
  rw [after0_4]
  obtain ⟨e0, e1⟩ := place4 t
  blk_simp [e0, e1]
  refine Eq.trans (congrArg (out0_4 (iblk m c 0 t) (iblk m c 1 t) (iblk m c 2 t) (iblk m c 3 t)) ?_)
    ((written4 m c t ((cfg0.win 4).xinj (cfg0.grid.coords t) y 0) ((cfg0.win 4).xinj (cfg0.grid.coords t) y 1)).trans ?_)
  · funext a
    match a with
    | 0 => rfl
    | 1 => rfl
  · refine congrArg₂ (rows4 m c) (Fin.ext ?_) (Fin.ext ?_)
    · rfl
    · rfl
/-- What a point writes: the first moment. -/
theorem written5 (t : Fin cfg0.N) (r : Fin 512) (k : Fin 1536) :
    (out0_5 (iblk m c 0 t) (iblk m c 1 t) (iblk m c 2 t) (iblk m c 3 t) : S512x1536.Idx → EReal) (ix2 r k)
      = moment (flat1 m c (ix2 (rowOf t r) k)) (flat2 m c (ix2 (rowOf t r) k)) := by
  unfold out0_5
  rw [View.canon_unit_zero hz]
  simp only [View.ld_unit_zero (S := S512x1536) hz]
  have h : ∀ (x1 x2 : Vec Ideal S512x1536 .f32), (k0_pay2 (F := Ideal) x1 x2 : S512x1536.Idx → EReal) (ix2 r k)
      = moment (x1 (ix2 r k)) (x2 (ix2 r k)) := fun x1 x2 => by
    unfold moment
    pointwise [k0_pay2, k0_pay1]
  refine (h _ _).trans ?_
  rw [block1, block2]
theorem place5 : ∀ t : Fin cfg0.N, (cfg0.win 5).index t (0 : Fin 2) = t.val ∧ (cfg0.win 5).index t (1 : Fin 2) = 0 := by decide +kernel
/-- The first moment's array at a row and a column. -/
def rows5 (a : Fin 4096) (k : Fin 1536) : EReal := moment (flat1 m c (ix2 a k)) (flat2 m c (ix2 a k))
/-- The array after the last point. -/
theorem array5 : (dats m 0 c).arrAt 5 cfg0.N = (fun i : S4096x1536.Idx => rows5 m c ⟨(i 0).val, (i 0).isLt⟩ ⟨(i 1).val, (i 1).isLt⟩) := by
  refine Pipeline.Dat.arrAt_eq_of_covers (cfg := cfg0) (dats m 0 c) 5 _ (by decide +kernel) (fun t hf y => ?_)
  rw [after0_5]
  obtain ⟨e0, e1⟩ := place5 t
  blk_simp [e0, e1]
  refine Eq.trans (congrArg (out0_5 (iblk m c 0 t) (iblk m c 1 t) (iblk m c 2 t) (iblk m c 3 t)) ?_)
    ((written5 m c t ((cfg0.win 5).xinj (cfg0.grid.coords t) y 0) ((cfg0.win 5).xinj (cfg0.grid.coords t) y 1)).trans ?_)
  · funext a
    match a with
    | 0 => rfl
    | 1 => rfl
  · refine congrArg₂ (rows5 m c) (Fin.ext ?_) (Fin.ext ?_)
    · rfl
    · rfl
/-- What a point writes: the second moment. -/
theorem written6 (t : Fin cfg0.N) (r : Fin 512) (k : Fin 1536) :
    (out0_6 (iblk m c 0 t) (iblk m c 1 t) (iblk m c 2 t) (iblk m c 3 t) : S512x1536.Idx → EReal) (ix2 r k)
      = square (flat1 m c (ix2 (rowOf t r) k)) (flat3 m c (ix2 (rowOf t r) k)) := by
  unfold out0_6
  rw [View.canon_unit_zero hz]
  simp only [View.ld_unit_zero (S := S512x1536) hz]
  have h : ∀ (x1 x3 : Vec Ideal S512x1536 .f32), (k0_pay3 (F := Ideal) x1 x3 : S512x1536.Idx → EReal) (ix2 r k)
      = square (x1 (ix2 r k)) (x3 (ix2 r k)) := fun x1 x3 => by
    unfold square
    pointwise [k0_pay3, k0_pay1]
  refine (h _ _).trans ?_
  rw [block1, block3]
theorem place6 : ∀ t : Fin cfg0.N, (cfg0.win 6).index t (0 : Fin 2) = t.val ∧ (cfg0.win 6).index t (1 : Fin 2) = 0 := by decide +kernel
/-- The second moment's array at a row and a column. -/
def rows6 (a : Fin 4096) (k : Fin 1536) : EReal := square (flat1 m c (ix2 a k)) (flat3 m c (ix2 a k))
/-- The array after the last point. -/
theorem array6 : (dats m 0 c).arrAt 6 cfg0.N = (fun i : S4096x1536.Idx => rows6 m c ⟨(i 0).val, (i 0).isLt⟩ ⟨(i 1).val, (i 1).isLt⟩) := by
  refine Pipeline.Dat.arrAt_eq_of_covers (cfg := cfg0) (dats m 0 c) 6 _ (by decide +kernel) (fun t hf y => ?_)
  rw [after0_6]
  obtain ⟨e0, e1⟩ := place6 t
  blk_simp [e0, e1]
  refine Eq.trans (congrArg (out0_6 (iblk m c 0 t) (iblk m c 1 t) (iblk m c 2 t) (iblk m c 3 t)) ?_)
    ((written6 m c t ((cfg0.win 6).xinj (cfg0.grid.coords t) y 0) ((cfg0.win 6).xinj (cfg0.grid.coords t) y 1)).trans ?_)
  · funext a
    match a with
    | 0 => rfl
    | 1 => rfl
  · refine congrArg₂ (rows6 m c) (Fin.ext ?_) (Fin.ext ?_)
    · rfl
    · rfl

/-- The results of the kernel's program. -/
def result0 (c : Dev nD) : S4x1024x1536.Idx → EReal := Pipeline.afterTail₀ cfgs (dats m) 0 (V0 m) [hostOps1] c main_v5
def result1 (c : Dev nD) : S4x1024x1536.Idx → EReal := Pipeline.afterTail₀ cfgs (dats m) 0 (V0 m) [hostOps1] c main_v6
def result2 (c : Dev nD) : S4x1024x1536.Idx → EReal := Pipeline.afterTail₀ cfgs (dats m) 0 (V0 m) [hostOps1] c main_v7

theorem back_at (x : FVec Ideal S4096x1536 .f32) (l : Fin 4) (r : Fin 1024) (k : Fin 1536) :
    (shapeCast S4x1024x1536 x shapeCasts_S4096x1536_S4x1024x1536 : FVec Ideal S4x1024x1536 .f32) (ix3 l r k) = x (ix2 (flatRow l r) k) := by
  unfold flatRow
  pointwise
theorem tail0 (W : Valuation τ sig (Elt Ideal)) (x : FVec Ideal S4096x1536 .f32) (hx : W (Proc.tc.devRef main_v4_0) = x) :
    StableHlo.after [hostOps1].flatten W (Proc.tc.devRef main_v5) = shapeCast S4x1024x1536 x shapeCasts_S4096x1536_S4x1024x1536 := by
  subst hx
  after_reads_simp
  rfl
/-- The kernel's result at an entry. -/
theorem result0_at (l : Fin 4) (r : Fin 1024) (k : Fin 1536) :
    result0 m c (ix3 l r k) = change (arg0 m c (ix3 l r k)) (arg1 m c (ix3 l r k)) (arg2 m c (ix3 l r k)) (arg3 m c (ix3 l r k)) := by
  refine (congrFun (tail0 _ _ (Pipeline.withArrays_arr spec0 launch0.win.arr_inj c _ _ 4)) (ix3 l r k)).trans ?_
  refine (back_at _ l r k).trans ((congrFun (array4 m c) (ix2 (flatRow l r) k)).trans ?_)
  refine Eq.trans (b := rows4 m c (flatRow l r) k) rfl ?_
  unfold rows4
  rw [flat0_at, flat1_at, flat2_at, flat3_at]
theorem tail1 (W : Valuation τ sig (Elt Ideal)) (x : FVec Ideal S4096x1536 .f32) (hx : W (Proc.tc.devRef main_v4_1) = x) :
    StableHlo.after [hostOps1].flatten W (Proc.tc.devRef main_v6) = shapeCast S4x1024x1536 x shapeCasts_S4096x1536_S4x1024x1536 := by
  subst hx
  after_reads_simp
  rfl
/-- The kernel's result at an entry. -/
theorem result1_at (l : Fin 4) (r : Fin 1024) (k : Fin 1536) :
    result1 m c (ix3 l r k) = moment (arg1 m c (ix3 l r k)) (arg2 m c (ix3 l r k)) := by
  refine (congrFun (tail1 _ _ (Pipeline.withArrays_arr spec0 launch0.win.arr_inj c _ _ 5)) (ix3 l r k)).trans ?_
  refine (back_at _ l r k).trans ((congrFun (array5 m c) (ix2 (flatRow l r) k)).trans ?_)
  refine Eq.trans (b := rows5 m c (flatRow l r) k) rfl ?_
  unfold rows5
  rw [flat1_at, flat2_at]
theorem tail2 (W : Valuation τ sig (Elt Ideal)) (x : FVec Ideal S4096x1536 .f32) (hx : W (Proc.tc.devRef main_v4_2) = x) :
    StableHlo.after [hostOps1].flatten W (Proc.tc.devRef main_v7) = shapeCast S4x1024x1536 x shapeCasts_S4096x1536_S4x1024x1536 := by
  subst hx
  after_reads_simp
  rfl
/-- The kernel's result at an entry. -/
theorem result2_at (l : Fin 4) (r : Fin 1024) (k : Fin 1536) :
    result2 m c (ix3 l r k) = square (arg1 m c (ix3 l r k)) (arg3 m c (ix3 l r k)) := by
  refine (congrFun (tail2 _ _ (Pipeline.withArrays_arr spec0 launch0.win.arr_inj c _ _ 6)) (ix3 l r k)).trans ?_
  refine (back_at _ l r k).trans ((congrFun (array6 m c) (ix2 (flatRow l r) k)).trans ?_)
  refine Eq.trans (b := rows6 m c (flatRow l r) k) rfl ?_
  unfold rows6
  rw [flat1_at, flat3_at]

/-- The kernel's and the reference's programs end with equal results. -/
theorem value : Cert.algebraic_Kernel20Ideal_Reference20Ideal := by
  intro m g m' g' hpre hargs
  refine ⟨result0 m, result1 m, result2 m, (θ_run defs _ _).mono (fun _ h c =>
      ⟨(h.1 c).2 main_v5 (Pipeline.mem_restRefs_of main_v5 (by decide) (by decide)), (h.1 c).2 main_v6 (Pipeline.mem_restRefs_of main_v6 (by decide) (by decide)),
        (h.1 c).2 main_v7 (Pipeline.mem_restRefs_of main_v7 (by decide) (by decide)), h.2 c⟩)
    (θ_run_and (run_main m g) (unchanged m g)), ?_⟩
  refine (θ_run Cert.Reference20Ideal.defs _ _).mono (fun r h c => ⟨(h c).1.trans ?_, (h c).2.1.trans ?_, (h c).2.2.1.trans ?_, (h c).2.2.2⟩)
    (Cert.Reference20Ideal.Value.run (F := Ideal) m' g')
  all_goals obtain ⟨e0, e1, e2, e3⟩ := hargs c
  · rw [e0, e1, e2, e3]
    funext i
    have hi : i = ix3 (i 0) (i 1) (i 2) := by funext a; match a with | 0 => rfl | 1 => rfl | 2 => rfl
    rw [hi]
    exact (reference_change _ _ _ _ (i 0) (i 1) (i 2)).trans (result0_at m c (i 0) (i 1) (i 2)).symm
  · rw [e1, e2]
    funext i
    have hi : i = ix3 (i 0) (i 1) (i 2) := by funext a; match a with | 0 => rfl | 1 => rfl | 2 => rfl
    rw [hi]
    exact (reference_moment _ _ (i 0) (i 1) (i 2)).trans (result1_at m c (i 0) (i 1) (i 2)).symm
  · rw [e1, e3]
    funext i
    have hi : i = ix3 (i 0) (i 1) (i 2) := by funext a; match a with | 0 => rfl | 1 => rfl | 2 => rfl
    rw [hi]
    exact (reference_square _ _ (i 0) (i 1) (i 2)).trans (result2_at m c (i 0) (i 1) (i 2)).symm

/-- The reference's frame. -/
theorem frame_reference : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

end Cert.AdamMod
-- ==== Proof.AdamBias.lean ====
/- The AdamW step of the modulation's biases: the kernel adds the devices' gradients in their order and steps every entry, as the reference does. -/
module

public import proofs.«01_k».proof.Defs
public import proofs.«01_k».proof.Proof.Adam
public import proofs.«01_k».proof.Proof.Gen.Kernel21Ideal.Frame
public import proofs.«01_k».proof.Proof.Gen.Reference21Ideal.Run
public import Idealize.ShloMosaic.Adequacy
public import Idealize.ShloMosaic.Init
public import Idealize.ShloMosaic.Lib.Pipeline.ValueKit
public import Idealize.ShloMosaic.Lib.StableHlo.RunRead
public import Idealize.ShloMosaic.Lib.Tactic.CleanTypes

@[expose] public section

set_option maxRecDepth 16384

noncomputable section

namespace Cert.AdamBias

open Cert.Adam

/-- The row and the column of an entry. -/
def rowB (l : Fin 4) (k : Fin 6144) : Fin 24 := ⟨6 * l.val + k.val / 1024, by omega⟩
def colB (k : Fin 6144) : Fin 1024 := ⟨k.val % 1024, Nat.mod_lt _ (by decide)⟩

section Reference

open Cert.Reference21Ideal Cert.Reference21Ideal.Gen Idealize.ShloMosaic Idealize.ShloMosaic.TcCoe
variable (p : FVec Ideal S16x24x1024 .f32) (w g u v : FVec Ideal S4x6144 .f32) (l : Fin 4) (k : Fin 6144)
/-- The reference's gradient of an entry: the sum over devices. -/
theorem reference_grad : (Host.reduceAdd (shapeCast S16x4x6144 p shapeCasts_S16x24x1024_S16x4x6144 : FVec Ideal S16x4x6144 .f32) (constant S_ .f32 0x00000000#32) reducesTo_S16x4x6144_S4x6144_d0 h_S_ : FVec Ideal S4x6144 .f32) (ix2 l k) = ∑ j : Fin 16, p (ix3 j (rowB l k) (colB k)) := by
  unfold rowB colB
  pointwise
  refine Finset.sum_congr rfl fun j _ => congrArg p ?_
  funext a
  match a with
  | 0 => exact Fin.ext (by first | rfl | (simp only [ix3]; omega))
  | 1 => exact Fin.ext (by show _ = 6 * l.val + k.val / 1024; simp only [ix3]; omega)
  | 2 => exact Fin.ext (by show _ = k.val % 1024; simp only [ix3])
/-- The reference's change of an entry. -/
theorem reference_change : (mulf (broadcastInDim S4x6144 ![] bcast_S_S4x6144 (constant S_ .f32 0xBA83126F#32)) (addf (Host.divf (Host.divf (addf (mulf (broadcastInDim S4x6144 ![] bcast_S_S4x6144 (constant S_ .f32 0x3F666666#32)) u) (mulf (broadcastInDim S4x6144 ![] bcast_S_S4x6144 (constant S_ .f32 0x3DCCCCCD#32)) g)) (broadcastInDim S4x6144 ![] bcast_S_S4x6144 (constant S_ .f32 0x3F26BD02#32))) (addf (Host.sqrt (Host.divf (addf (mulf (broadcastInDim S4x6144 ![] bcast_S_S4x6144 (constant S_ .f32 0x3F7FBE77#32)) v) (mulf (broadcastInDim S4x6144 ![] bcast_S_S4x6144 (constant S_ .f32 0x3A83126F#32)) (mulf g g))) (broadcastInDim S4x6144 ![] bcast_S_S4x6144 (constant S_ .f32 0x3C231ACC#32)))) (broadcastInDim S4x6144 ![] bcast_S_S4x6144 (constant S_ .f32 0x322BCC77#32)))) (mulf (broadcastInDim S4x6144 ![] bcast_S_S4x6144 (constant S_ .f32 0x3C23D70A#32)) w)) : FVec Ideal S4x6144 .f32) (ix2 l k)
    = change (w (ix2 l k)) (g (ix2 l k)) (u (ix2 l k)) (v (ix2 l k)) := by
  unfold change moment square
  pointwise
/-- The reference's first moment of an entry. -/
theorem reference_moment : (addf (mulf (broadcastInDim S4x6144 ![] bcast_S_S4x6144 (constant S_ .f32 0x3F666666#32)) u) (mulf (broadcastInDim S4x6144 ![] bcast_S_S4x6144 (constant S_ .f32 0x3DCCCCCD#32)) g) : FVec Ideal S4x6144 .f32) (ix2 l k) = moment (g (ix2 l k)) (u (ix2 l k)) := by
  unfold moment
  pointwise
/-- The reference's second moment of an entry. -/
theorem reference_square : (addf (mulf (broadcastInDim S4x6144 ![] bcast_S_S4x6144 (constant S_ .f32 0x3F7FBE77#32)) v) (mulf (broadcastInDim S4x6144 ![] bcast_S_S4x6144 (constant S_ .f32 0x3A83126F#32)) (mulf g g)) : FVec Ideal S4x6144 .f32) (ix2 l k) = square (g (ix2 l k)) (v (ix2 l k)) := by
  unfold square
  pointwise

end Reference

open Cert.Kernel21Ideal Cert.Kernel21Ideal.Gen Idealize.ShloMosaic Idealize.ShloMosaic.TcCoe
open Idealize.SL Idealize.SL.RA Idealize.SL.Sem

theorem hz : (![0, 0] : Fin 2 → Nat) = fun _ => 0 := funext fun a => by fin_cases a <;> rfl

variable (m : (ℓ : Loc nD τ sig) → Buf (Elt Ideal) ℓ) (c : Dev nD)

/-- The arguments. -/
def arg0 : S16x24x1024.Idx → EReal := m ((c.tc : Thread nD τ).loc main_arg0)
def arg1 : S4x6144.Idx → EReal := m ((c.tc : Thread nD τ).loc main_arg1)
def arg2 : S4x6144.Idx → EReal := m ((c.tc : Thread nD τ).loc main_arg2)
def arg3 : S4x6144.Idx → EReal := m ((c.tc : Thread nD τ).loc main_arg3)
/-- The arguments as the call takes them. -/
def flat0 : S16x24x1024.Idx → EReal := V m c main_arg0
def flat1 : S24x1024.Idx → EReal := V m c main_v0
def flat2 : S24x1024.Idx → EReal := V m c main_v1
def flat3 : S24x1024.Idx → EReal := V m c main_v2
/-- The sum over devices of an entry. -/
def total (p : S16x24x1024.Idx → EReal) (r : Fin 24) (k : Fin 1024) : EReal := ∑ j : Fin 16, p (ix3 j r k)

theorem place0 : ∀ t : Fin cfg0.N, (cfg0.win 0).index t (0 : Fin 3) = 0 ∧ (cfg0.win 0).index t (1 : Fin 3) = 0 ∧ (cfg0.win 0).index t (2 : Fin 3) = 0 := by decide +kernel
/-- The devices' gradients, read whole. -/
theorem block0 (t : Fin cfg0.N) (j : Fin 16) (r : Fin 24) (k : Fin 1024) : iblk m c 0 t (ix3 j r k) = flat0 m c (ix3 j r k) := by
  obtain ⟨e0, e1, e2⟩ := place0 t
  unfold flat0
  blk_ext [iblk, e0, e1, e2]
theorem place1 : ∀ t : Fin cfg0.N, (cfg0.win 1).index t (0 : Fin 2) = 0 ∧ (cfg0.win 1).index t (1 : Fin 2) = 0 := by decide +kernel
/-- The argument, read whole. -/
theorem block1 (t : Fin cfg0.N) (r : Fin 24) (k : Fin 1024) : iblk m c 1 t (ix2 r k) = flat1 m c (ix2 r k) := by
  obtain ⟨e0, e1⟩ := place1 t
  unfold flat1
  blk_ext [iblk, e0, e1]
theorem place2 : ∀ t : Fin cfg0.N, (cfg0.win 2).index t (0 : Fin 2) = 0 ∧ (cfg0.win 2).index t (1 : Fin 2) = 0 := by decide +kernel
/-- The argument, read whole. -/
theorem block2 (t : Fin cfg0.N) (r : Fin 24) (k : Fin 1024) : iblk m c 2 t (ix2 r k) = flat2 m c (ix2 r k) := by
  obtain ⟨e0, e1⟩ := place2 t
  unfold flat2
  blk_ext [iblk, e0, e1]
theorem place3 : ∀ t : Fin cfg0.N, (cfg0.win 3).index t (0 : Fin 2) = 0 ∧ (cfg0.win 3).index t (1 : Fin 2) = 0 := by decide +kernel
/-- The argument, read whole. -/
theorem block3 (t : Fin cfg0.N) (r : Fin 24) (k : Fin 1024) : iblk m c 3 t (ix2 r k) = flat3 m c (ix2 r k) := by
  obtain ⟨e0, e1⟩ := place3 t
  unfold flat3
  blk_ext [iblk, e0, e1]
/-- What the kernel adds up: the sum over devices. -/
theorem total_at (x : Vec Ideal S16x24x1024 .f32) (r : Fin 24) (k : Fin 1024) : (k0_pay4 (F := Ideal) (k0_pay3 (View.ld x r0_0) (View.ld x r0_1) (View.ld x r0_2) (View.ld x r0_3) (View.ld x r0_4) (View.ld x r0_5) (View.ld x r0_6) (View.ld x r0_7) (View.ld x r0_8) (View.ld x r0_9)) (View.ld x r0_10) (View.ld x r0_11) (View.ld x r0_12) (View.ld x r0_13) (View.ld x r0_14) (View.ld x r0_15) : S24x1024.Idx → EReal) (ix2 r k) = total x r k := by
  unfold total
  pointwise [k0_pay4, k0_pay3]
  simp only [Fin.sum_univ_castSucc, Fin.sum_univ_zero, zero_add]
  rfl
theorem total_block (t : Fin cfg0.N) (r : Fin 24) (k : Fin 1024) : total (iblk m c 0 t) r k = total (flat0 m c) r k :=
  Finset.sum_congr rfl fun j _ => block0 m c t j r k
/-- What the kernel writes: the gradient. -/
theorem written4 (t : Fin cfg0.N) (r : Fin 24) (k : Fin 1024) :
    (out0_4 (iblk m c 0 t) (iblk m c 1 t) (iblk m c 2 t) (iblk m c 3 t) : S24x1024.Idx → EReal) (ix2 r k)
      = total (flat0 m c) r k := by
  unfold_out out0_4
  rw [View.canon_unit_zero hz]
  exact (total_at _ r k).trans (total_block m c t r k)
theorem place4 : ∀ t : Fin cfg0.N, (cfg0.win 4).index t (0 : Fin 2) = 0 ∧ (cfg0.win 4).index t (1 : Fin 2) = 0 := by decide +kernel
/-- The gradient's array at a row and a column. -/
def rows4 (r : Fin 24) (k : Fin 1024) : EReal := total (flat0 m c) r k
/-- The array after the call. -/
theorem array4 : (dats m 0 c).arrAt 4 cfg0.N = (fun i : S24x1024.Idx => rows4 m c ⟨(i 0).val, (i 0).isLt⟩ ⟨(i 1).val, (i 1).isLt⟩) := by
  refine Pipeline.Dat.arrAt_eq_of_covers (cfg := cfg0) (dats m 0 c) 4 _ (by decide +kernel) (fun t hf y => ?_)
  rw [after0_4]
  obtain ⟨e0, e1⟩ := place4 t
  blk_simp [e0, e1]
  refine Eq.trans (congrArg (out0_4 (iblk m c 0 t) (iblk m c 1 t) (iblk m c 2 t) (iblk m c 3 t)) ?_)
    ((written4 m c t ((cfg0.win 4).xinj (cfg0.grid.coords t) y 0) ((cfg0.win 4).xinj (cfg0.grid.coords t) y 1)).trans ?_)
  · funext a
    match a with
    | 0 => rfl
    | 1 => rfl
  · refine Eq.trans (b := rows4 m c ((cfg0.win 4).xinj (cfg0.grid.coords t) y 0) ((cfg0.win 4).xinj (cfg0.grid.coords t) y 1)) rfl ?_
    refine congrArg₂ (rows4 m c) (Fin.ext ?_) (Fin.ext ?_)
    · first | rfl | simp
    · first | rfl | simp
/-- The first moment the kernel takes. -/
theorem moment_at (x : Vec Ideal S16x24x1024 .f32) (x2 : FVec Ideal S24x1024 .f32) (r : Fin 24) (k : Fin 1024) : (k0_pay7 (F := Ideal) (k0_pay3 (View.ld x r0_0) (View.ld x r0_1) (View.ld x r0_2) (View.ld x r0_3) (View.ld x r0_4) (View.ld x r0_5) (View.ld x r0_6) (View.ld x r0_7) (View.ld x r0_8) (View.ld x r0_9)) (View.ld x r0_10) (View.ld x r0_11) (View.ld x r0_12) (View.ld x r0_13) (View.ld x r0_14) (View.ld x r0_15) x2 : S24x1024.Idx → EReal) (ix2 r k) = moment (total x r k) (x2 (ix2 r k)) := by
  unfold k0_pay7
  rw [← total_at]
  unfold moment
  have h : ∀ G : FVec Ideal S24x1024 .f32, (addf (mulf (broadcast S24x1024 (Scalar.ofBits .f32 0x3F666666#32)) (shapeCast S24x1024 x2 shapeCasts_S24x1024_S24x1024)) (mulf (broadcast S24x1024 (Scalar.ofBits .f32 0x3DCCCCCD#32)) G) : FVec Ideal S24x1024 .f32) (ix2 r k)
      = Ideal.ofBits FTy.f32 0x3F666666#32 * x2 (ix2 r k) + Ideal.ofBits FTy.f32 0x3DCCCCCD#32 * G (ix2 r k) := fun G => by pointwise
  exact h _
/-- What the kernel writes: the change. -/
theorem written5 (t : Fin cfg0.N) (r : Fin 24) (k : Fin 1024) :
    (out0_5 (iblk m c 0 t) (iblk m c 1 t) (iblk m c 2 t) (iblk m c 3 t) : S24x1024.Idx → EReal) (ix2 r k)
      = change (flat1 m c (ix2 r k)) (total (flat0 m c) r k) (flat2 m c (ix2 r k)) (flat3 m c (ix2 r k)) := by
  unfold_out out0_5
  rw [View.canon_unit_zero hz]
  simp only [View.ld_unit_zero (S := S24x1024) hz]
  have h : ∀ (G M x1 x3 : FVec Ideal S24x1024 .f32), (k0_pay2 G (k0_pay5 x1) (k0_pay6 x3) M k0_pay8 : S24x1024.Idx → EReal) (ix2 r k)
      = Ideal.ofBits FTy.f32 0xBA83126F#32 * (Ideal.div (Ideal.div (M (ix2 r k)) (Ideal.ofBits FTy.f32 0x3F26BD02#32))
        (Ideal.sqrt (Ideal.div (square (G (ix2 r k)) (x3 (ix2 r k))) (Ideal.ofBits FTy.f32 0x3C231ACC#32)) + Ideal.ofBits FTy.f32 0x322BCC77#32)
          + Ideal.ofBits FTy.f32 0x3C23D70A#32 * x1 (ix2 r k)) := fun G M x1 x3 => by
    unfold square
    pointwise [k0_pay2, k0_pay1, k0_pay5, k0_pay6, k0_pay8]
  refine (h _ _ _ _).trans ?_
  rw [total_at, moment_at, total_block m c t r k, block1, block2, block3]
  rfl
theorem place5 : ∀ t : Fin cfg0.N, (cfg0.win 5).index t (0 : Fin 2) = 0 ∧ (cfg0.win 5).index t (1 : Fin 2) = 0 := by decide +kernel
/-- The change's array at a row and a column. -/
def rows5 (r : Fin 24) (k : Fin 1024) : EReal := change (flat1 m c (ix2 r k)) (total (flat0 m c) r k) (flat2 m c (ix2 r k)) (flat3 m c (ix2 r k))
/-- The array after the call. -/
theorem array5 : (dats m 0 c).arrAt 5 cfg0.N = (fun i : S24x1024.Idx => rows5 m c ⟨(i 0).val, (i 0).isLt⟩ ⟨(i 1).val, (i 1).isLt⟩) := by
  refine Pipeline.Dat.arrAt_eq_of_covers (cfg := cfg0) (dats m 0 c) 5 _ (by decide +kernel) (fun t hf y => ?_)
  rw [after0_5]
  obtain ⟨e0, e1⟩ := place5 t
  blk_simp [e0, e1]
  refine Eq.trans (congrArg (out0_5 (iblk m c 0 t) (iblk m c 1 t) (iblk m c 2 t) (iblk m c 3 t)) ?_)
    ((written5 m c t ((cfg0.win 5).xinj (cfg0.grid.coords t) y 0) ((cfg0.win 5).xinj (cfg0.grid.coords t) y 1)).trans ?_)
  · funext a
    match a with
    | 0 => rfl
    | 1 => rfl
  · refine Eq.trans (b := rows5 m c ((cfg0.win 5).xinj (cfg0.grid.coords t) y 0) ((cfg0.win 5).xinj (cfg0.grid.coords t) y 1)) rfl ?_
    refine congrArg₂ (rows5 m c) (Fin.ext ?_) (Fin.ext ?_)
    · first | rfl | simp
    · first | rfl | simp
/-- What the kernel writes: the first moment. -/
theorem written6 (t : Fin cfg0.N) (r : Fin 24) (k : Fin 1024) :
    (out0_6 (iblk m c 0 t) (iblk m c 1 t) (iblk m c 2 t) (iblk m c 3 t) : S24x1024.Idx → EReal) (ix2 r k)
      = moment (total (flat0 m c) r k) (flat2 m c (ix2 r k)) := by
  unfold_out out0_6
  rw [View.canon_unit_zero hz]
  simp only [View.ld_unit_zero (S := S24x1024) hz]
  refine (moment_at _ _ r k).trans ?_
  rw [total_block m c t r k, block2]
theorem place6 : ∀ t : Fin cfg0.N, (cfg0.win 6).index t (0 : Fin 2) = 0 ∧ (cfg0.win 6).index t (1 : Fin 2) = 0 := by decide +kernel
/-- The first moment's array at a row and a column. -/
def rows6 (r : Fin 24) (k : Fin 1024) : EReal := moment (total (flat0 m c) r k) (flat2 m c (ix2 r k))
/-- The array after the call. -/
theorem array6 : (dats m 0 c).arrAt 6 cfg0.N = (fun i : S24x1024.Idx => rows6 m c ⟨(i 0).val, (i 0).isLt⟩ ⟨(i 1).val, (i 1).isLt⟩) := by
  refine Pipeline.Dat.arrAt_eq_of_covers (cfg := cfg0) (dats m 0 c) 6 _ (by decide +kernel) (fun t hf y => ?_)
  rw [after0_6]
  obtain ⟨e0, e1⟩ := place6 t
  blk_simp [e0, e1]
  refine Eq.trans (congrArg (out0_6 (iblk m c 0 t) (iblk m c 1 t) (iblk m c 2 t) (iblk m c 3 t)) ?_)
    ((written6 m c t ((cfg0.win 6).xinj (cfg0.grid.coords t) y 0) ((cfg0.win 6).xinj (cfg0.grid.coords t) y 1)).trans ?_)
  · funext a
    match a with
    | 0 => rfl
    | 1 => rfl
  · refine Eq.trans (b := rows6 m c ((cfg0.win 6).xinj (cfg0.grid.coords t) y 0) ((cfg0.win 6).xinj (cfg0.grid.coords t) y 1)) rfl ?_
    refine congrArg₂ (rows6 m c) (Fin.ext ?_) (Fin.ext ?_)
    · first | rfl | simp
    · first | rfl | simp
/-- What the kernel writes: the second moment. -/
theorem written7 (t : Fin cfg0.N) (r : Fin 24) (k : Fin 1024) :
    (out0_7 (iblk m c 0 t) (iblk m c 1 t) (iblk m c 2 t) (iblk m c 3 t) : S24x1024.Idx → EReal) (ix2 r k)
      = square (total (flat0 m c) r k) (flat3 m c (ix2 r k)) := by
  unfold_out out0_7
  rw [View.canon_unit_zero hz]
  simp only [View.ld_unit_zero (S := S24x1024) hz]
  have h : ∀ (G x3 : FVec Ideal S24x1024 .f32), (k0_pay1 G (k0_pay6 x3) k0_pay8 : S24x1024.Idx → EReal) (ix2 r k)
      = square (G (ix2 r k)) (x3 (ix2 r k)) := fun G x3 => by
    unfold square
    pointwise [k0_pay1, k0_pay6, k0_pay8]
  refine (h _ _).trans ?_
  rw [total_at, total_block m c t r k, block3]
theorem place7 : ∀ t : Fin cfg0.N, (cfg0.win 7).index t (0 : Fin 2) = 0 ∧ (cfg0.win 7).index t (1 : Fin 2) = 0 := by decide +kernel
/-- The second moment's array at a row and a column. -/
def rows7 (r : Fin 24) (k : Fin 1024) : EReal := square (total (flat0 m c) r k) (flat3 m c (ix2 r k))
/-- The array after the call. -/
theorem array7 : (dats m 0 c).arrAt 7 cfg0.N = (fun i : S24x1024.Idx => rows7 m c ⟨(i 0).val, (i 0).isLt⟩ ⟨(i 1).val, (i 1).isLt⟩) := by
  refine Pipeline.Dat.arrAt_eq_of_covers (cfg := cfg0) (dats m 0 c) 7 _ (by decide +kernel) (fun t hf y => ?_)
  rw [after0_7]
  obtain ⟨e0, e1⟩ := place7 t
  blk_simp [e0, e1]
  refine Eq.trans (congrArg (out0_7 (iblk m c 0 t) (iblk m c 1 t) (iblk m c 2 t) (iblk m c 3 t)) ?_)
    ((written7 m c t ((cfg0.win 7).xinj (cfg0.grid.coords t) y 0) ((cfg0.win 7).xinj (cfg0.grid.coords t) y 1)).trans ?_)
  · funext a
    match a with
    | 0 => rfl
    | 1 => rfl
  · refine Eq.trans (b := rows7 m c ((cfg0.win 7).xinj (cfg0.grid.coords t) y 0) ((cfg0.win 7).xinj (cfg0.grid.coords t) y 1)) rfl ?_
    refine congrArg₂ (rows7 m c) (Fin.ext ?_) (Fin.ext ?_)
    · first | rfl | simp
    · first | rfl | simp

/-- The results of the kernel's program. -/
def result0 (c : Dev nD) : S4x6144.Idx → EReal := Pipeline.afterTail₀ cfgs (dats m) 0 (V0 m) [hostOps1] c main_v4
def result1 (c : Dev nD) : S4x6144.Idx → EReal := Pipeline.afterTail₀ cfgs (dats m) 0 (V0 m) [hostOps1] c main_v5
def result2 (c : Dev nD) : S4x6144.Idx → EReal := Pipeline.afterTail₀ cfgs (dats m) 0 (V0 m) [hostOps1] c main_v6
def result3 (c : Dev nD) : S4x6144.Idx → EReal := Pipeline.afterTail₀ cfgs (dats m) 0 (V0 m) [hostOps1] c main_v7

theorem flat_at (x : FVec Ideal S4x6144 .f32) (l : Fin 4) (k : Fin 6144) :
    (shapeCast S24x1024 x shapeCasts_S4x6144_S24x1024 : FVec Ideal S24x1024 .f32) (ix2 (rowB l k) (colB k)) = x (ix2 l k) := by
  unfold rowB colB
  pointwise
theorem back_at (x : FVec Ideal S24x1024 .f32) (l : Fin 4) (k : Fin 6144) :
    (shapeCast S4x6144 x shapeCasts_S24x1024_S4x6144 : FVec Ideal S4x6144 .f32) (ix2 l k) = x (ix2 (rowB l k) (colB k)) := by
  unfold rowB colB
  pointwise
  refine congrArg x ?_
  funext a
  match a with
  | 0 => exact Fin.ext (by show _ = 6 * l.val + k.val / 1024; simp only [ix2]; omega)
  | 1 => exact Fin.ext (by show _ = k.val % 1024; simp only [ix2])
theorem flat0_eq : flat0 m c = arg0 m c := V_main_arg0 m c
theorem flat1_at (l : Fin 4) (k : Fin 6144) : flat1 m c (ix2 (rowB l k) (colB k)) = arg1 m c (ix2 l k) := by
  have h : V m c main_v0 = shapeCast S24x1024 (m ((c.tc : Thread nD τ).loc main_arg1)) shapeCasts_S4x6144_S24x1024 := by
    unfold V V0
    after_reads_simp
    rfl
  exact (congrFun h _).trans (flat_at (m ((c.tc : Thread nD τ).loc main_arg1)) l k)
theorem flat2_at (l : Fin 4) (k : Fin 6144) : flat2 m c (ix2 (rowB l k) (colB k)) = arg2 m c (ix2 l k) := by
  have h : V m c main_v1 = shapeCast S24x1024 (m ((c.tc : Thread nD τ).loc main_arg2)) shapeCasts_S4x6144_S24x1024 := by
    unfold V V0
    after_reads_simp
    rfl
  exact (congrFun h _).trans (flat_at (m ((c.tc : Thread nD τ).loc main_arg2)) l k)
theorem flat3_at (l : Fin 4) (k : Fin 6144) : flat3 m c (ix2 (rowB l k) (colB k)) = arg3 m c (ix2 l k) := by
  have h : V m c main_v2 = shapeCast S24x1024 (m ((c.tc : Thread nD τ).loc main_arg3)) shapeCasts_S4x6144_S24x1024 := by
    unfold V V0
    after_reads_simp
    rfl
  exact (congrFun h _).trans (flat_at (m ((c.tc : Thread nD τ).loc main_arg3)) l k)
theorem tail0 (W : Valuation τ sig (Elt Ideal)) (x : FVec Ideal S24x1024 .f32) (hx : W (Proc.tc.devRef main_v3_0) = x) :
    StableHlo.after [hostOps1].flatten W (Proc.tc.devRef main_v4) = shapeCast S4x6144 x shapeCasts_S24x1024_S4x6144 := by
  subst hx
  after_reads_simp
  rfl
/-- The kernel's result at an entry: the gradient. -/
theorem result0_at (l : Fin 4) (k : Fin 6144) : result0 m c (ix2 l k) = total (arg0 m c) (rowB l k) (colB k) := by
  refine (congrFun (tail0 _ _ (Pipeline.withArrays_arr spec0 launch0.win.arr_inj c _ _ 4)) (ix2 l k)).trans ?_
  refine (back_at _ l k).trans ((congrFun (array4 m c) (ix2 (rowB l k) (colB k))).trans ?_)
  refine Eq.trans (b := rows4 m c (rowB l k) (colB k)) rfl ?_
  unfold rows4
  rw [flat0_eq]
theorem tail1 (W : Valuation τ sig (Elt Ideal)) (x : FVec Ideal S24x1024 .f32) (hx : W (Proc.tc.devRef main_v3_1) = x) :
    StableHlo.after [hostOps1].flatten W (Proc.tc.devRef main_v5) = shapeCast S4x6144 x shapeCasts_S24x1024_S4x6144 := by
  subst hx
  after_reads_simp
  rfl
/-- The kernel's result at an entry: the change. -/
theorem result1_at (l : Fin 4) (k : Fin 6144) : result1 m c (ix2 l k) = change (arg1 m c (ix2 l k)) (total (arg0 m c) (rowB l k) (colB k)) (arg2 m c (ix2 l k)) (arg3 m c (ix2 l k)) := by
  refine (congrFun (tail1 _ _ (Pipeline.withArrays_arr spec0 launch0.win.arr_inj c _ _ 5)) (ix2 l k)).trans ?_
  refine (back_at _ l k).trans ((congrFun (array5 m c) (ix2 (rowB l k) (colB k))).trans ?_)
  refine Eq.trans (b := rows5 m c (rowB l k) (colB k)) rfl ?_
  unfold rows5
  rw [flat0_eq, flat1_at, flat2_at, flat3_at]
theorem tail2 (W : Valuation τ sig (Elt Ideal)) (x : FVec Ideal S24x1024 .f32) (hx : W (Proc.tc.devRef main_v3_2) = x) :
    StableHlo.after [hostOps1].flatten W (Proc.tc.devRef main_v6) = shapeCast S4x6144 x shapeCasts_S24x1024_S4x6144 := by
  subst hx
  after_reads_simp
  rfl
/-- The kernel's result at an entry: the first moment. -/
theorem result2_at (l : Fin 4) (k : Fin 6144) : result2 m c (ix2 l k) = moment (total (arg0 m c) (rowB l k) (colB k)) (arg2 m c (ix2 l k)) := by
  refine (congrFun (tail2 _ _ (Pipeline.withArrays_arr spec0 launch0.win.arr_inj c _ _ 6)) (ix2 l k)).trans ?_
  refine (back_at _ l k).trans ((congrFun (array6 m c) (ix2 (rowB l k) (colB k))).trans ?_)
  refine Eq.trans (b := rows6 m c (rowB l k) (colB k)) rfl ?_
  unfold rows6
  rw [flat0_eq, flat2_at]
theorem tail3 (W : Valuation τ sig (Elt Ideal)) (x : FVec Ideal S24x1024 .f32) (hx : W (Proc.tc.devRef main_v3_3) = x) :
    StableHlo.after [hostOps1].flatten W (Proc.tc.devRef main_v7) = shapeCast S4x6144 x shapeCasts_S24x1024_S4x6144 := by
  subst hx
  after_reads_simp
  rfl
/-- The kernel's result at an entry: the second moment. -/
theorem result3_at (l : Fin 4) (k : Fin 6144) : result3 m c (ix2 l k) = square (total (arg0 m c) (rowB l k) (colB k)) (arg3 m c (ix2 l k)) := by
  refine (congrFun (tail3 _ _ (Pipeline.withArrays_arr spec0 launch0.win.arr_inj c _ _ 7)) (ix2 l k)).trans ?_
  refine (back_at _ l k).trans ((congrFun (array7 m c) (ix2 (rowB l k) (colB k))).trans ?_)
  refine Eq.trans (b := rows7 m c (rowB l k) (colB k)) rfl ?_
  unfold rows7
  rw [flat0_eq, flat3_at]

/-- The kernel's and the reference's programs end with equal results. -/
theorem value : Cert.algebraic_Kernel21Ideal_Reference21Ideal := by
  intro m g m' g' hpre hargs
  refine ⟨result0 m, result1 m, result2 m, result3 m, (θ_run defs _ _).mono (fun _ h c =>
      ⟨(h.1 c).2 main_v4 (Pipeline.mem_restRefs_of main_v4 (by decide) (by decide)), (h.1 c).2 main_v5 (Pipeline.mem_restRefs_of main_v5 (by decide) (by decide)), (h.1 c).2 main_v6 (Pipeline.mem_restRefs_of main_v6 (by decide) (by decide)), (h.1 c).2 main_v7 (Pipeline.mem_restRefs_of main_v7 (by decide) (by decide)), h.2 c⟩)
    (θ_run_and (run_main m g) (unchanged m g)), ?_⟩
  refine (θ_run Cert.Reference21Ideal.defs _ _).mono (fun r h c => ⟨(h c).1.trans ?_, (h c).2.1.trans ?_, (h c).2.2.1.trans ?_, (h c).2.2.2.1.trans ?_, (h c).2.2.2.2⟩)
    (Cert.Reference21Ideal.Value.run (F := Ideal) m' g')
  all_goals obtain ⟨e0, e1, e2, e3⟩ := hargs c
  · rw [e0]
    funext i
    have hi : i = ix2 (i 0) (i 1) := by funext a; match a with | 0 => rfl | 1 => rfl
    rw [hi]
    exact (reference_grad _ (i 0) (i 1)).trans (result0_at m c (i 0) (i 1)).symm
  · rw [e0, e1, e2, e3]
    funext i
    have hi : i = ix2 (i 0) (i 1) := by funext a; match a with | 0 => rfl | 1 => rfl
    rw [hi]
    exact (reference_change _ _ _ _ (i 0) (i 1)).trans ((congrArg (fun z => change _ z _ _) (reference_grad _ (i 0) (i 1))).trans (result1_at m c (i 0) (i 1)).symm)
  · rw [e0, e2]
    funext i
    have hi : i = ix2 (i 0) (i 1) := by funext a; match a with | 0 => rfl | 1 => rfl
    rw [hi]
    exact (reference_moment _ _ (i 0) (i 1)).trans ((congrArg (fun z => moment z _) (reference_grad _ (i 0) (i 1))).trans (result2_at m c (i 0) (i 1)).symm)
  · rw [e0, e3]
    funext i
    have hi : i = ix2 (i 0) (i 1) := by funext a; match a with | 0 => rfl | 1 => rfl
    rw [hi]
    exact (reference_square _ _ (i 0) (i 1)).trans ((congrArg (fun z => square z _) (reference_grad _ (i 0) (i 1))).trans (result3_at m c (i 0) (i 1)).symm)

/-- The reference's frame. -/
theorem frame_reference : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

end Cert.AdamBias
-- ==== Proof.AdamSmall.lean ====
/- The AdamW step of the small parameters, packed in rows: the kernel adds the devices' gradients in their order and steps every entry, as the reference does. -/
module

public import proofs.«01_k».proof.Defs
public import proofs.«01_k».proof.Proof.Adam
public import proofs.«01_k».proof.Proof.Gen.Kernel22Ideal.Frame
public import proofs.«01_k».proof.Proof.Gen.Reference22Ideal.Run
public import Idealize.ShloMosaic.Adequacy
public import Idealize.ShloMosaic.Init
public import Idealize.ShloMosaic.Lib.Pipeline.ValueKit
public import Idealize.ShloMosaic.Lib.StableHlo.RunRead
public import Idealize.ShloMosaic.Lib.Tactic.CleanTypes

@[expose] public section

set_option maxRecDepth 16384

noncomputable section

namespace Cert.AdamSmall

open Cert.Adam

section Reference

open Cert.Reference22Ideal Cert.Reference22Ideal.Gen Idealize.ShloMosaic Idealize.ShloMosaic.TcCoe
variable (p : FVec Ideal S8x32x1024 .f32) (w g u v : FVec Ideal S32x1024 .f32) (l : Fin 32) (k : Fin 1024)
/-- The reference's gradient of an entry: the sum over devices. -/
theorem reference_grad : (Host.reduceAdd (p) (constant S_ .f32 0x00000000#32) reducesTo_S8x32x1024_S32x1024_d0 h_S_ : FVec Ideal S32x1024 .f32) (ix2 l k) = ∑ j : Fin 8, p (ix3 j l k) := by

  pointwise
/-- The reference's change of an entry. -/
theorem reference_change : (mulf (broadcastInDim S32x1024 ![] bcast_S_S32x1024 (constant S_ .f32 0xBA83126F#32)) (addf (Host.divf (Host.divf (addf (mulf (broadcastInDim S32x1024 ![] bcast_S_S32x1024 (constant S_ .f32 0x3F666666#32)) u) (mulf (broadcastInDim S32x1024 ![] bcast_S_S32x1024 (constant S_ .f32 0x3DCCCCCD#32)) g)) (broadcastInDim S32x1024 ![] bcast_S_S32x1024 (constant S_ .f32 0x3F26BD02#32))) (addf (Host.sqrt (Host.divf (addf (mulf (broadcastInDim S32x1024 ![] bcast_S_S32x1024 (constant S_ .f32 0x3F7FBE77#32)) v) (mulf (broadcastInDim S32x1024 ![] bcast_S_S32x1024 (constant S_ .f32 0x3A83126F#32)) (mulf g g))) (broadcastInDim S32x1024 ![] bcast_S_S32x1024 (constant S_ .f32 0x3C231ACC#32)))) (broadcastInDim S32x1024 ![] bcast_S_S32x1024 (constant S_ .f32 0x322BCC77#32)))) (mulf (broadcastInDim S32x1024 ![] bcast_S_S32x1024 (constant S_ .f32 0x3C23D70A#32)) w)) : FVec Ideal S32x1024 .f32) (ix2 l k)
    = change (w (ix2 l k)) (g (ix2 l k)) (u (ix2 l k)) (v (ix2 l k)) := by
  unfold change moment square
  pointwise
/-- The reference's first moment of an entry. -/
theorem reference_moment : (addf (mulf (broadcastInDim S32x1024 ![] bcast_S_S32x1024 (constant S_ .f32 0x3F666666#32)) u) (mulf (broadcastInDim S32x1024 ![] bcast_S_S32x1024 (constant S_ .f32 0x3DCCCCCD#32)) g) : FVec Ideal S32x1024 .f32) (ix2 l k) = moment (g (ix2 l k)) (u (ix2 l k)) := by
  unfold moment
  pointwise
/-- The reference's second moment of an entry. -/
theorem reference_square : (addf (mulf (broadcastInDim S32x1024 ![] bcast_S_S32x1024 (constant S_ .f32 0x3F7FBE77#32)) v) (mulf (broadcastInDim S32x1024 ![] bcast_S_S32x1024 (constant S_ .f32 0x3A83126F#32)) (mulf g g)) : FVec Ideal S32x1024 .f32) (ix2 l k) = square (g (ix2 l k)) (v (ix2 l k)) := by
  unfold square
  pointwise

end Reference

open Cert.Kernel22Ideal Cert.Kernel22Ideal.Gen Idealize.ShloMosaic Idealize.ShloMosaic.TcCoe
open Idealize.SL Idealize.SL.RA Idealize.SL.Sem

theorem hz : (![0, 0] : Fin 2 → Nat) = fun _ => 0 := funext fun a => by fin_cases a <;> rfl

variable (m : (ℓ : Loc nD τ sig) → Buf (Elt Ideal) ℓ) (c : Dev nD)

/-- The arguments. -/
def arg0 : S8x32x1024.Idx → EReal := m ((c.tc : Thread nD τ).loc main_arg0)
def arg1 : S32x1024.Idx → EReal := m ((c.tc : Thread nD τ).loc main_arg1)
def arg2 : S32x1024.Idx → EReal := m ((c.tc : Thread nD τ).loc main_arg2)
def arg3 : S32x1024.Idx → EReal := m ((c.tc : Thread nD τ).loc main_arg3)
/-- The arguments as the call takes them. -/
def flat0 : S8x32x1024.Idx → EReal := V m c main_arg0
def flat1 : S32x1024.Idx → EReal := V m c main_arg1
def flat2 : S32x1024.Idx → EReal := V m c main_arg2
def flat3 : S32x1024.Idx → EReal := V m c main_arg3
/-- The sum over devices of an entry. -/
def total (p : S8x32x1024.Idx → EReal) (r : Fin 32) (k : Fin 1024) : EReal := ∑ j : Fin 8, p (ix3 j r k)

theorem place0 : ∀ t : Fin cfg0.N, (cfg0.win 0).index t (0 : Fin 3) = 0 ∧ (cfg0.win 0).index t (1 : Fin 3) = 0 ∧ (cfg0.win 0).index t (2 : Fin 3) = 0 := by decide +kernel
/-- The devices' gradients, read whole. -/
theorem block0 (t : Fin cfg0.N) (j : Fin 8) (r : Fin 32) (k : Fin 1024) : iblk m c 0 t (ix3 j r k) = flat0 m c (ix3 j r k) := by
  obtain ⟨e0, e1, e2⟩ := place0 t
  unfold flat0
  blk_ext [iblk, e0, e1, e2]
theorem place1 : ∀ t : Fin cfg0.N, (cfg0.win 1).index t (0 : Fin 2) = 0 ∧ (cfg0.win 1).index t (1 : Fin 2) = 0 := by decide +kernel
/-- The argument, read whole. -/
theorem block1 (t : Fin cfg0.N) (r : Fin 32) (k : Fin 1024) : iblk m c 1 t (ix2 r k) = flat1 m c (ix2 r k) := by
  obtain ⟨e0, e1⟩ := place1 t
  unfold flat1
  blk_ext [iblk, e0, e1]
theorem place2 : ∀ t : Fin cfg0.N, (cfg0.win 2).index t (0 : Fin 2) = 0 ∧ (cfg0.win 2).index t (1 : Fin 2) = 0 := by decide +kernel
/-- The argument, read whole. -/
theorem block2 (t : Fin cfg0.N) (r : Fin 32) (k : Fin 1024) : iblk m c 2 t (ix2 r k) = flat2 m c (ix2 r k) := by
  obtain ⟨e0, e1⟩ := place2 t
  unfold flat2
  blk_ext [iblk, e0, e1]
theorem place3 : ∀ t : Fin cfg0.N, (cfg0.win 3).index t (0 : Fin 2) = 0 ∧ (cfg0.win 3).index t (1 : Fin 2) = 0 := by decide +kernel
/-- The argument, read whole. -/
theorem block3 (t : Fin cfg0.N) (r : Fin 32) (k : Fin 1024) : iblk m c 3 t (ix2 r k) = flat3 m c (ix2 r k) := by
  obtain ⟨e0, e1⟩ := place3 t
  unfold flat3
  blk_ext [iblk, e0, e1]
/-- What the kernel adds up: the sum over devices. -/
theorem total_at (x : Vec Ideal S8x32x1024 .f32) (r : Fin 32) (k : Fin 1024) : (k0_pay4 (F := Ideal) (View.ld x r0_0) (View.ld x r0_1) (View.ld x r0_2) (View.ld x r0_3) (View.ld x r0_4) (View.ld x r0_5) (View.ld x r0_6) (View.ld x r0_7) : S32x1024.Idx → EReal) (ix2 r k) = total x r k := by
  unfold total
  pointwise [k0_pay4]
  simp only [Fin.sum_univ_castSucc, Fin.sum_univ_zero, zero_add]
  rfl
theorem total_block (t : Fin cfg0.N) (r : Fin 32) (k : Fin 1024) : total (iblk m c 0 t) r k = total (flat0 m c) r k :=
  Finset.sum_congr rfl fun j _ => block0 m c t j r k
/-- What the kernel writes: the gradient. -/
theorem written4 (t : Fin cfg0.N) (r : Fin 32) (k : Fin 1024) :
    (out0_4 (iblk m c 0 t) (iblk m c 1 t) (iblk m c 2 t) (iblk m c 3 t) : S32x1024.Idx → EReal) (ix2 r k)
      = total (flat0 m c) r k := by
  unfold_out out0_4
  rw [View.canon_unit_zero hz]
  exact (total_at _ r k).trans (total_block m c t r k)
theorem place4 : ∀ t : Fin cfg0.N, (cfg0.win 4).index t (0 : Fin 2) = 0 ∧ (cfg0.win 4).index t (1 : Fin 2) = 0 := by decide +kernel
/-- The gradient's array at a row and a column. -/
def rows4 (r : Fin 32) (k : Fin 1024) : EReal := total (flat0 m c) r k
/-- The array after the call. -/
theorem array4 : (dats m 0 c).arrAt 4 cfg0.N = (fun i : S32x1024.Idx => rows4 m c ⟨(i 0).val, (i 0).isLt⟩ ⟨(i 1).val, (i 1).isLt⟩) := by
  refine Pipeline.Dat.arrAt_eq_of_covers (cfg := cfg0) (dats m 0 c) 4 _ (by decide +kernel) (fun t hf y => ?_)
  rw [after0_4]
  obtain ⟨e0, e1⟩ := place4 t
  blk_simp [e0, e1]
  refine Eq.trans (congrArg (out0_4 (iblk m c 0 t) (iblk m c 1 t) (iblk m c 2 t) (iblk m c 3 t)) ?_)
    ((written4 m c t ((cfg0.win 4).xinj (cfg0.grid.coords t) y 0) ((cfg0.win 4).xinj (cfg0.grid.coords t) y 1)).trans ?_)
  · funext a
    match a with
    | 0 => rfl
    | 1 => rfl
  · refine Eq.trans (b := rows4 m c ((cfg0.win 4).xinj (cfg0.grid.coords t) y 0) ((cfg0.win 4).xinj (cfg0.grid.coords t) y 1)) rfl ?_
    refine congrArg₂ (rows4 m c) (Fin.ext ?_) (Fin.ext ?_)
    · first | rfl | simp
    · first | rfl | simp
/-- What the kernel writes: the change. -/
theorem written5 (t : Fin cfg0.N) (r : Fin 32) (k : Fin 1024) :
    (out0_5 (iblk m c 0 t) (iblk m c 1 t) (iblk m c 2 t) (iblk m c 3 t) : S32x1024.Idx → EReal) (ix2 r k)
      = change (flat1 m c (ix2 r k)) (total (flat0 m c) r k) (flat2 m c (ix2 r k)) (flat3 m c (ix2 r k)) := by
  unfold_out out0_5
  rw [View.canon_unit_zero hz]
  simp only [View.ld_unit_zero (S := S32x1024) hz]
  have h : ∀ (G x1 x2 x3 : FVec Ideal S32x1024 .f32), (k0_pay3 G x1 x2 x3 : S32x1024.Idx → EReal) (ix2 r k)
      = change (x1 (ix2 r k)) (G (ix2 r k)) (x2 (ix2 r k)) (x3 (ix2 r k)) := fun G x1 x2 x3 => by
    unfold change moment square
    pointwise [k0_pay3, k0_pay1, k0_pay2]
  refine (h _ _ _ _).trans ?_
  rw [total_at, total_block m c t r k, block1, block2, block3]
theorem place5 : ∀ t : Fin cfg0.N, (cfg0.win 5).index t (0 : Fin 2) = 0 ∧ (cfg0.win 5).index t (1 : Fin 2) = 0 := by decide +kernel
/-- The change's array at a row and a column. -/
def rows5 (r : Fin 32) (k : Fin 1024) : EReal := change (flat1 m c (ix2 r k)) (total (flat0 m c) r k) (flat2 m c (ix2 r k)) (flat3 m c (ix2 r k))
/-- The array after the call. -/
theorem array5 : (dats m 0 c).arrAt 5 cfg0.N = (fun i : S32x1024.Idx => rows5 m c ⟨(i 0).val, (i 0).isLt⟩ ⟨(i 1).val, (i 1).isLt⟩) := by
  refine Pipeline.Dat.arrAt_eq_of_covers (cfg := cfg0) (dats m 0 c) 5 _ (by decide +kernel) (fun t hf y => ?_)
  rw [after0_5]
  obtain ⟨e0, e1⟩ := place5 t
  blk_simp [e0, e1]
  refine Eq.trans (congrArg (out0_5 (iblk m c 0 t) (iblk m c 1 t) (iblk m c 2 t) (iblk m c 3 t)) ?_)
    ((written5 m c t ((cfg0.win 5).xinj (cfg0.grid.coords t) y 0) ((cfg0.win 5).xinj (cfg0.grid.coords t) y 1)).trans ?_)
  · funext a
    match a with
    | 0 => rfl
    | 1 => rfl
  · refine Eq.trans (b := rows5 m c ((cfg0.win 5).xinj (cfg0.grid.coords t) y 0) ((cfg0.win 5).xinj (cfg0.grid.coords t) y 1)) rfl ?_
    refine congrArg₂ (rows5 m c) (Fin.ext ?_) (Fin.ext ?_)
    · first | rfl | simp
    · first | rfl | simp
/-- What the kernel writes: the first moment. -/
theorem written6 (t : Fin cfg0.N) (r : Fin 32) (k : Fin 1024) :
    (out0_6 (iblk m c 0 t) (iblk m c 1 t) (iblk m c 2 t) (iblk m c 3 t) : S32x1024.Idx → EReal) (ix2 r k)
      = moment (total (flat0 m c) r k) (flat2 m c (ix2 r k)) := by
  unfold_out out0_6
  rw [View.canon_unit_zero hz]
  simp only [View.ld_unit_zero (S := S32x1024) hz]
  have h : ∀ (G x2 : FVec Ideal S32x1024 .f32), (k0_pay1 G x2 : S32x1024.Idx → EReal) (ix2 r k)
      = moment (G (ix2 r k)) (x2 (ix2 r k)) := fun G x2 => by
    unfold moment
    pointwise [k0_pay1]
  refine (h _ _).trans ?_
  rw [total_at, total_block m c t r k, block2]
theorem place6 : ∀ t : Fin cfg0.N, (cfg0.win 6).index t (0 : Fin 2) = 0 ∧ (cfg0.win 6).index t (1 : Fin 2) = 0 := by decide +kernel
/-- The first moment's array at a row and a column. -/
def rows6 (r : Fin 32) (k : Fin 1024) : EReal := moment (total (flat0 m c) r k) (flat2 m c (ix2 r k))
/-- The array after the call. -/
theorem array6 : (dats m 0 c).arrAt 6 cfg0.N = (fun i : S32x1024.Idx => rows6 m c ⟨(i 0).val, (i 0).isLt⟩ ⟨(i 1).val, (i 1).isLt⟩) := by
  refine Pipeline.Dat.arrAt_eq_of_covers (cfg := cfg0) (dats m 0 c) 6 _ (by decide +kernel) (fun t hf y => ?_)
  rw [after0_6]
  obtain ⟨e0, e1⟩ := place6 t
  blk_simp [e0, e1]
  refine Eq.trans (congrArg (out0_6 (iblk m c 0 t) (iblk m c 1 t) (iblk m c 2 t) (iblk m c 3 t)) ?_)
    ((written6 m c t ((cfg0.win 6).xinj (cfg0.grid.coords t) y 0) ((cfg0.win 6).xinj (cfg0.grid.coords t) y 1)).trans ?_)
  · funext a
    match a with
    | 0 => rfl
    | 1 => rfl
  · refine Eq.trans (b := rows6 m c ((cfg0.win 6).xinj (cfg0.grid.coords t) y 0) ((cfg0.win 6).xinj (cfg0.grid.coords t) y 1)) rfl ?_
    refine congrArg₂ (rows6 m c) (Fin.ext ?_) (Fin.ext ?_)
    · first | rfl | simp
    · first | rfl | simp
/-- What the kernel writes: the second moment. -/
theorem written7 (t : Fin cfg0.N) (r : Fin 32) (k : Fin 1024) :
    (out0_7 (iblk m c 0 t) (iblk m c 1 t) (iblk m c 2 t) (iblk m c 3 t) : S32x1024.Idx → EReal) (ix2 r k)
      = square (total (flat0 m c) r k) (flat3 m c (ix2 r k)) := by
  unfold_out out0_7
  rw [View.canon_unit_zero hz]
  simp only [View.ld_unit_zero (S := S32x1024) hz]
  have h : ∀ (G x3 : FVec Ideal S32x1024 .f32), (k0_pay2 G x3 : S32x1024.Idx → EReal) (ix2 r k)
      = square (G (ix2 r k)) (x3 (ix2 r k)) := fun G x3 => by
    unfold square
    pointwise [k0_pay2]
  refine (h _ _).trans ?_
  rw [total_at, total_block m c t r k, block3]
theorem place7 : ∀ t : Fin cfg0.N, (cfg0.win 7).index t (0 : Fin 2) = 0 ∧ (cfg0.win 7).index t (1 : Fin 2) = 0 := by decide +kernel
/-- The second moment's array at a row and a column. -/
def rows7 (r : Fin 32) (k : Fin 1024) : EReal := square (total (flat0 m c) r k) (flat3 m c (ix2 r k))
/-- The array after the call. -/
theorem array7 : (dats m 0 c).arrAt 7 cfg0.N = (fun i : S32x1024.Idx => rows7 m c ⟨(i 0).val, (i 0).isLt⟩ ⟨(i 1).val, (i 1).isLt⟩) := by
  refine Pipeline.Dat.arrAt_eq_of_covers (cfg := cfg0) (dats m 0 c) 7 _ (by decide +kernel) (fun t hf y => ?_)
  rw [after0_7]
  obtain ⟨e0, e1⟩ := place7 t
  blk_simp [e0, e1]
  refine Eq.trans (congrArg (out0_7 (iblk m c 0 t) (iblk m c 1 t) (iblk m c 2 t) (iblk m c 3 t)) ?_)
    ((written7 m c t ((cfg0.win 7).xinj (cfg0.grid.coords t) y 0) ((cfg0.win 7).xinj (cfg0.grid.coords t) y 1)).trans ?_)
  · funext a
    match a with
    | 0 => rfl
    | 1 => rfl
  · refine Eq.trans (b := rows7 m c ((cfg0.win 7).xinj (cfg0.grid.coords t) y 0) ((cfg0.win 7).xinj (cfg0.grid.coords t) y 1)) rfl ?_
    refine congrArg₂ (rows7 m c) (Fin.ext ?_) (Fin.ext ?_)
    · first | rfl | simp
    · first | rfl | simp

/-- The results of the kernel's program. -/
def result0 (c : Dev nD) : S32x1024.Idx → EReal := (dats m 0 c).arrAt 4 cfg0.N
def result1 (c : Dev nD) : S32x1024.Idx → EReal := (dats m 0 c).arrAt 5 cfg0.N
def result2 (c : Dev nD) : S32x1024.Idx → EReal := (dats m 0 c).arrAt 6 cfg0.N
def result3 (c : Dev nD) : S32x1024.Idx → EReal := (dats m 0 c).arrAt 7 cfg0.N
/-- The kernel's result at an entry: the gradient. -/
theorem result0_at (l : Fin 32) (k : Fin 1024) : result0 m c (ix2 l k) = total (arg0 m c) l k := by
  exact congrFun (array4 m c) (ix2 l k)
/-- The kernel's result at an entry: the change. -/
theorem result1_at (l : Fin 32) (k : Fin 1024) : result1 m c (ix2 l k) = change (arg1 m c (ix2 l k)) (total (arg0 m c) l k) (arg2 m c (ix2 l k)) (arg3 m c (ix2 l k)) := by
  exact congrFun (array5 m c) (ix2 l k)
/-- The kernel's result at an entry: the first moment. -/
theorem result2_at (l : Fin 32) (k : Fin 1024) : result2 m c (ix2 l k) = moment (total (arg0 m c) l k) (arg2 m c (ix2 l k)) := by
  exact congrFun (array6 m c) (ix2 l k)
/-- The kernel's result at an entry: the second moment. -/
theorem result3_at (l : Fin 32) (k : Fin 1024) : result3 m c (ix2 l k) = square (total (arg0 m c) l k) (arg3 m c (ix2 l k)) := by
  exact congrFun (array7 m c) (ix2 l k)

/-- The kernel's and the reference's programs end with equal results. -/
theorem value : Cert.algebraic_Kernel22Ideal_Reference22Ideal := by
  intro m g m' g' hpre hargs
  refine ⟨result0 m, result1 m, result2 m, result3 m, (θ_run defs _ _).mono (fun _ h c =>
      ⟨(h.1 c).1 4, (h.1 c).1 5, (h.1 c).1 6, (h.1 c).1 7, h.2 c⟩)
    (θ_run_and (run_main m g) (unchanged m g)), ?_⟩
  refine (θ_run Cert.Reference22Ideal.defs _ _).mono (fun r h c => ⟨(h c).1.trans ?_, (h c).2.1.trans ?_, (h c).2.2.1.trans ?_, (h c).2.2.2.1.trans ?_, (h c).2.2.2.2⟩)
    (Cert.Reference22Ideal.Value.run (F := Ideal) m' g')
  all_goals obtain ⟨e0, e1, e2, e3⟩ := hargs c
  · rw [e0]
    funext i
    have hi : i = ix2 (i 0) (i 1) := by funext a; match a with | 0 => rfl | 1 => rfl
    rw [hi]
    exact (reference_grad _ (i 0) (i 1)).trans (result0_at m c (i 0) (i 1)).symm
  · rw [e0, e1, e2, e3]
    funext i
    have hi : i = ix2 (i 0) (i 1) := by funext a; match a with | 0 => rfl | 1 => rfl
    rw [hi]
    exact (reference_change _ _ _ _ (i 0) (i 1)).trans ((congrArg (fun z => change _ z _ _) (reference_grad _ (i 0) (i 1))).trans (result1_at m c (i 0) (i 1)).symm)
  · rw [e0, e2]
    funext i
    have hi : i = ix2 (i 0) (i 1) := by funext a; match a with | 0 => rfl | 1 => rfl
    rw [hi]
    exact (reference_moment _ _ (i 0) (i 1)).trans ((congrArg (fun z => moment z _) (reference_grad _ (i 0) (i 1))).trans (result2_at m c (i 0) (i 1)).symm)
  · rw [e0, e3]
    funext i
    have hi : i = ix2 (i 0) (i 1) := by funext a; match a with | 0 => rfl | 1 => rfl
    rw [hi]
    exact (reference_square _ _ (i 0) (i 1)).trans ((congrArg (fun z => square z _) (reference_grad _ (i 0) (i 1))).trans (result3_at m c (i 0) (i 1)).symm)

/-- The reference's frame. -/
theorem frame_reference : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

end Cert.AdamSmall
-- ==== Proof.Trip.lean ====
/- What one trip of the kernel's loop over the keys stores: eight chunks of 256 keys each, every chunk adding its
   products to the rows of dk and dv that are its own, and to the whole of the dq accumulator. -/
module

public import proofs.«01_k».proof.Proof.Gen.KernelIdeal.Loops
public import Idealize.ShloMosaic.Lib.Pipeline.ValueKit

@[expose] public section

set_option maxRecDepth 16384

noncomputable section

namespace Cert.Grad

open Cert.KernelIdeal Cert.KernelIdeal.Gen Idealize.ShloMosaic Idealize.ShloMosaic.TcCoe
open Idealize.SL Idealize.SL.RA Idealize.SL.Sem

variable {F : FTy → Type} [FloatOps F]

/-- The rows of key chunk `u` (of eight) in trip `k`. -/
abbrev chunkR (k : Fin k0_t1_loop.trips) (u : Fin 8) : Rect S8448x128 :=
  Rect.unit (s := S8448x128) (k0_off1 k (BitVec.ofNat 32 u.val)) S256x128.size (k0_off1_inb k u)

/-- Chunk `u` of an array of 8448 rows. -/
abbrev chunkAt {e : EltTy} (a : Memref sig .tc .vmem S8448x128 e) (k : Fin k0_t1_loop.trips) (u : Fin 8)
    (f : BufTy.Contents (Elt F) a.view.ty) : Vec F S256x128 e :=
  View.readAt (Elt F) a.view (chunkR k u).toLoadRect f

/-- The piece of dk that chunk `u` stores, over the contents `f`: what was there plus (p·(dp − delta))ᵀ·q. -/
abbrev pieceK (qs dos : FVec F S2048x128 .bf16) (dl ls : FVec F S2048x128 .f32)
    (arg3 arg4 : Memref sig .tc .vmem S8448x128 .bf16) (arg9 : Memref sig .tc .vmem S8448x128 .f32)
    (X3 : BufTy.Contents (Elt F) arg3.view.ty) (X4 : BufTy.Contents (Elt F) arg4.view.ty) (k : Fin k0_t1_loop.trips)
    (f : BufTy.Contents (Elt F) arg9.view.ty) (u : Fin 8) : View.Piece (Elt F) S8448x128 .f32 :=
  ⟨chunkR k u, k0_pay6 qs dos dl ls (chunkAt arg3 k u X3) (chunkAt arg4 k u X4) (chunkAt arg9 k u f)⟩

/-- The piece of dv that chunk `u` stores: what was there plus pᵀ·do. -/
abbrev pieceV (qs dos : FVec F S2048x128 .bf16) (ls : FVec F S2048x128 .f32)
    (arg3 : Memref sig .tc .vmem S8448x128 .bf16) (arg10 : Memref sig .tc .vmem S8448x128 .f32)
    (X3 : BufTy.Contents (Elt F) arg3.view.ty) (k : Fin k0_t1_loop.trips)
    (f : BufTy.Contents (Elt F) arg10.view.ty) (u : Fin 8) : View.Piece (Elt F) S8448x128 .f32 :=
  ⟨chunkR k u, k0_pay5 qs dos ls (chunkAt arg3 k u X3) (chunkAt arg10 k u f)⟩

/-- The dq accumulator after one chunk: what it held plus (p·(dp − delta))·k. -/
abbrev stepQ (qs dos : FVec F S2048x128 .bf16) (dl ls : FVec F S2048x128 .f32)
    (arg3 arg4 : Memref sig .tc .vmem S8448x128 .bf16)
    (X3 : BufTy.Contents (Elt F) arg3.view.ty) (X4 : BufTy.Contents (Elt F) arg4.view.ty) (k : Fin k0_t1_loop.trips)
    (u : Fin 8) (a : Vec F S2048x128 .f32) : Vec F S2048x128 .f32 :=
  k0_pay7 (chunkAt arg3 k u X3) (k0_pay4 qs dos dl ls (chunkAt arg3 k u X3) (chunkAt arg4 k u X4)) a

/-- The rectangle of the whole accumulator. -/
abbrev wholeQ : Rect S2048x128 := Rect.unit (s := S2048x128) ![0, 0] S2048x128.size inb_S2048x128_S2048x128_0_0

section
variable (𝒱 : Variants) (c : Dev nD) (bd : Option 𝒱.V) (i : grid0.Coords)
    (arg2 : Memref sig .tc .vmem S512x512 .bf16) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S512x256 .bf16) (harg5 : arg5.IsWhole)
    (arg6 : Memref sig .tc .vmem S512x256 .bf16) (harg6 : arg6.IsWhole) (arg7 : Memref sig .tc .vmem S4x512x128 .f32) (harg7 : arg7.IsWhole)
    (arg8 : Memref sig .tc .vmem S512x512 .f32) (harg8 : arg8.IsWhole) (arg9 : Memref sig .tc .vmem S8448x128 .f32) (harg9 : arg9.IsWhole)
    (arg10 : Memref sig .tc .vmem S8448x128 .f32) (harg10 : arg10.IsWhole) (arg11 : Memref sig .tc .vmem S2048x128 .f32) (harg11 : arg11.IsWhole)
    (v13 : FVec F S2048x128 .bf16) (v117 : FVec F S512x128 .bf16) (v120 : FVec F S512x1 .f32) (v122 : FVec F S512x128 .f32)
    (v226 : FVec F S512x128 .bf16) (v229 : FVec F S512x1 .f32) (v231 : FVec F S512x128 .f32) (v335 : FVec F S512x128 .bf16)
    (v338 : FVec F S512x1 .f32) (v340 : FVec F S512x128 .f32) (v391 : FVec F S512x128 .f32) (v395 : IVec S512x128 32)
    (v399 : FVec F S512x128 .f32) (v416 : IVec S512x128 32) (c64_i32_148 : BitVec 32) (v418 : IVec S512x128 32)
    (v432 : IVec S512x128 1) (v448 : Vec F S1x512x128 .f32)
    (X_arg3 : BufTy.Contents (Elt F) arg3.view.ty) (X_arg4 : BufTy.Contents (Elt F) arg4.view.ty)

set_option maxHeartbeats 2000000 in
/-- The stores of one trip into dk: the eight chunks' pieces, the last first. -/
theorem trip_k (k : Fin k0_t1_loop.trips) (f_arg9 : BufTy.Contents (Elt F) arg9.view.ty) (f_arg10 : BufTy.Contents (Elt F) arg10.view.ty) (f_arg11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 X_arg3 X_arg4 k).1 f_arg9 f_arg10 f_arg11
      = [7, 6, 5, 4, 3, 2, 1, 0].map (pieceK v13 (k0_pay121 v117 v226 v335 v391) (k0_pay122 v120 v229 v338 v391 v395 v399 v416 c64_i32_148 v418 v432)
          (k0_pay123 v122 v231 v340 v448) arg3 arg4 arg9 X_arg3 X_arg4 k f_arg9) := by
  unfold trip_k0_t1; rfl

set_option maxHeartbeats 2000000 in
/-- The stores of one trip into dv. -/
theorem trip_v (k : Fin k0_t1_loop.trips) (f_arg9 : BufTy.Contents (Elt F) arg9.view.ty) (f_arg10 : BufTy.Contents (Elt F) arg10.view.ty) (f_arg11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 X_arg3 X_arg4 k).2.1 f_arg9 f_arg10 f_arg11
      = [7, 6, 5, 4, 3, 2, 1, 0].map (pieceV v13 (k0_pay121 v117 v226 v335 v391)
          (k0_pay123 v122 v231 v340 v448) arg3 arg10 X_arg3 k f_arg10) := by
  unfold trip_k0_t1; rfl

set_option maxHeartbeats 2000000 in
/-- The stores of one trip into the dq accumulator: the newest covers it all, and holds the eight chunks' steps one after the other. -/
theorem trip_q (k : Fin k0_t1_loop.trips) (f_arg9 : BufTy.Contents (Elt F) arg9.view.ty) (f_arg10 : BufTy.Contents (Elt F) arg10.view.ty) (f_arg11 : BufTy.Contents (Elt F) arg11.view.ty) :
    ∃ T, (trip_k0_t1 (F := F) 𝒱 c bd i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 X_arg3 X_arg4 k).2.2.1 f_arg9 f_arg10 f_arg11
      = ⟨wholeQ, List.foldl (fun a u => stepQ v13 (k0_pay121 v117 v226 v335 v391) (k0_pay122 v120 v229 v338 v391 v395 v399 v416 c64_i32_148 v418 v432)
          (k0_pay123 v122 v231 v340 v448) arg3 arg4 X_arg3 X_arg4 k u a) (View.readAt (Elt F) arg11.view wholeQ.toLoadRect f_arg11) [0, 1, 2, 3, 4, 5, 6, 7]⟩ :: T := by
  unfold trip_k0_t1; dsimp only
  refine ⟨_, congrArg₂ List.cons ?_ rfl⟩
  refine congrArg (Sigma.mk _) ?_
  sl_unfold_words
  simp only [View.readCov_cons_toLoadRect]
  rfl

end

end Cert.Grad

end
-- ==== Proof.Loop.lean ====
/- The kernel's loop over the keys, at exact arithmetic, read at an index: after its four trips every row of dk and dv
   below 8192 has gained one sum over the 2048 query rows at hand, and the dq accumulator one sum over those keys. -/
module

public import proofs.«01_k».proof.Proof.Trip
public import Idealize.ShloMosaic.Lib.Pointwise
public import Idealize.ShloMosaic.Lib.WritesUnit
public import Idealize.ShloMosaic.Lib.WholeRead

@[expose] public section

set_option maxRecDepth 16384

noncomputable section

namespace Cert.Grad

open Cert.KernelIdeal Cert.KernelIdeal.Gen Idealize.ShloMosaic Idealize.ShloMosaic.TcCoe
open Idealize.SL Idealize.SL.RA Idealize.SL.Sem

/-- An array of 2048 query rows. -/
abbrev Rows := S2048x128.Idx → EReal
/-- An array of 8448 key rows. -/
abbrev Keys := S8448x128.Idx → EReal

/-- Row `j` of the keys (zero past the last). -/
def row (K : Keys) (j : ℕ) (d : Fin 128) : EReal := if h : j < 8448 then K (ix2 (⟨j, h⟩ : Fin 8448) d) else 0

/-- The probability that query row `r` gives a key `kr`: exp (q·k − lse). -/
def prob (qs : Rows) (LS : Fin 2048 → EReal) (kr : Fin 128 → EReal) (r : Fin 2048) : EReal :=
  Ideal.exp (∑ d, qs (ix2 r d) * kr d - LS r)

/-- The gradient of the score of query row `r` at a key: p·(do·v − delta). -/
def dscore (qs dos : Rows) (DL LS : Fin 2048 → EReal) (kr vr : Fin 128 → EReal) (r : Fin 2048) : EReal :=
  prob qs LS kr r * (∑ d, dos (ix2 r d) * vr d - DL r)

section Chunk

variable (qs dos : Rows) (dl ls : Rows) (DL LS : Fin 2048 → EReal) (hdl : ∀ r l, dl (ix2 r l) = DL r) (hls : ∀ r l, ls (ix2 r l) = LS r)
  (kc vc : S256x128.Idx → EReal)
include hls

/-- One chunk's addition to dv: pᵀ·do. -/
theorem pay5_at (old : S256x128.Idx → EReal) (a : Fin 256) (b : Fin 128) :
    k0_pay5 (F := Ideal) qs dos ls kc old (ix2 a b)
      = old (ix2 a b) + ∑ r, prob qs LS (fun d => kc (ix2 a d)) r * dos (ix2 r b) := by
  pointwise [k0_pay5, k0_pay3, k0_pay2, k0_pay1, prob]
  refine congrArg _ (Finset.sum_congr rfl fun r _ => ?_)
  split
  · rw [hls]
  · rename_i h
    have e : (⟨128 + (a.val - 128), by omega⟩ : Fin 256) = a := Fin.ext (by simp only []; omega)
    rw [hls]; simp only [e]

include hdl

/-- One chunk's addition to dk: (p·(dp − delta))ᵀ·q. -/
theorem pay6_at (old : S256x128.Idx → EReal) (a : Fin 256) (b : Fin 128) :
    k0_pay6 (F := Ideal) qs dos dl ls kc vc old (ix2 a b)
      = old (ix2 a b) + ∑ r, dscore qs dos DL LS (fun d => kc (ix2 a d)) (fun d => vc (ix2 a d)) r * qs (ix2 r b) := by
  pointwise [k0_pay6, k0_pay4, k0_pay3, k0_pay2, k0_pay1, prob, dscore]
  refine congrArg _ (Finset.sum_congr rfl fun r _ => ?_)
  split
  · rw [hls, hdl]
  · rename_i h
    have e : (⟨128 + (a.val - 128), by omega⟩ : Fin 256) = a := Fin.ext (by simp only []; omega)
    rw [hls, hdl]; simp only [e]

/-- One chunk's addition to dq: (p·(dp − delta))·k. -/
theorem pay7_at (old : Rows) (r : Fin 2048) (b : Fin 128) :
    k0_pay7 (F := Ideal) kc (k0_pay4 qs dos dl ls kc vc) old (ix2 r b)
      = old (ix2 r b) + ∑ a : Fin 256, dscore qs dos DL LS (fun d => kc (ix2 a d)) (fun d => vc (ix2 a d)) r * kc (ix2 a b) := by
  pointwise [k0_pay7, k0_pay4, k0_pay3, k0_pay2, k0_pay1, prob, dscore]
  refine congrArg _ ?_
  refine Eq.trans ?_ (Fin.sum_univ_add (fun a : Fin (128 + 128) => dscore qs dos DL LS (fun d => kc (ix2 (a : Fin 256) d)) (fun d => vc (ix2 (a : Fin 256) d)) r * kc (ix2 (a : Fin 256) b))).symm
  unfold dscore prob
  refine congrArg₂ _ (Finset.sum_congr rfl fun x _ => ?_) (Finset.sum_congr rfl fun x _ => ?_)
  · rw [hls, hdl]; rfl
  · rw [hls, hdl]; rfl

end Chunk

/-! ## The rows of a chunk -/

/-- Chunk `u` of trip `k` begins at row 256·(8k + u). -/
theorem off_eq : ∀ (k : Fin k0_t1_loop.trips) (u : Fin 8), k0_off1 k (BitVec.ofNat 32 u.val) = ![256 * (8 * k.val + u.val), 0] := by
  decide +kernel

/-- The loop has four trips. -/
theorem trips_eq : k0_t1_loop.trips = 4 := by decide +kernel

theorem chunk_lt (k : Fin k0_t1_loop.trips) (u : Fin 8) (a : Fin 256) : 256 * (8 * k.val + u.val) + a.val < 8448 := by
  have := k.isLt; have := trips_eq; omega

/-- Where row `a` of chunk `u` lies. -/
theorem chunk_idx (k : Fin k0_t1_loop.trips) (u : Fin 8) (a : Fin 256) (d : Fin 128) :
    (chunkR k u).toLoadRect.idx (ix2 a d : S256x128.Idx) = (ix2 (⟨256 * (8 * k.val + u.val) + a.val, chunk_lt k u a⟩ : Fin 8448) d : S8448x128.Idx) := by
  funext x
  refine Fin.ext ?_
  have h : ((chunkR k u).toLoadRect.idx (ix2 a d : S256x128.Idx) x).val = k0_off1 k (BitVec.ofNat 32 u.val) x + 1 * ((ix2 a d : S256x128.Idx) x).val := rfl
  rw [h, off_eq]
  fin_cases x
  · simp [ix2]
  · simp [ix2]

/-- A chunk of an array written whole. -/
theorem chunkAt_unread {e : EltTy} (a : Memref sig .tc .vmem S8448x128 e) (ha : a.IsWhole) (X : S8448x128.Idx → Elt Ideal e)
    (k : Fin k0_t1_loop.trips) (u : Fin 8) (r : Fin 256) (d : Fin 128) :
    chunkAt (F := Ideal) a k u (ha.unread X) (ix2 r d) = X (ix2 (⟨256 * (8 * k.val + u.val) + r.val, chunk_lt k u r⟩ : Fin 8448) d) :=
  (ha.readAt_unread X _ _).trans (congrArg X (chunk_idx k u r d))

/-- A chunk of any contents. -/
theorem chunkAt_read {e : EltTy} (a : Memref sig .tc .vmem S8448x128 e) (f : BufTy.Contents (Elt Ideal) a.view.ty)
    (k : Fin k0_t1_loop.trips) (u : Fin 8) (r : Fin 256) (d : Fin 128) :
    chunkAt (F := Ideal) a k u f (ix2 r d) = a.view.read (Elt Ideal) f (ix2 (⟨256 * (8 * k.val + u.val) + r.val, chunk_lt k u r⟩ : Fin 8448) d) :=
  (View.readAt_apply ..).trans (congrArg (a.view.read (Elt Ideal) f) (chunk_idx k u r d))

/-- A row of a chunk that was stored reads that chunk's payload: the chunks do not overlap. -/
theorem read_chunks_mem (a : Memref sig .tc .vmem S8448x128 .f32) (f : BufTy.Contents (Elt Ideal) a.view.ty) (k : Fin k0_t1_loop.trips)
    (w : (u : Fin 8) → (chunkR k u).shape.Idx → Elt Ideal .f32) (us : List (Fin 8)) (u : Fin 8) (hu : u ∈ us) (r : Fin 256) (b : Fin 128) :
    a.view.read (Elt Ideal) (a.view.writes (Elt Ideal) f (us.map fun u => ⟨chunkR k u, w u⟩))
      (ix2 (⟨256 * (8 * k.val + u.val) + r.val, chunk_lt k u r⟩ : Fin 8448) b) = w u (ix2 r b : S256x128.Idx) := by
  induction us with
  | nil => exact absurd hu (List.not_mem_nil)
  | cons u' us ih =>
    by_cases e : u = u'
    · subst e
      exact View.read_writes_cons_rows_of_mem a.view f _ (w u) _ _ (ix2 r b : S256x128.Idx) (off_eq k u) rfl rfl
    · refine (View.read_writes_cons_rows_of_not_mem a.view f _ (w u') _ _ (off_eq k u') (W := 256) rfl ?_).trans
        (ih ((List.mem_cons.mp hu).resolve_left e))
      have : u.val ≠ u'.val := fun h => e (Fin.ext h)
      have h1 := r.isLt
      rcases Nat.lt_or_gt_of_ne this with h | h
      · left; show 256 * (8 * k.val + u.val) + r.val < 256 * (8 * k.val + u'.val); omega
      · right; show 256 * (8 * k.val + u'.val) + 256 ≤ 256 * (8 * k.val + u.val) + r.val; omega

/-- A row outside the trip's eight chunks keeps what it held. -/
theorem read_chunks_not_mem (a : Memref sig .tc .vmem S8448x128 .f32) (f : BufTy.Contents (Elt Ideal) a.view.ty) (k : Fin k0_t1_loop.trips)
    (w : (u : Fin 8) → (chunkR k u).shape.Idx → Elt Ideal .f32) (us : List (Fin 8)) (j : Fin 8448) (b : Fin 128)
    (h : j.val < 2048 * k.val ∨ 2048 * (k.val + 1) ≤ j.val) :
    a.view.read (Elt Ideal) (a.view.writes (Elt Ideal) f (us.map fun u => ⟨chunkR k u, w u⟩)) (ix2 j b)
      = a.view.read (Elt Ideal) f (ix2 j b) := by
  induction us with
  | nil => rfl
  | cons u' us ih =>
    refine (View.read_writes_cons_rows_of_not_mem a.view f _ (w u') _ _ (off_eq k u') (W := 256) rfl ?_).trans ih
    have h1 := u'.isLt
    rcases h with h | h
    · left; show j.val < 256 * (8 * k.val + u'.val); omega
    · right; show 256 * (8 * k.val + u'.val) + 256 ≤ j.val; omega

/-- A row of the trip is a row of one of its chunks. -/
theorem row_of_trip (k : ℕ) (j : ℕ) (h0 : 2048 * k ≤ j) (h1 : j < 2048 * (k + 1)) :
    ∃ (u : Fin 8) (a : Fin 256), j = 256 * (8 * k + u.val) + a.val :=
  ⟨⟨(j - 2048 * k) / 256, by omega⟩, ⟨(j - 2048 * k) % 256, by omega⟩, by simp only []; omega⟩

section Loop

variable (𝒱 : Variants) (c : Dev nD) (bd : Option 𝒱.V) (i : grid0.Coords)
    (arg2 : Memref sig .tc .vmem S512x512 .bf16) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S512x256 .bf16) (harg5 : arg5.IsWhole)
    (arg6 : Memref sig .tc .vmem S512x256 .bf16) (harg6 : arg6.IsWhole) (arg7 : Memref sig .tc .vmem S4x512x128 .f32) (harg7 : arg7.IsWhole)
    (arg8 : Memref sig .tc .vmem S512x512 .f32) (harg8 : arg8.IsWhole) (arg9 : Memref sig .tc .vmem S8448x128 .f32) (harg9 : arg9.IsWhole)
    (arg10 : Memref sig .tc .vmem S8448x128 .f32) (harg10 : arg10.IsWhole) (arg11 : Memref sig .tc .vmem S2048x128 .f32) (harg11 : arg11.IsWhole)
    (v13 : FVec Ideal S2048x128 .bf16) (v117 : FVec Ideal S512x128 .bf16) (v120 : FVec Ideal S512x1 .f32) (v122 : FVec Ideal S512x128 .f32)
    (v226 : FVec Ideal S512x128 .bf16) (v229 : FVec Ideal S512x1 .f32) (v231 : FVec Ideal S512x128 .f32) (v335 : FVec Ideal S512x128 .bf16)
    (v338 : FVec Ideal S512x1 .f32) (v340 : FVec Ideal S512x128 .f32) (v391 : FVec Ideal S512x128 .f32) (v395 : IVec S512x128 32)
    (v399 : FVec Ideal S512x128 .f32) (v416 : IVec S512x128 32) (c64_i32_148 : BitVec 32) (v418 : IVec S512x128 32)
    (v432 : IVec S512x128 1) (v448 : Vec Ideal S1x512x128 .f32)
    (K V : Keys) (G9 : BufTy.Contents (Elt Ideal) arg9.view.ty) (G10 : BufTy.Contents (Elt Ideal) arg10.view.ty) (G11 : BufTy.Contents (Elt Ideal) arg11.view.ty) (DL LS : Fin 2048 → EReal)
    (hdl : ∀ r l, (k0_pay122 v120 v229 v338 v391 v395 v399 v416 c64_i32_148 v418 v432) (ix2 r l) = DL r) (hls : ∀ r l, (k0_pay123 v122 v231 v340 v448) (ix2 r l) = LS r)

include hdl hls in
/-- dk after `n` trips: the rows below 2048·n have their sums, the others are untouched. -/
theorem loop_k (n : ℕ) (hn : n ≤ 4) (j : Fin 8448) (b : Fin 128) :
    arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 n).1) (ix2 j b)
      = arg9.view.read (Elt Ideal) G9 (ix2 j b)
        + (if j.val < 2048 * n then ∑ r, dscore v13 (k0_pay121 v117 v226 v335 v391) DL LS (row K j.val) (row V j.val) r * v13 (ix2 r b) else 0) := by
  induction n with
  | zero => simp [pb_k0_t1, View.writes_nil]
  | succ n ih =>
    have hk : n < k0_t1_loop.trips := by rw [trips_eq]; omega
    have e := pb_k0_t1_succ (F := Ideal) 𝒱 c bd i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 ⟨n, hk⟩
    rw [e]; dsimp only
    rw [trip_k, View.writes_append]
    by_cases h : 2048 * n ≤ j.val ∧ j.val < 2048 * (n + 1)
    · obtain ⟨u, a, hj⟩ := row_of_trip n j.val h.1 h.2
      have ej : j = ⟨256 * (8 * n + u.val) + a.val, chunk_lt ⟨n, hk⟩ u a⟩ := Fin.ext hj
      have ihj := ih (by omega)
      rw [if_neg (by omega), add_zero] at ihj
      rw [if_pos h.2, ← ihj]
      subst ej
      refine (read_chunks_mem arg9 _ ⟨n, hk⟩ (fun u => k0_pay6 v13 (k0_pay121 v117 v226 v335 v391) (k0_pay122 v120 v229 v338 v391 v395 v399 v416 c64_i32_148 v418 v432) (k0_pay123 v122 v231 v340 v448)
          (chunkAt arg3 ⟨n, hk⟩ u (harg3.unread K)) (chunkAt arg4 ⟨n, hk⟩ u (harg4.unread V)) (chunkAt arg9 ⟨n, hk⟩ u _)) _ u (by fin_cases u <;> simp) a b).trans ?_
      refine (pay6_at v13 _ _ _ DL LS hdl hls _ _ _ a b).trans ?_
      refine congrArg₂ _ (chunkAt_read ..) (Finset.sum_congr rfl fun r _ => ?_)
      have e1 : (fun d => chunkAt (F := Ideal) arg3 ⟨n, hk⟩ u (harg3.unread K) (ix2 a d)) = row K (256 * (8 * n + u.val) + a.val) := by
        funext d; rw [chunkAt_unread]; unfold row; rw [dif_pos (chunk_lt ⟨n, hk⟩ u a)]
      have e2 : (fun d => chunkAt (F := Ideal) arg4 ⟨n, hk⟩ u (harg4.unread V) (ix2 a d)) = row V (256 * (8 * n + u.val) + a.val) := by
        funext d; rw [chunkAt_unread]; unfold row; rw [dif_pos (chunk_lt ⟨n, hk⟩ u a)]
      rw [e1, e2]
    · refine (read_chunks_not_mem arg9 _ ⟨n, hk⟩ (fun u => k0_pay6 v13 (k0_pay121 v117 v226 v335 v391) (k0_pay122 v120 v229 v338 v391 v395 v399 v416 c64_i32_148 v418 v432) (k0_pay123 v122 v231 v340 v448)
          (chunkAt arg3 ⟨n, hk⟩ u (harg3.unread K)) (chunkAt arg4 ⟨n, hk⟩ u (harg4.unread V)) (chunkAt arg9 ⟨n, hk⟩ u _)) _ j b (by simp only []; omega)).trans ?_
      rw [ih (by omega)]
      by_cases h' : j.val < 2048 * n
      · rw [if_pos h', if_pos (by omega)]
      · rw [if_neg h', if_neg (by omega)]

include hls in
/-- dv after `n` trips. -/
theorem loop_v (n : ℕ) (hn : n ≤ 4) (j : Fin 8448) (b : Fin 128) :
    arg10.view.read (Elt Ideal) (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 n).2.1) (ix2 j b)
      = arg10.view.read (Elt Ideal) G10 (ix2 j b)
        + (if j.val < 2048 * n then ∑ r, prob v13 LS (row K j.val) r * (k0_pay121 v117 v226 v335 v391) (ix2 r b) else 0) := by
  induction n with
  | zero => simp [pb_k0_t1, View.writes_nil]
  | succ n ih =>
    have hk : n < k0_t1_loop.trips := by rw [trips_eq]; omega
    have e := pb_k0_t1_succ (F := Ideal) 𝒱 c bd i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 ⟨n, hk⟩
    rw [e]; dsimp only
    rw [trip_v, View.writes_append]
    by_cases h : 2048 * n ≤ j.val ∧ j.val < 2048 * (n + 1)
    · obtain ⟨u, a, hj⟩ := row_of_trip n j.val h.1 h.2
      have ej : j = ⟨256 * (8 * n + u.val) + a.val, chunk_lt ⟨n, hk⟩ u a⟩ := Fin.ext hj
      have ihj := ih (by omega)
      rw [if_neg (by omega), add_zero] at ihj
      rw [if_pos h.2, ← ihj]
      subst ej
      refine (read_chunks_mem arg10 _ ⟨n, hk⟩ (fun u => k0_pay5 v13 (k0_pay121 v117 v226 v335 v391) (k0_pay123 v122 v231 v340 v448)
          (chunkAt arg3 ⟨n, hk⟩ u (harg3.unread K)) (chunkAt arg10 ⟨n, hk⟩ u _)) _ u (by fin_cases u <;> simp) a b).trans ?_
      refine (pay5_at v13 _ _ LS hls _ _ a b).trans ?_
      refine congrArg₂ _ (chunkAt_read ..) (Finset.sum_congr rfl fun r _ => ?_)
      have e1 : (fun d => chunkAt (F := Ideal) arg3 ⟨n, hk⟩ u (harg3.unread K) (ix2 a d)) = row K (256 * (8 * n + u.val) + a.val) := by
        funext d; rw [chunkAt_unread]; unfold row; rw [dif_pos (chunk_lt ⟨n, hk⟩ u a)]
      rw [e1]
    · refine (read_chunks_not_mem arg10 _ ⟨n, hk⟩ (fun u => k0_pay5 v13 (k0_pay121 v117 v226 v335 v391) (k0_pay123 v122 v231 v340 v448)
          (chunkAt arg3 ⟨n, hk⟩ u (harg3.unread K)) (chunkAt arg10 ⟨n, hk⟩ u _)) _ j b (by simp only []; omega)).trans ?_
      rw [ih (by omega)]
      by_cases h' : j.val < 2048 * n
      · rw [if_pos h', if_pos (by omega)]
      · rw [if_neg h', if_neg (by omega)]

include hdl hls in
/-- A run of chunk steps over the dq accumulator adds up the keys of those chunks. -/
theorem foldl_stepQ (k : Fin k0_t1_loop.trips) (n : ℕ) (hn : n ≤ 8) (A : Rows) (r : Fin 2048) (b : Fin 128) :
    List.foldl (fun a u => stepQ v13 (k0_pay121 v117 v226 v335 v391) (k0_pay122 v120 v229 v338 v391 v395 v399 v416 c64_i32_148 v418 v432) (k0_pay123 v122 v231 v340 v448) arg3 arg4 (harg3.unread K) (harg4.unread V) k u a) A
        ((List.finRange 8).take n) (ix2 r b)
      = A (ix2 r b) + ∑ a ∈ Finset.range (256 * n), dscore v13 (k0_pay121 v117 v226 v335 v391) DL LS (row K (2048 * k.val + a)) (row V (2048 * k.val + a)) r * row K (2048 * k.val + a) b := by
  induction n with
  | zero => simp
  | succ n ih =>
    have hlt : n < 8 := hn
    have et : (List.finRange 8).take (n + 1) = (List.finRange 8).take n ++ [⟨n, hlt⟩] := by
      rw [List.take_add_one]; simp [hlt]
    rw [et, List.foldl_append, List.foldl_cons, List.foldl_nil]
    refine (pay7_at v13 _ _ _ DL LS hdl hls _ _ _ r b).trans ?_
    rw [ih (by omega), Nat.mul_succ, Finset.sum_range_add, add_assoc]
    refine congrArg _ (congrArg _ ?_)
    rw [Finset.sum_range]
    refine Finset.sum_congr rfl fun a _ => ?_
    have e0 : 2048 * k.val + (256 * n + a.val) = 256 * (8 * k.val + n) + a.val := by omega
    have e1 : (fun d => chunkAt (F := Ideal) arg3 k ⟨n, hlt⟩ (harg3.unread K) (ix2 a d)) = row K (256 * (8 * k.val + n) + a.val) := by
      funext d; rw [chunkAt_unread]; unfold row; rw [dif_pos (chunk_lt k ⟨n, hlt⟩ a)]
    have e2 : (fun d => chunkAt (F := Ideal) arg4 k ⟨n, hlt⟩ (harg4.unread V) (ix2 a d)) = row V (256 * (8 * k.val + n) + a.val) := by
      funext d; rw [chunkAt_unread]; unfold row; rw [dif_pos (chunk_lt k ⟨n, hlt⟩ a)]
    rw [e0, ← congrFun e1 b, ← e1, ← e2]

include hdl hls in
/-- The dq accumulator after `n` trips: the keys below 2048·n summed. -/
theorem loop_q (n : ℕ) (hn : n ≤ 4) (r : Fin 2048) (b : Fin 128) :
    arg11.view.read (Elt Ideal) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 n).2.2) (ix2 r b)
      = arg11.view.read (Elt Ideal) G11 (ix2 r b)
        + ∑ a ∈ Finset.range (2048 * n), dscore v13 (k0_pay121 v117 v226 v335 v391) DL LS (row K a) (row V a) r * row K a b := by
  induction n with
  | zero => simp [pb_k0_t1, View.writes_nil]
  | succ n ih =>
    have hk : n < k0_t1_loop.trips := by rw [trips_eq]; omega
    have e := pb_k0_t1_succ (F := Ideal) 𝒱 c bd i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 ⟨n, hk⟩
    rw [e]; dsimp only
    obtain ⟨T, hT⟩ := trip_q (F := Ideal) 𝒱 c bd i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) ⟨n, hk⟩
      (arg9.view.writes (Elt Ideal) G9 (pb_k0_t1 (F := Ideal) 𝒱 c bd i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 n).1) (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 n).2.1) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 n).2.2)
    rw [hT, List.cons_append]
    refine (View.read_writes_cons_rows_of_mem arg11.view G11 _ _ _ _ (ix2 r b : S2048x128.Idx) (o := 0) rfl (Nat.zero_add _).symm rfl).trans ?_
    refine (foldl_stepQ (hdl := hdl) (hls := hls) (K := K) (V := V) (k := ⟨n, hk⟩) (n := 8) (hn := le_refl _) ..).trans ?_
    rw [show 2048 * (n + 1) = 2048 * n + 256 * 8 from by omega, Finset.sum_range_add (n := 2048 * n), ← add_assoc, ← ih (by omega)]
    refine congrArg₂ _ ?_ rfl
    refine (View.readAt_apply ..).trans (congrArg _ ?_)
    funext x; refine Fin.ext ?_
    fin_cases x <;> exact (Nat.zero_add _).trans (Nat.one_mul _)

end Loop

end Cert.Grad

end
-- ==== Proof.Rows.lean ====
/- The 2048 query rows that one grid point of the kernel works on: four heads of 512 queries stacked. Read at an index:
   the scaled queries, the output gradient placed in its group's half of the lanes, the row sums of gradient times
   output, and the row log-sums. -/
module

public import proofs.«01_k».proof.Proof.Loop

@[expose] public section

set_option maxRecDepth 16384

noncomputable section

namespace Cert.Grad

open Cert.KernelIdeal Cert.KernelIdeal.Gen Idealize.ShloMosaic Idealize.ShloMosaic.TcCoe
open Idealize.SL Idealize.SL.RA Idealize.SL.Sem

/-- The kernel's word for which half of 128 lanes a lane lies in. -/
def laneHalf (x : BitVec 32) : BitVec 32 :=
  let d := Scalar.select (Scalar.cmpi .eq 128#32 0#32) 1#32 128#32
  let r := IntOp.remsi ArithUnit.vector x d
  let m := Scalar.select (IntOp.andi (IntOp.xori (IntOp.cmpi .slt r 0#32) (Scalar.cmpi .slt d 0#32)) (IntOp.cmpi .ne r 0#32)) (IntOp.addi r d) r
  let f := IntOp.divsi ArithUnit.vector m 64#32
  let sm := IntOp.subi (BitVec.setWidth 32 (IntOp.cmpi .sgt m 0#32)) (BitVec.setWidth 32 (IntOp.cmpi .slt m 0#32))
  let sd := Scalar.subi (Scalar.extui (Scalar.cmpi .sgt 64#32 0#32)) (Scalar.extui (Scalar.cmpi .slt 64#32 0#32))
  Scalar.select (IntOp.andi (IntOp.cmpi .ne sm sd) (IntOp.cmpi .ne (IntOp.remsi ArithUnit.vector m 64#32) 0#32)) (IntOp.subi f 1#32) f

theorem laneHalf_eq : ∀ l : Fin 128, laneHalf (BitVec.ofNat 32 l.val) = BitVec.ofNat 32 (l.val / 64) := by decide +kernel

/-- One head of a pair of heads, placed in half `g` of the lanes, with zeros in the other half. -/
def half (w : S512x128.Idx → EReal) (hf : Fin 2) (g : ℕ) (q : Fin 512) (l : Fin 128) : EReal :=
  if l.val / 64 = g then w (ix2 q (⟨64 * hf.val + l.val % 64, by omega⟩ : Fin 128)) else 0

theorem select_half (g : ℕ) (hg : g = 0 ∨ g = 1) (hf : Fin 2) (w : S512x128.Idx → EReal) (q : Fin 512) (l : Fin 128) :
    Scalar.select (IntOp.cmpi .eq (laneHalf (BitVec.ofNat 32 l.val)) (BitVec.ofNat 32 g))
      (Scalar.select (IntOp.cmpi .eq (BitVec.ofNat 32 g) (BitVec.ofNat 32 hf.val)) (w (ix2 q l))
        (w (ix2 q (⟨(l.val + 128 - 64) % 128, by omega⟩ : Fin 128)))) (0 : EReal) = half w hf g q l := by
  rw [laneHalf_eq]
  unfold half
  have hl : l.val / 64 = 0 ∨ l.val / 64 = 1 := by omega
  have e1 : ∀ a b : EReal, Scalar.select (IntOp.cmpi .eq (0#32) (0#32)) a b = a := fun a b => rfl
  have e2 : ∀ a b : EReal, Scalar.select (IntOp.cmpi .eq (1#32) (1#32)) a b = a := fun a b => rfl
  have e3 : ∀ a b : EReal, Scalar.select (IntOp.cmpi .eq (0#32) (1#32)) a b = b := fun a b => rfl
  have e4 : ∀ a b : EReal, Scalar.select (IntOp.cmpi .eq (1#32) (0#32)) a b = b := fun a b => rfl
  rcases hg with rfl | rfl <;> rcases hl with hl | hl <;> fin_cases hf <;> simp only [hl] <;>
    simp [e1, e2, e3, e4] <;> congr 2 <;> exact Fin.ext (by simp only []; omega)

/-- A product chosen or zero is the product with the choice. -/
theorem select_mul (c : BitVec 1) (p a : EReal) : Scalar.select c (p * a) 0 = p * Scalar.select c a 0 := by
  unfold Scalar.select
  split
  · rfl
  · exact (mul_zero p).symm

section Heads

variable (g : ℕ) (hg : g = 0 ∨ g = 1) (w v : S512x128.Idx → EReal) (q : Fin 512) (l : Fin 128)
include hg

theorem head0 (i : grid0.Coords) (hi : (i 0).val = g) :
    k0_pay76 (F := Ideal) (k0_pay71 i) (k0_pay72 i w) k0_pay73 k0_pay74 k0_pay75 (ix2 q l) = half w 0 g q l := by
  subst hi
  pointwise [k0_pay76, k0_pay71, k0_pay72, k0_pay73, k0_pay74, k0_pay75]
  exact select_half _ hg 0 w q l

theorem head1 :
    k0_pay90 (F := Ideal) (k0_pay84 (BitVec.ofNat 32 g)) (k0_pay85 (BitVec.ofNat 32 g) w) k0_pay87 k0_pay88 k0_pay89 (ix2 q l) = half w 1 g q l := by
  pointwise [k0_pay90, k0_pay84, k0_pay85, k0_pay86, k0_pay87, k0_pay88, k0_pay89]
  exact select_half _ hg 1 w q l

theorem head2 :
    k0_pay102 (F := Ideal) (k0_pay99 (BitVec.ofNat 32 g)) (k0_pay100 (BitVec.ofNat 32 g) w) k0_pay101 (ix2 q l) = half w 0 g q l := by
  pointwise [k0_pay102, k0_pay99, k0_pay100, k0_pay101]
  exact select_half _ hg 0 w q l

theorem head3 :
    k0_pay115 (F := Ideal) (k0_pay112 (BitVec.ofNat 32 g)) (k0_pay113 (k0_pay111 w) (k0_pay112 (BitVec.ofNat 32 g))) k0_pay114 (ix2 q l) = half w 1 g q l := by
  pointwise [k0_pay115, k0_pay112, k0_pay113, k0_pay111, k0_pay114]
  exact select_half _ hg 1 w q l

variable (p : S512x128.Idx → EReal)

theorem sum0 (z : Fin 1) :
    k0_pay82 (F := Ideal) p (k0_pay77 (BitVec.ofNat 32 g)) (k0_pay78 (BitVec.ofNat 32 g) v) 128#32 k0_pay79 k0_pay80 (ix2 q z)
      = ∑ l, p (ix2 q l) * half v 0 g q l := by
  pointwise [k0_pay82, k0_pay77, k0_pay78, k0_pay79, k0_pay80]
  refine Finset.sum_congr rfl fun x _ => ?_
  exact (select_mul _ _ _).trans (congrArg _ (select_half _ hg 0 v q x))

theorem sum1 (z : Fin 1) :
    k0_pay97 (F := Ideal) p (k0_pay91 (BitVec.ofNat 32 g)) (k0_pay92 (BitVec.ofNat 32 g) v) k0_pay93 64#32 k0_pay94 k0_pay95 1#32 (ix2 q z)
      = ∑ l, p (ix2 q l) * half v 1 g q l := by
  pointwise [k0_pay97, k0_pay91, k0_pay92, k0_pay93, k0_pay94, k0_pay95]
  refine Finset.sum_congr rfl fun x _ => ?_
  exact (select_mul _ _ _).trans (congrArg _ (select_half _ hg 1 v q x))

theorem sum2 (z : Fin 1) :
    k0_pay109 (F := Ideal) p (k0_pay103 (BitVec.ofNat 32 g)) (k0_pay104 (BitVec.ofNat 32 g) v) 128#32 k0_pay105 k0_pay106 k0_pay107 (ix2 q z)
      = ∑ l, p (ix2 q l) * half v 0 g q l := by
  pointwise [k0_pay109, k0_pay103, k0_pay104, k0_pay105, k0_pay106, k0_pay107]
  refine Finset.sum_congr rfl fun x _ => ?_
  exact (select_mul _ _ _).trans (congrArg _ (select_half _ hg 0 v q x))

/-- The stacked row sums, with the fourth head's written out. -/
theorem sum3 (a b c : S512x1.Idx → EReal) (r : Fin 2048) :
    k0_pay122 (F := Ideal) a b c p (k0_pay116 (BitVec.ofNat 32 g)) (k0_pay117 (BitVec.ofNat 32 g) v) k0_pay118 64#32 k0_pay119 k0_pay120 (ix2 r l)
      = if h : r.val < 512 then a (ix2 (⟨r.val, h⟩ : Fin 512) (0 : Fin 1)) else
        if h : r.val - 512 < 512 then b (ix2 (⟨r.val - 512, h⟩ : Fin 512) (0 : Fin 1)) else
        if h : r.val - 512 - 512 < 512 then c (ix2 (⟨r.val - 512 - 512, h⟩ : Fin 512) (0 : Fin 1)) else
        ∑ x, p (ix2 (⟨r.val - 512 - 512 - 512, by omega⟩ : Fin 512) x) * half v 1 g (⟨r.val - 512 - 512 - 512, by omega⟩ : Fin 512) x := by
  pointwise [k0_pay122, k0_pay116, k0_pay117, k0_pay118, k0_pay119, k0_pay120]
  split
  · rfl
  · split
    · rfl
    · split
      · rfl
      · refine Finset.sum_congr rfl fun x _ => ?_
        exact (select_mul _ _ _).trans (congrArg _ (select_half _ hg 1 v _ x))

end Heads

/-! ## The four heads stacked -/

/-- The head (of its group's four) that stacked row `r` belongs to. -/
def headOf (r : Fin 2048) : Fin 4 := ⟨r.val / 512, by omega⟩
/-- The query (of the block's 512) that stacked row `r` belongs to. -/
def queryOf (r : Fin 2048) : Fin 512 := ⟨r.val % 512, by omega⟩

/-- The block's scaled queries, stacked. -/
def queries (x : S512x512.Idx → EReal) : Rows := fun y =>
  x (ix2 (queryOf (y 0)) (⟨128 * (headOf (y 0)).val + (y 1).val, by have := (headOf (y 0)).isLt; have : (y 1).val < 128 := (y 1).isLt; omega⟩ : Fin 512))

/-- A block of per-head values, stacked and placed in half `g` of the lanes. -/
def placed (g : ℕ) (x : S512x256.Idx → EReal) : Rows := fun y =>
  if (y 1).val / 64 = g then
    x (ix2 (queryOf (y 0)) (⟨64 * (headOf (y 0)).val + (y 1).val % 64, by have := (headOf (y 0)).isLt; omega⟩ : Fin 256)) else 0

/-- The row sums of output gradient times output. -/
def delta (g : ℕ) (x3 x4 : S512x256.Idx → EReal) (r : Fin 2048) : EReal := ∑ l, placed g x4 (ix2 r l) * placed g x3 (ix2 r l)

/-- The row log-sums, stacked. -/
def logsum (x : S4x512x128.Idx → EReal) (r : Fin 2048) : EReal := x (ix3 (headOf r) (queryOf r) (0 : Fin 128))

theorem queries_at (x : S512x512.Idx → EReal) (w0 w1 w2 w3 : S512x128.Idx → EReal)
    (h0 : ∀ q l, w0 (ix2 q l) = x (ix2 q (⟨0 + l.val, by omega⟩ : Fin 512))) (h1 : ∀ q l, w1 (ix2 q l) = x (ix2 q (⟨128 + l.val, by omega⟩ : Fin 512)))
    (h2 : ∀ q l, w2 (ix2 q l) = x (ix2 q (⟨256 + l.val, by omega⟩ : Fin 512))) (h3 : ∀ q l, w3 (ix2 q l) = x (ix2 q (⟨384 + l.val, by omega⟩ : Fin 512))) :
    k0_pay70 (F := Ideal) w0 w1 w2 w3 = queries x := by
  funext y
  rw [eq_ix2 y]; generalize (y 0 : Fin 2048) = r; generalize (y 1 : Fin 128) = l
  pointwise [k0_pay70]
  unfold queries headOf queryOf
  split
  · refine (h0 _ _).trans (congrArg x (congrArg₂ _ (Fin.ext ?_) (Fin.ext ?_)))
    · show r.val = r.val % 512; omega
    · show 0 + l.val = 128 * (r.val / 512) + l.val; omega
  · split
    · refine (h1 _ _).trans (congrArg x (congrArg₂ _ (Fin.ext ?_) (Fin.ext ?_)))
      · show r.val - 512 = r.val % 512; omega
      · show 128 + l.val = 128 * (r.val / 512) + l.val; omega
    · split
      · refine (h2 _ _).trans (congrArg x (congrArg₂ _ (Fin.ext ?_) (Fin.ext ?_)))
        · show r.val - 512 - 512 = r.val % 512; omega
        · show 256 + l.val = 128 * (r.val / 512) + l.val; omega
      · refine (h3 _ _).trans (congrArg x (congrArg₂ _ (Fin.ext ?_) (Fin.ext ?_)))
        · show r.val - 512 - 512 - 512 = r.val % 512; omega
        · show 384 + l.val = 128 * (r.val / 512) + l.val; omega

theorem half_col (g : ℕ) (x : S512x256.Idx → EReal) (w : S512x128.Idx → EReal) (c : ℕ) (hc : c < 2) (hf : Fin 2)
    (hw : ∀ q l, w (ix2 q l) = x (ix2 q (⟨128 * c + l.val, by omega⟩ : Fin 256))) (r : Fin 2048) (q : Fin 512) (l : Fin 128)
    (hq : q.val = r.val % 512) (hr : r.val / 512 = 2 * c + hf.val) : half w hf g q l = placed g x (ix2 r l) := by
  unfold half placed headOf queryOf
  show (if _ then _ else _) = if l.val / 64 = g then x (ix2 (⟨r.val % 512, _⟩ : Fin 512) (⟨64 * (r.val / 512) + l.val % 64, _⟩ : Fin 256)) else 0
  rw [hw]
  have h1 := hf.isLt
  split_ifs
  · refine congrArg x (congrArg₂ _ (Fin.ext hq) (Fin.ext ?_))
    show 128 * c + (64 * hf.val + l.val % 64) = 64 * (r.val / 512) + l.val % 64
    omega
  · rfl

section Placed

variable (i : grid0.Coords) (g : ℕ) (hg : g = 0 ∨ g = 1) (hi : (i 0).val = g) (x3 x4 : S512x256.Idx → EReal)
  (d0 d1 o0 o1 : S512x128.Idx → EReal)
  (hd0 : ∀ q (l : Fin 128) (h : 128 * 0 + l.val < 256), d0 (ix2 q l) = x4 (ix2 q (⟨128 * 0 + l.val, h⟩ : Fin 256))) (hd1 : ∀ q (l : Fin 128) (h : 128 * 1 + l.val < 256), d1 (ix2 q l) = x4 (ix2 q (⟨128 * 1 + l.val, h⟩ : Fin 256)))
  (hy0 : ∀ q (l : Fin 128) (h : 128 * 0 + l.val < 256), o0 (ix2 q l) = x3 (ix2 q (⟨128 * 0 + l.val, h⟩ : Fin 256))) (hy1 : ∀ q (l : Fin 128) (h : 128 * 1 + l.val < 256), o1 (ix2 q l) = x3 (ix2 q (⟨128 * 1 + l.val, h⟩ : Fin 256)))
include hg hi hd0 hd1

theorem placed_at :
    k0_pay121 (F := Ideal) (k0_pay81 (k0_pay76 (k0_pay71 i) (k0_pay72 i d0) k0_pay73 k0_pay74 k0_pay75))
      (k0_pay96 (k0_pay90 (k0_pay84 (BitVec.ofNat 32 (i 0).val)) (k0_pay85 (BitVec.ofNat 32 (i 0).val) d0) k0_pay87 k0_pay88 k0_pay89))
      (k0_pay108 (k0_pay102 (k0_pay99 (BitVec.ofNat 32 (i 0).val)) (k0_pay100 (BitVec.ofNat 32 (i 0).val) d1) k0_pay101))
      (k0_pay115 (k0_pay112 (BitVec.ofNat 32 (i 0).val)) (k0_pay113 (k0_pay111 d1) (k0_pay112 (BitVec.ofNat 32 (i 0).val))) k0_pay114) = placed g x4 := by
  funext y
  rw [eq_ix2 y]; generalize (y 0 : Fin 2048) = r; generalize (y 1 : Fin 128) = l
  rw [hi]
  have e0 := fun q => head0 g hg d0 q l i hi
  have e1 := fun q => head1 g hg d0 q l
  have e2 := fun q => head2 g hg d1 q l
  have e3 := fun q => head3 g hg d1 q l
  generalize k0_pay76 (F := Ideal) _ _ _ _ _ = P0 at e0 ⊢
  generalize k0_pay90 (F := Ideal) _ _ _ _ _ = P1 at e1 ⊢
  generalize k0_pay102 (F := Ideal) _ _ _ = P2 at e2 ⊢
  generalize k0_pay115 (F := Ideal) _ _ _ = P3 at e3 ⊢
  pointwise [k0_pay121, k0_pay81, k0_pay96, k0_pay108]
  split
  · exact (e0 _).trans <| half_col g x4 d0 0 (by omega) 0 (fun q l => hd0 q l _) r _ l (by simp only []; omega) (by simp only [Fin.val_zero]; omega)
  · split
    · exact (e1 _).trans <| half_col g x4 d0 0 (by omega) 1 (fun q l => hd0 q l _) r _ l (by simp only []; omega) (by simp only [Fin.val_one]; omega)
    · split
      · exact (e2 _).trans <| half_col g x4 d1 1 (by omega) 0 (fun q l => hd1 q l _) r _ l (by simp only []; omega) (by simp only [Fin.val_zero]; omega)
      · exact (e3 _).trans <| half_col g x4 d1 1 (by omega) 1 (fun q l => hd1 q l _) r _ l (by simp only []; omega) (by simp only [Fin.val_one]; omega)

include hy0 hy1

theorem delta_at (r : Fin 2048) (l : Fin 128) :
    k0_pay122 (F := Ideal)
      (k0_pay82 (k0_pay76 (k0_pay71 i) (k0_pay72 i d0) k0_pay73 k0_pay74 k0_pay75) (k0_pay77 (BitVec.ofNat 32 (i 0).val)) (k0_pay78 (BitVec.ofNat 32 (i 0).val) o0) 128#32 k0_pay79 k0_pay80)
      (k0_pay97 (k0_pay90 (k0_pay84 (BitVec.ofNat 32 (i 0).val)) (k0_pay85 (BitVec.ofNat 32 (i 0).val) d0) k0_pay87 k0_pay88 k0_pay89) (k0_pay91 (BitVec.ofNat 32 (i 0).val)) (k0_pay92 (BitVec.ofNat 32 (i 0).val) o0) k0_pay93 64#32 k0_pay94 k0_pay95 1#32)
      (k0_pay109 (k0_pay102 (k0_pay99 (BitVec.ofNat 32 (i 0).val)) (k0_pay100 (BitVec.ofNat 32 (i 0).val) d1) k0_pay101) (k0_pay103 (BitVec.ofNat 32 (i 0).val)) (k0_pay104 (BitVec.ofNat 32 (i 0).val) o1) 128#32 k0_pay105 k0_pay106 k0_pay107)
      (k0_pay115 (k0_pay112 (BitVec.ofNat 32 (i 0).val)) (k0_pay113 (k0_pay111 d1) (k0_pay112 (BitVec.ofNat 32 (i 0).val))) k0_pay114)
      (k0_pay116 (BitVec.ofNat 32 (i 0).val)) (k0_pay117 (BitVec.ofNat 32 (i 0).val) o1) k0_pay118 64#32 k0_pay119 k0_pay120 (ix2 r l)
      = delta g x3 x4 r := by
  rw [hi]
  have e0 := fun q l => head0 g hg d0 q l i hi
  have e1 := fun q l => head1 g hg d0 q l
  have e2 := fun q l => head2 g hg d1 q l
  have e3 := fun q l => head3 g hg d1 q l
  generalize k0_pay76 (F := Ideal) _ _ _ _ _ = P0 at e0 ⊢
  generalize k0_pay90 (F := Ideal) _ _ _ _ _ = P1 at e1 ⊢
  generalize k0_pay102 (F := Ideal) _ _ _ = P2 at e2 ⊢
  generalize k0_pay115 (F := Ideal) _ _ _ = P3 at e3 ⊢
  have s0 := fun q z => sum0 g hg o0 q P0 z
  have s1 := fun q z => sum1 g hg o0 q P1 z
  have s2 := fun q z => sum2 g hg o1 q P2 z
  generalize k0_pay82 (F := Ideal) _ _ _ _ _ _ = S0 at s0 ⊢
  generalize k0_pay97 (F := Ideal) _ _ _ _ _ _ _ _ = S1 at s1 ⊢
  generalize k0_pay109 (F := Ideal) _ _ _ _ _ _ _ = S2 at s2 ⊢
  rw [sum3 g hg o1 l P3 S0 S1 S2 r]
  unfold delta
  split
  · refine (s0 _ _).trans (Finset.sum_congr rfl fun x _ => congrArg₂ _ ((e0 _ _).trans ?_) ?_)
    · exact half_col g x4 d0 0 (by omega) 0 (fun q l => hd0 q l _) r _ x (by simp only []; omega) (by simp only [Fin.val_zero]; omega)
    · exact half_col g x3 o0 0 (by omega) 0 (fun q l => hy0 q l _) r _ x (by simp only []; omega) (by simp only [Fin.val_zero]; omega)
  · split
    · refine (s1 _ _).trans (Finset.sum_congr rfl fun x _ => congrArg₂ _ ((e1 _ _).trans ?_) ?_)
      · exact half_col g x4 d0 0 (by omega) 1 (fun q l => hd0 q l _) r _ x (by simp only []; omega) (by simp only [Fin.val_one]; omega)
      · exact half_col g x3 o0 0 (by omega) 1 (fun q l => hy0 q l _) r _ x (by simp only []; omega) (by simp only [Fin.val_one]; omega)
    · split
      · refine (s2 _ _).trans (Finset.sum_congr rfl fun x _ => congrArg₂ _ ((e2 _ _).trans ?_) ?_)
        · exact half_col g x4 d1 1 (by omega) 0 (fun q l => hd1 q l _) r _ x (by simp only []; omega) (by simp only [Fin.val_zero]; omega)
        · exact half_col g x3 o1 1 (by omega) 0 (fun q l => hy1 q l _) r _ x (by simp only []; omega) (by simp only [Fin.val_zero]; omega)
      · refine Finset.sum_congr rfl fun x _ => congrArg₂ _ ((e3 _ _).trans ?_) ?_
        · exact half_col g x4 d1 1 (by omega) 1 (fun q l => hd1 q l _) r _ x (by simp only []; omega) (by simp only [Fin.val_one]; omega)
        · exact half_col g x3 o1 1 (by omega) 1 (fun q l => hy1 q l _) r _ x (by simp only []; omega) (by simp only [Fin.val_one]; omega)

end Placed

theorem logsum_at (x : S4x512x128.Idx → EReal) (hx : ∀ h q l, x (ix3 h q l) = x (ix3 h q (0 : Fin 128))) (w0 w1 w2 w3 : S1x512x128.Idx → EReal)
    (h0 : ∀ q l, w0 (ix3 (0 : Fin 1) q l) = x (ix3 (0 : Fin 4) q l)) (h1 : ∀ q l, w1 (ix3 (0 : Fin 1) q l) = x (ix3 (1 : Fin 4) q l))
    (h2 : ∀ q l, w2 (ix3 (0 : Fin 1) q l) = x (ix3 (2 : Fin 4) q l)) (h3 : ∀ q l, w3 (ix3 (0 : Fin 1) q l) = x (ix3 (3 : Fin 4) q l)) (r : Fin 2048) (l : Fin 128) :
    k0_pay123 (F := Ideal) (k0_pay83 w0) (k0_pay98 w1) (k0_pay110 w2) w3 (ix2 r l) = logsum x r := by
  pointwise [k0_pay123, k0_pay83, k0_pay98, k0_pay110]
  unfold logsum headOf queryOf
  split
  · refine (h0 _ _).trans ((hx _ _ _).trans (congrArg x (congrArg₂ (fun a b => ix3 a b (0 : Fin 128)) (Fin.ext ?_) (Fin.ext ?_))))
    · show 0 = r.val / 512; omega
    · show r.val = r.val % 512; omega
  · split
    · refine (h1 _ _).trans ((hx _ _ _).trans (congrArg x (congrArg₂ (fun a b => ix3 a b (0 : Fin 128)) (Fin.ext ?_) (Fin.ext ?_))))
      · show 1 = r.val / 512; omega
      · show r.val - 512 = r.val % 512; omega
    · split
      · refine (h2 _ _).trans ((hx _ _ _).trans (congrArg x (congrArg₂ (fun a b => ix3 a b (0 : Fin 128)) (Fin.ext ?_) (Fin.ext ?_))))
        · show 2 = r.val / 512; omega
        · show r.val - 512 - 512 = r.val % 512; omega
      · refine (h3 _ _).trans ((hx _ _ _).trans (congrArg x (congrArg₂ (fun a b => ix3 a b (0 : Fin 128)) (Fin.ext ?_) (Fin.ext ?_))))
        · show 3 = r.val / 512; omega
        · show r.val - 512 - 512 - 512 = r.val % 512; omega

end Cert.Grad
-- ==== Proof.Body.lean ====
/- One grid point of the kernel at exact arithmetic: what it adds to dk and dv, and what it leaves in dq, read at an index.
   The loop covers the first 8192 keys; the last 256 keys follow it. -/
module

public import proofs.«01_k».proof.Proof.Rows
public import proofs.«01_k».proof.Proof.Gen.KernelIdeal.Frame

@[expose] public section

set_option maxRecDepth 16384

noncomputable section

namespace Cert.Grad

open Cert.KernelIdeal Cert.KernelIdeal.Gen Idealize.ShloMosaic Idealize.ShloMosaic.TcCoe
open Idealize.SL Idealize.SL.RA Idealize.SL.Sem

section Last

variable (v13 : FVec Ideal S2048x128 .bf16) (v117 : FVec Ideal S512x128 .bf16) (v120 : FVec Ideal S512x1 .f32) (v122 : FVec Ideal S512x128 .f32)
    (v226 : FVec Ideal S512x128 .bf16) (v229 : FVec Ideal S512x1 .f32) (v231 : FVec Ideal S512x128 .f32) (v335 : FVec Ideal S512x128 .bf16)
    (v338 : FVec Ideal S512x1 .f32) (v340 : FVec Ideal S512x128 .f32) (v391 : FVec Ideal S512x128 .f32) (v395 : IVec S512x128 32)
    (v399 : FVec Ideal S512x128 .f32) (v416 : IVec S512x128 32) (c64_i32_148 : BitVec 32) (v418 : IVec S512x128 32)
    (v432 : IVec S512x128 1) (v448 : Vec Ideal S1x512x128 .f32)
  (DL LS : Fin 2048 → EReal)
    (hdl : ∀ r l, (k0_pay122 v120 v229 v338 v391 v395 v399 v416 c64_i32_148 v418 v432) (ix2 r l) = DL r) (hls : ∀ r l, (k0_pay123 v122 v231 v340 v448) (ix2 r l) = LS r)
  (kc vc : S256x128.Idx → EReal)
include hls

/-- The last chunk's addition to dv. -/
theorem pay133_at (old : S256x128.Idx → EReal) (a : Fin 256) (b : Fin 128) :
    k0_pay133 (F := Ideal) (k0_pay121 v117 v226 v335 v391) (k0_pay123 v122 v231 v340 v448) (k0_pay126 v13 kc) (k0_pay129 v13 v122 v231 v340 v448 kc) old (ix2 a b)
      = old (ix2 a b) + ∑ r, prob v13 LS (fun d => kc (ix2 a d)) r * (k0_pay121 v117 v226 v335 v391) (ix2 r b) := by
  unfold k0_pay129 k0_pay128
  generalize (k0_pay123 v122 v231 v340 v448) = ls at hls ⊢
  generalize (k0_pay121 v117 v226 v335 v391) = dos
  pointwise [k0_pay133, k0_pay131, k0_pay126, prob]
  refine congrArg _ (Finset.sum_congr rfl fun r _ => ?_)
  split
  · rw [hls]
  · rename_i h
    have e : (⟨128 + (a.val - 128), by omega⟩ : Fin 256) = a := Fin.ext (by simp only []; omega)
    rw [hls]; simp only [e]

include hdl

/-- The last chunk's addition to dk. -/
theorem pay134_at (old : S256x128.Idx → EReal) (a : Fin 256) (b : Fin 128) :
    k0_pay134 (F := Ideal) v13 (k0_pay122 v120 v229 v338 v391 v395 v399 v416 c64_i32_148 v418 v432) (k0_pay123 v122 v231 v340 v448) (k0_pay126 v13 kc) (k0_pay127 v117 v226 v335 v391 vc) (k0_pay130 v13 v117 v120 v122 v226 v229 v231 v335 v338 v340 v391 v395 v399 v416 c64_i32_148 v418 v432 v448 kc vc) old (ix2 a b)
      = old (ix2 a b) + ∑ r, dscore v13 (k0_pay121 v117 v226 v335 v391) DL LS (fun d => kc (ix2 a d)) (fun d => vc (ix2 a d)) r * v13 (ix2 r b) := by
  unfold k0_pay130 k0_pay128 k0_pay127
  generalize (k0_pay122 v120 v229 v338 v391 v395 v399 v416 c64_i32_148 v418 v432) = dl at hdl ⊢
  generalize (k0_pay123 v122 v231 v340 v448) = ls at hls ⊢
  generalize (k0_pay121 v117 v226 v335 v391) = dos
  pointwise [k0_pay134, k0_pay132, k0_pay131, k0_pay126, prob, dscore]
  refine congrArg _ (Finset.sum_congr rfl fun r _ => ?_)
  split
  · rw [hls, hdl]
  · rename_i h
    have e : (⟨128 + (a.val - 128), by omega⟩ : Fin 256) = a := Fin.ext (by simp only []; omega)
    rw [hls, hdl]; simp only [e]

/-- The last chunk's addition to dq. -/
theorem pay135_at (old : Rows) (r : Fin 2048) (b : Fin 128) :
    k0_pay135 (F := Ideal) (k0_pay122 v120 v229 v338 v391 v395 v399 v416 c64_i32_148 v418 v432) (k0_pay123 v122 v231 v340 v448) kc (k0_pay126 v13 kc) (k0_pay127 v117 v226 v335 v391 vc) (k0_pay130 v13 v117 v120 v122 v226 v229 v231 v335 v338 v340 v391 v395 v399 v416 c64_i32_148 v418 v432 v448 kc vc) old (ix2 r b)
      = old (ix2 r b) + ∑ a : Fin 256, dscore v13 (k0_pay121 v117 v226 v335 v391) DL LS (fun d => kc (ix2 a d)) (fun d => vc (ix2 a d)) r * kc (ix2 a b) := by
  unfold k0_pay130 k0_pay128 k0_pay127
  generalize (k0_pay122 v120 v229 v338 v391 v395 v399 v416 c64_i32_148 v418 v432) = dl at hdl ⊢
  generalize (k0_pay123 v122 v231 v340 v448) = ls at hls ⊢
  generalize (k0_pay121 v117 v226 v335 v391) = dos
  pointwise [k0_pay135, k0_pay132, k0_pay131, k0_pay126, prob, dscore]
  refine congrArg _ ?_
  refine Eq.trans ?_ (Fin.sum_univ_add (fun a : Fin (128 + 128) => dscore v13 dos DL LS (fun d => kc (ix2 (a : Fin 256) d)) (fun d => vc (ix2 (a : Fin 256) d)) r * kc (ix2 (a : Fin 256) b))).symm
  unfold dscore prob
  refine congrArg₂ _ (Finset.sum_congr rfl fun x _ => ?_) (Finset.sum_congr rfl fun x _ => ?_)
  · rw [hls, hdl]; rfl
  · rw [hls, hdl]; rfl

end Last

theorem last_lt (a : Fin 256) : 8192 + a.val < 8448 := by omega

/-- Row `a` of the last chunk is key row 8192 + a. -/
theorem last_idx (a : Fin 256) (d : Fin 128) :
    (Rect.unit (s := S8448x128) ![8192, 0] S256x128.size inb_S8448x128_S256x128_8192_0).toLoadRect.idx (ix2 a d : S256x128.Idx) = (ix2 (⟨8192 + a.val, last_lt a⟩ : Fin 8448) d : S8448x128.Idx) := by
  funext x
  refine Fin.ext ?_
  fin_cases x
  · exact congrArg (8192 + ·) (Nat.one_mul _)
  · exact (Nat.zero_add _).trans (Nat.one_mul _)

theorem last_unread {e : EltTy} (m : Memref sig .tc .vmem S8448x128 e) (hm : m.IsWhole) (X : S8448x128.Idx → Elt Ideal e) (a : Fin 256) (d : Fin 128) :
    View.readAt (Elt Ideal) m.view (Rect.unit (s := S8448x128) ![8192, 0] S256x128.size inb_S8448x128_S256x128_8192_0).toLoadRect (hm.unread X) (ix2 a d) = X (ix2 (⟨8192 + a.val, last_lt a⟩ : Fin 8448) d) :=
  (hm.readAt_unread X _ _).trans (congrArg X (last_idx a d))

theorem last_row (m : Memref sig .tc .vmem S8448x128 .bf16) (hm : m.IsWhole) (X : Keys) (a : Fin 256) :
    (fun d => View.readAt (Elt Ideal) m.view (Rect.unit (s := S8448x128) ![8192, 0] S256x128.size inb_S8448x128_S256x128_8192_0).toLoadRect (hm.unread X) (ix2 a d : S256x128.Idx)) = row X (8192 + a.val) := by
  funext d; rw [last_unread]; unfold row; rw [dif_pos (last_lt a)]

section Point

variable (c : Dev nD) (i : grid0.Coords)
    (arg2 : Memref sig .tc .vmem S512x512 .bf16) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S512x256 .bf16) (harg5 : arg5.IsWhole)
    (arg6 : Memref sig .tc .vmem S512x256 .bf16) (harg6 : arg6.IsWhole) (arg7 : Memref sig .tc .vmem S4x512x128 .f32) (harg7 : arg7.IsWhole)
    (arg8 : Memref sig .tc .vmem S512x512 .f32) (harg8 : arg8.IsWhole) (arg9 : Memref sig .tc .vmem S8448x128 .f32) (harg9 : arg9.IsWhole)
    (arg10 : Memref sig .tc .vmem S8448x128 .f32) (harg10 : arg10.IsWhole) (arg11 : Memref sig .tc .vmem S2048x128 .f32) (harg11 : arg11.IsWhole)
    (v13 : FVec Ideal S2048x128 .bf16) (v117 : FVec Ideal S512x128 .bf16) (v120 : FVec Ideal S512x1 .f32) (v122 : FVec Ideal S512x128 .f32)
    (v226 : FVec Ideal S512x128 .bf16) (v229 : FVec Ideal S512x1 .f32) (v231 : FVec Ideal S512x128 .f32) (v335 : FVec Ideal S512x128 .bf16)
    (v338 : FVec Ideal S512x1 .f32) (v340 : FVec Ideal S512x128 .f32) (v391 : FVec Ideal S512x128 .f32) (v395 : IVec S512x128 32)
    (v399 : FVec Ideal S512x128 .f32) (v416 : IVec S512x128 32) (c64_i32_148 : BitVec 32) (v418 : IVec S512x128 32)
    (v432 : IVec S512x128 1) (v448 : Vec Ideal S1x512x128 .f32)
    (K V : Keys) (G9 : BufTy.Contents (Elt Ideal) arg9.view.ty) (G10 : BufTy.Contents (Elt Ideal) arg10.view.ty) (G11 : BufTy.Contents (Elt Ideal) arg11.view.ty)
  (DL LS : Fin 2048 → EReal)
    (hdl : ∀ r l, (k0_pay122 v120 v229 v338 v391 v395 v399 v416 c64_i32_148 v418 v432) (ix2 r l) = DL r) (hls : ∀ r l, (k0_pay123 v122 v231 v340 v448) (ix2 r l) = LS r)
  (N : ℕ) (hN : N = 4)

include hls hN in
/-- One point's addition to dv. -/
theorem point_v (j : Fin 8448) (b : Fin 128) :
    arg10.view.read (Elt Ideal) (arg10.view.writes (Elt Ideal) G10
      (⟨(Rect.unit (s := S8448x128) ![8192, 0] S256x128.size inb_S8448x128_S256x128_8192_0), k0_pay133 (k0_pay121 v117 v226 v335 v391) (k0_pay123 v122 v231 v340 v448) (k0_pay126 v13 (View.readAt (Elt Ideal) arg3.view (Rect.unit (s := S8448x128) ![8192, 0] S256x128.size inb_S8448x128_S256x128_8192_0).toLoadRect (harg3.unread K))) (k0_pay129 v13 v122 v231 v340 v448 (View.readAt (Elt Ideal) arg3.view (Rect.unit (s := S8448x128) ![8192, 0] S256x128.size inb_S8448x128_S256x128_8192_0).toLoadRect (harg3.unread K)))
        (View.readAt (Elt Ideal) arg10.view (Rect.unit (s := S8448x128) ![8192, 0] S256x128.size inb_S8448x128_S256x128_8192_0).toLoadRect (arg10.view.writes (Elt Ideal) G10 (pb_k0_t1 (F := Ideal) Variants.none c none i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 N).2.1))⟩ :: (pb_k0_t1 (F := Ideal) Variants.none c none i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 N).2.1)) (ix2 j b)
      = arg10.view.read (Elt Ideal) G10 (ix2 j b) + ∑ r, prob v13 LS (row K j.val) r * (k0_pay121 v117 v226 v335 v391) (ix2 r b) := by
  subst hN
  by_cases h : j.val < 8192
  · refine (View.read_writes_cons_rows_of_not_mem arg10.view G10 _ _ _ _ (o := 8192) rfl (W := 256) rfl (Or.inl h)).trans ?_
    refine (loop_v (hls := hls) (n := 4) (hn := le_refl _) ..).trans ?_
    rw [if_pos h]
  · obtain ⟨a, rfl⟩ : ∃ a : Fin 256, j = ⟨8192 + a.val, last_lt a⟩ := ⟨⟨j.val - 8192, by omega⟩, Fin.ext (by simp only []; omega)⟩
    refine (View.read_writes_cons_rows_of_mem arg10.view G10 _ _ _ _ (ix2 a b : S256x128.Idx) (o := 8192) rfl rfl rfl).trans ?_
    refine (pay133_at (hls := hls) ..).trans ?_
    refine congrArg₂ _ ((View.readAt_apply ..).trans ((congrArg _ (last_idx a b)).trans ?_)) (Finset.sum_congr rfl fun r _ => ?_)
    · refine (loop_v (hls := hls) (n := 4) (hn := le_refl _) ..).trans ?_
      rw [if_neg h, add_zero]
    · exact congrArg (fun f => prob v13 LS f r * _) (last_row arg3 harg3 K a)

include hdl hls hN in
/-- One point's addition to dk. -/
theorem point_k (j : Fin 8448) (b : Fin 128) :
    arg9.view.read (Elt Ideal) (arg9.view.writes (Elt Ideal) G9
      (⟨(Rect.unit (s := S8448x128) ![8192, 0] S256x128.size inb_S8448x128_S256x128_8192_0), k0_pay134 v13 (k0_pay122 v120 v229 v338 v391 v395 v399 v416 c64_i32_148 v418 v432) (k0_pay123 v122 v231 v340 v448) (k0_pay126 v13 (View.readAt (Elt Ideal) arg3.view (Rect.unit (s := S8448x128) ![8192, 0] S256x128.size inb_S8448x128_S256x128_8192_0).toLoadRect (harg3.unread K))) (k0_pay127 v117 v226 v335 v391 (View.readAt (Elt Ideal) arg4.view (Rect.unit (s := S8448x128) ![8192, 0] S256x128.size inb_S8448x128_S256x128_8192_0).toLoadRect (harg4.unread V))) (k0_pay130 v13 v117 v120 v122 v226 v229 v231 v335 v338 v340 v391 v395 v399 v416 c64_i32_148 v418 v432 v448 (View.readAt (Elt Ideal) arg3.view (Rect.unit (s := S8448x128) ![8192, 0] S256x128.size inb_S8448x128_S256x128_8192_0).toLoadRect (harg3.unread K)) (View.readAt (Elt Ideal) arg4.view (Rect.unit (s := S8448x128) ![8192, 0] S256x128.size inb_S8448x128_S256x128_8192_0).toLoadRect (harg4.unread V)))
        (View.readAt (Elt Ideal) arg9.view (Rect.unit (s := S8448x128) ![8192, 0] S256x128.size inb_S8448x128_S256x128_8192_0).toLoadRect (arg9.view.writes (Elt Ideal) G9 (pb_k0_t1 (F := Ideal) Variants.none c none i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 N).1))⟩ :: (pb_k0_t1 (F := Ideal) Variants.none c none i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 N).1)) (ix2 j b)
      = arg9.view.read (Elt Ideal) G9 (ix2 j b) + ∑ r, dscore v13 (k0_pay121 v117 v226 v335 v391) DL LS (row K j.val) (row V j.val) r * v13 (ix2 r b) := by
  subst hN
  by_cases h : j.val < 8192
  · refine (View.read_writes_cons_rows_of_not_mem arg9.view G9 _ _ _ _ (o := 8192) rfl (W := 256) rfl (Or.inl h)).trans ?_
    refine (loop_k (hdl := hdl) (hls := hls) (n := 4) (hn := le_refl _) ..).trans ?_
    rw [if_pos h]
  · obtain ⟨a, rfl⟩ : ∃ a : Fin 256, j = ⟨8192 + a.val, last_lt a⟩ := ⟨⟨j.val - 8192, by omega⟩, Fin.ext (by simp only []; omega)⟩
    refine (View.read_writes_cons_rows_of_mem arg9.view G9 _ _ _ _ (ix2 a b : S256x128.Idx) (o := 8192) rfl rfl rfl).trans ?_
    refine (pay134_at (hdl := hdl) (hls := hls) ..).trans ?_
    refine congrArg₂ _ ((View.readAt_apply ..).trans ((congrArg _ (last_idx a b)).trans ?_)) (Finset.sum_congr rfl fun r _ => ?_)
    · refine (loop_k (hdl := hdl) (hls := hls) (n := 4) (hn := le_refl _) ..).trans ?_
      rw [if_neg h, add_zero]
    · exact congrArg₂ (fun f g => dscore v13 (k0_pay121 v117 v226 v335 v391) DL LS f g r * _) (last_row arg3 harg3 K a) (last_row arg4 harg4 V a)

include hls hN in
/-- The same at the point that first writes the initial piece `Z`. -/
theorem point_v_over (Z : View.Piece (Elt Ideal) S8448x128 .f32) (hG : G10 = arg10.view.writes (Elt Ideal) arg10.view.junk [Z]) (j : Fin 8448) (b : Fin 128) :
    arg10.view.read (Elt Ideal) (arg10.view.writes (Elt Ideal) arg10.view.junk
      (⟨(Rect.unit (s := S8448x128) ![8192, 0] S256x128.size inb_S8448x128_S256x128_8192_0), k0_pay133 (k0_pay121 v117 v226 v335 v391) (k0_pay123 v122 v231 v340 v448) (k0_pay126 v13 (View.readAt (Elt Ideal) arg3.view (Rect.unit (s := S8448x128) ![8192, 0] S256x128.size inb_S8448x128_S256x128_8192_0).toLoadRect (harg3.unread K))) (k0_pay129 v13 v122 v231 v340 v448 (View.readAt (Elt Ideal) arg3.view (Rect.unit (s := S8448x128) ![8192, 0] S256x128.size inb_S8448x128_S256x128_8192_0).toLoadRect (harg3.unread K)))
        (arg10.view.readCov (Val := (Elt Ideal)) ((pb_k0_t1 (F := Ideal) Variants.none c none i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 N).2.1 ++ [Z]) (Rect.unit (s := S8448x128) ![8192, 0] S256x128.size inb_S8448x128_S256x128_8192_0).toLoadRect)⟩ :: ((pb_k0_t1 (F := Ideal) Variants.none c none i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 N).2.1 ++ [Z]))) (ix2 j b)
      = arg10.view.read (Elt Ideal) G10 (ix2 j b) + ∑ r, prob v13 LS (row K j.val) r * (k0_pay121 v117 v226 v335 v391) (ix2 r b) := by
  unfold View.readCov
  rw [← List.cons_append, View.writes_append, View.writes_append, ← hG]
  exact point_v (hls := hls) (hN := hN) ..

include hdl hls hN in
/-- The same at the point that first writes the initial piece `Z`. -/
theorem point_k_over (Z : View.Piece (Elt Ideal) S8448x128 .f32) (hG : G9 = arg9.view.writes (Elt Ideal) arg9.view.junk [Z]) (j : Fin 8448) (b : Fin 128) :
    arg9.view.read (Elt Ideal) (arg9.view.writes (Elt Ideal) arg9.view.junk
      (⟨(Rect.unit (s := S8448x128) ![8192, 0] S256x128.size inb_S8448x128_S256x128_8192_0), k0_pay134 v13 (k0_pay122 v120 v229 v338 v391 v395 v399 v416 c64_i32_148 v418 v432) (k0_pay123 v122 v231 v340 v448) (k0_pay126 v13 (View.readAt (Elt Ideal) arg3.view (Rect.unit (s := S8448x128) ![8192, 0] S256x128.size inb_S8448x128_S256x128_8192_0).toLoadRect (harg3.unread K))) (k0_pay127 v117 v226 v335 v391 (View.readAt (Elt Ideal) arg4.view (Rect.unit (s := S8448x128) ![8192, 0] S256x128.size inb_S8448x128_S256x128_8192_0).toLoadRect (harg4.unread V))) (k0_pay130 v13 v117 v120 v122 v226 v229 v231 v335 v338 v340 v391 v395 v399 v416 c64_i32_148 v418 v432 v448 (View.readAt (Elt Ideal) arg3.view (Rect.unit (s := S8448x128) ![8192, 0] S256x128.size inb_S8448x128_S256x128_8192_0).toLoadRect (harg3.unread K)) (View.readAt (Elt Ideal) arg4.view (Rect.unit (s := S8448x128) ![8192, 0] S256x128.size inb_S8448x128_S256x128_8192_0).toLoadRect (harg4.unread V)))
        (arg9.view.readCov (Val := (Elt Ideal)) ((pb_k0_t1 (F := Ideal) Variants.none c none i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 N).1 ++ [Z]) (Rect.unit (s := S8448x128) ![8192, 0] S256x128.size inb_S8448x128_S256x128_8192_0).toLoadRect)⟩ :: ((pb_k0_t1 (F := Ideal) Variants.none c none i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 G11 N).1 ++ [Z]))) (ix2 j b)
      = arg9.view.read (Elt Ideal) G9 (ix2 j b) + ∑ r, dscore v13 (k0_pay121 v117 v226 v335 v391) DL LS (row K j.val) (row V j.val) r * v13 (ix2 r b) := by
  unfold View.readCov
  rw [← List.cons_append, View.writes_append, View.writes_append, ← hG]
  exact point_k (hdl := hdl) (hls := hls) (hN := hN) ..

/-- The dq accumulator starts at zero. -/
theorem zero11 (arg11 : Memref sig .tc .vmem S2048x128 .f32) (y : S2048x128.Idx) : arg11.view.read (Elt Ideal) (arg11.view.writes (Elt Ideal) arg11.view.junk [⟨(Rect.unit (s := S2048x128) ![0, 0] S2048x128.size inb_S2048x128_S2048x128_0_0), k0_pay124 (F := Ideal)⟩]) y = 0 := by
  rw [eq_ix2 y]
  generalize (y 0 : Fin 2048) = r; generalize (y 1 : Fin 128) = l
  refine (View.read_writes_cons_rows_of_mem arg11.view _ _ _ _ (ix2 r l : S2048x128.Idx) (ix2 r l : S2048x128.Idx) (o := 0) rfl (Nat.zero_add _).symm rfl).trans ?_
  pointwise [k0_pay124]

include hdl hls hN in
/-- What a point leaves in a block of rows of the dq accumulator: the sum over all 8448 keys. -/
theorem point_q (B : LoadRect S2048x128) (y : B.shape.Idx) (r : Fin 2048) (b : Fin 128) (hy : B.idx y = ix2 r b) :
    arg11.view.readCov (Val := Elt Ideal) (⟨(Rect.unit (s := S2048x128) ![0, 0] S2048x128.size inb_S2048x128_S2048x128_0_0), k0_pay135 (k0_pay122 v120 v229 v338 v391 v395 v399 v416 c64_i32_148 v418 v432) (k0_pay123 v122 v231 v340 v448) (View.readAt (Elt Ideal) arg3.view (Rect.unit (s := S8448x128) ![8192, 0] S256x128.size inb_S8448x128_S256x128_8192_0).toLoadRect (harg3.unread K)) (k0_pay126 v13 (View.readAt (Elt Ideal) arg3.view (Rect.unit (s := S8448x128) ![8192, 0] S256x128.size inb_S8448x128_S256x128_8192_0).toLoadRect (harg3.unread K))) (k0_pay127 v117 v226 v335 v391 (View.readAt (Elt Ideal) arg4.view (Rect.unit (s := S8448x128) ![8192, 0] S256x128.size inb_S8448x128_S256x128_8192_0).toLoadRect (harg4.unread V))) (k0_pay130 v13 v117 v120 v122 v226 v229 v231 v335 v338 v340 v391 v395 v399 v416 c64_i32_148 v418 v432 v448 (View.readAt (Elt Ideal) arg3.view (Rect.unit (s := S8448x128) ![8192, 0] S256x128.size inb_S8448x128_S256x128_8192_0).toLoadRect (harg3.unread K)) (View.readAt (Elt Ideal) arg4.view (Rect.unit (s := S8448x128) ![8192, 0] S256x128.size inb_S8448x128_S256x128_8192_0).toLoadRect (harg4.unread V)))
        (arg11.view.readCov ((pb_k0_t1 (F := Ideal) Variants.none c none i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 (arg11.view.writes (Elt Ideal) arg11.view.junk [⟨(Rect.unit (s := S2048x128) ![0, 0] S2048x128.size inb_S2048x128_S2048x128_0_0), k0_pay124 (F := Ideal)⟩]) N).2.2 ++ [⟨(Rect.unit (s := S2048x128) ![0, 0] S2048x128.size inb_S2048x128_S2048x128_0_0), k0_pay124 (F := Ideal)⟩]) (Rect.unit (s := S2048x128) ![0, 0] S2048x128.size inb_S2048x128_S2048x128_0_0).toLoadRect)⟩ :: ((pb_k0_t1 (F := Ideal) Variants.none c none i arg2 harg2 arg3 harg3 arg4 harg4 arg5 harg5 arg6 harg6 arg7 harg7 arg8 harg8 arg9 harg9 arg10 harg10 arg11 harg11 v13 v117 v120 v122 v226 v229 v231 v335 v338 v340 v391 v395 v399 v416 c64_i32_148 v418 v432 v448 (harg3.unread K) (harg4.unread V) G9 G10 (arg11.view.writes (Elt Ideal) arg11.view.junk [⟨(Rect.unit (s := S2048x128) ![0, 0] S2048x128.size inb_S2048x128_S2048x128_0_0), k0_pay124 (F := Ideal)⟩]) N).2.2 ++ [⟨(Rect.unit (s := S2048x128) ![0, 0] S2048x128.size inb_S2048x128_S2048x128_0_0), k0_pay124 (F := Ideal)⟩])) B y
      = ∑ a ∈ Finset.range 8448, dscore v13 (k0_pay121 v117 v226 v335 v391) DL LS (row K a) (row V a) r * row K a b := by
  subst hN
  refine (View.readAt_apply ..).trans ((congrArg _ hy).trans ?_)
  refine (View.read_writes_cons_rows_of_mem arg11.view _ _ _ _ _ (ix2 r b : S2048x128.Idx) (o := 0) rfl (Nat.zero_add _).symm rfl).trans ?_
  refine (pay135_at (hdl := hdl) (hls := hls) ..).trans ?_
  rw [show (8448 : ℕ) = 2048 * 4 + 256 from rfl, Finset.sum_range_add, Finset.sum_range (n := 256)]
  refine congrArg₂ _ ?_ (Finset.sum_congr rfl fun a _ => ?_)
  · refine (View.readAt_apply ..).trans ?_
    have e : (Rect.unit (s := S2048x128) ![0, 0] S2048x128.size inb_S2048x128_S2048x128_0_0).toLoadRect.idx (ix2 r b : S2048x128.Idx) = (ix2 r b : S2048x128.Idx) := by
      funext x; refine Fin.ext ?_
      fin_cases x <;> exact (Nat.zero_add _).trans (Nat.one_mul _)
    rw [e, View.writes_append]
    refine (loop_q (hdl := hdl) (hls := hls) (n := 4) (hn := le_refl _) ..).trans ?_
    rw [zero11, zero_add]
  · exact congrArg₂ (fun f g => dscore v13 (k0_pay121 v117 v226 v335 v391) DL LS f g r * f b) (last_row arg3 harg3 K a) (last_row arg4 harg4 V a)

end Point

end Cert.Grad
-- ==== Proof.Point.lean ====
/- One grid point of the kernel over its input blocks: what the dq block holds afterwards, and what dk and dv have gained. -/
module

public import proofs.«01_k».proof.Proof.Body

@[expose] public section

set_option maxRecDepth 16384

noncomputable section

namespace Cert.Grad

open Cert.KernelIdeal Cert.KernelIdeal.Gen Idealize.ShloMosaic Idealize.ShloMosaic.TcCoe
open Idealize.SL Idealize.SL.RA Idealize.SL.Sem

/-- A load of 128 columns of a whole block from column `o` on. -/
theorem load_cols {W : ℕ} {e : EltTy} (m : Memref sig .tc .vmem ⟨2, ![512, W]⟩ e) (hm : m.IsWhole) (X : Vec Ideal ⟨2, ![512, W]⟩ e) (o : ℕ)
    (ho : o + 128 ≤ W) (inb : ∀ a, (![0, o] : Fin 2 → ℕ) a + S512x128.size a ≤ (⟨2, ![512, W]⟩ : Shape).size a) (q : Fin 512) (l : Fin 128) :
    View.readAt (Elt Ideal) m.view (Rect.unit (s := ⟨2, ![512, W]⟩) ![0, o] S512x128.size inb).toLoadRect (hm.unread X) (ix2 q l : S512x128.Idx)
      = X (ix2 q (⟨o + l.val, by omega⟩ : Fin W)) := by
  rw [hm.readAt_unread]
  refine congrArg X (funext fun x => Fin.ext ?_)
  fin_cases x
  · exact (Nat.zero_add _).trans (Nat.one_mul _)
  · exact congrArg (o + ·) (Nat.one_mul _)

/-- A load of one head's row of log-sums. -/
theorem load_head (m : Memref sig .tc .vmem S4x512x128 .f32) (hm : m.IsWhole) (X : Vec Ideal S4x512x128 .f32) (h : Fin 4)
    (inb : ∀ a, (![h.val, 0, 0] : Fin 3 → ℕ) a + S1x512x128.size a ≤ S4x512x128.size a) (q : Fin 512) (l : Fin 128) :
    View.readAt (Elt Ideal) m.view (Rect.unit (s := S4x512x128) ![h.val, 0, 0] S1x512x128.size inb).toLoadRect (hm.unread X) (ix3 (0 : Fin 1) q l : S1x512x128.Idx)
      = X (ix3 h q l) := by
  rw [hm.readAt_unread]
  refine congrArg X (funext fun x => Fin.ext ?_)
  fin_cases x
  · exact Nat.add_zero _
  · exact (Nat.zero_add _).trans (Nat.one_mul _)
  · exact (Nat.zero_add _).trans (Nat.one_mul _)

/-- dk starts at zero. -/
theorem zero_k (m : Memref sig .tc .vmem S8448x128 .f32) (y : S8448x128.Idx) :
    m.view.read (Elt Ideal) (m.view.writes (Elt Ideal) m.view.junk [⟨Rect.unit (s := S8448x128) ![0, 0] S8448x128.size inb_S8448x128_S8448x128_0_0, k0_pay68 (F := Ideal)⟩]) y = 0 := by
  rw [eq_ix2 y]
  generalize (y 0 : Fin 8448) = r; generalize (y 1 : Fin 128) = l
  refine (View.read_writes_cons_rows_of_mem m.view _ _ _ _ (ix2 r l : S8448x128.Idx) (ix2 r l : S8448x128.Idx) (o := 0) rfl (Nat.zero_add _).symm rfl).trans ?_
  pointwise [k0_pay68]

/-- dv starts at zero. -/
theorem zero_v (m : Memref sig .tc .vmem S8448x128 .f32) (y : S8448x128.Idx) :
    m.view.read (Elt Ideal) (m.view.writes (Elt Ideal) m.view.junk [⟨Rect.unit (s := S8448x128) ![0, 0] S8448x128.size inb_S8448x128_S8448x128_0_0, k0_pay69 (F := Ideal)⟩]) y = 0 := by
  rw [eq_ix2 y]
  generalize (y 0 : Fin 8448) = r; generalize (y 1 : Fin 128) = l
  refine (View.read_writes_cons_rows_of_mem m.view _ _ _ _ (ix2 r l : S8448x128.Idx) (ix2 r l : S8448x128.Idx) (o := 0) rfl (Nat.zero_add _).symm rfl).trans ?_
  pointwise [k0_pay69]

/-- The stacked row of a query and a column of the dq block. -/
def stackedRow (q l : Fin 512) : Fin 2048 := ⟨512 * (l.val / 128) + q.val, by omega⟩
/-- The lane of a column of the dq block. -/
def lane (l : Fin 512) : Fin 128 := ⟨l.val % 128, by omega⟩

/-- A block written as four pieces of 128 columns reads, at every column, the piece the column lies in. -/
theorem four_cols {sg : RefSig} {κ : Kind} {sp : Space} (v : View sg κ sp S512x512 .f32) (f : v.ty.Contents (Elt Ideal)) (w3 w2 w1 w0 : S512x128.Idx → EReal)
    (i3 i2 i1 i0) (q l : Fin 512) (D : EReal) (h3 : l.val / 128 = 3 → w3 (ix2 q (lane l)) = D) (h2 : l.val / 128 = 2 → w2 (ix2 q (lane l)) = D)
    (h1 : l.val / 128 = 1 → w1 (ix2 q (lane l)) = D) (h0 : l.val / 128 = 0 → w0 (ix2 q (lane l)) = D) :
    v.read (Elt Ideal) (v.writes (Elt Ideal) f [⟨Rect.unit (s := S512x512) ![0, 384] S512x128.size i3, w3⟩, ⟨Rect.unit (s := S512x512) ![0, 256] S512x128.size i2, w2⟩,
      ⟨Rect.unit (s := S512x512) ![0, 128] S512x128.size i1, w1⟩, ⟨Rect.unit (s := S512x512) ![0, 0] S512x128.size i0, w0⟩]) (ix2 q l) = D := by
  have hl := l.isLt
  have key : ∀ o : ℕ, l.val = o + l.val % 128 → ∀ a : Fin 2, ((ix2 q l : S512x512.Idx) a).val = (![0, o] : Fin 2 → ℕ) a + ((ix2 q (lane l) : S512x128.Idx) a).val := by
    intro o ho a
    fin_cases a
    · exact (Nat.zero_add _).symm
    · exact ho
  by_cases c3 : l.val / 128 = 3
  · exact (View.read_writes_cons_unit_of_mem v f i3 w3 _ _ (ix2 q (lane l) : S512x128.Idx) rfl (key 384 (by omega))).trans (h3 c3)
  refine (View.read_writes_cons_unit_of_not_mem v f i3 w3 _ _ rfl (1 : Fin 2) (Or.inl (show l.val < 384 by omega))).trans ?_
  by_cases c2 : l.val / 128 = 2
  · exact (View.read_writes_cons_unit_of_mem v f i2 w2 _ _ (ix2 q (lane l) : S512x128.Idx) rfl (key 256 (by omega))).trans (h2 c2)
  refine (View.read_writes_cons_unit_of_not_mem v f i2 w2 _ _ rfl (1 : Fin 2) (Or.inl (show l.val < 256 by omega))).trans ?_
  by_cases c1 : l.val / 128 = 1
  · exact (View.read_writes_cons_unit_of_mem v f i1 w1 _ _ (ix2 q (lane l) : S512x128.Idx) rfl (key 128 (by omega))).trans (h1 c1)
  refine (View.read_writes_cons_unit_of_not_mem v f i1 w1 _ _ rfl (1 : Fin 2) (Or.inl (show l.val < 128 by omega))).trans ?_
  exact (View.read_writes_cons_unit_of_mem v f i0 w0 _ _ (ix2 q (lane l) : S512x128.Idx) rfl (key 0 (by omega))).trans (h0 (by omega))

/-- The rows of the accumulator that a head's 512 queries occupy. -/
theorem rows_idx (o : ℕ) (inb) (q : Fin 512) (b : Fin 128) (r : Fin 2048) (hr : r.val = o + q.val) :
    (Rect.unit (s := S2048x128) ![o, 0] S512x128.size inb).toLoadRect.idx (ix2 q b : S512x128.Idx) = ix2 r b := by
  funext x; refine Fin.ext ?_
  fin_cases x
  · exact (congrArg (o + ·) (Nat.one_mul _)).trans hr.symm
  · exact (Nat.zero_add _).trans (Nat.one_mul _)

/-- dk gains, at every key, the sum over the point's 2048 stacked rows. -/
theorem out_B_7 (c : Dev nD) (i : grid0.Coords)
    (arg2 : Memref sig .tc .vmem S512x512 .bf16) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S512x256 .bf16) (harg5 : arg5.IsWhole)
    (arg6 : Memref sig .tc .vmem S512x256 .bf16) (harg6 : arg6.IsWhole) (arg7 : Memref sig .tc .vmem S4x512x128 .f32) (harg7 : arg7.IsWhole)
    (arg8 : Memref sig .tc .vmem S512x512 .f32) (harg8 : arg8.IsWhole) (arg9 : Memref sig .tc .vmem S8448x128 .f32) (harg9 : arg9.IsWhole)
    (arg10 : Memref sig .tc .vmem S8448x128 .f32) (harg10 : arg10.IsWhole) (arg11 : Memref sig .tc .vmem S2048x128 .f32) (harg11 : arg11.IsWhole) (hc0 : ¬cond0_0 i)
    (x0 : Vec Ideal S512x512 .bf16) (x1 : Vec Ideal S8448x128 .bf16) (x2 : Vec Ideal S8448x128 .bf16) (x3 : Vec Ideal S512x256 .bf16) (x4 : Vec Ideal S512x256 .bf16) (x5 : Vec Ideal S4x512x128 .f32) (xo7 xo8 : Vec Ideal S8448x128 .f32)
    (g : ℕ) (hg : g = 0 ∨ g = 1) (hi : (i 0).val = g) (hx : ∀ h q l, x5 (ix3 h q l) = x5 (ix3 h q (0 : Fin 128))) (j : Fin 8448) (b : Fin 128) :
    out0_B_7 c i arg2 harg2 arg3 harg3 arg4 harg4 arg5 harg5 arg6 harg6 arg7 harg7 arg8 harg8 arg9 harg9 arg10 harg10 arg11 harg11 hc0 x0 x1 x2 x3 x4 x5 xo7 xo8 (ix2 j b)
      = xo7 (ix2 j b) + ∑ r, dscore (queries x0) (placed g x4) (delta g x3 x4) (logsum x5) (row x1 j.val) (row x2 j.val) r * queries x0 (ix2 r b) := by
  unfold out0_B_7 kernelRun0_B; dsimp only; sl_unfold_words
  refine (point_k (hdl := delta_at i g hg hi x3 x4 _ _ _ _ (fun q l _ => load_cols arg6 harg6 x4 0 (by omega) _ q l) (fun q l _ => load_cols arg6 harg6 x4 128 (by omega) _ q l) (fun q l _ => load_cols arg5 harg5 x3 0 (by omega) _ q l) (fun q l _ => load_cols arg5 harg5 x3 128 (by omega) _ q l)) (hls := logsum_at x5 hx _ _ _ _ (load_head arg7 harg7 x5 0 _) (load_head arg7 harg7 x5 1 _) (load_head arg7 harg7 x5 2 _) (load_head arg7 harg7 x5 3 _)) (hN := trips_eq) ..).trans ?_
  rw [placed_at i g hg hi x4 _ _ (fun q l _ => load_cols arg6 harg6 x4 0 (by omega) _ q l) (fun q l _ => load_cols arg6 harg6 x4 128 (by omega) _ q l), queries_at x0 _ _ _ _ (load_cols arg2 harg2 x0 0 (by omega) _) (load_cols arg2 harg2 x0 128 (by omega) _) (load_cols arg2 harg2 x0 256 (by omega) _) (load_cols arg2 harg2 x0 384 (by omega) _)]
  rw [harg9.read_unread]

/-- dv gains, at every key, the sum over the point's 2048 stacked rows. -/
theorem out_B_8 (c : Dev nD) (i : grid0.Coords)
    (arg2 : Memref sig .tc .vmem S512x512 .bf16) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S512x256 .bf16) (harg5 : arg5.IsWhole)
    (arg6 : Memref sig .tc .vmem S512x256 .bf16) (harg6 : arg6.IsWhole) (arg7 : Memref sig .tc .vmem S4x512x128 .f32) (harg7 : arg7.IsWhole)
    (arg8 : Memref sig .tc .vmem S512x512 .f32) (harg8 : arg8.IsWhole) (arg9 : Memref sig .tc .vmem S8448x128 .f32) (harg9 : arg9.IsWhole)
    (arg10 : Memref sig .tc .vmem S8448x128 .f32) (harg10 : arg10.IsWhole) (arg11 : Memref sig .tc .vmem S2048x128 .f32) (harg11 : arg11.IsWhole) (hc0 : ¬cond0_0 i)
    (x0 : Vec Ideal S512x512 .bf16) (x1 : Vec Ideal S8448x128 .bf16) (x2 : Vec Ideal S8448x128 .bf16) (x3 : Vec Ideal S512x256 .bf16) (x4 : Vec Ideal S512x256 .bf16) (x5 : Vec Ideal S4x512x128 .f32) (xo7 xo8 : Vec Ideal S8448x128 .f32)
    (g : ℕ) (hg : g = 0 ∨ g = 1) (hi : (i 0).val = g) (hx : ∀ h q l, x5 (ix3 h q l) = x5 (ix3 h q (0 : Fin 128))) (j : Fin 8448) (b : Fin 128) :
    out0_B_8 c i arg2 harg2 arg3 harg3 arg4 harg4 arg5 harg5 arg6 harg6 arg7 harg7 arg8 harg8 arg9 harg9 arg10 harg10 arg11 harg11 hc0 x0 x1 x2 x3 x4 x5 xo7 xo8 (ix2 j b)
      = xo8 (ix2 j b) + ∑ r, prob (queries x0) (logsum x5) (row x1 j.val) r * placed g x4 (ix2 r b) := by
  unfold out0_B_8 kernelRun0_B; dsimp only; sl_unfold_words
  refine (point_v (hls := logsum_at x5 hx _ _ _ _ (load_head arg7 harg7 x5 0 _) (load_head arg7 harg7 x5 1 _) (load_head arg7 harg7 x5 2 _) (load_head arg7 harg7 x5 3 _)) (hN := trips_eq) ..).trans ?_
  rw [placed_at i g hg hi x4 _ _ (fun q l _ => load_cols arg6 harg6 x4 0 (by omega) _ q l) (fun q l _ => load_cols arg6 harg6 x4 128 (by omega) _ q l), queries_at x0 _ _ _ _ (load_cols arg2 harg2 x0 0 (by omega) _) (load_cols arg2 harg2 x0 128 (by omega) _) (load_cols arg2 harg2 x0 256 (by omega) _) (load_cols arg2 harg2 x0 384 (by omega) _)]
  rw [harg10.read_unread]

/-- dk gains, at every key, the sum over the point's 2048 stacked rows. -/
theorem out_A_7 (c : Dev nD) (i : grid0.Coords)
    (arg2 : Memref sig .tc .vmem S512x512 .bf16) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S512x256 .bf16) (harg5 : arg5.IsWhole)
    (arg6 : Memref sig .tc .vmem S512x256 .bf16) (harg6 : arg6.IsWhole) (arg7 : Memref sig .tc .vmem S4x512x128 .f32) (harg7 : arg7.IsWhole)
    (arg8 : Memref sig .tc .vmem S512x512 .f32) (harg8 : arg8.IsWhole) (arg9 : Memref sig .tc .vmem S8448x128 .f32) (harg9 : arg9.IsWhole)
    (arg10 : Memref sig .tc .vmem S8448x128 .f32) (harg10 : arg10.IsWhole) (arg11 : Memref sig .tc .vmem S2048x128 .f32) (harg11 : arg11.IsWhole) (hc0 : cond0_0 i)
    (x0 : Vec Ideal S512x512 .bf16) (x1 : Vec Ideal S8448x128 .bf16) (x2 : Vec Ideal S8448x128 .bf16) (x3 : Vec Ideal S512x256 .bf16) (x4 : Vec Ideal S512x256 .bf16) (x5 : Vec Ideal S4x512x128 .f32)
    (g : ℕ) (hg : g = 0 ∨ g = 1) (hi : (i 0).val = g) (hx : ∀ h q l, x5 (ix3 h q l) = x5 (ix3 h q (0 : Fin 128))) (j : Fin 8448) (b : Fin 128) :
    out0_A_7 c i arg2 harg2 arg3 harg3 arg4 harg4 arg5 harg5 arg6 harg6 arg7 harg7 arg8 harg8 arg9 harg9 arg10 harg10 arg11 harg11 hc0 x0 x1 x2 x3 x4 x5 (ix2 j b)
      = 0 + ∑ r, dscore (queries x0) (placed g x4) (delta g x3 x4) (logsum x5) (row x1 j.val) (row x2 j.val) r * queries x0 (ix2 r b) := by
  unfold out0_A_7
  refine (congrFun (View.read_writes_of_cover (v' := arg9.view) (f' := arg9.view.junk) _ _ _ (cover0_A_7 c i arg2 harg2 arg3 harg3 arg4 harg4 arg5 harg5 arg6 harg6 arg7 harg7 arg8 harg8 arg9 harg9 arg10 harg10 arg11 harg11 hc0 x0 x1 x2 x3 x4 x5)) _).trans ?_
  unfold kernelRun0_A; dsimp only; sl_unfold_words
  refine (point_k_over (hdl := delta_at i g hg hi x3 x4 _ _ _ _ (fun q l _ => load_cols arg6 harg6 x4 0 (by omega) _ q l) (fun q l _ => load_cols arg6 harg6 x4 128 (by omega) _ q l) (fun q l _ => load_cols arg5 harg5 x3 0 (by omega) _ q l) (fun q l _ => load_cols arg5 harg5 x3 128 (by omega) _ q l)) (hls := logsum_at x5 hx _ _ _ _ (load_head arg7 harg7 x5 0 _) (load_head arg7 harg7 x5 1 _) (load_head arg7 harg7 x5 2 _) (load_head arg7 harg7 x5 3 _)) (hN := trips_eq) (hG := rfl) ..).trans ?_
  rw [placed_at i g hg hi x4 _ _ (fun q l _ => load_cols arg6 harg6 x4 0 (by omega) _ q l) (fun q l _ => load_cols arg6 harg6 x4 128 (by omega) _ q l), queries_at x0 _ _ _ _ (load_cols arg2 harg2 x0 0 (by omega) _) (load_cols arg2 harg2 x0 128 (by omega) _) (load_cols arg2 harg2 x0 256 (by omega) _) (load_cols arg2 harg2 x0 384 (by omega) _)]
  refine congrArg (· + _) ?_
  exact zero_k arg9 _

/-- dv gains, at every key, the sum over the point's 2048 stacked rows. -/
theorem out_A_8 (c : Dev nD) (i : grid0.Coords)
    (arg2 : Memref sig .tc .vmem S512x512 .bf16) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S512x256 .bf16) (harg5 : arg5.IsWhole)
    (arg6 : Memref sig .tc .vmem S512x256 .bf16) (harg6 : arg6.IsWhole) (arg7 : Memref sig .tc .vmem S4x512x128 .f32) (harg7 : arg7.IsWhole)
    (arg8 : Memref sig .tc .vmem S512x512 .f32) (harg8 : arg8.IsWhole) (arg9 : Memref sig .tc .vmem S8448x128 .f32) (harg9 : arg9.IsWhole)
    (arg10 : Memref sig .tc .vmem S8448x128 .f32) (harg10 : arg10.IsWhole) (arg11 : Memref sig .tc .vmem S2048x128 .f32) (harg11 : arg11.IsWhole) (hc0 : cond0_0 i)
    (x0 : Vec Ideal S512x512 .bf16) (x1 : Vec Ideal S8448x128 .bf16) (x2 : Vec Ideal S8448x128 .bf16) (x3 : Vec Ideal S512x256 .bf16) (x4 : Vec Ideal S512x256 .bf16) (x5 : Vec Ideal S4x512x128 .f32)
    (g : ℕ) (hg : g = 0 ∨ g = 1) (hi : (i 0).val = g) (hx : ∀ h q l, x5 (ix3 h q l) = x5 (ix3 h q (0 : Fin 128))) (j : Fin 8448) (b : Fin 128) :
    out0_A_8 c i arg2 harg2 arg3 harg3 arg4 harg4 arg5 harg5 arg6 harg6 arg7 harg7 arg8 harg8 arg9 harg9 arg10 harg10 arg11 harg11 hc0 x0 x1 x2 x3 x4 x5 (ix2 j b)
      = 0 + ∑ r, prob (queries x0) (logsum x5) (row x1 j.val) r * placed g x4 (ix2 r b) := by
  unfold out0_A_8
  refine (congrFun (View.read_writes_of_cover (v' := arg10.view) (f' := arg10.view.junk) _ _ _ (cover0_A_8 c i arg2 harg2 arg3 harg3 arg4 harg4 arg5 harg5 arg6 harg6 arg7 harg7 arg8 harg8 arg9 harg9 arg10 harg10 arg11 harg11 hc0 x0 x1 x2 x3 x4 x5)) _).trans ?_
  unfold kernelRun0_A; dsimp only; sl_unfold_words
  refine (point_v_over (hls := logsum_at x5 hx _ _ _ _ (load_head arg7 harg7 x5 0 _) (load_head arg7 harg7 x5 1 _) (load_head arg7 harg7 x5 2 _) (load_head arg7 harg7 x5 3 _)) (hN := trips_eq) (hG := rfl) ..).trans ?_
  rw [placed_at i g hg hi x4 _ _ (fun q l _ => load_cols arg6 harg6 x4 0 (by omega) _ q l) (fun q l _ => load_cols arg6 harg6 x4 128 (by omega) _ q l), queries_at x0 _ _ _ _ (load_cols arg2 harg2 x0 0 (by omega) _) (load_cols arg2 harg2 x0 128 (by omega) _) (load_cols arg2 harg2 x0 256 (by omega) _) (load_cols arg2 harg2 x0 384 (by omega) _)]
  refine congrArg (· + _) ?_
  exact zero_v arg10 _

/-- The dq block holds, at every query and column, the sum over all keys. -/
theorem out_B_6 (c : Dev nD) (i : grid0.Coords)
    (arg2 : Memref sig .tc .vmem S512x512 .bf16) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S512x256 .bf16) (harg5 : arg5.IsWhole)
    (arg6 : Memref sig .tc .vmem S512x256 .bf16) (harg6 : arg6.IsWhole) (arg7 : Memref sig .tc .vmem S4x512x128 .f32) (harg7 : arg7.IsWhole)
    (arg8 : Memref sig .tc .vmem S512x512 .f32) (harg8 : arg8.IsWhole) (arg9 : Memref sig .tc .vmem S8448x128 .f32) (harg9 : arg9.IsWhole)
    (arg10 : Memref sig .tc .vmem S8448x128 .f32) (harg10 : arg10.IsWhole) (arg11 : Memref sig .tc .vmem S2048x128 .f32) (harg11 : arg11.IsWhole) (hc0 : ¬cond0_0 i)
    (x0 : Vec Ideal S512x512 .bf16) (x1 : Vec Ideal S8448x128 .bf16) (x2 : Vec Ideal S8448x128 .bf16) (x3 : Vec Ideal S512x256 .bf16) (x4 : Vec Ideal S512x256 .bf16) (x5 : Vec Ideal S4x512x128 .f32) (xo7 xo8 : Vec Ideal S8448x128 .f32)
    (g : ℕ) (hg : g = 0 ∨ g = 1) (hi : (i 0).val = g) (hx : ∀ h q l, x5 (ix3 h q l) = x5 (ix3 h q (0 : Fin 128))) (q : Fin 512) (l : Fin 512) :
    out0_B_6 c i arg2 harg2 arg3 harg3 arg4 harg4 arg5 harg5 arg6 harg6 arg7 harg7 arg8 harg8 arg9 harg9 arg10 harg10 arg11 harg11 hc0 x0 x1 x2 x3 x4 x5 xo7 xo8 (ix2 q l)
      = ∑ a ∈ Finset.range 8448, dscore (queries x0) (placed g x4) (delta g x3 x4) (logsum x5) (row x1 a) (row x2 a) (stackedRow q l) * row x1 a (lane l) := by
  unfold out0_B_6 kernelRun0_B; dsimp only; sl_unfold_words
  refine four_cols _ _ _ _ _ _ _ _ _ _ q l _ ?_ ?_ ?_ ?_
  · intro h
    refine (point_q (hdl := delta_at i g hg hi x3 x4 _ _ _ _ (fun q l _ => load_cols arg6 harg6 x4 0 (by omega) _ q l) (fun q l _ => load_cols arg6 harg6 x4 128 (by omega) _ q l) (fun q l _ => load_cols arg5 harg5 x3 0 (by omega) _ q l) (fun q l _ => load_cols arg5 harg5 x3 128 (by omega) _ q l)) (hls := logsum_at x5 hx _ _ _ _ (load_head arg7 harg7 x5 0 _) (load_head arg7 harg7 x5 1 _) (load_head arg7 harg7 x5 2 _) (load_head arg7 harg7 x5 3 _)) (hN := trips_eq) (hy := rows_idx 1536 _ q (lane l) (stackedRow q l) (by simp only [stackedRow]; omega)) ..).trans ?_
    rw [placed_at i g hg hi x4 _ _ (fun q l _ => load_cols arg6 harg6 x4 0 (by omega) _ q l) (fun q l _ => load_cols arg6 harg6 x4 128 (by omega) _ q l), queries_at x0 _ _ _ _ (load_cols arg2 harg2 x0 0 (by omega) _) (load_cols arg2 harg2 x0 128 (by omega) _) (load_cols arg2 harg2 x0 256 (by omega) _) (load_cols arg2 harg2 x0 384 (by omega) _)]
  · intro h
    refine (point_q (hdl := delta_at i g hg hi x3 x4 _ _ _ _ (fun q l _ => load_cols arg6 harg6 x4 0 (by omega) _ q l) (fun q l _ => load_cols arg6 harg6 x4 128 (by omega) _ q l) (fun q l _ => load_cols arg5 harg5 x3 0 (by omega) _ q l) (fun q l _ => load_cols arg5 harg5 x3 128 (by omega) _ q l)) (hls := logsum_at x5 hx _ _ _ _ (load_head arg7 harg7 x5 0 _) (load_head arg7 harg7 x5 1 _) (load_head arg7 harg7 x5 2 _) (load_head arg7 harg7 x5 3 _)) (hN := trips_eq) (hy := rows_idx 1024 _ q (lane l) (stackedRow q l) (by simp only [stackedRow]; omega)) ..).trans ?_
    rw [placed_at i g hg hi x4 _ _ (fun q l _ => load_cols arg6 harg6 x4 0 (by omega) _ q l) (fun q l _ => load_cols arg6 harg6 x4 128 (by omega) _ q l), queries_at x0 _ _ _ _ (load_cols arg2 harg2 x0 0 (by omega) _) (load_cols arg2 harg2 x0 128 (by omega) _) (load_cols arg2 harg2 x0 256 (by omega) _) (load_cols arg2 harg2 x0 384 (by omega) _)]
  · intro h
    refine (point_q (hdl := delta_at i g hg hi x3 x4 _ _ _ _ (fun q l _ => load_cols arg6 harg6 x4 0 (by omega) _ q l) (fun q l _ => load_cols arg6 harg6 x4 128 (by omega) _ q l) (fun q l _ => load_cols arg5 harg5 x3 0 (by omega) _ q l) (fun q l _ => load_cols arg5 harg5 x3 128 (by omega) _ q l)) (hls := logsum_at x5 hx _ _ _ _ (load_head arg7 harg7 x5 0 _) (load_head arg7 harg7 x5 1 _) (load_head arg7 harg7 x5 2 _) (load_head arg7 harg7 x5 3 _)) (hN := trips_eq) (hy := rows_idx 512 _ q (lane l) (stackedRow q l) (by simp only [stackedRow]; omega)) ..).trans ?_
    rw [placed_at i g hg hi x4 _ _ (fun q l _ => load_cols arg6 harg6 x4 0 (by omega) _ q l) (fun q l _ => load_cols arg6 harg6 x4 128 (by omega) _ q l), queries_at x0 _ _ _ _ (load_cols arg2 harg2 x0 0 (by omega) _) (load_cols arg2 harg2 x0 128 (by omega) _) (load_cols arg2 harg2 x0 256 (by omega) _) (load_cols arg2 harg2 x0 384 (by omega) _)]
  · intro h
    refine (point_q (hdl := delta_at i g hg hi x3 x4 _ _ _ _ (fun q l _ => load_cols arg6 harg6 x4 0 (by omega) _ q l) (fun q l _ => load_cols arg6 harg6 x4 128 (by omega) _ q l) (fun q l _ => load_cols arg5 harg5 x3 0 (by omega) _ q l) (fun q l _ => load_cols arg5 harg5 x3 128 (by omega) _ q l)) (hls := logsum_at x5 hx _ _ _ _ (load_head arg7 harg7 x5 0 _) (load_head arg7 harg7 x5 1 _) (load_head arg7 harg7 x5 2 _) (load_head arg7 harg7 x5 3 _)) (hN := trips_eq) (hy := rows_idx 0 _ q (lane l) (stackedRow q l) (by simp only [stackedRow]; omega)) ..).trans ?_
    rw [placed_at i g hg hi x4 _ _ (fun q l _ => load_cols arg6 harg6 x4 0 (by omega) _ q l) (fun q l _ => load_cols arg6 harg6 x4 128 (by omega) _ q l), queries_at x0 _ _ _ _ (load_cols arg2 harg2 x0 0 (by omega) _) (load_cols arg2 harg2 x0 128 (by omega) _) (load_cols arg2 harg2 x0 256 (by omega) _) (load_cols arg2 harg2 x0 384 (by omega) _)]

/-- The dq block holds, at every query and column, the sum over all keys. -/
theorem out_A_6 (c : Dev nD) (i : grid0.Coords)
    (arg2 : Memref sig .tc .vmem S512x512 .bf16) (harg2 : arg2.IsWhole) (arg3 : Memref sig .tc .vmem S8448x128 .bf16) (harg3 : arg3.IsWhole)
    (arg4 : Memref sig .tc .vmem S8448x128 .bf16) (harg4 : arg4.IsWhole) (arg5 : Memref sig .tc .vmem S512x256 .bf16) (harg5 : arg5.IsWhole)
    (arg6 : Memref sig .tc .vmem S512x256 .bf16) (harg6 : arg6.IsWhole) (arg7 : Memref sig .tc .vmem S4x512x128 .f32) (harg7 : arg7.IsWhole)
    (arg8 : Memref sig .tc .vmem S512x512 .f32) (harg8 : arg8.IsWhole) (arg9 : Memref sig .tc .vmem S8448x128 .f32) (harg9 : arg9.IsWhole)
    (arg10 : Memref sig .tc .vmem S8448x128 .f32) (harg10 : arg10.IsWhole) (arg11 : Memref sig .tc .vmem S2048x128 .f32) (harg11 : arg11.IsWhole) (hc0 : cond0_0 i)
    (x0 : Vec Ideal S512x512 .bf16) (x1 : Vec Ideal S8448x128 .bf16) (x2 : Vec Ideal S8448x128 .bf16) (x3 : Vec Ideal S512x256 .bf16) (x4 : Vec Ideal S512x256 .bf16) (x5 : Vec Ideal S4x512x128 .f32)
    (g : ℕ) (hg : g = 0 ∨ g = 1) (hi : (i 0).val = g) (hx : ∀ h q l, x5 (ix3 h q l) = x5 (ix3 h q (0 : Fin 128))) (q : Fin 512) (l : Fin 512) :
    out0_A_6 c i arg2 harg2 arg3 harg3 arg4 harg4 arg5 harg5 arg6 harg6 arg7 harg7 arg8 harg8 arg9 harg9 arg10 harg10 arg11 harg11 hc0 x0 x1 x2 x3 x4 x5 (ix2 q l)
      = ∑ a ∈ Finset.range 8448, dscore (queries x0) (placed g x4) (delta g x3 x4) (logsum x5) (row x1 a) (row x2 a) (stackedRow q l) * row x1 a (lane l) := by
  unfold out0_A_6 kernelRun0_A; dsimp only; sl_unfold_words
  refine four_cols _ _ _ _ _ _ _ _ _ _ q l _ ?_ ?_ ?_ ?_
  · intro h
    refine (point_q (hdl := delta_at i g hg hi x3 x4 _ _ _ _ (fun q l _ => load_cols arg6 harg6 x4 0 (by omega) _ q l) (fun q l _ => load_cols arg6 harg6 x4 128 (by omega) _ q l) (fun q l _ => load_cols arg5 harg5 x3 0 (by omega) _ q l) (fun q l _ => load_cols arg5 harg5 x3 128 (by omega) _ q l)) (hls := logsum_at x5 hx _ _ _ _ (load_head arg7 harg7 x5 0 _) (load_head arg7 harg7 x5 1 _) (load_head arg7 harg7 x5 2 _) (load_head arg7 harg7 x5 3 _)) (hN := trips_eq) (hy := rows_idx 1536 _ q (lane l) (stackedRow q l) (by simp only [stackedRow]; omega)) ..).trans ?_
    rw [placed_at i g hg hi x4 _ _ (fun q l _ => load_cols arg6 harg6 x4 0 (by omega) _ q l) (fun q l _ => load_cols arg6 harg6 x4 128 (by omega) _ q l), queries_at x0 _ _ _ _ (load_cols arg2 harg2 x0 0 (by omega) _) (load_cols arg2 harg2 x0 128 (by omega) _) (load_cols arg2 harg2 x0 256 (by omega) _) (load_cols arg2 harg2 x0 384 (by omega) _)]
  · intro h
    refine (point_q (hdl := delta_at i g hg hi x3 x4 _ _ _ _ (fun q l _ => load_cols arg6 harg6 x4 0 (by omega) _ q l) (fun q l _ => load_cols arg6 harg6 x4 128 (by omega) _ q l) (fun q l _ => load_cols arg5 harg5 x3 0 (by omega) _ q l) (fun q l _ => load_cols arg5 harg5 x3 128 (by omega) _ q l)) (hls := logsum_at x5 hx _ _ _ _ (load_head arg7 harg7 x5 0 _) (load_head arg7 harg7 x5 1 _) (load_head arg7 harg7 x5 2 _) (load_head arg7 harg7 x5 3 _)) (hN := trips_eq) (hy := rows_idx 1024 _ q (lane l) (stackedRow q l) (by simp only [stackedRow]; omega)) ..).trans ?_
    rw [placed_at i g hg hi x4 _ _ (fun q l _ => load_cols arg6 harg6 x4 0 (by omega) _ q l) (fun q l _ => load_cols arg6 harg6 x4 128 (by omega) _ q l), queries_at x0 _ _ _ _ (load_cols arg2 harg2 x0 0 (by omega) _) (load_cols arg2 harg2 x0 128 (by omega) _) (load_cols arg2 harg2 x0 256 (by omega) _) (load_cols arg2 harg2 x0 384 (by omega) _)]
  · intro h
    refine (point_q (hdl := delta_at i g hg hi x3 x4 _ _ _ _ (fun q l _ => load_cols arg6 harg6 x4 0 (by omega) _ q l) (fun q l _ => load_cols arg6 harg6 x4 128 (by omega) _ q l) (fun q l _ => load_cols arg5 harg5 x3 0 (by omega) _ q l) (fun q l _ => load_cols arg5 harg5 x3 128 (by omega) _ q l)) (hls := logsum_at x5 hx _ _ _ _ (load_head arg7 harg7 x5 0 _) (load_head arg7 harg7 x5 1 _) (load_head arg7 harg7 x5 2 _) (load_head arg7 harg7 x5 3 _)) (hN := trips_eq) (hy := rows_idx 512 _ q (lane l) (stackedRow q l) (by simp only [stackedRow]; omega)) ..).trans ?_
    rw [placed_at i g hg hi x4 _ _ (fun q l _ => load_cols arg6 harg6 x4 0 (by omega) _ q l) (fun q l _ => load_cols arg6 harg6 x4 128 (by omega) _ q l), queries_at x0 _ _ _ _ (load_cols arg2 harg2 x0 0 (by omega) _) (load_cols arg2 harg2 x0 128 (by omega) _) (load_cols arg2 harg2 x0 256 (by omega) _) (load_cols arg2 harg2 x0 384 (by omega) _)]
  · intro h
    refine (point_q (hdl := delta_at i g hg hi x3 x4 _ _ _ _ (fun q l _ => load_cols arg6 harg6 x4 0 (by omega) _ q l) (fun q l _ => load_cols arg6 harg6 x4 128 (by omega) _ q l) (fun q l _ => load_cols arg5 harg5 x3 0 (by omega) _ q l) (fun q l _ => load_cols arg5 harg5 x3 128 (by omega) _ q l)) (hls := logsum_at x5 hx _ _ _ _ (load_head arg7 harg7 x5 0 _) (load_head arg7 harg7 x5 1 _) (load_head arg7 harg7 x5 2 _) (load_head arg7 harg7 x5 3 _)) (hN := trips_eq) (hy := rows_idx 0 _ q (lane l) (stackedRow q l) (by simp only [stackedRow]; omega)) ..).trans ?_
    rw [placed_at i g hg hi x4 _ _ (fun q l _ => load_cols arg6 harg6 x4 0 (by omega) _ q l) (fun q l _ => load_cols arg6 harg6 x4 128 (by omega) _ q l), queries_at x0 _ _ _ _ (load_cols arg2 harg2 x0 0 (by omega) _) (load_cols arg2 harg2 x0 128 (by omega) _) (load_cols arg2 harg2 x0 256 (by omega) _) (load_cols arg2 harg2 x0 384 (by omega) _)]

end Cert.Grad
-- ==== Proof.Blocks.lean ====
/- The blocks the grid points see, read off the arrays: point `t` is group `t / 16` and query block `t % 16`. -/
module

public import proofs.«01_k».proof.Proof.Point
public import Idealize.ShloMosaic.Lib.Pipeline.ValueKit

@[expose] public section

set_option maxRecDepth 16384

noncomputable section

namespace Cert.Grad

open Cert.KernelIdeal Cert.KernelIdeal.Gen Idealize.ShloMosaic Idealize.ShloMosaic.TcCoe
open Idealize.SL.Sem

/-- The group a point works on. -/
def grp (t : Fin cfg0.N) : Fin 2 := ⟨t.val / 16, by have := t.isLt; have : cfg0.N = 32 := N_0; omega⟩
/-- The query block a point works on. -/
def qblk (t : Fin cfg0.N) : Fin 16 := ⟨t.val % 16, by omega⟩
/-- A query of a point's block among all queries. -/
def qrow (t : Fin cfg0.N) (q : Fin 512) : Fin 8448 := ⟨512 * (qblk t).val + q.val, by have := (qblk t).isLt; omega⟩

theorem coord0 : ∀ t : Fin cfg0.N, ((grid0.coords t) 0).val = t.val / 16 := by decide +kernel

theorem place0 : ∀ t : Fin cfg0.N, (cfg0.win 0).index t (0 : Fin 2) = t.val % 16 ∧ (cfg0.win 0).index t (1 : Fin 2) = t.val / 16 := by decide +kernel
theorem place1 : ∀ t : Fin cfg0.N, (cfg0.win 1).index t (0 : Fin 2) = 0 ∧ (cfg0.win 1).index t (1 : Fin 2) = 0 := by decide +kernel
theorem place2 : ∀ t : Fin cfg0.N, (cfg0.win 2).index t (0 : Fin 2) = 0 ∧ (cfg0.win 2).index t (1 : Fin 2) = 5 := by decide +kernel
theorem place3 : ∀ t : Fin cfg0.N, (cfg0.win 3).index t (0 : Fin 2) = t.val % 16 ∧ (cfg0.win 3).index t (1 : Fin 2) = t.val / 16 := by decide +kernel
theorem place4 : ∀ t : Fin cfg0.N, (cfg0.win 4).index t (0 : Fin 2) = t.val % 16 ∧ (cfg0.win 4).index t (1 : Fin 2) = t.val / 16 := by decide +kernel
theorem place5 : ∀ t : Fin cfg0.N, (cfg0.win 5).index t (0 : Fin 3) = t.val / 16 ∧ (cfg0.win 5).index t (1 : Fin 3) = t.val % 16 ∧ (cfg0.win 5).index t (2 : Fin 3) = 0 := by decide +kernel
theorem place6 : ∀ t : Fin cfg0.N, (cfg0.win 6).index t (0 : Fin 2) = t.val % 16 ∧ (cfg0.win 6).index t (1 : Fin 2) = t.val / 16 := by decide +kernel

variable (m : (ℓ : Loc nD τ sig) → Buf (Elt Ideal) ℓ) (c : Dev nD) (t : Fin cfg0.N)

/-- The block of the queries. -/
theorem block0 (q l : Fin 512) : X0_0 m c t (ix2 q l) = V m c main_v52 (ix2 (qrow t q) (⟨512 * (grp t).val + l.val, by have := (qblk t).isLt; have := (grp t).isLt; omega⟩ : Fin 1024)) := by
  unfold X0_0 Pipeline.Window.fill
  rw [dif_pos (moved0_0 t _)]
  obtain ⟨e0, e1⟩ := place0 t
  blk_ext [iblk, e0, e1, qrow, qblk, grp]

/-- The block of the attention output. -/
theorem block3 (q : Fin 512) (l : Fin 256) : X0_3 m c t (ix2 q l) = V m c main_v32 (ix2 (qrow t q) (⟨256 * (grp t).val + l.val, by have := (qblk t).isLt; have := (grp t).isLt; omega⟩ : Fin 512)) := by
  unfold X0_3 Pipeline.Window.fill
  rw [dif_pos (moved0_3 t _)]
  obtain ⟨e0, e1⟩ := place3 t
  blk_ext [iblk, e0, e1, qrow, qblk, grp]

/-- The block of the output gradient. -/
theorem block4 (q : Fin 512) (l : Fin 256) : X0_4 m c t (ix2 q l) = V m c main_arg3 (ix2 (qrow t q) (⟨256 * (grp t).val + l.val, by have := (qblk t).isLt; have := (grp t).isLt; omega⟩ : Fin 512)) := by
  unfold X0_4 Pipeline.Window.fill
  rw [dif_pos (moved0_4 t _)]
  obtain ⟨e0, e1⟩ := place4 t
  blk_ext [iblk, e0, e1, qrow, qblk, grp]

/-- The block of the log-sums. -/
theorem block5 (h : Fin 4) (q : Fin 512) (l : Fin 128) : X0_5 m c t (ix3 h q l) = V m c main_v38 (ix3 (⟨4 * (grp t).val + h.val, by have := (qblk t).isLt; have := (grp t).isLt; omega⟩ : Fin 8) (qrow t q) l) := by
  unfold X0_5 Pipeline.Window.fill
  rw [dif_pos (moved0_5 t _)]
  obtain ⟨e0, e1, e2⟩ := place5 t
  blk_ext [iblk, e0, e1, e2, qrow, qblk, grp]

/-- Every point sees all keys. -/
theorem block1 (j : Fin 8448) (l : Fin 128) : iblk m c 1 t (ix2 j l) = V m c main_arg1 (ix2 j l) := by
  obtain ⟨e0, e1⟩ := place1 t
  blk_ext [iblk, e0, e1]

/-- Every point sees all values: the last 128 of the 768 columns. -/
theorem block2 (j : Fin 8448) (l : Fin 128) : iblk m c 2 t (ix2 j l) = V m c main_arg2 (ix2 j (⟨640 + l.val, by omega⟩ : Fin 768)) := by
  obtain ⟨e0, e1⟩ := place2 t
  blk_ext [iblk, e0, e1]

end Cert.Grad
-- ==== Proof.Heads.lean ====
/- Names for the places of the arrays: a latent row, a head's columns, a group's columns; and the two float constants. -/
module

public import proofs.«01_k».proof.Proof.Blocks

@[expose] public section

noncomputable section

namespace Cert.Grad

open Idealize.ShloMosaic

/-- A latent row among all rows. -/
def latent (s : Fin 8192) : Fin 8448 := ⟨s.val, Nat.lt_trans s.isLt (by decide)⟩
/-- Lane `d` of head `r` of group `g` among the columns of q. -/
def qcol (g : Fin 2) (r : Fin 4) (d : Fin 64) : Fin 512 := ⟨g.val * 256 + r.val * 64 + d.val, by omega⟩
/-- Lane `d` of group `g` among the columns of k. -/
def kcol (g : Fin 2) (d : Fin 64) : Fin 128 := ⟨g.val * 64 + d.val, by omega⟩
/-- Lane `d` of group `g` among the columns of the values: they follow 640 columns of q and k. -/
def vcol (g : Fin 2) (d : Fin 64) : Fin 768 := ⟨640 + (g.val * 64 + d.val), by omega⟩
/-- The group of a column of k. -/
def grpOf (b : Fin 128) : Fin 2 := ⟨b.val / 64, by omega⟩
/-- The lane of a column of k. -/
def laneOf (b : Fin 128) : Fin 64 := ⟨b.val % 64, by omega⟩
/-- The scale of the scores. -/
def eighth : EReal := Ideal.ofBits .f32 0x3E000000#32
/-- Where a maximum starts. -/
def negInf : EReal := Ideal.ofBits .f32 0xFF800000#32

end Cert.Grad
-- ==== Proof.RefDef.lean ====
/- The reference's gradients in named steps, and each step at an index. -/
module

public import proofs.«01_k».proof.Proof.Gen.ReferenceIdeal.Run
public import proofs.«01_k».proof.Proof.Heads
public import Idealize.ShloMosaic.Lib.Tactic.CleanTypes

@[expose] public section

set_option maxRecDepth 16384

noncomputable section

namespace Cert.Grad

open Cert.ReferenceIdeal Cert.ReferenceIdeal.Gen Cert.ReferenceIdeal.Value Idealize.ShloMosaic Idealize.ShloMosaic.TcCoe
open Idealize.SL.Sem

/-- The latent queries by group, head, row and lane. -/
def headsQ (x0 : FVec Ideal S8448x512 .bf16) : FVec Ideal S1x2x4x8192x64 .f32 :=
  broadcastInDim S1x2x4x8192x64 ![1, 2, 3, 4] bcast_S2x4x8192x64_S1x2x4x8192x64_1_2_3_4 (transpose S2x4x8192x64 [1, 2, 0, 3] (shapeCast S8192x2x4x64 (extf .f32 (extractStridedSlice S8192x512 ![0, 0] x0 slices_S8448x512_S8192x512_0_0) bitsLt_bf16_f32) shapeCasts_S8192x512_S8192x2x4x64) transposes_S8192x2x4x64_S2x4x8192x64_1_2_0_3)
/-- The keys by group, row and lane. -/
def headsK (x1 : FVec Ideal S8448x128 .bf16) : FVec Ideal S1x2x8448x64 .f32 :=
  broadcastInDim S1x2x8448x64 ![1, 2, 3] bcast_S2x8448x64_S1x2x8448x64_1_2_3 (transpose S2x8448x64 [1, 0, 2] (shapeCast S8448x2x64 (extf .f32 x1 bitsLt_bf16_f32) shapeCasts_S8448x128_S8448x2x64) transposes_S8448x2x64_S2x8448x64_1_0_2)
/-- The values by group, row and lane. -/
def headsV (x2 : FVec Ideal S8448x768 .bf16) : FVec Ideal S1x2x8448x64 .f32 :=
  broadcastInDim S1x2x8448x64 ![1, 2, 3] bcast_S2x8448x64_S1x2x8448x64_1_2_3 (transpose S2x8448x64 [1, 0, 2] (shapeCast S8448x2x64 (extf .f32 (extractStridedSlice S8448x128 ![0, 640] x2 slices_S8448x768_S8448x128_0_640) bitsLt_bf16_f32) shapeCasts_S8448x128_S8448x2x64) transposes_S8448x2x64_S2x8448x64_1_0_2)
/-- The output gradient by group, head, row and lane. -/
def headsD (x3 : FVec Ideal S8448x512 .bf16) : FVec Ideal S1x2x4x8192x64 .f32 :=
  broadcastInDim S1x2x4x8192x64 ![1, 2, 3, 4] bcast_S2x4x8192x64_S1x2x4x8192x64_1_2_3_4 (transpose S2x4x8192x64 [1, 2, 0, 3] (shapeCast S8192x2x4x64 (extf .f32 (extractStridedSlice S8192x512 ![0, 0] x3 slices_S8448x512_S8192x512_0_0) bitsLt_bf16_f32) shapeCasts_S8192x512_S8192x2x4x64) transposes_S8192x2x4x64_S2x4x8192x64_1_2_0_3)
/-- The scaled scores. -/
def scores (qh : FVec Ideal S1x2x4x8192x64 .f32) (kh : FVec Ideal S1x2x8448x64 .f32) : FVec Ideal S1x2x4x8192x8448 .f32 :=
  mulf (Host.dotGeneral dot_S1x2x4x8192x64_S1x2x8448x64_S1x2x4x8192x8448_4_3_23_2_01_01 none qh kh) (broadcastInDim S1x2x4x8192x8448 ![] bcast_S_S1x2x4x8192x8448 (constant S_ .f32 0x3E000000#32))
/-- The largest score of a row. -/
def rowTop (sc : FVec Ideal S1x2x4x8192x8448 .f32) : FVec Ideal S1x2x4x8192 .f32 :=
  maximumf (broadcastInDim S1x2x4x8192 ![] bcast_S_S1x2x4x8192 (constant S_ .f32 0xFF800000#32)) (Host.reduce FloatOps.maximumf sc (constant S_ .f32 0xFF800000#32) reducesTo_S1x2x4x8192x8448_S1x2x4x8192_d4 h_S_)
/-- The shifted exponentials. -/
def expo (sc : FVec Ideal S1x2x4x8192x8448 .f32) (mx : FVec Ideal S1x2x4x8192 .f32) : FVec Ideal S1x2x4x8192x8448 .f32 :=
  Host.exp (subf sc (broadcastInDim S1x2x4x8192x8448 ![0, 1, 2, 3, 4] bcast_S1x2x4x8192x1_S1x2x4x8192x8448_0_1_2_3_4 (broadcastInDim S1x2x4x8192x1 ![0, 1, 2, 3] bcast_S1x2x4x8192_S1x2x4x8192x1_0_1_2_3 mx)))
/-- A row's sum of exponentials. -/
def rowMass (ex : FVec Ideal S1x2x4x8192x8448 .f32) : FVec Ideal S1x2x4x8192x1 .f32 :=
  broadcastInDim S1x2x4x8192x1 ![0, 1, 2, 3] bcast_S1x2x4x8192_S1x2x4x8192x1_0_1_2_3 (Host.reduceAdd ex (constant S_ .f32 0x00000000#32) reducesTo_S1x2x4x8192x8448_S1x2x4x8192_d4 h_S_)
/-- The softmax. -/
def softm (ex : FVec Ideal S1x2x4x8192x8448 .f32) (ll : FVec Ideal S1x2x4x8192x1 .f32) : FVec Ideal S1x2x4x8192x8448 .f32 :=
  Host.divf ex (broadcastInDim S1x2x4x8192x8448 ![0, 1, 2, 3, 4] bcast_S1x2x4x8192x1_S1x2x4x8192x8448_0_1_2_3_4 ll)
/-- The gradient of the softmax's values. -/
def dprob (vh : FVec Ideal S1x2x8448x64 .f32) (dh : FVec Ideal S1x2x4x8192x64 .f32) : FVec Ideal S1x2x4x8192x8448 .f32 :=
  Host.dotGeneral dot_S1x2x4x8192x64_S1x2x8448x64_S1x2x4x8192x8448_4_3_23_2_01_01 none dh vh
/-- One over the squared sum. -/
def invSq (ll : FVec Ideal S1x2x4x8192x1 .f32) : FVec Ideal S1x2x4x8192x1 .f32 :=
  Host.divf (broadcastInDim S1x2x4x8192x1 ![] bcast_S_S1x2x4x8192x1 (constant S_ .f32 0x3F800000#32)) (mulf ll ll)
/-- Minus the row's sum of gradient times exponential over the squared sum. -/
def rowDot (ex : FVec Ideal S1x2x4x8192x8448 .f32) (dp : FVec Ideal S1x2x4x8192x8448 .f32) (iv : FVec Ideal S1x2x4x8192x1 .f32) : FVec Ideal S1x2x4x8192x1 .f32 :=
  Host.negf (shapeCast S1x2x4x8192x1 (Host.reduceAdd (mulf (mulf dp (broadcastInDim S1x2x4x8192x8448 ![0, 1, 2, 3, 4] bcast_S1x2x4x8192x1_S1x2x4x8192x8448_0_1_2_3_4 iv)) ex) (constant S_ .f32 0x00000000#32) reducesTo_S1x2x4x8192x8448_S1x2x4x8192_d4 h_S_) shapeCasts_S1x2x4x8192_S1x2x4x8192x1)
/-- The gradient of the unscaled scores. -/
def dscores (ex : FVec Ideal S1x2x4x8192x8448 .f32) (ll : FVec Ideal S1x2x4x8192x1 .f32) (dp : FVec Ideal S1x2x4x8192x8448 .f32) (rd : FVec Ideal S1x2x4x8192x1 .f32) : FVec Ideal S1x2x4x8192x8448 .f32 :=
  mulf (mulf (addf (Host.divf dp (broadcastInDim S1x2x4x8192x8448 ![0, 1, 2, 3, 4] bcast_S1x2x4x8192x1_S1x2x4x8192x8448_0_1_2_3_4 ll)) (broadcastInDim S1x2x4x8192x8448 ![0, 1, 2, 3] bcast_S1x2x4x8192_S1x2x4x8192x8448_0_1_2_3 (broadcastInDim S1x2x4x8192 ![1, 2, 3] bcast_S2x4x8192_S1x2x4x8192_1_2_3 (Host.reduceAdd rd (constant S_ .f32 0x00000000#32) reducesTo_S1x2x4x8192x1_S2x4x8192_d0_4 h_S_)))) ex) (broadcastInDim S1x2x4x8192x8448 ![] bcast_S_S1x2x4x8192x8448 (constant S_ .f32 0x3E000000#32))
/-- The reference's dv. -/
def refDv (dh : FVec Ideal S1x2x4x8192x64 .f32) (pp : FVec Ideal S1x2x4x8192x8448 .f32) : FVec Ideal S8448x128 .f32 :=
  shapeCast S8448x128 (transpose S8448x2x64 [1, 0, 2] (Host.reduceAdd (transpose S1x2x8448x64 [0, 1, 3, 2] (Host.dotGeneral dot_S1x2x4x8192x64_S1x2x4x8192x8448_S1x2x64x8448_23_23_4_4_01_01 none dh pp) transposes_S1x2x64x8448_S1x2x8448x64_0_1_3_2) (constant S_ .f32 0x00000000#32) reducesTo_S1x2x8448x64_S2x8448x64_d0 h_S_) transposes_S2x8448x64_S8448x2x64_1_0_2) shapeCasts_S8448x2x64_S8448x128
/-- The reference's dk. -/
def refDk (qh : FVec Ideal S1x2x4x8192x64 .f32) (ds : FVec Ideal S1x2x4x8192x8448 .f32) : FVec Ideal S8448x128 .f32 :=
  shapeCast S8448x128 (transpose S8448x2x64 [1, 0, 2] (Host.reduceAdd (Host.dotGeneral dot_S1x2x4x8192x8448_S1x2x4x8192x64_S1x2x8448x64_23_23_4_4_01_01 none ds qh) (constant S_ .f32 0x00000000#32) reducesTo_S1x2x8448x64_S2x8448x64_d0 h_S_) transposes_S2x8448x64_S8448x2x64_1_0_2) shapeCasts_S8448x2x64_S8448x128
/-- The reference's dq. -/
def refDq (kh : FVec Ideal S1x2x8448x64 .f32) (ds : FVec Ideal S1x2x4x8192x8448 .f32) : FVec Ideal S8192x2x4x64 .f32 :=
  shapeCast S8192x2x4x64 (shapeCast S8192x512 (transpose S8192x2x4x64 [2, 0, 1, 3] (Host.reduceAdd (Host.dotGeneral dot_S1x2x4x8192x8448_S1x2x8448x64_S1x2x4x8192x64_4_2_23_3_01_01 none ds kh) (constant S_ .f32 0x00000000#32) reducesTo_S1x2x4x8192x64_S2x4x8192x64_d0 h_S_) transposes_S2x4x8192x64_S8192x2x4x64_2_0_1_3) shapeCasts_S8192x2x4x64_S8192x512) shapeCasts_S8192x512_S8192x2x4x64

end Cert.Grad
-- ==== Proof.HostDef.lean ====
/- What the kernel's host code prepares, in named steps: the attention's output, the log of each row's sum of
   exponentials, and the queries scaled and packed a head to 128 lanes. -/
module

public import proofs.«01_k».proof.Proof.RefDef
public import proofs.«01_k».proof.Proof.Blocks
public import Idealize.ShloMosaic.Lib.StableHlo.RunRead

@[expose] public section

set_option maxRecDepth 16384

noncomputable section

namespace Cert.Grad

open Cert.KernelIdeal Cert.KernelIdeal.Gen Idealize.ShloMosaic Idealize.ShloMosaic.TcCoe
open Idealize.SL.Sem

/-- The largest score of a row, as the kernel's host code takes it. -/
def hostTop (sc : FVec Ideal S1x2x4x8192x8448 .f32) : FVec Ideal S1x2x4x8192 .f32 :=
  Host.reduce FloatOps.maximumf sc (constant S_ .f32 0xFF800000#32) reducesTo_S1x2x4x8192x8448_S1x2x4x8192_d4 h_S_
/-- The largest score plus the log of the sum, by head and row. -/
def hostLse (t : FVec Ideal S1x2x4x8192 .f32) (l : FVec Ideal S1x2x4x8192x1 .f32) : FVec Ideal S8x8192x1 .f32 :=
  shapeCast S8x8192x1 (addf (broadcastInDim S1x2x4x8192x1 ![0, 1, 2, 3] bcast_S1x2x4x8192_S1x2x4x8192x1_0_1_2_3 t) (Host.log l))
    shapeCasts_S1x2x4x8192x1_S8x8192x1
/-- The attention's output, heads side by side. -/
def hostOut (p : FVec Ideal S1x2x4x8192x8448 .f32) (vh : FVec Ideal S1x2x8448x64 .f32) : FVec Ideal S8192x512 .bf16 :=
  truncf .bf16 (shapeCast S8192x512 (transpose S8192x2x4x64 [2, 0, 1, 3]
    (shapeCast S2x4x8192x64 (Host.dotGeneral dot_S1x2x4x8192x8448_S1x2x8448x64_S1x2x4x8192x64_4_2_23_3_01_01 none p vh)
      shapeCasts_S1x2x4x8192x64_S2x4x8192x64) transposes_S2x4x8192x64_S8192x2x4x64_2_0_1_3) shapeCasts_S8192x2x4x64_S8192x512) bitsLt_bf16_f32
/-- The scaled queries by group and head. -/
def hostScaled (x : FVec Ideal S8448x512 .bf16) : FVec Ideal S8448x2x4x64 .bf16 :=
  shapeCast S8448x2x4x64 (truncf .bf16 (mulf (extf .f32 x bitsLt_bf16_f32)
    (broadcastInDim S8448x512 ![] bcast_S_S8448x512 (constant S_ .f32 0x3E000000#32))) bitsLt_bf16_f32) shapeCasts_S8448x512_S8448x2x4x64
/-- The scaled queries of the first group. -/
def hostFirst (x : FVec Ideal S8448x2x4x64 .bf16) : FVec Ideal S8448x4x64 .bf16 :=
  shapeCast S8448x4x64 (extractStridedSlice S8448x1x4x64 ![0, 0, 0, 0] x slices_S8448x2x4x64_S8448x1x4x64_0_0_0_0) shapeCasts_S8448x1x4x64_S8448x4x64
/-- The scaled queries of the second group. -/
def hostSecond (x : FVec Ideal S8448x2x4x64 .bf16) : FVec Ideal S8448x4x64 .bf16 :=
  shapeCast S8448x4x64 (extractStridedSlice S8448x1x4x64 ![0, 1, 0, 0] x slices_S8448x2x4x64_S8448x1x4x64_0_1_0_0) shapeCasts_S8448x1x4x64_S8448x4x64
/-- Zero lanes. -/
def hostZero : FVec Ideal S8448x4x64 .bf16 := broadcastInDim S8448x4x64 ![] bcast_S_S8448x4x64 (constant S_ .bf16 0x0000#16)
/-- Two halves of 64 lanes side by side. -/
def hostPair (a b : FVec Ideal S8448x4x64 .bf16) : FVec Ideal S8448x4x128 .bf16 :=
  concatenate S8448x4x128 2 [⟨S8448x4x64, a⟩, ⟨S8448x4x64, b⟩] concatenates_S8448x4x64_S8448x4x64_S8448x4x128_d2
/-- The heads of both groups, 128 lanes each, side by side. -/
def hostPacked (a b : FVec Ideal S8448x4x128 .bf16) : FVec Ideal S8448x1024 .bf16 :=
  shapeCast S8448x1024 (concatenate S8448x8x128 1 [⟨S8448x4x128, a⟩, ⟨S8448x4x128, b⟩] concatenates_S8448x4x128_S8448x4x128_S8448x8x128_d1)
    shapeCasts_S8448x8x128_S8448x1024

section Reads

variable (m : (ℓ : Loc nD τ sig) → Buf (Elt Ideal) ℓ) (c : Dev nD)

/-- The argument of queries. -/
abbrev argQ : FVec Ideal S8448x512 .bf16 := m ((c : Thread nD τ).loc main_arg0)
/-- The argument of keys. -/
abbrev argK : FVec Ideal S8448x128 .bf16 := m ((c : Thread nD τ).loc main_arg1)
/-- The argument whose last columns are the values. -/
abbrev argG : FVec Ideal S8448x768 .bf16 := m ((c : Thread nD τ).loc main_arg2)
/-- The argument of the output's gradient. -/
abbrev argD : FVec Ideal S8448x512 .bf16 := m ((c : Thread nD τ).loc main_arg3)

/-- The scores of the arguments. -/
def kScores : FVec Ideal S1x2x4x8192x8448 .f32 := scores (headsQ (argQ m c)) (headsK (argK m c))
/-- The shifted exponentials of the arguments. -/
def kExpo : FVec Ideal S1x2x4x8192x8448 .f32 := expo (kScores m c) (hostTop (kScores m c))

theorem read_out : StableHlo.upto [hostOps0].flatten (fun b => m (c, b)) 36 (Proc.tc.devRef main_v30)
    = hostOut (softm (kExpo m c) (rowMass (kExpo m c))) (headsV (argG m c)) := by
  after_reads_simp
  rfl
theorem read_lse : StableHlo.upto [hostOps0].flatten (fun b => m (c, b)) 42 (Proc.tc.devRef main_v35)
    = hostLse (hostTop (kScores m c)) (rowMass (kExpo m c)) := by
  after_reads_simp
  rfl
theorem read_v47 : StableHlo.upto [hostOps0].flatten (fun b => m (c, b)) 58 (Proc.tc.devRef main_v47)
    = hostPair (hostFirst (hostScaled (argQ m c))) hostZero := by
  after_reads_simp
  exact congrArg₂ hostPair (by after_reads_simp; rfl) (by after_reads_simp; rfl)
theorem read_v50 : StableHlo.upto [hostOps0].flatten (fun b => m (c, b)) 58 (Proc.tc.devRef main_v50)
    = hostPair hostZero (hostSecond (hostScaled (argQ m c))) := by
  after_reads_simp
  exact congrArg₂ hostPair (by after_reads_simp; rfl) (by after_reads_simp; rfl)
theorem read_v52 : V m c main_v52 = hostPacked (hostPair (hostFirst (hostScaled (argQ m c))) hostZero)
    (hostPair hostZero (hostSecond (hostScaled (argQ m c)))) := by
  unfold V V0
  after_reads_simp
  exact congrArg₂ hostPacked (read_v47 m c) (read_v50 m c)
theorem read_v38 : ∃ z : FVec Ideal S8x256x1 .f32, V m c main_v38 = broadcastInDim S8x8448x128 ![0, 1, 2] bcast_S8x8448x1_S8x8448x128_0_1_2
    (concatenate S8x8448x1 1 [⟨S8x8192x1, hostLse (hostTop (kScores m c)) (rowMass (kExpo m c))⟩, ⟨S8x256x1, z⟩]
      concatenates_S8x8192x1_S8x256x1_S8x8448x1_d1) := by
  refine ⟨StableHlo.upto [hostOps0].flatten (fun b => m (c, b)) 42 (Proc.tc.devRef main_v36), ?_⟩
  unfold V V0
  after_reads_simp
  rw [read_lse]
theorem read_v32 : ∃ z : FVec Ideal S256x512 .bf16, V m c main_v32 = concatenate S8448x512 0
    [⟨S8192x512, hostOut (softm (kExpo m c) (rowMass (kExpo m c))) (headsV (argG m c))⟩, ⟨S256x512, z⟩]
      concatenates_S8192x512_S256x512_S8448x512_d0 := by
  refine ⟨StableHlo.upto [hostOps0].flatten (fun b => m (c, b)) 36 (Proc.tc.devRef main_v31), ?_⟩
  unfold V V0
  after_reads_simp
  rw [read_out]

end Reads

end Cert.Grad
-- ==== Proof.Fold.lean ====
/- The maximum along the last of five axes, at any sizes. -/
module

public import proofs.«01_k».proof.Proof.RefDef

@[expose] public section

noncomputable section

namespace Cert.Grad

open Idealize.ShloMosaic Idealize.ShloMosaic.TcCoe

/-- The maximum along the last of five axes is the fold of the maximum over it. -/
theorem fold_last {n0 n1 n2 n3 n4 : ℕ} {u : Shape}
    (h : (⟨5, ![n0, n1, n2, n3, n4]⟩ : Shape).ReducesTo [4] ⟨4, ![n0, n1, n2, n3]⟩)
    (x : FVec Ideal (⟨5, ![n0, n1, n2, n3, n4]⟩ : Shape) .f32) (init : FVec Ideal u .f32) (hu : 0 < u.numel)
    (a : Fin n0) (b : Fin n1) (c : Fin n2) (d : Fin n3) :
    Host.reduce (α := Ideal .f32) FloatOps.maximumf x init h hu (ix4 a b c d)
      = Finset.fold max (init (Shape.Idx.first hu)) (fun k : Fin n4 => x (ix5 a b c d k)) Finset.univ :=
  (Host.reduce_eq_fold (α := EReal) max x init h hu _).trans (h.fold_fiber_r5_a4 _ _ _ _)

end Cert.Grad
-- ==== Proof.RefAt.lean ====
/- Each step of the reference's gradients at an index. -/
module

public import proofs.«01_k».proof.Proof.Gen.ReferenceIdeal.Run
public import proofs.«01_k».proof.Proof.Fold
public import Idealize.ShloMosaic.Lib.Tactic.CleanTypes

@[expose] public section

set_option maxRecDepth 16384

noncomputable section

namespace Cert.Grad

open Cert.ReferenceIdeal Cert.ReferenceIdeal.Gen Cert.ReferenceIdeal.Value Idealize.ShloMosaic Idealize.ShloMosaic.TcCoe
open Idealize.SL.Sem

section At

variable (g : Fin 2) (r : Fin 4) (s : Fin 8192) (j : Fin 8448) (d : Fin 64)

theorem headsQ_at (x0) : headsQ x0 (ix5 (0 : Fin 1) g r s d) = x0 (ix2 (latent s) (qcol g r d)) := by
  unfold headsQ; pointwise; rfl
theorem headsD_at (x0) : headsD x0 (ix5 (0 : Fin 1) g r s d) = x0 (ix2 (latent s) (qcol g r d)) := by
  unfold headsD; pointwise; rfl
theorem headsK_at (x0) : headsK x0 (ix4 (0 : Fin 1) g j d) = x0 (ix2 j (kcol g d)) := by
  unfold headsK; pointwise; rfl
theorem headsV_at (x0) : headsV x0 (ix4 (0 : Fin 1) g j d) = x0 (ix2 j (vcol g d)) := by
  unfold headsV; pointwise; rfl
theorem scores_at (q k) : scores q k (ix5 (0 : Fin 1) g r s j) = (∑ d : Fin 64, q (ix5 (0 : Fin 1) g r s d) * k (ix4 (0 : Fin 1) g j d)) * eighth := by
  unfold scores; pointwise; rfl
theorem rowTop_at (x : FVec Ideal S1x2x4x8192x8448 .f32) : rowTop x (ix4 (0 : Fin 1) g r s)
    = max negInf (Finset.fold max negInf (fun j : Fin 8448 => x (ix5 (0 : Fin 1) g r s j)) Finset.univ) := by
  unfold rowTop
  rw [maximumf_apply, fold_last]
  rfl
theorem expo_at (x t) : expo x t (ix5 (0 : Fin 1) g r s j) = Ideal.exp (x (ix5 (0 : Fin 1) g r s j) - t (ix4 (0 : Fin 1) g r s)) := by
  unfold expo; pointwise
theorem rowMass_at (x) : rowMass x (ix5 (0 : Fin 1) g r s (0 : Fin 1)) = ∑ j : Fin 8448, x (ix5 (0 : Fin 1) g r s j) := by
  unfold rowMass; pointwise
theorem softm_at (x l) : softm x l (ix5 (0 : Fin 1) g r s j) = Ideal.div (x (ix5 (0 : Fin 1) g r s j)) (l (ix5 (0 : Fin 1) g r s (0 : Fin 1))) := by
  unfold softm; pointwise
theorem dprob_at (v d) : dprob v d (ix5 (0 : Fin 1) g r s j) = ∑ e : Fin 64, d (ix5 (0 : Fin 1) g r s e) * v (ix4 (0 : Fin 1) g j e) := by
  unfold dprob; pointwise
theorem invSq_at (l) : invSq l (ix5 (0 : Fin 1) g r s (0 : Fin 1)) = Ideal.div 1 (l (ix5 (0 : Fin 1) g r s (0 : Fin 1)) * l (ix5 (0 : Fin 1) g r s (0 : Fin 1))) := by
  unfold invSq; pointwise
theorem rowDot_at (x p i) : rowDot x p i (ix5 (0 : Fin 1) g r s (0 : Fin 1))
    = -∑ j : Fin 8448, p (ix5 (0 : Fin 1) g r s j) * i (ix5 (0 : Fin 1) g r s (0 : Fin 1)) * x (ix5 (0 : Fin 1) g r s j) := by
  unfold rowDot; pointwise
theorem refDv_at (d' p) (b : Fin 128) : refDv d' p (ix2 j b)
    = ∑ r : Fin 4, ∑ s : Fin 8192, d' (ix5 (0 : Fin 1) (grpOf b) r s (laneOf b)) * p (ix5 (0 : Fin 1) (grpOf b) r s j) := by
  unfold refDv; pointwise; rw [Fin.sum_univ_one]; rfl
theorem refDk_at (q p) (b : Fin 128) : refDk q p (ix2 j b)
    = ∑ r : Fin 4, ∑ s : Fin 8192, p (ix5 (0 : Fin 1) (grpOf b) r s j) * q (ix5 (0 : Fin 1) (grpOf b) r s (laneOf b)) := by
  unfold refDk; pointwise; rw [Fin.sum_univ_one]; rfl
theorem refDq_at (k p) : refDq k p (ix4 s g r d)
    = ∑ j : Fin 8448, p (ix5 (0 : Fin 1) g r s j) * k (ix4 (0 : Fin 1) g j d) := by
  unfold refDq; pointwise; rw [Fin.sum_univ_one]
theorem sum_unit_axes (y : FVec Ideal S1x2x4x8192x1 .f32) :
    Ideal.hostReduceAdd reducesTo_S1x2x4x8192x1_S2x4x8192_d0_4 y 0 (ix3 g r s) = y (ix5 (0 : Fin 1) g r s (0 : Fin 1)) := by
  have key : ∀ i : S1x2x4x8192x1.Idx,
      reducesTo_S1x2x4x8192x1_S2x4x8192_d0_4.drop i = ix3 g r s ↔ i = ix5 (0 : Fin 1) g r s (0 : Fin 1) := by
    intro i
    constructor
    · intro h
      have h0 := congrArg Fin.val (congrFun h 0)
      have h1 := congrArg Fin.val (congrFun h 1)
      have h2 := congrArg Fin.val (congrFun h 2)
      funext a; apply Fin.ext
      match a with
      | ⟨0, _⟩ => exact congrArg Fin.val (Subsingleton.elim (α := Fin 1) (i 0) 0)
      | ⟨1, _⟩ => exact h0
      | ⟨2, _⟩ => exact h1
      | ⟨3, _⟩ => exact h2
      | ⟨4, _⟩ => exact congrArg Fin.val (Subsingleton.elim (α := Fin 1) (i 4) 0)
    · rintro rfl
      funext b; apply Fin.ext
      match b with
      | ⟨0, _⟩ => rfl
      | ⟨1, _⟩ => rfl
      | ⟨2, _⟩ => rfl
  unfold Ideal.hostReduceAdd
  rw [zero_add]
  simp only [key]
  rw [Finset.sum_filter, Finset.sum_ite_eq' Finset.univ _ y, if_pos (Finset.mem_univ _)]
theorem dscores_at (x l p y) : dscores x l p y (ix5 (0 : Fin 1) g r s j)
    = (Ideal.div (p (ix5 (0 : Fin 1) g r s j)) (l (ix5 (0 : Fin 1) g r s (0 : Fin 1))) + y (ix5 (0 : Fin 1) g r s (0 : Fin 1))) * x (ix5 (0 : Fin 1) g r s j) * eighth := by
  unfold dscores; pointwise; rw [sum_unit_axes]; rfl

end At

end Cert.Grad
-- ==== Proof.HostAt.lean ====
/- What the kernel's host code prepares, step by step at an index. -/
module

public import proofs.«01_k».proof.Proof.HostDef
public import proofs.«01_k».proof.Proof.RefAt

@[expose] public section

set_option maxRecDepth 16384

noncomputable section

namespace Cert.Grad

open Cert.KernelIdeal Cert.KernelIdeal.Gen Idealize.ShloMosaic Idealize.ShloMosaic.TcCoe
open Idealize.SL.Sem

/-- A head among all eight. -/
def headAt (g : Fin 2) (r : Fin 4) : Fin 8 := ⟨4 * g.val + r.val, by omega⟩

theorem ix3_eq {n0 n1 n2 : ℕ} (u : Fin n0) {b b' : Fin n1} {c c' : Fin n2} (hb : b.val = b'.val) (hc : c.val = c'.val) :
    ix3 u b c = ix3 u b' c' := by
  obtain rfl := Fin.ext hb
  obtain rfl := Fin.ext hc
  rfl

section At

variable (g : Fin 2) (r : Fin 4) (s : Fin 8192) (u : Fin 8448) (j : Fin 8448) (d : Fin 64)

theorem hostTop_at (x : FVec Ideal S1x2x4x8192x8448 .f32) : hostTop x (ix4 (0 : Fin 1) g r s)
    = Finset.fold max negInf (fun j : Fin 8448 => x (ix5 (0 : Fin 1) g r s j)) Finset.univ := by
  unfold hostTop
  rw [fold_last]
  rfl
theorem hostLse_at (t l) (z : Fin 1) : hostLse t l (ix3 (headAt g r) s z)
    = t (ix4 (0 : Fin 1) g r s) + Ideal.log (l (ix5 (0 : Fin 1) g r s (0 : Fin 1))) := by
  unfold hostLse headAt; pointwise
theorem hostOut_at (p v) : hostOut p v (ix2 s (qcol g r d))
    = ∑ j : Fin 8448, p (ix5 (0 : Fin 1) g r s j) * v (ix4 (0 : Fin 1) g j d) := by
  unfold hostOut qcol; pointwise
theorem hostScaled_at (x) : hostScaled x (ix4 u g r d) = x (ix2 u (qcol g r d)) * eighth := by
  unfold hostScaled; pointwise; rfl
theorem hostFirst_at (x) : hostFirst x (ix3 u r d) = x (ix4 u (0 : Fin 2) r d) := by
  unfold hostFirst; pointwise
theorem hostSecond_at (x) : hostSecond x (ix3 u r d) = x (ix4 u (1 : Fin 2) r d) := by
  unfold hostSecond; pointwise
theorem hostZero_at : hostZero (ix3 u r d) = 0 := by
  unfold hostZero; pointwise
theorem hostPair_at (a b) (l : Fin 128) : hostPair a b (ix3 u r l)
    = if h : l.val < 64 then a (ix3 u r (⟨l.val, h⟩ : Fin 64)) else b (ix3 u r (⟨l.val - 64, by omega⟩ : Fin 64)) := by
  unfold hostPair; pointwise
theorem hostPacked_at (a b) (l : Fin 128) (e : Fin 1024) (he : e.val = 512 * g.val + 128 * r.val + l.val) :
    hostPacked a b (ix2 u e) = if g.val = 0 then a (ix3 u r l) else b (ix3 u r l) := by
  unfold hostPacked; pointwise
  split
  · refine Eq.trans (congrArg a (ix3_eq u ?_ ?_)) (if_pos (by omega)).symm
    · show e.val / 128 = r.val; omega
    · show e.val % 128 = l.val; omega
  · refine Eq.trans (congrArg b (ix3_eq u ?_ ?_)) (if_neg (by omega)).symm
    · show e.val / 128 - 4 = r.val; omega
    · show e.val % 128 = l.val; omega

end At

end Cert.Grad
-- ==== Proof.Attn.lean ====
/- The attention of the latent rows and the quantities of its gradient, over the arrays of queries, keys, values and the
   output's gradient: a group `g` of keys serves four heads `r`, a latent row is `s`, a key is `j`. -/
module

public import proofs.«01_k».proof.Proof.Heads

@[expose] public section

noncomputable section

namespace Cert.Grad

open Idealize.ShloMosaic

/-- An array of queries, or of the output's gradient. -/
abbrev QArr := (⟨2, ![8448, 512]⟩ : Shape).Idx → EReal
/-- An array of keys. -/
abbrev KArr := (⟨2, ![8448, 128]⟩ : Shape).Idx → EReal
/-- An array of queries, keys and values side by side. -/
abbrev GArr := (⟨2, ![8448, 768]⟩ : Shape).Idx → EReal

variable (q : QArr) (k : KArr) (v : GArr) (y : QArr) (g : Fin 2) (r : Fin 4) (s : Fin 8192) (j : Fin 8448) (d : Fin 64)

/-- The scaled score of a row with a key. -/
def score : EReal := (∑ d : Fin 64, q (ix2 (latent s) (qcol g r d)) * k (ix2 j (kcol g d))) * eighth
/-- The largest score of a row. -/
def top : EReal := Finset.fold max negInf (fun j => score q k g r s j) Finset.univ
/-- The shifted exponential of a score. -/
def expd : EReal := Ideal.exp (score q k g r s j - top q k g r s)
/-- A row's sum of shifted exponentials. -/
def mass : EReal := ∑ j, expd q k g r s j
/-- The attention's output. -/
def outp : EReal := ∑ j, Ideal.div (expd q k g r s j) (mass q k g r s) * v (ix2 j (vcol g d))
/-- The log of a row's sum of exponentials. -/
def lse : EReal := top q k g r s + Ideal.log (mass q k g r s)
/-- The gradient of the softmax's value at a key: the output's gradient against the key's value row. -/
def dval : EReal := ∑ d : Fin 64, y (ix2 (latent s) (qcol g r d)) * v (ix2 j (vcol g d))

end Cert.Grad
-- ==== Proof.HostVal.lean ====
/- What the kernel's host code prepares, as the attention's quantities over the arguments. -/
module

public import proofs.«01_k».proof.Proof.HostAt
public import proofs.«01_k».proof.Proof.Attn

@[expose] public section

set_option maxRecDepth 16384

noncomputable section

namespace Cert.Grad

open Cert.KernelIdeal Cert.KernelIdeal.Gen Idealize.ShloMosaic Idealize.ShloMosaic.TcCoe
open Idealize.SL.Sem

variable (m : (ℓ : Loc nD τ sig) → Buf (Elt Ideal) ℓ) (c : Dev nD)
variable (g : Fin 2) (r : Fin 4) (s : Fin 8192) (u : Fin 8448) (j : Fin 8448) (d : Fin 64)

theorem kScores_eq : kScores m c (ix5 (0 : Fin 1) g r s j) = score (argQ m c) (argK m c) g r s j := by
  unfold kScores score
  rw [scores_at]
  simp only [headsQ_at, headsK_at]
theorem kTop_eq : hostTop (kScores m c) (ix4 (0 : Fin 1) g r s) = top (argQ m c) (argK m c) g r s := by
  rw [hostTop_at]
  simp only [kScores_eq]
  rfl
theorem kExpo_eq : kExpo m c (ix5 (0 : Fin 1) g r s j) = expd (argQ m c) (argK m c) g r s j := by
  unfold kExpo expd
  rw [expo_at, kScores_eq, kTop_eq]
theorem kMass_eq : rowMass (kExpo m c) (ix5 (0 : Fin 1) g r s (0 : Fin 1)) = mass (argQ m c) (argK m c) g r s := by
  unfold mass
  rw [rowMass_at]
  simp only [kExpo_eq]

/-- The packed queries: a head's lanes lie in the half of its group, the other half is zero. -/
theorem packed_eq (l : Fin 128) (e : Fin 1024) (he : e.val = 512 * g.val + 128 * r.val + l.val) :
    V m c main_v52 (ix2 u e)
      = if l.val / 64 = g.val then argQ m c (ix2 u (qcol g r ⟨l.val % 64, Nat.mod_lt _ (by decide)⟩)) * eighth else 0 := by
  rw [read_v52]
  refine (hostPacked_at g r u _ _ l e he).trans ?_
  rcases g with ⟨_ | _ | n, hn⟩
  · rw [if_pos rfl, hostPair_at]
    split
    · rw [if_pos (show l.val / 64 = (⟨0, hn⟩ : Fin 2).val from (by omega : l.val / 64 = 0)), hostFirst_at, hostScaled_at]
      exact congrArg (fun x => argQ m c (ix2 u (qcol 0 r x)) * eighth) (Fin.ext (by simp only []; omega))
    · rw [if_neg (show ¬ l.val / 64 = (⟨0, hn⟩ : Fin 2).val from (by omega : ¬ l.val / 64 = 0)), hostZero_at]
  · rw [if_neg (by simp), hostPair_at]
    split
    · rw [if_neg (show ¬ l.val / 64 = (⟨0 + 1, hn⟩ : Fin 2).val from (by omega : ¬ l.val / 64 = 1)), hostZero_at]
    · rw [if_pos (show l.val / 64 = (⟨0 + 1, hn⟩ : Fin 2).val from (by omega : l.val / 64 = 1)), hostSecond_at, hostScaled_at]
      exact congrArg (fun x => argQ m c (ix2 u (qcol 1 r x)) * eighth) (Fin.ext (by simp only []; omega))
  · omega

/-- The attention's output. -/
theorem out_eq (e : Fin 512) (he : e = qcol g r d) : V m c main_v32 (ix2 (latent s) e) = outp (argQ m c) (argK m c) (argG m c) g r s d := by
  subst he
  obtain ⟨z, hz⟩ := read_v32 m c
  rw [hz]
  have hc : ∀ x : FVec Ideal S8192x512 .bf16, (concatenate S8448x512 0 [⟨S8192x512, x⟩, ⟨S256x512, z⟩]
      concatenates_S8192x512_S256x512_S8448x512_d0 : FVec Ideal S8448x512 .bf16) (ix2 (latent s) (qcol g r d)) = x (ix2 s (qcol g r d)) := by
    intro x
    pointwise
    rw [dif_pos (show (latent s).val < 8192 from s.isLt)]
    rfl
  refine (hc _).trans ?_
  rw [hostOut_at]
  unfold outp
  simp only [softm_at, kExpo_eq, kMass_eq, headsV_at]

/-- The log of each row's sum of exponentials, on every lane. -/
theorem lse_eq (e : Fin 8) (he : e = headAt g r) (l : Fin 128) : V m c main_v38 (ix3 e (latent s) l) = lse (argQ m c) (argK m c) g r s := by
  subst he
  obtain ⟨z, hz⟩ := read_v38 m c
  rw [hz]
  have hc : ∀ x : FVec Ideal S8x8192x1 .f32, (broadcastInDim S8x8448x128 ![0, 1, 2] bcast_S8x8448x1_S8x8448x128_0_1_2
      (concatenate S8x8448x1 1 [⟨S8x8192x1, x⟩, ⟨S8x256x1, z⟩]
      concatenates_S8x8192x1_S8x256x1_S8x8448x1_d1) : FVec Ideal S8x8448x128 .f32) (ix3 (headAt g r) (latent s) l) = x (ix3 (headAt g r) s (0 : Fin 1)) := by
    intro x
    pointwise
    rw [dif_pos (show (latent s).val < 8192 from s.isLt)]
    rfl
  refine (hc _).trans ?_
  rw [hostLse_at, kTop_eq, kMass_eq]
  rfl

end Cert.Grad
-- ==== Proof.Terms.lean ====
/- What one grid point adds to the gradients, as the attention's quantities over the arguments. -/
module

public import proofs.«01_k».proof.Proof.HostVal
public import Idealize.ShloMosaic.Lib.Pipeline.ValueKit

@[expose] public section

set_option maxRecDepth 16384

noncomputable section

namespace Cert.Grad

open Cert.KernelIdeal Cert.KernelIdeal.Gen Idealize.ShloMosaic Idealize.ShloMosaic.TcCoe
open Idealize.SL.Sem

section Quantities

variable (q : QArr) (k : KArr) (v : GArr) (y : QArr) (g : Fin 2) (r : Fin 4) (s : Fin 8192) (j : Fin 8448)

/-- The softmax value the kernel computes: exp of the score of the scaled query less the row's log-sum. -/
def kprob : EReal := Ideal.exp (∑ d : Fin 64, q (ix2 (latent s) (qcol g r d)) * eighth * k (ix2 j (kcol g d)) - lse q k g r s)
/-- The row sum of the output's gradient times the output. -/
def kdelta : EReal := ∑ d : Fin 64, y (ix2 (latent s) (qcol g r d)) * outp q k v g r s d
/-- The gradient of a score, as the kernel computes it. -/
def kds : EReal := kprob q k g r s j * (dval v y g r s j - kdelta q k v y g r s)

end Quantities

/-- Lane `l` of 64. -/
def lane64 (l : Fin 128) : Fin 64 := ⟨l.val % 64, Nat.mod_lt _ (by decide)⟩

/-- A sum over 128 lanes of which only half `g` is not zero is the sum over that half's 64 lanes. -/
theorem half_sum (g : Fin 2) (A : Fin 64 → EReal) (B : Fin 128 → EReal) :
    ∑ l : Fin 128, (if l.val / 64 = g.val then A (lane64 l) else 0) * B l = ∑ d : Fin 64, A d * B (kcol g d) := by
  refine (Fin.sum_divmod_congr (A := 2) (S := 64) (f := fun a d => (if a.val = g.val then A d else 0) * B (kcol a d)) ?_).trans ?_
  · intro t ha hs
    refine congrArg₂ (· * ·) rfl (congrArg B (Fin.ext ?_))
    show t.val = t.val / 64 * 64 + t.val % 64
    omega
  · rw [Finset.sum_eq_single g]
    · simp only [if_true]
    · intro a _ hag
      refine Finset.sum_eq_zero fun d _ => ?_
      rw [if_neg (fun h => hag (Fin.ext h)), zero_mul]
    · intro h; exact absurd (Finset.mem_univ _) h

section Points

variable (m : (ℓ : Loc nD τ sig) → Buf (Elt Ideal) ℓ) (c : Dev nD) (t : Fin cfg0.N) (r : Fin 2048) (j : Fin 8448)

/-- The latent row of a stacked row at a point. -/
def rowAt (t : Fin cfg0.N) (r : Fin 2048) : Fin 8192 := ⟨t.val % 16 * 512 + r.val % 512, by omega⟩

theorem qrow_eq : qrow t (queryOf r) = latent (rowAt t r) := by
  refine Fin.ext ?_
  show 512 * (t.val % 16) + r.val % 512 = t.val % 16 * 512 + r.val % 512
  omega

theorem queries_eq (l : Fin 128) : queries (X0_0 m c t) (ix2 r l)
    = if l.val / 64 = (grp t).val then argQ m c (ix2 (latent (rowAt t r)) (qcol (grp t) (headOf r) (lane64 l))) * eighth else 0 := by
  refine (block0 m c t _ _).trans ?_
  refine (packed_eq m c (grp t) (headOf r) _ l _ ?_).trans ?_
  · show 512 * (grp t).val + (128 * (headOf r).val + l.val) = _
    omega
  · have e : qrow t (queryOf ((ix2 r l : S2048x128.Idx) 0)) = latent (rowAt t r) := qrow_eq t r
    rw [e]
    rfl

theorem placed_y (l : Fin 128) : placed (grp t).val (X0_4 m c t) (ix2 r l)
    = if l.val / 64 = (grp t).val then argD m c (ix2 (latent (rowAt t r)) (qcol (grp t) (headOf r) (lane64 l))) else 0 := by
  unfold placed
  refine if_congr Iff.rfl ?_ rfl
  refine (block4 m c t _ _).trans ?_
  rw [V_main_arg3]
  refine congrArg (argD m c) (congrArg₂ ix2 (qrow_eq t r) (Fin.ext ?_))
  show 256 * (grp t).val + (64 * (headOf r).val + l.val % 64) = (grp t).val * 256 + (headOf r).val * 64 + l.val % 64
  omega

theorem placed_o (l : Fin 128) : placed (grp t).val (X0_3 m c t) (ix2 r l)
    = if l.val / 64 = (grp t).val then outp (argQ m c) (argK m c) (argG m c) (grp t) (headOf r) (rowAt t r) (lane64 l) else 0 := by
  unfold placed
  refine if_congr Iff.rfl ?_ rfl
  refine (block3 m c t _ _).trans ?_
  have e : qrow t (queryOf ((ix2 r l : S2048x128.Idx) 0)) = latent (rowAt t r) := qrow_eq t r
  rw [e]
  refine out_eq m c (grp t) (headOf r) _ (lane64 l) _ (Fin.ext ?_)
  show 256 * (grp t).val + (64 * (headOf r).val + l.val % 64) = (grp t).val * 256 + (headOf r).val * 64 + l.val % 64
  omega

theorem logsum_eq (l : Fin 128) (h : Fin 4) (q : Fin 512) (hh : headOf r = h) (hq : queryOf r = q) : X0_5 m c t (ix3 h q l)
    = lse (argQ m c) (argK m c) (grp t) (headOf r) (rowAt t r) := by
  subst hh; subst hq
  refine (block5 m c t _ _ _).trans ?_
  rw [qrow_eq]
  exact lse_eq m c (grp t) (headOf r) _ _ (Fin.ext rfl) l

/-- Every lane of the block of log-sums is the same. -/
theorem lanes_same (h : Fin 4) (q : Fin 512) (l : Fin 128) : X0_5 m c t (ix3 h q l) = X0_5 m c t (ix3 h q (0 : Fin 128)) := by
  have h1 : headOf (⟨512 * h.val + q.val, by omega⟩ : Fin 2048) = h := Fin.ext (by show (512 * h.val + q.val) / 512 = h.val; omega)
  have h2 : queryOf (⟨512 * h.val + q.val, by omega⟩ : Fin 2048) = q := Fin.ext (by show (512 * h.val + q.val) % 512 = q.val; omega)
  rw [logsum_eq m c t _ l h q h1 h2, logsum_eq m c t _ 0 h q h1 h2]

theorem row_k (l : Fin 128) : row (iblk m c 1 t) j.val l = argK m c (ix2 j l) := by
  unfold row
  rw [dif_pos j.isLt]
  refine (block1 m c t _ _).trans ?_
  rw [V_main_arg1]

theorem row_v (l : Fin 128) : row (iblk m c 2 t) j.val l = argG m c (ix2 j (⟨640 + l.val, by omega⟩ : Fin 768)) := by
  unfold row
  rw [dif_pos j.isLt]
  refine (block2 m c t _ _).trans ?_
  rw [V_main_arg2]

theorem prob_eq : prob (queries (X0_0 m c t)) (logsum (X0_5 m c t)) (row (iblk m c 1 t) j.val) r
    = kprob (argQ m c) (argK m c) (grp t) (headOf r) (rowAt t r) j := by
  unfold prob kprob logsum
  rw [logsum_eq m c t r 0 _ _ rfl rfl]
  simp only [queries_eq, row_k]
  rw [half_sum (grp t) (fun d => argQ m c (ix2 (latent (rowAt t r)) (qcol (grp t) (headOf r) d)) * eighth)
    (fun l => argK m c (ix2 j l))]

theorem dscore_eq : dscore (queries (X0_0 m c t)) (placed (grp t).val (X0_4 m c t)) (delta (grp t).val (X0_3 m c t) (X0_4 m c t))
      (logsum (X0_5 m c t)) (row (iblk m c 1 t) j.val) (row (iblk m c 2 t) j.val) r
    = kds (argQ m c) (argK m c) (argG m c) (argD m c) (grp t) (headOf r) (rowAt t r) j := by
  unfold dscore kds
  rw [prob_eq]
  refine congrArg₂ (· * ·) rfl (congrArg₂ (· - ·) ?_ ?_)
  · simp only [placed_y, row_v]
    exact half_sum (grp t) (fun d => argD m c (ix2 (latent (rowAt t r)) (qcol (grp t) (headOf r) d)))
      (fun l => argG m c (ix2 j (⟨640 + l.val, by omega⟩ : Fin 768)))
  · unfold delta kdelta
    simp only [placed_y]
    refine (half_sum (grp t) (fun d => argD m c (ix2 (latent (rowAt t r)) (qcol (grp t) (headOf r) d)))
      (fun l => placed (grp t).val (X0_3 m c t) (ix2 r l))).trans (Finset.sum_congr rfl fun d _ => ?_)
    rw [placed_o, if_pos (show (kcol (grp t) d).val / 64 = (grp t).val by show ((grp t).val * 64 + d.val) / 64 = (grp t).val; omega)]
    refine congrArg (fun e => argD m c (ix2 (latent (rowAt t r)) (qcol (grp t) (headOf r) d))
      * outp (argQ m c) (argK m c) (argG m c) (grp t) (headOf r) (rowAt t r) e) (Fin.ext ?_)
    show ((grp t).val * 64 + d.val) % 64 = d.val
    omega

end Points

/-- A sum over the grid's points and their stacked rows is the sum over heads, groups and latent rows. -/
theorem sum_rows (F : Fin 2 → Fin 4 → Fin 8192 → EReal) :
    ∑ t : Fin cfg0.N, ∑ r : Fin 2048, F (grp t) (headOf r) (rowAt t r) = ∑ h : Fin 4, ∑ g : Fin 2, ∑ s : Fin 8192, F g h s := by
  have e : ∀ t : Fin cfg0.N, ∑ r : Fin 2048, F (grp t) (headOf r) (rowAt t r)
      = ∑ h : Fin 4, ∑ q : Fin 512, F (grp t) h ⟨t.val % 16 * 512 + q.val, by omega⟩ := fun t =>
    Fin.sum_divmod_congr (A := 4) (S := 512) (fun r ha hs => rfl)
  rw [Finset.sum_congr rfl fun t _ => e t, Finset.sum_comm]
  refine Finset.sum_congr rfl fun h _ => ?_
  exact Fin.sum_points_lanes_congr (A := 2) 16 (g := fun a l => F a h l) (fun t k ha hl => rfl) N_0

/-- A sum over groups of terms that vanish off the group of column `b`. -/
theorem sum_group (b : Fin 128) (P Q : Fin 2 → Fin 4 → Fin 8192 → EReal) :
    (∑ h : Fin 4, ∑ g : Fin 2, ∑ s : Fin 8192, P g h s * (if b.val / 64 = g.val then Q g h s else 0))
      = ∑ h : Fin 4, ∑ s : Fin 8192, P (grpOf b) h s * Q (grpOf b) h s := by
  refine Finset.sum_congr rfl fun h _ => ?_
  rw [Finset.sum_eq_single (grpOf b)]
  · refine Finset.sum_congr rfl fun s _ => ?_
    rw [if_pos (show b.val / 64 = (grpOf b).val from rfl)]
  · intro g _ hg
    refine Finset.sum_eq_zero fun s _ => ?_
    rw [if_neg (fun e => hg (Fin.ext e.symm)), mul_zero]
  · intro h; exact absurd (Finset.mem_univ _) h

end Cert.Grad
-- ==== Proof.Acc.lean ====
/- The kernel's three output arrays, as the attention's quantities over the arguments. -/
module

public import proofs.«01_k».proof.Proof.Terms

@[expose] public section

set_option maxRecDepth 16384

noncomputable section

namespace Cert.Grad

open Cert.KernelIdeal Cert.KernelIdeal.Gen Idealize.ShloMosaic Idealize.ShloMosaic.TcCoe
open Idealize.SL.Sem

variable (m : (ℓ : Loc nD τ sig) → Buf (Elt Ideal) ℓ) (c : Dev nD)

theorem grp_cases (t : Fin cfg0.N) : (grp t).val = 0 ∨ (grp t).val = 1 := by
  have := (grp t).isLt; omega

/-- What point `t` adds to dk. -/
def termK (t : Fin cfg0.N) (p : Fin 8448 × Fin 128) : EReal :=
  ∑ r : Fin 2048, kds (argQ m c) (argK m c) (argG m c) (argD m c) (grp t) (headOf r) (rowAt t r) p.1
    * (if p.2.val / 64 = (grp t).val then argQ m c (ix2 (latent (rowAt t r)) (qcol (grp t) (headOf r) (lane64 p.2))) * eighth else 0)
/-- What point `t` adds to dv. -/
def termV (t : Fin cfg0.N) (p : Fin 8448 × Fin 128) : EReal :=
  ∑ r : Fin 2048, kprob (argQ m c) (argK m c) (grp t) (headOf r) (rowAt t r) p.1
    * (if p.2.val / 64 = (grp t).val then argD m c (ix2 (latent (rowAt t r)) (qcol (grp t) (headOf r) (lane64 p.2))) else 0)

theorem step7_A (t : Fin cfg0.N) (h0 : t.val % 32 = 0) (p : Fin 8448 × Fin 128) :
    (outsAt0 m c t.val t.isLt).2.1 (ix2 p.1 p.2) = 0 + termK m c t p := by
  rw [outsAt0_A m c t h0]
  refine (out_A_7 (hc0 := (hcond0_0 t).mpr h0) (g := (grp t).val) (hg := grp_cases t) (hi := coord0 t) (hx := lanes_same m c t) (j := p.1) (b := p.2) ..).trans ?_
  simp only [dscore_eq, queries_eq]
  rfl
theorem step7_B (t : Fin cfg0.N) (h0 : ¬t.val % 32 = 0) (p : Fin 8448 × Fin 128) :
    (outsAt0 m c t.val t.isLt).2.1 (ix2 p.1 p.2)
      = (outsAt0 m c (t.val - 1) (Nat.lt_of_le_of_lt (Nat.sub_le _ _) t.isLt)).2.1 (ix2 p.1 p.2) + termK m c t p := by
  rw [outsAt0_B m c t h0]
  refine (out_B_7 (hc0 := fun h => h0 ((hcond0_0 t).mp h)) (g := (grp t).val) (hg := grp_cases t) (hi := coord0 t) (hx := lanes_same m c t) (j := p.1) (b := p.2) ..).trans ?_
  simp only [dscore_eq, queries_eq]
  rfl
theorem step8_A (t : Fin cfg0.N) (h0 : t.val % 32 = 0) (p : Fin 8448 × Fin 128) :
    (outsAt0 m c t.val t.isLt).2.2 (ix2 p.1 p.2) = 0 + termV m c t p := by
  rw [outsAt0_A m c t h0]
  refine (out_A_8 (hc0 := (hcond0_0 t).mpr h0) (g := (grp t).val) (hg := grp_cases t) (hi := coord0 t) (hx := lanes_same m c t) (j := p.1) (b := p.2) ..).trans ?_
  simp only [prob_eq, placed_y]
  rfl
theorem step8_B (t : Fin cfg0.N) (h0 : ¬t.val % 32 = 0) (p : Fin 8448 × Fin 128) :
    (outsAt0 m c t.val t.isLt).2.2 (ix2 p.1 p.2)
      = (outsAt0 m c (t.val - 1) (Nat.lt_of_le_of_lt (Nat.sub_le _ _) t.isLt)).2.2 (ix2 p.1 p.2) + termV m c t p := by
  rw [outsAt0_B m c t h0]
  refine (out_B_8 (hc0 := fun h => h0 ((hcond0_0 t).mp h)) (g := (grp t).val) (hg := grp_cases t) (hi := coord0 t) (hx := lanes_same m c t) (j := p.1) (b := p.2) ..).trans ?_
  simp only [prob_eq, placed_y]
  rfl

/-- The last point. -/
def lastPoint : Fin cfg0.N := ⟨31, by rw [show cfg0.N = 32 from N_0]; decide⟩

/-- dk, as the kernel sums it: over heads and latent rows. -/
def kernelDk (j : Fin 8448) (b : Fin 128) : EReal :=
  ∑ h : Fin 4, ∑ s : Fin 8192, kds (argQ m c) (argK m c) (argG m c) (argD m c) (grpOf b) h s j
    * (argQ m c (ix2 (latent s) (qcol (grpOf b) h (laneOf b))) * eighth)
/-- dv, as the kernel sums it: over heads and latent rows. -/
def kernelDv (j : Fin 8448) (b : Fin 128) : EReal :=
  ∑ h : Fin 4, ∑ s : Fin 8192, kprob (argQ m c) (argK m c) (grpOf b) h s j * argD m c (ix2 (latent s) (qcol (grpOf b) h (laneOf b)))
/-- One lane of dq before the host code picks the lanes of its group and scales. -/
def kernelDq (g : Fin 2) (h : Fin 4) (s : Fin 8192) (l : Fin 128) : EReal :=
  ∑ j : Fin 8448, kds (argQ m c) (argK m c) (argG m c) (argD m c) g h s j * argK m c (ix2 j l)

/-- The accumulated block 7 after a point. -/
def heldK (n : Nat) (hn : n < cfg0.N) (p : Fin 8448 × Fin 128) : EReal := (outsAt0 m c n hn).2.1 (ix2 p.1 p.2)
theorem heldK_last (p : Fin 8448 × Fin 128) : heldK m c lastPoint.val lastPoint.isLt p = 0 + ∑ t : Fin cfg0.N, termK m c t p :=
  Pipeline.eq_sum_fin_of_reset_step_apply_last (heldK m c) 32 (fun _ => 0)
    (termK m c) (step7_A m c) (step7_B m c) (le_of_eq N_0) lastPoint (by show 31 + 1 = cfg0.N; exact N_0.symm) p
theorem acc7 (j : Fin 8448) (b : Fin 128) :
    (outsAt0 m c lastPoint.val lastPoint.isLt).2.1 (ix2 j b) = kernelDk m c j b := by
  have key := heldK_last m c (j, b)
  unfold heldK at key
  rw [zero_add] at key
  refine key.trans ?_
  unfold termK kernelDk
  refine (sum_rows (fun g h s => kds (argQ m c) (argK m c) (argG m c) (argD m c) g h s j
    * (if b.val / 64 = g.val then argQ m c (ix2 (latent s) (qcol g h (lane64 b))) * eighth else 0))).trans ?_
  exact sum_group b (fun g h s => kds (argQ m c) (argK m c) (argG m c) (argD m c) g h s j) _
/-- The accumulated block 8 after a point. -/
def heldV (n : Nat) (hn : n < cfg0.N) (p : Fin 8448 × Fin 128) : EReal := (outsAt0 m c n hn).2.2 (ix2 p.1 p.2)
theorem heldV_last (p : Fin 8448 × Fin 128) : heldV m c lastPoint.val lastPoint.isLt p = 0 + ∑ t : Fin cfg0.N, termV m c t p :=
  Pipeline.eq_sum_fin_of_reset_step_apply_last (heldV m c) 32 (fun _ => 0)
    (termV m c) (step8_A m c) (step8_B m c) (le_of_eq N_0) lastPoint (by show 31 + 1 = cfg0.N; exact N_0.symm) p
theorem acc8 (j : Fin 8448) (b : Fin 128) :
    (outsAt0 m c lastPoint.val lastPoint.isLt).2.2 (ix2 j b) = kernelDv m c j b := by
  have key := heldV_last m c (j, b)
  unfold heldV at key
  rw [zero_add] at key
  refine key.trans ?_
  unfold termV kernelDv
  refine (sum_rows (fun g h s => kprob (argQ m c) (argK m c) g h s j
    * (if b.val / 64 = g.val then argD m c (ix2 (latent s) (qcol g h (lane64 b))) else 0))).trans ?_
  exact sum_group b (fun g h s => kprob (argQ m c) (argK m c) g h s j) _

/-- The head of a column of the dq block. -/
def headCol (l : Fin 512) : Fin 4 := ⟨l.val / 128, by omega⟩
/-- The latent row of a row of the dq block at a point. -/
def rowCol (t : Fin cfg0.N) (q : Fin 512) : Fin 8192 := ⟨t.val % 16 * 512 + q.val, by omega⟩

theorem sum6 (t : Fin cfg0.N) (q l : Fin 512) :
    ∑ a ∈ Finset.range 8448, dscore (queries (X0_0 m c t)) (placed (grp t).val (X0_4 m c t)) (delta (grp t).val (X0_3 m c t) (X0_4 m c t))
      (logsum (X0_5 m c t)) (row (iblk m c 1 t) a) (row (iblk m c 2 t) a) (stackedRow q l) * row (iblk m c 1 t) a (lane l)
      = kernelDq m c (grp t) (headCol l) (rowCol t q) (lane l) := by
  rw [Finset.sum_range]
  unfold kernelDq
  have h1 : headOf (stackedRow q l) = headCol l := Fin.ext (by show (512 * (l.val / 128) + q.val) / 512 = l.val / 128; omega)
  have h2 : rowAt t (stackedRow q l) = rowCol t q := Fin.ext (by show t.val % 16 * 512 + (512 * (l.val / 128) + q.val) % 512 = t.val % 16 * 512 + q.val; omega)
  refine Finset.sum_congr rfl fun j _ => ?_
  rw [dscore_eq, row_k, h1, h2]

theorem out6 (t : Fin cfg0.N) (q l : Fin 512) :
    (outsAt0 m c t.val t.isLt).1 (ix2 q l) = kernelDq m c (grp t) (headCol l) (rowCol t q) (lane l) := by
  by_cases h0 : t.val % 32 = 0
  · rw [outsAt0_A m c t h0]
    refine (out_A_6 (hc0 := (hcond0_0 t).mpr h0) (g := (grp t).val) (hg := grp_cases t) (hi := coord0 t) (hx := lanes_same m c t) (q := q) (l := l) ..).trans ?_
    exact sum6 m c t q l
  · rw [outsAt0_B m c t h0]
    refine (out_B_6 (hc0 := fun h => h0 ((hcond0_0 t).mp h)) (g := (grp t).val) (hg := grp_cases t) (hi := coord0 t) (hx := lanes_same m c t) (q := q) (l := l) ..).trans ?_
    exact sum6 m c t q l

end Cert.Grad
-- ==== Proof.Arrays.lean ====
/- The kernel's three output arrays after the last point. -/
module

public import proofs.«01_k».proof.Proof.Acc

@[expose] public section

set_option maxRecDepth 16384

noncomputable section

namespace Cert.Grad

open Cert.KernelIdeal Cert.KernelIdeal.Gen Idealize.ShloMosaic Idealize.ShloMosaic.TcCoe
open Idealize.SL.Sem

variable (m : (ℓ : Loc nD τ sig) → Buf (Elt Ideal) ℓ) (c : Dev nD)

/-- The dk array. -/
theorem array7 : (dats m 0 c).arrAt 7 cfg0.N = (fun i : S8448x128.Idx => kernelDk m c (i 0) (i 1)) := by
  refine Pipeline.Dat.arrAt_eq_of_after_last (cfg := cfg0) (dats m 0 c) 7 lastPoint (by decide +kernel) _ (fun j => ?_)
  rw [after0_7]
  blk_simp
  refine Eq.trans (congrArg (outsAt0 m c lastPoint.val lastPoint.isLt).2.1 ?_) (acc7 m c (j 0) (j 1))
  funext a
  match a with
  | 0 => rfl
  | 1 => rfl

/-- The dv array. -/
theorem array8 : (dats m 0 c).arrAt 8 cfg0.N = (fun i : S8448x128.Idx => kernelDv m c (i 0) (i 1)) := by
  refine Pipeline.Dat.arrAt_eq_of_after_last (cfg := cfg0) (dats m 0 c) 8 lastPoint (by decide +kernel) _ (fun j => ?_)
  rw [after0_8]
  blk_simp
  refine Eq.trans (congrArg (outsAt0 m c lastPoint.val lastPoint.isLt).2.2 ?_) (acc8 m c (j 0) (j 1))
  funext a
  match a with
  | 0 => rfl
  | 1 => rfl

/-- The dq array at a latent row. -/
theorem array6 (s : Fin 8192) (e : Fin 1024) (g : Fin 2) (h : Fin 4) (l : Fin 128) (he : e.val = 512 * g.val + 128 * h.val + l.val) :
    (dats m 0 c).arrAt 6 cfg0.N (ix2 (latent s) e : S8448x1024.Idx) = kernelDq m c g h s l := by
  refine (Pipeline.Dat.arrAt_apply_of_coversWhere (cfg := cfg0) (dats m 0 c) 6 (fun i : S8448x1024.Idx => kernelDq m c
      ⟨(i 1).val / 512, by have : (i 1).val < 1024 := (i 1).isLt; omega⟩ ⟨(i 1).val / 128 % 4, by omega⟩ ⟨(i 0).val % 8192, by omega⟩ ⟨(i 1).val % 128, by omega⟩)
    (P := fun i : S8448x1024.Idx => (i 0).val < 8192) (fun β => β 0 < 16) (by decide +kernel) (fun t hf y => ?_)
    (fun j => by blk_simp [Pipeline.Window.cell_apply]; omega) _).trans ?_
  · rw [after0_6]
    obtain ⟨e0, e1⟩ := place6 t
    blk_simp [e0, e1]
    have key := out6 m c t ((cfg0.win 6).xinj (cfg0.grid.coords t) y 0) ((cfg0.win 6).xinj (cfg0.grid.coords t) y 1)
    have l0 : (y 0).val < 512 := ((cfg0.win 6).xinj (cfg0.grid.coords t) y 0).isLt
    have l1 : (y 1).val < 512 := ((cfg0.win 6).xinj (cfg0.grid.coords t) y 1).isLt
    have lt : t.val < 32 := lt_of_lt_of_eq t.isLt N_0
    refine Eq.trans (congrArg (outsAt0 m c t.val t.isLt).1 ?_) (key.trans ?_)
    · funext a
      match a with
      | 0 => rfl
      | 1 => rfl
    · refine congr (congr (congr (congrArg _ (Fin.ext ?_)) (Fin.ext ?_)) (Fin.ext ?_)) (Fin.ext ?_)
      · show t.val / 16 = (t.val / 16 * 512 + (y 1).val) / 512
        omega
      · show (y 1).val / 128 = (t.val / 16 * 512 + (y 1).val) / 128 % 4
        omega
      · show t.val % 16 * 512 + (y 0).val = (t.val % 16 * 512 + (y 0).val) % 8192
        omega
      · show (y 1).val % 128 = (t.val / 16 * 512 + (y 1).val) % 128
        omega
  · rw [if_pos (show ((ix2 (latent s) e : S8448x1024.Idx) 0).val < 8192 from s.isLt)]
    refine congr (congr (congr (congrArg _ (Fin.ext ?_)) (Fin.ext ?_)) (Fin.ext ?_)) (Fin.ext ?_)
    · show e.val / 512 = g.val
      omega
    · show e.val / 128 % 4 = h.val
      omega
    · show s.val % 8192 = s.val
      omega
    · show e.val % 128 = l.val
      omega

end Cert.Grad
-- ==== Proof.Tail.lean ====
/- The host code after the kernel: it takes the latent rows of dq, each group's own half of the lanes, and scales. -/
module

public import proofs.«01_k».proof.Proof.Arrays

@[expose] public section

set_option maxRecDepth 16384

noncomputable section

namespace Cert.Grad

open Cert.KernelIdeal Cert.KernelIdeal.Gen Idealize.ShloMosaic Idealize.ShloMosaic.TcCoe
open Idealize.SL.Sem

/-- Half 0 of group 0 of the latent rows. -/
def tailFirst (x : FVec Ideal S8448x1024 .f32) : FVec Ideal S8192x4x64 .f32 :=
  shapeCast S8192x4x64 (extractStridedSlice S8192x1x4x1x64 ![0, 0, 0, 0, 0]
    (shapeCast S8192x2x4x2x64 (extractStridedSlice S8192x1024 ![0, 0] x slices_S8448x1024_S8192x1024_0_0) shapeCasts_S8192x1024_S8192x2x4x2x64 : FVec Ideal S8192x2x4x2x64 .f32)
    slices_S8192x2x4x2x64_S8192x1x4x1x64_0_0_0_0_0 : FVec Ideal S8192x1x4x1x64 .f32) shapeCasts_S8192x1x4x1x64_S8192x4x64
/-- Half 1 of group 1 of the latent rows. -/
def tailSecond (x : FVec Ideal S8448x1024 .f32) : FVec Ideal S8192x4x64 .f32 :=
  shapeCast S8192x4x64 (extractStridedSlice S8192x1x4x1x64 ![0, 1, 0, 1, 0]
    (shapeCast S8192x2x4x2x64 (extractStridedSlice S8192x1024 ![0, 0] x slices_S8448x1024_S8192x1024_0_0) shapeCasts_S8192x1024_S8192x2x4x2x64 : FVec Ideal S8192x2x4x2x64 .f32)
    slices_S8192x2x4x2x64_S8192x1x4x1x64_0_1_0_1_0 : FVec Ideal S8192x1x4x1x64 .f32) shapeCasts_S8192x1x4x1x64_S8192x4x64
/-- The two stacked, and scaled. -/
def tailJoin (a b : FVec Ideal S8192x4x64 .f32) : FVec Ideal S8192x2x4x64 .f32 :=
  mulf (concatenate S8192x2x4x64 1 [⟨S8192x1x4x64, broadcastInDim S8192x1x4x64 ![0, 2, 3] bcast_S8192x4x64_S8192x1x4x64_0_2_3 a⟩,
      ⟨S8192x1x4x64, broadcastInDim S8192x1x4x64 ![0, 2, 3] bcast_S8192x4x64_S8192x1x4x64_0_2_3 b⟩] concatenates_S8192x1x4x64_S8192x1x4x64_S8192x2x4x64_d1)
    (broadcastInDim S8192x2x4x64 ![] bcast_S_S8192x2x4x64 (constant S_ .f32 0x3E000000#32))

variable (m : (ℓ : Loc nD τ sig) → Buf (Elt Ideal) ℓ) (c : Dev nD)

theorem tail_after (W : Valuation τ sig (Elt Ideal)) (x : FVec Ideal S8448x1024 .f32) (hx : W (Proc.tc.devRef main_v53_0) = x) :
    StableHlo.after [hostOps1].flatten W (Proc.tc.devRef main_v64) = tailJoin (tailFirst x) (tailSecond x) := by
  subst hx
  after_reads_simp
  rfl

section At
variable (g : Fin 2) (r : Fin 4) (s : Fin 8192) (d : Fin 64) (x : FVec Ideal S8448x1024 .f32)

theorem tailFirst_at : tailFirst x (ix3 s r d) = x (ix2 (latent s) (⟨128 * r.val + d.val, by omega⟩ : Fin 1024)) := by
  unfold tailFirst; pointwise
  exact congrArg (fun e => x (ix2 (latent s) e)) (Fin.ext (show r.val * 128 + d.val = 128 * r.val + d.val by omega))
theorem tailSecond_at : tailSecond x (ix3 s r d) = x (ix2 (latent s) (⟨512 + 128 * r.val + (64 + d.val), by omega⟩ : Fin 1024)) := by
  unfold tailSecond; pointwise
  exact congrArg (fun e => x (ix2 (latent s) e)) (Fin.ext (show 512 + r.val * 128 + 64 + d.val = 512 + 128 * r.val + (64 + d.val) by omega))
theorem tailJoin_at (a b) : tailJoin a b (ix4 s g r d) = (if g.val = 0 then a (ix3 s r d) else b (ix3 s r d)) * eighth := by
  unfold tailJoin; pointwise
  refine congrArg (· * eighth) ?_
  by_cases h : g.val = 0
  · rw [if_pos h, dif_pos (show g.val < 1 by omega)]
  · rw [if_neg h, dif_neg (show ¬ g.val < 1 by omega)]

end At

/-- The result dq: a latent row's sum over the keys, scaled. -/
theorem dq_at (W : Valuation τ sig (Elt Ideal)) (hW : W (Proc.tc.devRef main_v53_0) = (dats m 0 c).arrAt 6 cfg0.N)
    (s : Fin 8192) (g : Fin 2) (r : Fin 4) (d : Fin 64) :
    (StableHlo.after [hostOps1].flatten W (Proc.tc.devRef main_v64) : FVec Ideal S8192x2x4x64 .f32) (ix4 s g r d)
      = kernelDq m c g r s (kcol g d) * eighth := by
  rw [tail_after W _ hW, tailJoin_at]
  refine congrArg (· * eighth) ?_
  by_cases h : g.val = 0
  · rw [if_pos h, tailFirst_at]
    refine array6 m c s _ g r (kcol g d) ?_
    show 128 * r.val + d.val = 512 * g.val + 128 * r.val + (g.val * 64 + d.val)
    omega
  · rw [if_neg h, tailSecond_at]
    refine array6 m c s _ g r (kcol g d) ?_
    show 512 + 128 * r.val + (64 + d.val) = 512 * g.val + 128 * r.val + (g.val * 64 + d.val)
    have := g.isLt
    omega

end Cert.Grad
-- ==== Proof.RefRes.lean ====
/- The reference's gradients are the named steps of its arguments. -/
module

public import proofs.«01_k».proof.Proof.Gen.ReferenceIdeal.Run
public import proofs.«01_k».proof.Proof.RefDef
public import Idealize.ShloMosaic.Lib.Tactic.CleanTypes

@[expose] public section

set_option maxRecDepth 16384

noncomputable section

namespace Cert.Grad

open Cert.ReferenceIdeal Cert.ReferenceIdeal.Gen Cert.ReferenceIdeal.Value Idealize.ShloMosaic Idealize.ShloMosaic.TcCoe
open Idealize.SL.Sem

variable (m : (ℓ : Loc nD τ sig) → Buf (Elt Ideal) ℓ) (c : Dev nD)

theorem res_refDv : res_main_v75 m c = (refDv (headsD (m ((c.tc : Thread nD τ).loc main_arg3))) (softm (expo (scores (headsQ (m ((c.tc : Thread nD τ).loc main_arg0))) (headsK (m ((c.tc : Thread nD τ).loc main_arg1)))) (rowTop (scores (headsQ (m ((c.tc : Thread nD τ).loc main_arg0))) (headsK (m ((c.tc : Thread nD τ).loc main_arg1)))))) (rowMass (expo (scores (headsQ (m ((c.tc : Thread nD τ).loc main_arg0))) (headsK (m ((c.tc : Thread nD τ).loc main_arg1)))) (rowTop (scores (headsQ (m ((c.tc : Thread nD τ).loc main_arg0))) (headsK (m ((c.tc : Thread nD τ).loc main_arg1))))))))) := by
  unfold res_main_v75
  rfl

theorem res_refDk : res_main_v78 m c = (refDk (headsQ (m ((c.tc : Thread nD τ).loc main_arg0))) (dscores (expo (scores (headsQ (m ((c.tc : Thread nD τ).loc main_arg0))) (headsK (m ((c.tc : Thread nD τ).loc main_arg1)))) (rowTop (scores (headsQ (m ((c.tc : Thread nD τ).loc main_arg0))) (headsK (m ((c.tc : Thread nD τ).loc main_arg1)))))) (rowMass (expo (scores (headsQ (m ((c.tc : Thread nD τ).loc main_arg0))) (headsK (m ((c.tc : Thread nD τ).loc main_arg1)))) (rowTop (scores (headsQ (m ((c.tc : Thread nD τ).loc main_arg0))) (headsK (m ((c.tc : Thread nD τ).loc main_arg1))))))) (dprob (headsV (m ((c.tc : Thread nD τ).loc main_arg2))) (headsD (m ((c.tc : Thread nD τ).loc main_arg3)))) (rowDot (expo (scores (headsQ (m ((c.tc : Thread nD τ).loc main_arg0))) (headsK (m ((c.tc : Thread nD τ).loc main_arg1)))) (rowTop (scores (headsQ (m ((c.tc : Thread nD τ).loc main_arg0))) (headsK (m ((c.tc : Thread nD τ).loc main_arg1)))))) (dprob (headsV (m ((c.tc : Thread nD τ).loc main_arg2))) (headsD (m ((c.tc : Thread nD τ).loc main_arg3)))) (invSq (rowMass (expo (scores (headsQ (m ((c.tc : Thread nD τ).loc main_arg0))) (headsK (m ((c.tc : Thread nD τ).loc main_arg1)))) (rowTop (scores (headsQ (m ((c.tc : Thread nD τ).loc main_arg0))) (headsK (m ((c.tc : Thread nD τ).loc main_arg1))))))))))) := by
  unfold res_main_v78
  rfl

theorem res_refDq : res_main_v82 m c = (refDq (headsK (m ((c.tc : Thread nD τ).loc main_arg1))) (dscores (expo (scores (headsQ (m ((c.tc : Thread nD τ).loc main_arg0))) (headsK (m ((c.tc : Thread nD τ).loc main_arg1)))) (rowTop (scores (headsQ (m ((c.tc : Thread nD τ).loc main_arg0))) (headsK (m ((c.tc : Thread nD τ).loc main_arg1)))))) (rowMass (expo (scores (headsQ (m ((c.tc : Thread nD τ).loc main_arg0))) (headsK (m ((c.tc : Thread nD τ).loc main_arg1)))) (rowTop (scores (headsQ (m ((c.tc : Thread nD τ).loc main_arg0))) (headsK (m ((c.tc : Thread nD τ).loc main_arg1))))))) (dprob (headsV (m ((c.tc : Thread nD τ).loc main_arg2))) (headsD (m ((c.tc : Thread nD τ).loc main_arg3)))) (rowDot (expo (scores (headsQ (m ((c.tc : Thread nD τ).loc main_arg0))) (headsK (m ((c.tc : Thread nD τ).loc main_arg1)))) (rowTop (scores (headsQ (m ((c.tc : Thread nD τ).loc main_arg0))) (headsK (m ((c.tc : Thread nD τ).loc main_arg1)))))) (dprob (headsV (m ((c.tc : Thread nD τ).loc main_arg2))) (headsD (m ((c.tc : Thread nD τ).loc main_arg3)))) (invSq (rowMass (expo (scores (headsQ (m ((c.tc : Thread nD τ).loc main_arg0))) (headsK (m ((c.tc : Thread nD τ).loc main_arg1)))) (rowTop (scores (headsQ (m ((c.tc : Thread nD τ).loc main_arg0))) (headsK (m ((c.tc : Thread nD τ).loc main_arg1))))))))))) := by
  unfold res_main_v82
  rfl

end Cert.Grad
-- ==== Proof.Algebra.lean ====
/- The gradients that the kernel and the reference compute are the same sums where every argument is a real number: the
   kernel's `exp (score - logsum)` is the reference's quotient, and its `dy · out` is the reference's row sum. -/
module

public import proofs.«01_k».proof.Proof.Terms

@[expose] public section

noncomputable section

namespace Cert.Grad

open Idealize.ShloMosaic

theorem eighth_real : eighth = ((1 / 8 : ℝ) : EReal) := by
  simp [eighth, Ideal.ofBits, Ideal.ieee]; rw [← EReal.coe_mul]; norm_num
theorem negInf_bot : negInf = ⊥ := by simp [negInf, Ideal.ofBits, Ideal.ieee]

/-- A sum of reals, taken among the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The largest of finitely many reals, and at least one, is real. -/
theorem fold_max_real {n : ℕ} [NeZero n] (f : Fin n → ℝ) :
    ∃ x : ℝ, Finset.fold max negInf (fun j => (f j : EReal)) Finset.univ = (x : EReal) := by
  rw [negInf_bot]
  refine ⟨(Finset.fold max ⊥ (fun j => (f j : EReal)) Finset.univ).toReal, (EReal.coe_toReal ?_ ?_).symm⟩
  · refine ne_of_lt ?_
    rw [Finset.fold_max_lt]
    exact ⟨bot_lt_top, fun j _ => EReal.coe_lt_top _⟩
  · refine ne_of_gt (lt_of_lt_of_le (EReal.bot_lt_coe (f 0)) ?_)
    rw [Finset.le_fold_max]
    exact Or.inr ⟨0, Finset.mem_univ _, le_refl _⟩

theorem max_fold {n : ℕ} (f : Fin n → EReal) :
    max negInf (Finset.fold max negInf f Finset.univ) = Finset.fold max negInf f Finset.univ :=
  max_eq_right ((Finset.le_fold_max _).mpr (Or.inl (le_refl _)))

theorem div_real (x : ℝ) {y : ℝ} (h : y ≠ 0) : Ideal.div (x : EReal) (y : EReal) = ((x / y : ℝ) : EReal) := by
  rw [Ideal.div_coe h, ← EReal.coe_mul, mul_one_div]

section Row

variable (q : QArr) (k : KArr) (v : GArr) (y : QArr) (g : Fin 2) (r : Fin 4) (s : Fin 8192) (j : Fin 8448) (d : Fin 64)

/-- The gradient of a score before the scale, as the reference computes it, and scaled. -/
def refDs : EReal :=
  (Ideal.div (dval v y g r s j) (mass q k g r s)
      + -∑ i : Fin 8448, dval v y g r s i * Ideal.div 1 (mass q k g r s * mass q k g r s) * expd q k g r s i)
    * expd q k g r s j * eighth

/-- Every element that the gradient reads is a real number. -/
structure AllReal (q : QArr) (k : KArr) (v : GArr) (y : QArr) : Prop where
  q : ∀ (s : Fin 8192) (a : Fin 512), ∃ x : ℝ, q (ix2 (latent s) a) = (x : EReal)
  k : ∀ (j : Fin 8448) (b : Fin 128), ∃ x : ℝ, k (ix2 j b) = (x : EReal)
  v : ∀ (j : Fin 8448) (g : Fin 2) (d : Fin 64), ∃ x : ℝ, v (ix2 j (vcol g d)) = (x : EReal)
  y : ∀ (s : Fin 8192) (a : Fin 512), ∃ x : ℝ, y (ix2 (latent s) a) = (x : EReal)

variable {q k v y}

/-- The row's softmax, kernel and reference: one real family. -/
theorem row_real (h : AllReal q k v y) : ∃ (e : Fin 8448 → ℝ) (L : ℝ), L ≠ 0 ∧ (∀ j, expd q k g r s j = (e j : EReal))
    ∧ mass q k g r s = (L : EReal) ∧ ∀ j, kprob q k g r s j = ((e j / L : ℝ) : EReal) := by
  choose qR hq using h.q
  choose kR hk using h.k
  have hs : ∀ j, score q k g r s j = (((∑ d : Fin 64, qR s (qcol g r d) * kR j (kcol g d)) * (1 / 8) : ℝ) : EReal) := by
    intro j
    unfold score
    simp only [hq, hk, eighth_real, ← EReal.coe_mul, ← coe_sum]
  have hs' : ∀ j, ∑ d : Fin 64, q (ix2 (latent s) (qcol g r d)) * eighth * k (ix2 j (kcol g d))
      = (((∑ d : Fin 64, qR s (qcol g r d) * kR j (kcol g d)) * (1 / 8) : ℝ) : EReal) := by
    intro j
    simp only [hq, hk, eighth_real, ← EReal.coe_mul, ← coe_sum]
    refine congrArg _ ?_
    rw [Finset.sum_mul]
    exact Finset.sum_congr rfl fun d _ => by ring
  generalize hf : (fun j => (∑ d : Fin 64, qR s (qcol g r d) * kR j (kcol g d)) * (1 / 8)) = f at *
  have hs : ∀ j, score q k g r s j = (f j : EReal) := fun j => by rw [hs j, ← hf]
  have hs' : ∀ j, ∑ d : Fin 64, q (ix2 (latent s) (qcol g r d)) * eighth * k (ix2 j (kcol g d)) = (f j : EReal) :=
    fun j => by rw [hs' j, ← hf]
  obtain ⟨T, hT⟩ : ∃ x : ℝ, top q k g r s = (x : EReal) := by
    unfold top
    simp only [hs]
    exact fold_max_real f
  have he : ∀ j, expd q k g r s j = ((Real.exp (f j - T) : ℝ) : EReal) := by
    intro j
    unfold expd
    rw [hs, hT, ← EReal.coe_sub, Ideal.exp_coe]
  have hpos : 0 < ∑ j, Real.exp (f j - T) := Finset.sum_pos (fun j _ => Real.exp_pos _) ⟨0, Finset.mem_univ _⟩
  have hm : mass q k g r s = ((∑ j, Real.exp (f j - T) : ℝ) : EReal) := by
    unfold mass
    simp only [he, ← coe_sum]
  refine ⟨fun j => Real.exp (f j - T), ∑ j, Real.exp (f j - T), ne_of_gt hpos, he, hm, fun j => ?_⟩
  unfold kprob lse
  rw [hs', hT, hm, Ideal.log_coe, if_neg (not_le.mpr hpos), ← EReal.coe_add, ← EReal.coe_sub, Ideal.exp_coe]
  refine congrArg _ ?_
  rw [← sub_sub, Real.exp_sub, Real.exp_log hpos]

theorem dval_real (h : AllReal q k v y) : ∃ x : ℝ, dval v y g r s j = (x : EReal) := by
  choose vR hv using h.v
  choose yR hy using h.y
  refine ⟨∑ d : Fin 64, yR s (qcol g r d) * vR j g d, ?_⟩
  unfold dval
  simp only [hv, hy, ← EReal.coe_mul, ← coe_sum]

/-- The kernel's softmax value is the reference's quotient. -/
theorem prob_real (h : AllReal q k v y) : Ideal.div (expd q k g r s j) (mass q k g r s) = kprob q k g r s j := by
  obtain ⟨e, L, hL, he, hm, hp⟩ := row_real g r s h
  rw [he, hm, hp, div_real _ hL]

/-- The output's gradient times the output is the row sum of the softmax times its own gradient. -/
theorem kdelta_real (h : AllReal q k v y) :
    kdelta q k v y g r s = ∑ j : Fin 8448, kprob q k g r s j * dval v y g r s j := by
  obtain ⟨e, L, hL, he, hm, hp⟩ := row_real g r s h
  choose vR hv using h.v
  choose yR hy using h.y
  unfold kdelta outp dval
  simp only [prob_real _ _ _ _ h, hp, hv, hy, ← EReal.coe_mul, ← coe_sum]
  refine congrArg _ ?_
  simp only [Finset.mul_sum]
  rw [Finset.sum_comm]
  exact Finset.sum_congr rfl fun j _ => Finset.sum_congr rfl fun d _ => by ring

/-- The kernel's gradient of a score, scaled, is the reference's. -/
theorem ds_real (h : AllReal q k v y) :
    ∃ x : ℝ, kds q k v y g r s j = (x : EReal) ∧ refDs q k v y g r s j = ((x * (1 / 8) : ℝ) : EReal) := by
  obtain ⟨e, L, hL, he, hm, hp⟩ := row_real g r s h
  choose D hD using fun i => dval_real g r s i h
  refine ⟨e j / L * (D j - ∑ i, e i / L * D i), ?_, ?_⟩
  · unfold kds
    rw [kdelta_real _ _ _ h]
    simp only [hp, hD, ← EReal.coe_mul, ← coe_sum, ← EReal.coe_sub]
  · have one : (1 : EReal) = ((1 : ℝ) : EReal) := rfl
    have hLL : L * L ≠ 0 := mul_ne_zero hL hL
    unfold refDs
    simp only [hm, hD, he, eighth_real, one, ← EReal.coe_mul, div_real _ hL, div_real _ hLL, ← coe_sum, ← EReal.coe_neg, ← EReal.coe_add]
    refine congrArg _ ?_
    have hsum : ∑ i, D i * (1 / (L * L)) * e i = (∑ i, e i / L * D i) / L := by
      rw [Finset.sum_div]
      exact Finset.sum_congr rfl fun i _ => by field_simp
    rw [hsum]
    field_simp
    ring

/-- A term of dk. -/
theorem term_k (h : AllReal q k v y) (a : Fin 512) :
    kds q k v y g r s j * (q (ix2 (latent s) a) * eighth) = refDs q k v y g r s j * q (ix2 (latent s) a) := by
  obtain ⟨x, h1, h2⟩ := ds_real g r s j h
  obtain ⟨z, hz⟩ := h.q s a
  rw [h1, h2, hz, eighth_real]
  simp only [← EReal.coe_mul]
  exact congrArg _ (by ring)

/-- A term of dv. -/
theorem term_v (h : AllReal q k v y) (a : Fin 512) :
    kprob q k g r s j * y (ix2 (latent s) a) = y (ix2 (latent s) a) * Ideal.div (expd q k g r s j) (mass q k g r s) := by
  rw [prob_real _ _ _ _ h, mul_comm]

/-- An element of dq: the scale is taken out of the sum. -/
theorem sum_q (h : AllReal q k v y) (b : Fin 128) :
    (∑ j : Fin 8448, kds q k v y g r s j * k (ix2 j b)) * eighth = ∑ j : Fin 8448, refDs q k v y g r s j * k (ix2 j b) := by
  choose x h1 h2 using fun i => ds_real g r s i h
  choose kR hk using h.k
  simp only [h1, h2, hk, eighth_real, ← EReal.coe_mul, ← coe_sum]
  refine congrArg _ ?_
  rw [Finset.sum_mul]
  exact Finset.sum_congr rfl fun j _ => by ring

/-- An element of dk. -/
theorem sum_k (h : AllReal q k v y) (a : Fin 4 → Fin 512) :
    ∑ r : Fin 4, ∑ s : Fin 8192, refDs q k v y g r s j * q (ix2 (latent s) (a r))
      = ∑ r : Fin 4, ∑ s : Fin 8192, kds q k v y g r s j * (q (ix2 (latent s) (a r)) * eighth) :=
  Finset.sum_congr rfl fun r _ => Finset.sum_congr rfl fun s _ => (term_k g r s j h (a r)).symm

/-- An element of dv. -/
theorem sum_v (h : AllReal q k v y) (a : Fin 4 → Fin 512) :
    ∑ r : Fin 4, ∑ s : Fin 8192, y (ix2 (latent s) (a r)) * Ideal.div (expd q k g r s j) (mass q k g r s)
      = ∑ r : Fin 4, ∑ s : Fin 8192, kprob q k g r s j * y (ix2 (latent s) (a r)) :=
  Finset.sum_congr rfl fun r _ => Finset.sum_congr rfl fun s _ => (term_v g r s j h (a r)).symm

end Row

end Cert.Grad
-- ==== Proof.RefVal.lean ====
/- The reference's three gradients at every index, as the attention's quantities. -/
module

public import proofs.«01_k».proof.Proof.RefRes
public import proofs.«01_k».proof.Proof.RefAt
public import proofs.«01_k».proof.Proof.Algebra

@[expose] public section

set_option maxRecDepth 16384

noncomputable section

namespace Cert.Grad

open Cert.ReferenceIdeal Cert.ReferenceIdeal.Gen Cert.ReferenceIdeal.Value Idealize.ShloMosaic Idealize.ShloMosaic.TcCoe
open Idealize.SL.Sem

section Steps

variable (q : FVec Ideal S8448x512 .bf16) (k : FVec Ideal S8448x128 .bf16) (v : FVec Ideal S8448x768 .bf16) (y : FVec Ideal S8448x512 .bf16)
variable (g : Fin 2) (r : Fin 4) (s : Fin 8192) (j : Fin 8448) (d : Fin 64)

theorem scores_val : scores (headsQ q) (headsK k) (ix5 (0 : Fin 1) g r s j) = score q k g r s j := by
  rw [scores_at]; simp only [headsQ_at, headsK_at]; rfl
theorem top_val : rowTop (scores (headsQ q) (headsK k)) (ix4 (0 : Fin 1) g r s) = top q k g r s := by
  rw [rowTop_at, max_fold]; simp only [scores_val]; rfl
theorem expo_val : expo (scores (headsQ q) (headsK k)) (rowTop (scores (headsQ q) (headsK k))) (ix5 (0 : Fin 1) g r s j) = expd q k g r s j := by
  rw [expo_at, scores_val, top_val]; rfl
theorem mass_val : rowMass (expo (scores (headsQ q) (headsK k)) (rowTop (scores (headsQ q) (headsK k)))) (ix5 (0 : Fin 1) g r s (0 : Fin 1)) = mass q k g r s := by
  rw [rowMass_at]; simp only [expo_val]; rfl
theorem dprob_val : dprob (headsV v) (headsD y) (ix5 (0 : Fin 1) g r s j) = dval v y g r s j := by
  rw [dprob_at]; simp only [headsV_at, headsD_at]; rfl
theorem dscores_val : dscores (expo (scores (headsQ q) (headsK k)) (rowTop (scores (headsQ q) (headsK k))))
      (rowMass (expo (scores (headsQ q) (headsK k)) (rowTop (scores (headsQ q) (headsK k)))))
      (dprob (headsV v) (headsD y))
      (rowDot (expo (scores (headsQ q) (headsK k)) (rowTop (scores (headsQ q) (headsK k)))) (dprob (headsV v) (headsD y))
        (invSq (rowMass (expo (scores (headsQ q) (headsK k)) (rowTop (scores (headsQ q) (headsK k)))))))
      (ix5 (0 : Fin 1) g r s j) = refDs q k v y g r s j := by
  rw [dscores_at, rowDot_at]; simp only [invSq_at, dprob_val, mass_val, expo_val]; rfl

end Steps

variable (m : (ℓ : Loc nD τ sig) → Buf (Elt Ideal) ℓ) (c : Dev nD)

/-- The reference's arguments. -/
abbrev refQ : QArr := m ((c.tc : Thread nD τ).loc main_arg0)
abbrev refK : KArr := m ((c.tc : Thread nD τ).loc main_arg1)
abbrev refG : GArr := m ((c.tc : Thread nD τ).loc main_arg2)
abbrev refD : QArr := m ((c.tc : Thread nD τ).loc main_arg3)

theorem refDv_val (j : Fin 8448) (b : Fin 128) : res_main_v75 m c (ix2 j b)
    = ∑ r : Fin 4, ∑ s : Fin 8192, refD m c (ix2 (latent s) (qcol (grpOf b) r (laneOf b)))
        * Ideal.div (expd (refQ m c) (refK m c) (grpOf b) r s j) (mass (refQ m c) (refK m c) (grpOf b) r s) := by
  rw [res_refDv, refDv_at]; simp only [softm_at, headsD_at, expo_val, mass_val]
theorem refDk_val (j : Fin 8448) (b : Fin 128) : res_main_v78 m c (ix2 j b)
    = ∑ r : Fin 4, ∑ s : Fin 8192, refDs (refQ m c) (refK m c) (refG m c) (refD m c) (grpOf b) r s j
        * refQ m c (ix2 (latent s) (qcol (grpOf b) r (laneOf b))) := by
  rw [res_refDk, refDk_at]; simp only [dscores_val, headsQ_at]
theorem refDq_val (s : Fin 8192) (g : Fin 2) (r : Fin 4) (d : Fin 64) : res_main_v82 m c (ix4 s g r d)
    = ∑ j : Fin 8448, refDs (refQ m c) (refK m c) (refG m c) (refD m c) g r s j * refK m c (ix2 j (kcol g d)) := by
  rw [res_refDq, refDq_at]; simp only [dscores_val, headsK_at]

end Cert.Grad
-- ==== Proof.Finite.lean ====
/- The precondition says that every element the gradient reads is a real number. -/
module

public import proofs.«01_k».proof.Defs
public import proofs.«01_k».proof.Proof.Algebra

@[expose] public section

set_option maxRecDepth 16384

noncomputable section

namespace Cert.Grad

open Idealize.ShloMosaic

/-- The side conditions of the precondition's text. -/
theorem finite_facts : Cert.Pre_finite.Facts where
  slices_S8448x512_S8192x512_0_0 := by decide
  slices_S8448x768_S8448x128_0_640 := by decide
  bitsLt_bf16_f32 := by decide
  bcast_S_S8192x512 := by decide
  bcast_S_S8448x128 := by decide

/-- An extended real whose absolute value lies below infinity is real. -/
theorem real_of_abs_lt (x : EReal)
    (h : (FloatOps.cmpf (F := Ideal) (φ := .f32) .olt (FloatOps.absf (F := Ideal) (φ := .f32) x) (Ideal.ofBits .f32 0x7F800000#32)) = 1#1) :
    ∃ y : ℝ, x = (y : EReal) := by
  have hT : Ideal.ofBits .f32 0x7F800000#32 = ⊤ := by simp [Ideal.ofBits, Ideal.ieee]
  rw [hT] at h
  have h' : Ideal.cmp .olt (max x (-x)) ⊤ = 1#1 := h
  induction x with
  | bot => simp [Ideal.cmp] at h'
  | coe y => exact ⟨y, rfl⟩
  | top => simp [Ideal.cmp] at h'

section At
variable [Cert.Pre_finite.Facts] (q : QArr) (k : KArr) (v : GArr) (y : QArr)

/-- The precondition of the four arguments gives the reals. -/
theorem all_real (h0 : (Cert.Pre_finite.fn (F := Ideal) q k v y).1 = fun _ => 1#1) (h1 : (Cert.Pre_finite.fn (F := Ideal) q k v y).2.1 = fun _ => 1#1)
    (h2 : (Cert.Pre_finite.fn (F := Ideal) q k v y).2.2.1 = fun _ => 1#1) (h3 : (Cert.Pre_finite.fn (F := Ideal) q k v y).2.2.2 = fun _ => 1#1) :
    AllReal q k v y where
  q s a := real_of_abs_lt _ (Eq.trans (by unfold Cert.Pre_finite.fn; pointwise; rfl) (congrFun h0 (ix2 s a)))
  k j b := real_of_abs_lt _ (Eq.trans (by unfold Cert.Pre_finite.fn; pointwise) (congrFun h1 (ix2 j b)))
  v j g d := real_of_abs_lt _ (Eq.trans (by unfold Cert.Pre_finite.fn; pointwise; rfl) (congrFun h2 (ix2 j (kcol g d))))
  y s a := real_of_abs_lt _ (Eq.trans (by unfold Cert.Pre_finite.fn; pointwise; rfl) (congrFun h3 (ix2 s a)))

end At

end Cert.Grad
-- ==== Proof.Run.lean ====
/- The run of the kernel's program: its three results, and its arguments unchanged; and that they are the reference's. -/
module

public import proofs.«01_k».proof.Proof.Tail
public import proofs.«01_k».proof.Proof.RefVal
public import proofs.«01_k».proof.Proof.Finite

@[expose] public section

set_option maxRecDepth 16384

noncomputable section

namespace Cert.Grad

open Cert.KernelIdeal Cert.KernelIdeal.Gen Idealize.ShloMosaic Idealize.ShloMosaic.TcCoe
open Idealize.SL.Sem

variable (m : (ℓ : Loc nD τ sig) → Buf (Elt Ideal) ℓ) (ρ : Dev nD → PrngReg)

/-- The three results of the kernel's program. -/
def outDq (c : Dev nD) : Buf (Elt Ideal) ((c.tc : Thread nD τ).loc main_v64) := Pipeline.afterTail₀ cfgs (dats m) 0 (V0 m) [hostOps1] c main_v64
def outDk (c : Dev nD) : Buf (Elt Ideal) ((c.tc : Thread nD τ).loc main_v53_1) := (dats m 0 c).arrAt 7 cfg0.N
def outDv (c : Dev nD) : Buf (Elt Ideal) ((c.tc : Thread nD τ).loc main_v53_2) := (dats m 0 c).arrAt 8 cfg0.N

/-- The kernel's program ends with its three results, its arguments unchanged. -/
theorem run_kernel : θ_run defs (onTc (τ := τ) (main (F := Ideal))) ⟨m, fun _ => 0, ρ⟩ (fun r => ∀ c : Dev nD,
      r.2.mem ((c.tc : Thread nD τ).loc main_v64) = outDq m c
      ∧ r.2.mem ((c.tc : Thread nD τ).loc main_v53_1) = outDk m c
      ∧ r.2.mem ((c.tc : Thread nD τ).loc main_v53_2) = outDv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).2 main_v64 (Pipeline.mem_restRefs_of main_v64 (by decide) (by decide)),
      (h.1 c).1 7, (h.1 c).1 8, (h.2 c).1, (h.2 c).2.1, (h.2 c).2.2.1, (h.2 c).2.2.2⟩)
    (θ_run_and (run_main m ρ) (unchanged m ρ))

variable (c : Dev nD)

theorem outDq_at (s : Fin 8192) (g : Fin 2) (r : Fin 4) (d : Fin 64) :
    (outDq m c : FVec Ideal S8192x2x4x64 .f32) (ix4 s g r d) = kernelDq m c g r s (kcol g d) * eighth :=
  dq_at m c _ (Pipeline.withArrays_arr spec0 launch0.win.arr_inj c _ _ 6) s g r d
theorem outDk_at (j : Fin 8448) (b : Fin 128) : (outDk m c : FVec Ideal S8448x128 .f32) (ix2 j b) = kernelDk m c j b :=
  congrFun (array7 m c) (ix2 j b)
theorem outDv_at (j : Fin 8448) (b : Fin 128) : (outDv m c : FVec Ideal S8448x128 .f32) (ix2 j b) = kernelDv m c j b :=
  congrFun (array8 m c) (ix2 j b)

section Equal

variable (m' : (ℓ : Loc Cert.ReferenceIdeal.nD Cert.ReferenceIdeal.τ Cert.ReferenceIdeal.sig) → Buf (Elt Ideal) ℓ)
variable (e0 : refQ m' c = argQ m c) (e1 : refK m' c = argK m c) (e2 : refG m' c = argG m c) (e3 : refD m' c = argD m c)
variable (h : AllReal (argQ m c) (argK m c) (argG m c) (argD m c))
include e0 e1 e2 e3 h

/-- The gradients of q agree. -/
theorem dq_same : (Cert.ReferenceIdeal.Value.res_main_v82 m' c : FVec Ideal S8192x2x4x64 .f32) = outDq m c := by
  funext i
  have hi : i = ix4 (i 0) (i 1) (i 2) (i 3) := by funext a; match a with | 0 => rfl | 1 => rfl | 2 => rfl | 3 => rfl
  rw [hi]
  refine (refDq_val m' c (i 0) (i 1) (i 2) (i 3)).trans (Eq.trans ?_ (outDq_at m c (i 0) (i 1) (i 2) (i 3)).symm)
  rw [e0, e1, e2, e3]
  exact (sum_q (i 1) (i 2) (i 0) h _).symm
/-- The gradients of k agree. -/
theorem dk_same : (Cert.ReferenceIdeal.Value.res_main_v78 m' c : FVec Ideal S8448x128 .f32) = outDk m c := by
  funext i
  have hi : i = ix2 (i 0) (i 1) := by funext a; match a with | 0 => rfl | 1 => rfl
  rw [hi]
  refine (refDk_val m' c (i 0) (i 1)).trans (Eq.trans ?_ (outDk_at m c (i 0) (i 1)).symm)
  rw [e0, e1, e2, e3]
  exact sum_k (grpOf (i 1)) (i 0) h (fun r => qcol (grpOf (i 1)) r (laneOf (i 1)))
/-- The gradients of v agree. -/
theorem dv_same : (Cert.ReferenceIdeal.Value.res_main_v75 m' c : FVec Ideal S8448x128 .f32) = outDv m c := by
  funext i
  have hi : i = ix2 (i 0) (i 1) := by funext a; match a with | 0 => rfl | 1 => rfl
  rw [hi]
  refine (refDv_val m' c (i 0) (i 1)).trans (Eq.trans ?_ (outDv_at m c (i 0) (i 1)).symm)
  rw [e0, e1, e3]
  exact sum_v (grpOf (i 1)) (i 0) h (fun r => qcol (grpOf (i 1)) r (laneOf (i 1)))

end Equal

end Cert.Grad
-- ==== Proof.lean ====
/- The proof of the claims: the frames of the kernel and of the reference, that the kernel's ideal reading is its own text,
   and that the kernel's gradients are the reference's: of the attention's q, k and v where every element they read is
   finite, and of the weights of the products without a condition. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Reference22Ideal.Run
public import proofs.«01_k».proof.Proof.Wgrad2
public import proofs.«01_k».proof.Proof.Wgrad3
public import proofs.«01_k».proof.Proof.Wgrad4
public import proofs.«01_k».proof.Proof.Wgrad5
public import proofs.«01_k».proof.Proof.Wgrad6
public import proofs.«01_k».proof.Proof.Wgrad7
public import proofs.«01_k».proof.Proof.Wgrad8
public import proofs.«01_k».proof.Proof.Dy
public import proofs.«01_k».proof.Proof.Swiglu
public import proofs.«01_k».proof.Proof.Qkv
public import proofs.«01_k».proof.Proof.Down
public import proofs.«01_k».proof.Proof.Merge
public import proofs.«01_k».proof.Proof.Wo
public import proofs.«01_k».proof.Proof.AdamIn
public import proofs.«01_k».proof.Proof.AdamP
public import proofs.«01_k».proof.Proof.AdamO
public import proofs.«01_k».proof.Proof.AdamFfnIn
public import proofs.«01_k».proof.Proof.AdamFfnOut
public import proofs.«01_k».proof.Proof.AdamMod
public import proofs.«01_k».proof.Proof.AdamBias
public import proofs.«01_k».proof.Proof.AdamSmall
public import proofs.«01_k».proof.Proof.Run

@[expose] public section

noncomputable section

namespace Cert.Proof

open Idealize.ShloMosaic Idealize.SL.Sem Cert.Kernel

/-- The reference, a host program without semaphores: it terminates, its arguments stay, the counters end at zero. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The kernel's three gradients are the reference's. -/
theorem value : Cert.algebraic_KernelIdeal_ReferenceIdeal_pre_finite (hPre_finite := Cert.Grad.finite_facts) := by
  intro m g m' g' hpre hargs
  have hreal : ∀ c, Cert.Grad.AllReal (Cert.Grad.argQ m c) (Cert.Grad.argK m c) (Cert.Grad.argG m c) (Cert.Grad.argD m c) := fun c =>
    @Cert.Grad.all_real Cert.Grad.finite_facts _ _ _ _ (hpre c).1 (hpre c).2.1 (hpre c).2.2.1 (hpre c).2.2.2
  refine ⟨Cert.Grad.outDq m, Cert.Grad.outDk m, Cert.Grad.outDv m, Cert.Grad.run_kernel m g, ?_⟩
  refine (θ_run Cert.ReferenceIdeal.defs _ _).mono (fun r h c => ?_) (Cert.ReferenceIdeal.Value.run (F := Ideal) m' g')
  obtain ⟨e0, e1, e2, e3⟩ := hargs c
  exact ⟨(h c).1.trans (Cert.Grad.dq_same m c m' e0 e1 e2 e3 (hreal c)), (h c).2.1.trans (Cert.Grad.dk_same m c m' e0 e1 e2 e3 (hreal c)),
    (h c).2.2.1.trans (Cert.Grad.dv_same m c m' e0 e1 e2 e3 (hreal c)), (h c).2.2.2⟩

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Grad.finite_facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Kernel2.Gen.frame m ρ, fun m ρ _ => Cert.Kernel2Ideal.Gen.frame m ρ, Cert.Wgrad2.frame_reference,
  fun m ρ _ => Cert.Kernel3.Gen.frame m ρ, fun m ρ _ => Cert.Kernel3Ideal.Gen.frame m ρ, Cert.Wgrad3.frame_reference,
  fun m ρ _ => Cert.Kernel4.Gen.frame m ρ, fun m ρ _ => Cert.Kernel4Ideal.Gen.frame m ρ, Cert.Wgrad4.frame_reference,
  fun m ρ _ => Cert.Kernel5.Gen.frame m ρ, fun m ρ _ => Cert.Kernel5Ideal.Gen.frame m ρ, Cert.Wgrad5.frame_reference,
  fun m ρ _ => Cert.Kernel6.Gen.frame m ρ, fun m ρ _ => Cert.Kernel6Ideal.Gen.frame m ρ, Cert.Wgrad6.frame_reference,
  fun m ρ _ => Cert.Kernel7.Gen.frame m ρ, fun m ρ _ => Cert.Kernel7Ideal.Gen.frame m ρ, Cert.Wgrad7.frame_reference,
  fun m ρ _ => Cert.Kernel8.Gen.frame m ρ, fun m ρ _ => Cert.Kernel8Ideal.Gen.frame m ρ, Cert.Wgrad8.frame_reference,
  fun m ρ _ => Cert.Kernel9.Gen.frame m ρ, fun m ρ _ => Cert.Kernel9Ideal.Gen.frame m ρ, Cert.Dy.frame_reference,
  fun m ρ _ => Cert.Kernel10.Gen.frame m ρ, fun m ρ _ => Cert.Kernel10Ideal.Gen.frame m ρ, Cert.Swiglu.frame_reference,
  fun m ρ _ => Cert.Kernel11.Gen.frame m ρ, fun m ρ _ => Cert.Kernel11Ideal.Gen.frame m ρ, Cert.Qkv.frame_reference,
  fun m ρ _ => Cert.Kernel12.Gen.frame m ρ, fun m ρ _ => Cert.Kernel12Ideal.Gen.frame m ρ, Cert.Down.frame_reference,
  fun m ρ _ => Cert.Kernel13.Gen.frame m ρ, fun m ρ _ => Cert.Kernel13Ideal.Gen.frame m ρ, Cert.Merge.frame_reference,
  fun m ρ _ => Cert.Kernel14.Gen.frame m ρ, fun m ρ _ => Cert.Kernel14Ideal.Gen.frame m ρ, Cert.Wo.frame_reference,
  fun m ρ _ => Cert.Kernel15.Gen.frame m ρ, fun m ρ _ => Cert.Kernel15Ideal.Gen.frame m ρ, Cert.AdamIn.frame_reference,
  fun m ρ _ => Cert.Kernel16.Gen.frame m ρ, fun m ρ _ => Cert.Kernel16Ideal.Gen.frame m ρ, Cert.AdamP.frame_reference,
  fun m ρ _ => Cert.Kernel17.Gen.frame m ρ, fun m ρ _ => Cert.Kernel17Ideal.Gen.frame m ρ, Cert.AdamO.frame_reference,
  fun m ρ _ => Cert.Kernel18.Gen.frame m ρ, fun m ρ _ => Cert.Kernel18Ideal.Gen.frame m ρ, Cert.AdamFfnIn.frame_reference,
  fun m ρ _ => Cert.Kernel19.Gen.frame m ρ, fun m ρ _ => Cert.Kernel19Ideal.Gen.frame m ρ, Cert.AdamFfnOut.frame_reference,
  fun m ρ _ => Cert.Kernel20.Gen.frame m ρ, fun m ρ _ => Cert.Kernel20Ideal.Gen.frame m ρ, Cert.AdamMod.frame_reference,
  fun m ρ _ => Cert.Kernel21.Gen.frame m ρ, fun m ρ _ => Cert.Kernel21Ideal.Gen.frame m ρ, Cert.AdamBias.frame_reference,
  fun m ρ _ => Cert.Kernel22.Gen.frame m ρ, fun m ρ _ => Cert.Kernel22Ideal.Gen.frame m ρ, Cert.AdamSmall.frame_reference,
  trivial, value,
  trivial, Cert.Wgrad2.value,
  trivial, Cert.Wgrad3.value,
  trivial, Cert.Wgrad4.value,
  trivial, Cert.Wgrad5.value,
  trivial, Cert.Wgrad6.value,
  trivial, Cert.Wgrad7.value,
  trivial, Cert.Wgrad8.value,
  trivial, Cert.Dy.value,
  trivial, Cert.Swiglu.value,
  trivial, Cert.Qkv.value,
  trivial, Cert.Down.value,
  trivial, Cert.Merge.value,
  trivial, Cert.Wo.value,
  trivial, Cert.AdamIn.value,
  trivial, Cert.AdamP.value,
  trivial, Cert.AdamO.value,
  trivial, Cert.AdamFfnIn.value,
  trivial, Cert.AdamFfnOut.value,
  trivial, Cert.AdamMod.value,
  trivial, Cert.AdamBias.value,
  trivial, Cert.AdamSmall.value⟩

end Cert.Proof

end
